-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routing_finite [hPre_routing_finite : Cert.Pre_routing_finite.Facts] (m : (ℓ : Loc Cert.KernelIdeal.nD Cert.KernelIdeal.τ Cert.KernelIdeal.sig) → Buf (Elt Ideal) ℓ) : Prop :=
  ∀ c : Dev Cert.KernelIdeal.nD,
    (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing_finite [hPre_routing_finite : Cert.Pre_routing_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_key_finite [hPre_key_finite : Cert.Pre_key_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_key_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).1 = (fun _ => 1#1)
    ∧ (Cert.Pre_key_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.1 = (fun _ => 1#1)
    ∧ (Cert.Pre_key_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.1 = (fun _ => 1#1)
    ∧ (Cert.Pre_key_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.1 = (fun _ => 1#1)
    ∧ (Cert.Pre_key_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_key_finite [hPre_key_finite : Cert.Pre_key_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_key_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).1 = (fun _ => 1#1)
    ∧ (Cert.Pre_key_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.1 = (fun _ => 1#1)
    ∧ (Cert.Pre_key_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.1 = (fun _ => 1#1)
    ∧ (Cert.Pre_key_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.1 = (fun _ => 1#1)
    ∧ (Cert.Pre_key_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_heads_finite [hPre_heads_finite : Cert.Pre_heads_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_heads_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 = (fun _ => 1#1)
    ∧ (Cert.Pre_heads_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.1 = (fun _ => 1#1)
    ∧ (Cert.Pre_heads_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.1 = (fun _ => 1#1)
    ∧ (Cert.Pre_heads_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_heads_finite [hPre_heads_finite : Cert.Pre_heads_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_heads_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).1 = (fun _ => 1#1)
    ∧ (Cert.Pre_heads_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.1 = (fun _ => 1#1)
    ∧ (Cert.Pre_heads_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.1 = (fun _ => 1#1)
    ∧ (Cert.Pre_heads_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 [hPre_pages_in_pool : Cert.Pre_pages_in_pool.Facts] (m : (ℓ : Loc Cert.Kernel9.nD Cert.Kernel9.τ Cert.Kernel9.sig) → Buf (Elt Bits) ℓ) : Prop :=
  ∀ c : Dev Cert.Kernel9.nD,
    (Cert.Pre_pages_in_pool.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3))).1 = (fun _ => 1#1)
    ∧ (Cert.Pre_pages_in_pool.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3))).2 = (fun _ => 1#1)

def Pre_Kernel9Ideal [hPre_pages_in_pool : Cert.Pre_pages_in_pool.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_pages_in_pool.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).1 = (fun _ => 1#1)
    ∧ (Cert.Pre_pages_in_pool.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_pages_in_pool [hPre_pages_in_pool : Cert.Pre_pages_in_pool.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_pages_in_pool.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).1 = (fun _ => 1#1)
    ∧ (Cert.Pre_pages_in_pool.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routing_finite [hKernelIdeal : Cert.KernelIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routing_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routing_finite [hReferenceIdeal : Cert.ReferenceIdeal.Facts] [hPre_routing_finite : Cert.Pre_routing_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_key_finite [hKernel4Ideal : Cert.Kernel4Ideal.Facts] [hPre_key_finite : Cert.Pre_key_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_key_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_key_finite [hReference4Ideal : Cert.Reference4Ideal.Facts] [hPre_key_finite : Cert.Pre_key_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_key_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_heads_finite [hKernel6Ideal : Cert.Kernel6Ideal.Facts] [hPre_heads_finite : Cert.Pre_heads_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_heads_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_heads_finite [hReference6Ideal : Cert.Reference6Ideal.Facts] [hPre_heads_finite : Cert.Pre_heads_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_heads_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] [hPre_pages_in_pool : Cert.Pre_pages_in_pool.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] [hPre_pages_in_pool : Cert.Pre_pages_in_pool.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_pages_in_pool [hReference9Ideal : Cert.Reference9Ideal.Facts] [hPre_pages_in_pool : Cert.Pre_pages_in_pool.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_pages_in_pool m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_pre_routing_finite [hKernelIdeal : Cert.KernelIdeal.Facts] [hReferenceIdeal : Cert.ReferenceIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routing_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v42_0)) (v1 : (c : Dev Cert.Kernel2Ideal.nD) → Buf (Elt Ideal) ((c.tc : Thread Cert.Kernel2Ideal.nD Cert.Kernel2Ideal.τ).loc Cert.Kernel2Ideal.main_v42_1)) (v2 : (c : Dev Cert.Kernel2Ideal.nD) → Buf (Elt Ideal) ((c.tc : Thread Cert.Kernel2Ideal.nD Cert.Kernel2Ideal.τ).loc Cert.Kernel2Ideal.main_v42_2)) (v3 : (c : Dev Cert.Kernel2Ideal.nD) → Buf (Elt Ideal) ((c.tc : Thread Cert.Kernel2Ideal.nD Cert.Kernel2Ideal.τ).loc Cert.Kernel2Ideal.main_v42_3)) (v4 : (c : Dev Cert.Kernel2Ideal.nD) → Buf (Elt Ideal) ((c.tc : Thread Cert.Kernel2Ideal.nD Cert.Kernel2Ideal.τ).loc Cert.Kernel2Ideal.main_v42_4)) (v5 : (c : Dev Cert.Kernel2Ideal.nD) → Buf (Elt Ideal) ((c.tc : Thread Cert.Kernel2Ideal.nD Cert.Kernel2Ideal.τ).loc Cert.Kernel2Ideal.main_v42_5)) (v6 : (c : Dev Cert.Kernel2Ideal.nD) → Buf (Elt Ideal) ((c.tc : Thread Cert.Kernel2Ideal.nD Cert.Kernel2Ideal.τ).loc Cert.Kernel2Ideal.main_v42_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v42_0) = v0 c
          ∧ r.2.mem ((c.tc : Thread Cert.Kernel2Ideal.nD Cert.Kernel2Ideal.τ).loc Cert.Kernel2Ideal.main_v42_1) = v1 c
          ∧ r.2.mem ((c.tc : Thread Cert.Kernel2Ideal.nD Cert.Kernel2Ideal.τ).loc Cert.Kernel2Ideal.main_v42_2) = v2 c
          ∧ r.2.mem ((c.tc : Thread Cert.Kernel2Ideal.nD Cert.Kernel2Ideal.τ).loc Cert.Kernel2Ideal.main_v42_3) = v3 c
          ∧ r.2.mem ((c.tc : Thread Cert.Kernel2Ideal.nD Cert.Kernel2Ideal.τ).loc Cert.Kernel2Ideal.main_v42_4) = v4 c
          ∧ r.2.mem ((c.tc : Thread Cert.Kernel2Ideal.nD Cert.Kernel2Ideal.τ).loc Cert.Kernel2Ideal.main_v42_5) = v5 c
          ∧ r.2.mem ((c.tc : Thread Cert.Kernel2Ideal.nD Cert.Kernel2Ideal.τ).loc Cert.Kernel2Ideal.main_v42_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v179) = v0 c
          ∧ r.2.mem ((c.tc : Thread Cert.Reference2Ideal.nD Cert.Reference2Ideal.τ).loc Cert.Reference2Ideal.main_v180) = v1 c
          ∧ r.2.mem ((c.tc : Thread Cert.Reference2Ideal.nD Cert.Reference2Ideal.τ).loc Cert.Reference2Ideal.main_v181) = v2 c
          ∧ r.2.mem ((c.tc : Thread Cert.Reference2Ideal.nD Cert.Reference2Ideal.τ).loc Cert.Reference2Ideal.main_v183) = v3 c
          ∧ r.2.mem ((c.tc : Thread Cert.Reference2Ideal.nD Cert.Reference2Ideal.τ).loc Cert.Reference2Ideal.main_v184) = v4 c
          ∧ r.2.mem ((c.tc : Thread Cert.Reference2Ideal.nD Cert.Reference2Ideal.τ).loc Cert.Reference2Ideal.main_v185) = v5 c
          ∧ r.2.mem ((c.tc : Thread Cert.Reference2Ideal.nD Cert.Reference2Ideal.τ).loc Cert.Reference2Ideal.main_v186) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_key_finite [hKernel4Ideal : Cert.Kernel4Ideal.Facts] [hReference4Ideal : Cert.Reference4Ideal.Facts] [hPre_key_finite : Cert.Pre_key_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_key_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v31_0)) (v1 : (c : Dev Cert.Kernel4Ideal.nD) → Buf (Elt Ideal) ((c.tc : Thread Cert.Kernel4Ideal.nD Cert.Kernel4Ideal.τ).loc Cert.Kernel4Ideal.main_v31_1)) (v2 : (c : Dev Cert.Kernel4Ideal.nD) → Buf (Elt Ideal) ((c.tc : Thread Cert.Kernel4Ideal.nD Cert.Kernel4Ideal.τ).loc Cert.Kernel4Ideal.main_v31_2)) (v3 : (c : Dev Cert.Kernel4Ideal.nD) → Buf (Elt Ideal) ((c.tc : Thread Cert.Kernel4Ideal.nD Cert.Kernel4Ideal.τ).loc Cert.Kernel4Ideal.main_v31_3)) (v4 : (c : Dev Cert.Kernel4Ideal.nD) → Buf (Elt Ideal) ((c.tc : Thread Cert.Kernel4Ideal.nD Cert.Kernel4Ideal.τ).loc Cert.Kernel4Ideal.main_v31_4)) (v5 : (c : Dev Cert.Kernel4Ideal.nD) → Buf (Elt Ideal) ((c.tc : Thread Cert.Kernel4Ideal.nD Cert.Kernel4Ideal.τ).loc Cert.Kernel4Ideal.main_v31_5)) (v6 : (c : Dev Cert.Kernel4Ideal.nD) → Buf (Elt Ideal) ((c.tc : Thread Cert.Kernel4Ideal.nD Cert.Kernel4Ideal.τ).loc Cert.Kernel4Ideal.main_v31_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31_0) = v0 c
          ∧ r.2.mem ((c.tc : Thread Cert.Kernel4Ideal.nD Cert.Kernel4Ideal.τ).loc Cert.Kernel4Ideal.main_v31_1) = v1 c
          ∧ r.2.mem ((c.tc : Thread Cert.Kernel4Ideal.nD Cert.Kernel4Ideal.τ).loc Cert.Kernel4Ideal.main_v31_2) = v2 c
          ∧ r.2.mem ((c.tc : Thread Cert.Kernel4Ideal.nD Cert.Kernel4Ideal.τ).loc Cert.Kernel4Ideal.main_v31_3) = v3 c
          ∧ r.2.mem ((c.tc : Thread Cert.Kernel4Ideal.nD Cert.Kernel4Ideal.τ).loc Cert.Kernel4Ideal.main_v31_4) = v4 c
          ∧ r.2.mem ((c.tc : Thread Cert.Kernel4Ideal.nD Cert.Kernel4Ideal.τ).loc Cert.Kernel4Ideal.main_v31_5) = v5 c
          ∧ r.2.mem ((c.tc : Thread Cert.Kernel4Ideal.nD Cert.Kernel4Ideal.τ).loc Cert.Kernel4Ideal.main_v31_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v116) = v0 c
          ∧ r.2.mem ((c.tc : Thread Cert.Reference4Ideal.nD Cert.Reference4Ideal.τ).loc Cert.Reference4Ideal.main_v117) = v1 c
          ∧ r.2.mem ((c.tc : Thread Cert.Reference4Ideal.nD Cert.Reference4Ideal.τ).loc Cert.Reference4Ideal.main_v118) = v2 c
          ∧ r.2.mem ((c.tc : Thread Cert.Reference4Ideal.nD Cert.Reference4Ideal.τ).loc Cert.Reference4Ideal.main_v119) = v3 c
          ∧ r.2.mem ((c.tc : Thread Cert.Reference4Ideal.nD Cert.Reference4Ideal.τ).loc Cert.Reference4Ideal.main_v120) = v4 c
          ∧ r.2.mem ((c.tc : Thread Cert.Reference4Ideal.nD Cert.Reference4Ideal.τ).loc Cert.Reference4Ideal.main_v121) = v5 c
          ∧ r.2.mem ((c.tc : Thread Cert.Reference4Ideal.nD Cert.Reference4Ideal.τ).loc Cert.Reference4Ideal.main_v122) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_heads_finite [hKernel6Ideal : Cert.Kernel6Ideal.Facts] [hReference6Ideal : Cert.Reference6Ideal.Facts] [hPre_heads_finite : Cert.Pre_heads_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_heads_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v7)) (v1 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_v2) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] [hPre_pages_in_pool : Cert.Pre_pages_in_pool.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_routing_finite : Cert.Pre_routing_finite.Facts) (hPre_key_finite : Cert.Pre_key_finite.Facts) (hPre_heads_finite : Cert.Pre_heads_finite.Facts) (hPre_pages_in_pool : Cert.Pre_pages_in_pool.Facts),
    quiescent_Kernel (hKernel := hKernel)
    ∧ quiescent_KernelIdeal (hKernelIdeal := hKernelIdeal)
    ∧ quiescent_KernelIdeal_pre_routing_finite (hKernelIdeal := hKernelIdeal) (hPre_routing_finite := hPre_routing_finite)
    ∧ quiescent_ReferenceIdeal (hReferenceIdeal := hReferenceIdeal)
    ∧ quiescent_ReferenceIdeal_pre_routing_finite (hReferenceIdeal := hReferenceIdeal) (hPre_routing_finite := hPre_routing_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_key_finite (hKernel4Ideal := hKernel4Ideal) (hPre_key_finite := hPre_key_finite)
    ∧ quiescent_Reference4Ideal (hReference4Ideal := hReference4Ideal)
    ∧ quiescent_Reference4Ideal_pre_key_finite (hReference4Ideal := hReference4Ideal) (hPre_key_finite := hPre_key_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_heads_finite (hKernel6Ideal := hKernel6Ideal) (hPre_heads_finite := hPre_heads_finite)
    ∧ quiescent_Reference6Ideal (hReference6Ideal := hReference6Ideal)
    ∧ quiescent_Reference6Ideal_pre_heads_finite (hReference6Ideal := hReference6Ideal) (hPre_heads_finite := hPre_heads_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9) (hPre_pages_in_pool := hPre_pages_in_pool)
    ∧ quiescent_Kernel9Ideal (hKernel9Ideal := hKernel9Ideal) (hPre_pages_in_pool := hPre_pages_in_pool)
    ∧ quiescent_Reference9Ideal (hReference9Ideal := hReference9Ideal)
    ∧ quiescent_Reference9Ideal_pre_pages_in_pool (hReference9Ideal := hReference9Ideal) (hPre_pages_in_pool := hPre_pages_in_pool)
    ∧ preserves_Kernel_KernelIdeal
    ∧ algebraic_KernelIdeal_ReferenceIdeal_pre_routing_finite (hKernelIdeal := hKernelIdeal) (hReferenceIdeal := hReferenceIdeal) (hPre_routing_finite := hPre_routing_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_key_finite (hKernel4Ideal := hKernel4Ideal) (hReference4Ideal := hReference4Ideal) (hPre_key_finite := hPre_key_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_heads_finite (hKernel6Ideal := hKernel6Ideal) (hReference6Ideal := hReference6Ideal) (hPre_heads_finite := hPre_heads_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal) (hPre_pages_in_pool := hPre_pages_in_pool)
-- ==== Pre_heads_finite.lean ====
abbrev S16384x1024 : Shape := ⟨2, ![16384, 1024]⟩
abbrev S1x1024 : Shape := ⟨2, ![1, 1024]⟩
abbrev S1x16x64 : Shape := ⟨3, ![1, 16, 64]⟩
abbrev S1x1024x1024 : Shape := ⟨3, ![1, 1024, 1024]⟩
abbrev S_ : Shape := ⟨0, ![]⟩

class Facts : Prop where
  bcast_S_S16384x1024 : S_.BroadcastsInDim S16384x1024 (![] : Fin 0 → Fin S16384x1024.rank)
  bcast_S_S1x16x64 : S_.BroadcastsInDim S1x16x64 (![] : Fin 0 → Fin S1x16x64.rank)

variable [Facts]

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x1024 .f32) (main_arg5 : FVec F S16384x1024 .f32) (main_arg6 : FVec F S1x1024 .f32) (main_arg7 : FVec F S1x1024 .f32) (main_arg8 : FVec F S1x16x64 .f32) (main_arg9 : FVec F S1x1024x1024 .f32) : IVec S16384x1024 1 × IVec S16384x1024 1 × IVec S16384x1024 1 × IVec S1x16x64 1 :=
  let main_v0 : FVec F S16384x1024 .f32 := Host.absf main_arg1
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg2
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x1024 .f32 := Host.absf main_arg3
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S1x16x64 .f32 := Host.absf main_arg8
  let main_cst_2 : FVec F S_ .f32 := constant S_ .f32 0x7F800000#32
  let main_v10 : FVec F S1x16x64 .f32 := broadcastInDim S1x16x64 ![] bcast_S_S1x16x64 main_cst_2
  let main_v11 : IVec S1x16x64 1 := cmpf .olt main_v9 main_v10
  (main_v2, main_v5, main_v8, main_v11)
-- ==== Pre_key_finite.lean ====
abbrev S16384x1024 : Shape := ⟨2, ![16384, 1024]⟩
abbrev S8x1024 : Shape := ⟨2, ![8, 1024]⟩
abbrev S1x6x1024 : Shape := ⟨3, ![1, 6, 1024]⟩
abbrev S1x3x1024x1024 : Shape := ⟨4, ![1, 3, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1x1024x128 : Shape := ⟨3, ![1, 1024, 128]⟩
abbrev S1x128x1024 : Shape := ⟨3, ![1, 128, 1024]⟩
abbrev S_ : Shape := ⟨0, ![]⟩
abbrev S1x1x1024 : Shape := ⟨3, ![1, 1, 1024]⟩
abbrev S1x1x1024x1024 : Shape := ⟨4, ![1, 1, 1024, 1024]⟩

class Facts : Prop where
  bcast_S_S16384x1024 : S_.BroadcastsInDim S16384x1024 (![] : Fin 0 → Fin S16384x1024.rank)
  bcast_S_S8x1024 : S_.BroadcastsInDim S8x1024 (![] : Fin 0 → Fin S8x1024.rank)
  slices_S1x6x1024_S1x1x1024_0_2_0 : S1x6x1024.Slices ![0, 2, 0] S1x1x1024
  bcast_S_S1x1x1024 : S_.BroadcastsInDim S1x1x1024 (![] : Fin 0 → Fin S1x1x1024.rank)
  slices_S1x3x1024x1024_S1x1x1024x1024_0_1_0_0 : S1x3x1024x1024.Slices ![0, 1, 0, 0] S1x1x1024x1024
  bcast_S_S1x1x1024x1024 : S_.BroadcastsInDim S1x1x1024x1024 (![] : Fin 0 → Fin S1x1x1024x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S8x1024 .f32) (main_arg2 : FVec F S1x6x1024 .f32) (main_arg3 : FVec F S1x3x1024x1024 .f32) (main_arg4 : FVec F S1x1024 .f32) (main_arg5 : FVec F S1x1024x64 .f32) (main_arg6 : FVec F S1x64x1024 .f32) (main_arg7 : FVec F S1x1024 .f32) (main_arg8 : FVec F S1x1024x64 .f32) (main_arg9 : FVec F S1x64x1024 .f32) (main_arg10 : FVec F S1x1024x128 .f32) (main_arg11 : FVec F S1x128x1024 .f32) (main_arg12 : FVec F S1x1024 .f32) (main_arg13 : FVec F S1x1024 .f32) : IVec S16384x1024 1 × IVec S8x1024 1 × IVec S1x1x1024 1 × IVec S1x1x1024x1024 1 × IVec S1x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S8x1024 .f32 := Host.absf main_arg1
  let main_cst_0 : FVec F S_ .f32 := constant S_ .f32 0x7F800000#32
  let main_v4 : FVec F S8x1024 .f32 := broadcastInDim S8x1024 ![] bcast_S_S8x1024 main_cst_0
  let main_v5 : IVec S8x1024 1 := cmpf .olt main_v3 main_v4
  let main_v6 : FVec F S1x1x1024 .f32 := (extractStridedSlice S1x1x1024 ![0, 2, 0] · slices_S1x6x1024_S1x1x1024_0_2_0) main_arg2
  let main_v7 : FVec F S1x1x1024 .f32 := Host.absf main_v6
  let main_cst_1 : FVec F S_ .f32 := constant S_ .f32 0x7F800000#32
  let main_v8 : FVec F S1x1x1024 .f32 := broadcastInDim S1x1x1024 ![] bcast_S_S1x1x1024 main_cst_1
  let main_v9 : IVec S1x1x1024 1 := cmpf .olt main_v7 main_v8
  let main_v10 : FVec F S1x1x1024x1024 .f32 := (extractStridedSlice S1x1x1024x1024 ![0, 1, 0, 0] · slices_S1x3x1024x1024_S1x1x1024x1024_0_1_0_0) main_arg3
  let main_v11 : FVec F S1x1x1024x1024 .f32 := Host.absf main_v10
  let main_cst_2 : FVec F S_ .f32 := constant S_ .f32 0x7F800000#32
  let main_v12 : FVec F S1x1x1024x1024 .f32 := broadcastInDim S1x1x1024x1024 ![] bcast_S_S1x1x1024x1024 main_cst_2
  let main_v13 : IVec S1x1x1024x1024 1 := cmpf .olt main_v11 main_v12
  let main_v14 : FVec F S1x1024 .f32 := Host.absf main_arg12
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v2, main_v5, main_v9, main_v13, main_v16)
-- ==== Pre_pages_in_pool.lean ====
abbrev S32x64 : Shape := ⟨2, ![32, 64]⟩
abbrev S32x32x64 : Shape := ⟨3, ![32, 32, 64]⟩
abbrev S32x32x1 : Shape := ⟨3, ![32, 32, 1]⟩
abbrev S2560x128x64 : Shape := ⟨3, ![2560, 128, 64]⟩
abbrev S_ : Shape := ⟨0, ![]⟩

class Facts : Prop where
  bcast_S_S32x64 : S_.BroadcastsInDim S32x64 (![] : Fin 0 → Fin S32x64.rank)

variable [Facts]

def fn {F : FTy → Type} [FloatOps F] (main_arg0 : IVec S32x64 32) (main_arg1 : FVec F S32x32x64 .bf16) (main_arg2 : FVec F S32x32x1 .f32) (main_arg3 : FVec F S2560x128x64 .f32) : IVec S32x64 1 × IVec S32x64 1 :=
  let main_c : IVec S_ 32 := constantI S_ 32 0#32
  let main_v0 : IVec S32x64 32 := broadcastInDim S32x64 ![] bcast_S_S32x64 main_c
  let main_v1 : IVec S32x64 1 := cmpi .sge main_arg0 main_v0
  let main_c_0 : IVec S_ 32 := constantI S_ 32 2560#32
  let main_v2 : IVec S32x64 32 := broadcastInDim S32x64 ![] bcast_S_S32x64 main_c_0
  let main_v3 : IVec S32x64 1 := cmpi .slt main_arg0 main_v2
  (main_v1, main_v3)
-- ==== Pre_routing_finite.lean ====
abbrev S16384x1024 : Shape := ⟨2, ![16384, 1024]⟩
abbrev S1x1024 : Shape := ⟨2, ![1, 1024]⟩
abbrev S1x1024x8 : Shape := ⟨3, ![1, 1024, 8]⟩
abbrev S1x8x1024x2816 : Shape := ⟨4, ![1, 8, 1024, 2816]⟩
abbrev S1x8x2816x1024 : Shape := ⟨4, ![1, 8, 2816, 1024]⟩
abbrev S1024 : Shape := ⟨1, ![1024]⟩
abbrev S_ : Shape := ⟨0, ![]⟩

class Facts : Prop where
  bcast_S_S1x1024 : S_.BroadcastsInDim S1x1024 (![] : Fin 0 → Fin S1x1024.rank)
  bcast_S_S1x1024x8 : S_.BroadcastsInDim S1x1024x8 (![] : Fin 0 → Fin S1x1024x8.rank)

variable [Facts]

def fn {F : FTy → Type} [FloatOps F] (main_arg0 : FVec F S16384x1024 .f32) (main_arg1 : FVec F S1x1024 .f32) (main_arg2 : FVec F S1x1024x8 .f32) (main_arg3 : FVec F S1x8x1024x2816 .f32) (main_arg4 : FVec F S1x8x1024x2816 .f32) (main_arg5 : FVec F S1x8x2816x1024 .f32) (main_arg6 : FVec F S1024 .f32) : IVec S1x1024 1 × IVec S1x1024x8 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x8 .f32 := Host.absf main_arg2
  let main_cst_0 : FVec F S_ .f32 := constant S_ .f32 0x7F800000#32
  let main_v4 : FVec F S1x1024x8 .f32 := broadcastInDim S1x1024x8 ![] bcast_S_S1x1024x8 main_cst_0
  let main_v5 : IVec S1x1024x8 1 := cmpf .olt main_v3 main_v4
  (main_v2, main_v5)
-- ==== Kernel.lean ====
abbrev S16384x1024 : Shape := ⟨2, ![16384, 1024]⟩
abbrev S1x1024 : Shape := ⟨2, ![1, 1024]⟩
abbrev S1x1024x8 : Shape := ⟨3, ![1, 1024, 8]⟩
abbrev S1x8x1024x2816 : Shape := ⟨4, ![1, 8, 1024, 2816]⟩
abbrev S1x8x2816x1024 : Shape := ⟨4, ![1, 8, 2816, 1024]⟩
abbrev S1024 : Shape := ⟨1, ![1024]⟩
abbrev S1024x8 : Shape := ⟨2, ![1024, 8]⟩
abbrev S_ : Shape := ⟨0, ![]⟩
abbrev S1024x128 : Shape := ⟨2, ![1024, 128]⟩
abbrev S8x1024x2816 : Shape := ⟨3, ![8, 1024, 2816]⟩
abbrev S8x2816x1024 : Shape := ⟨3, ![8, 2816, 1024]⟩
abbrev S512x1024 : Shape := ⟨2, ![512, 1024]⟩
abbrev S1x1024x1408 : Shape := ⟨3, ![1, 1024, 1408]⟩
abbrev S1x1408x1024 : Shape := ⟨3, ![1, 1408, 1024]⟩
abbrev S512x128 : Shape := ⟨2, ![512, 128]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 22
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x8, .f32⟩
  | .hbm, ⟨3, _⟩ => ⟨S1x8x1024x2816, .f32⟩
  | .hbm, ⟨4, _⟩ => ⟨S1x8x1024x2816, .f32⟩
  | .hbm, ⟨5, _⟩ => ⟨S1x8x2816x1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S8x1024x2816, .f32⟩
  | .hbm, ⟨15, _⟩ => ⟨S8x1024x2816, .bf16⟩
  | .hbm, ⟨16, _⟩ => ⟨S8x1024x2816, .f32⟩
  | .hbm, ⟨17, _⟩ => ⟨S8x1024x2816, .bf16⟩
  | .hbm, ⟨18, _⟩ => ⟨S8x2816x1024, .f32⟩
  | .hbm, ⟨19, _⟩ => ⟨S8x2816x1024, .bf16⟩
  | .hbm, ⟨20, _⟩ => ⟨S1x1024, .f32⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1408x1024, .bf16⟩
  | .local _ .vmem, ⟨9, _⟩ => ⟨S1x1408x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | .local _ .vmem, ⟨15, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![32, 8, 2], ![false, false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let arg2 : BitVec 32 := BitVec.ofNat 32 (i 2).val
  let c1_i32 : BitVec 32 := 1#32
  let v35 : BitVec 1 := Scalar.cmpi .eq arg2 c1_i32
  let v36 : BitVec 1 := Scalar.andi v34 v35
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceIdeal.lean ====
abbrev S16384x1024 : Shape := ⟨2, ![16384, 1024]⟩
abbrev S1x1024 : Shape := ⟨2, ![1, 1024]⟩
abbrev S1x1024x8 : Shape := ⟨3, ![1, 1024, 8]⟩
abbrev S1x8x1024x2816 : Shape := ⟨4, ![1, 8, 1024, 2816]⟩
abbrev S1x8x2816x1024 : Shape := ⟨4, ![1, 8, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x8 : Shape := ⟨2, ![1024, 8]⟩
abbrev S8x1024x2816 : Shape := ⟨3, ![8, 1024, 2816]⟩
abbrev S8x2816x1024 : Shape := ⟨3, ![8, 2816, 1024]⟩
abbrev S16384x8 : Shape := ⟨2, ![16384, 8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 255
  | .vmem => 0
  | .smem => 0
  | _ => 0

abbrev hbmTy0_0 (i : Nat) : BufTy := match i % 128 with
  | 0 => ⟨S16384x1024, .f32⟩
  | 1 => ⟨S1x1024, .f32⟩
  | 2 => ⟨S1x1024x8, .f32⟩
  | 3 => ⟨S1x8x1024x2816, .f32⟩
  | 4 => ⟨S1x8x1024x2816, .f32⟩
  | 5 => ⟨S1x8x2816x1024, .f32⟩
  | 6 => ⟨S1024, .f32⟩
  | 7 => ⟨S1024, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S1024x8, .f32⟩
  | 25 => ⟨S8x1024x2816, .f32⟩
  | 26 => ⟨S8x1024x2816, .f32⟩
  | 27 => ⟨S8x2816x1024, .f32⟩
  | 28 => ⟨S16384x8, .f32⟩
  | 29 => ⟨S16384x2, .f32⟩
  | 30 => ⟨S16384x2, .i32⟩
  | 31 => ⟨S_, .f32⟩
  | 32 => ⟨S16384, .f32⟩
  | 33 => ⟨S_, .f32⟩
  | 34 => ⟨S16384, .f32⟩
  | 35 => ⟨S16384, .f32⟩
  | 36 => ⟨S16384x1, .f32⟩
  | 37 => ⟨S16384x2, .f32⟩
  | 38 => ⟨S16384x2, .f32⟩
  | 39 => ⟨S16384x2, .f32⟩
  | 40 => ⟨S_, .f32⟩
  | 41 => ⟨S16384, .f32⟩
  | 42 => ⟨S16384x1, .f32⟩
  | 43 => ⟨S16384x2, .f32⟩
  | 44 => ⟨S16384x2, .f32⟩
  | 45 => ⟨S16384x2x1, .i32⟩
  | 46 => ⟨S1x1x8, .i32⟩
  | 47 => ⟨S16384x2x8, .i32⟩
  | 48 => ⟨S16384x2x8, .i32⟩
  | 49 => ⟨S16384x2x8, .i1⟩
  | 50 => ⟨S16384x2x8, .f32⟩
  | 51 => ⟨S16384x8, .f32⟩
  | 52 => ⟨S_, .f32⟩
  | 53 => ⟨S16384x1024, .f32⟩
  | 54 => ⟨S16384x1, .f32⟩
  | 55 => ⟨S1x1024x2816, .f32⟩
  | 56 => ⟨S1024x2816, .f32⟩
  | 57 => ⟨S1x1024x2816, .f32⟩
  | 58 => ⟨S1024x2816, .f32⟩
  | 59 => ⟨S1x2816x1024, .f32⟩
  | 60 => ⟨S2816x1024, .f32⟩
  | 61 => ⟨S16384x2816, .f32⟩
  | 62 => ⟨S16384x2816, .f32⟩
  | 63 => ⟨S16384x2816, .f32⟩
  | 64 => ⟨S_, .f32⟩
  | 65 => ⟨S16384x2816, .f32⟩
  | 66 => ⟨S16384x2816, .f32⟩
  | 67 => ⟨S_, .f32⟩
  | 68 => ⟨S16384x2816, .f32⟩
  | 69 => ⟨S16384x2816, .f32⟩
  | 70 => ⟨S16384x2816, .f32⟩
  | 71 => ⟨S16384x2816, .f32⟩
  | 72 => ⟨S16384x2816, .f32⟩
  | 73 => ⟨S16384x1024, .f32⟩
  | 74 => ⟨S16384x1024, .f32⟩
  | 75 => ⟨S16384x1024, .f32⟩
  | 76 => ⟨S16384x1024, .f32⟩
  | 77 => ⟨S16384x1, .f32⟩
  | 78 => ⟨S1x1024x2816, .f32⟩
  | 79 => ⟨S1024x2816, .f32⟩
  | 80 => ⟨S1x1024x2816, .f32⟩
  | 81 => ⟨S1024x2816, .f32⟩
  | 82 => ⟨S1x2816x1024, .f32⟩
  | 83 => ⟨S2816x1024, .f32⟩
  | 84 => ⟨S16384x2816, .f32⟩
  | 85 => ⟨S16384x2816, .f32⟩
  | 86 => ⟨S16384x2816, .f32⟩
  | 87 => ⟨S_, .f32⟩
  | 88 => ⟨S16384x2816, .f32⟩
  | 89 => ⟨S16384x2816, .f32⟩
  | 90 => ⟨S_, .f32⟩
  | 91 => ⟨S16384x2816, .f32⟩
  | 92 => ⟨S16384x2816, .f32⟩
  | 93 => ⟨S16384x2816, .f32⟩
  | 94 => ⟨S16384x2816, .f32⟩
  | 95 => ⟨S16384x2816, .f32⟩
  | 96 => ⟨S16384x1024, .f32⟩
  | 97 => ⟨S16384x1024, .f32⟩
  | 98 => ⟨S16384x1024, .f32⟩
  | 99 => ⟨S16384x1024, .f32⟩
  | 100 => ⟨S16384x1, .f32⟩
  | 101 => ⟨S1x1024x2816, .f32⟩
  | 102 => ⟨S1024x2816, .f32⟩
  | 103 => ⟨S1x1024x2816, .f32⟩
  | 104 => ⟨S1024x2816, .f32⟩
  | 105 => ⟨S1x2816x1024, .f32⟩
  | 106 => ⟨S2816x1024, .f32⟩
  | 107 => ⟨S16384x2816, .f32⟩
  | 108 => ⟨S16384x2816, .f32⟩
  | 109 => ⟨S16384x2816, .f32⟩
  | 110 => ⟨S_, .f32⟩
  | 111 => ⟨S16384x2816, .f32⟩
  | 112 => ⟨S16384x2816, .f32⟩
  | 113 => ⟨S_, .f32⟩
  | 114 => ⟨S16384x2816, .f32⟩
  | 115 => ⟨S16384x2816, .f32⟩
  | 116 => ⟨S16384x2816, .f32⟩
  | 117 => ⟨S16384x2816, .f32⟩
  | 118 => ⟨S16384x2816, .f32⟩
  | 119 => ⟨S16384x1024, .f32⟩
  | 120 => ⟨S16384x1024, .f32⟩
  | 121 => ⟨S16384x1024, .f32⟩
  | 122 => ⟨S16384x1024, .f32⟩
  | 123 => ⟨S16384x1, .f32⟩
  | 124 => ⟨S1x1024x2816, .f32⟩
  | 125 => ⟨S1024x2816, .f32⟩
  | 126 => ⟨S1x1024x2816, .f32⟩
  | 127 => ⟨S1024x2816, .f32⟩
  | _ => ⟨S16384x1024, .f32⟩

abbrev hbmTy0_1 (i : Nat) : BufTy := match i % 128 with
  | 0 => ⟨S1x2816x1024, .f32⟩
  | 1 => ⟨S2816x1024, .f32⟩
  | 2 => ⟨S16384x2816, .f32⟩
  | 3 => ⟨S16384x2816, .f32⟩
  | 4 => ⟨S16384x2816, .f32⟩
  | 5 => ⟨S_, .f32⟩
  | 6 => ⟨S16384x2816, .f32⟩
  | 7 => ⟨S16384x2816, .f32⟩
  | 8 => ⟨S_, .f32⟩
  | 9 => ⟨S16384x2816, .f32⟩
  | 10 => ⟨S16384x2816, .f32⟩
  | 11 => ⟨S16384x2816, .f32⟩
  | 12 => ⟨S16384x2816, .f32⟩
  | 13 => ⟨S16384x2816, .f32⟩
  | 14 => ⟨S16384x1024, .f32⟩
  | 15 => ⟨S16384x1024, .f32⟩
  | 16 => ⟨S16384x1024, .f32⟩
  | 17 => ⟨S16384x1024, .f32⟩
  | 18 => ⟨S16384x1, .f32⟩
  | 19 => ⟨S1x1024x2816, .f32⟩
  | 20 => ⟨S1024x2816, .f32⟩
  | 21 => ⟨S1x1024x2816, .f32⟩
  | 22 => ⟨S1024x2816, .f32⟩
  | 23 => ⟨S1x2816x1024, .f32⟩
  | 24 => ⟨S2816x1024, .f32⟩
  | 25 => ⟨S16384x2816, .f32⟩
  | 26 => ⟨S16384x2816, .f32⟩
  | 27 => ⟨S16384x2816, .f32⟩
  | 28 => ⟨S_, .f32⟩
  | 29 => ⟨S16384x2816, .f32⟩
  | 30 => ⟨S16384x2816, .f32⟩
  | 31 => ⟨S_, .f32⟩
  | 32 => ⟨S16384x2816, .f32⟩
  | 33 => ⟨S16384x2816, .f32⟩
  | 34 => ⟨S16384x2816, .f32⟩
  | 35 => ⟨S16384x2816, .f32⟩
  | 36 => ⟨S16384x2816, .f32⟩
  | 37 => ⟨S16384x1024, .f32⟩
  | 38 => ⟨S16384x1024, .f32⟩
  | 39 => ⟨S16384x1024, .f32⟩
  | 40 => ⟨S16384x1024, .f32⟩
  | 41 => ⟨S16384x1, .f32⟩
  | 42 => ⟨S1x1024x2816, .f32⟩
  | 43 => ⟨S1024x2816, .f32⟩
  | 44 => ⟨S1x1024x2816, .f32⟩
  | 45 => ⟨S1024x2816, .f32⟩
  | 46 => ⟨S1x2816x1024, .f32⟩
  | 47 => ⟨S2816x1024, .f32⟩
  | 48 => ⟨S16384x2816, .f32⟩
  | 49 => ⟨S16384x2816, .f32⟩
  | 50 => ⟨S16384x2816, .f32⟩
  | 51 => ⟨S_, .f32⟩
  | 52 => ⟨S16384x2816, .f32⟩
  | 53 => ⟨S16384x2816, .f32⟩
  | 54 => ⟨S_, .f32⟩
  | 55 => ⟨S16384x2816, .f32⟩
  | 56 => ⟨S16384x2816, .f32⟩
  | 57 => ⟨S16384x2816, .f32⟩
  | 58 => ⟨S16384x2816, .f32⟩
  | 59 => ⟨S16384x2816, .f32⟩
  | 60 => ⟨S16384x1024, .f32⟩
  | 61 => ⟨S16384x1024, .f32⟩
  | 62 => ⟨S16384x1024, .f32⟩
  | 63 => ⟨S16384x1024, .f32⟩
  | 64 => ⟨S16384x1, .f32⟩
  | 65 => ⟨S1x1024x2816, .f32⟩
  | 66 => ⟨S1024x2816, .f32⟩
  | 67 => ⟨S1x1024x2816, .f32⟩
  | 68 => ⟨S1024x2816, .f32⟩
  | 69 => ⟨S1x2816x1024, .f32⟩
  | 70 => ⟨S2816x1024, .f32⟩
  | 71 => ⟨S16384x2816, .f32⟩
  | 72 => ⟨S16384x2816, .f32⟩
  | 73 => ⟨S16384x2816, .f32⟩
  | 74 => ⟨S_, .f32⟩
  | 75 => ⟨S16384x2816, .f32⟩
  | 76 => ⟨S16384x2816, .f32⟩
  | 77 => ⟨S_, .f32⟩
  | 78 => ⟨S16384x2816, .f32⟩
  | 79 => ⟨S16384x2816, .f32⟩
  | 80 => ⟨S16384x2816, .f32⟩
  | 81 => ⟨S16384x2816, .f32⟩
  | 82 => ⟨S16384x2816, .f32⟩
  | 83 => ⟨S16384x1024, .f32⟩
  | 84 => ⟨S16384x1024, .f32⟩
  | 85 => ⟨S16384x1024, .f32⟩
  | 86 => ⟨S16384x1024, .f32⟩
  | 87 => ⟨S16384x1, .f32⟩
  | 88 => ⟨S1x1024x2816, .f32⟩
  | 89 => ⟨S1024x2816, .f32⟩
  | 90 => ⟨S1x1024x2816, .f32⟩
  | 91 => ⟨S1024x2816, .f32⟩
  | 92 => ⟨S1x2816x1024, .f32⟩
  | 93 => ⟨S2816x1024, .f32⟩
  | 94 => ⟨S16384x2816, .f32⟩
  | 95 => ⟨S16384x2816, .f32⟩
  | 96 => ⟨S16384x2816, .f32⟩
  | 97 => ⟨S_, .f32⟩
  | 98 => ⟨S16384x2816, .f32⟩
  | 99 => ⟨S16384x2816, .f32⟩
  | 100 => ⟨S_, .f32⟩
  | 101 => ⟨S16384x2816, .f32⟩
  | 102 => ⟨S16384x2816, .f32⟩
  | 103 => ⟨S16384x2816, .f32⟩
  | 104 => ⟨S16384x2816, .f32⟩
  | 105 => ⟨S16384x2816, .f32⟩
  | 106 => ⟨S16384x1024, .f32⟩
  | 107 => ⟨S16384x1024, .f32⟩
  | 108 => ⟨S16384x1024, .f32⟩
  | 109 => ⟨S16384x1024, .f32⟩
  | 110 => ⟨S16384x1024, .f32⟩
  | 111 => ⟨S16384x1024, .f32⟩
  | 112 => ⟨S_, .f32⟩
  | 113 => ⟨S16384, .f32⟩
  | 114 => ⟨S16384x1, .f32⟩
  | 115 => ⟨S_, .f32⟩
  | 116 => ⟨S16384x1, .f32⟩
  | 117 => ⟨S16384x1, .f32⟩
  | 118 => ⟨S_, .f32⟩
  | 119 => ⟨S16384x1, .f32⟩
  | 120 => ⟨S16384x1, .f32⟩
  | 121 => ⟨S16384x1, .f32⟩
  | 122 => ⟨S16384x1024, .f32⟩
  | 123 => ⟨S16384x1024, .f32⟩
  | 124 => ⟨S1x1024, .f32⟩
  | 125 => ⟨S16384x1024, .f32⟩
  | 126 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_values : Ref sig .tc := ⟨.hbm, 29, rfl⟩
abbrev main_indices : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call3_v0 : Ref sig .tc := ⟨.hbm, 108, rfl⟩
abbrev main_call3_v1 : Ref sig .tc := ⟨.hbm, 109, rfl⟩
abbrev main_call3_cst : Ref sig .tc := ⟨.hbm, 110, rfl⟩
abbrev main_call3_v2 : Ref sig .tc := ⟨.hbm, 111, rfl⟩
abbrev main_call3_v3 : Ref sig .tc := ⟨.hbm, 112, rfl⟩
abbrev main_call3_cst_0 : Ref sig .tc := ⟨.hbm, 113, rfl⟩
abbrev main_call3_v4 : Ref sig .tc := ⟨.hbm, 114, rfl⟩
abbrev main_call3_v5 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_call4_v0 : Ref sig .tc := ⟨.hbm, 131, rfl⟩
abbrev main_call4_v1 : Ref sig .tc := ⟨.hbm, 132, rfl⟩
abbrev main_call4_cst : Ref sig .tc := ⟨.hbm, 133, rfl⟩
abbrev main_call4_v2 : Ref sig .tc := ⟨.hbm, 134, rfl⟩
abbrev main_call4_v3 : Ref sig .tc := ⟨.hbm, 135, rfl⟩
abbrev main_call4_cst_0 : Ref sig .tc := ⟨.hbm, 136, rfl⟩
abbrev main_call4_v4 : Ref sig .tc := ⟨.hbm, 137, rfl⟩
abbrev main_call4_v5 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_call5_v0 : Ref sig .tc := ⟨.hbm, 154, rfl⟩
abbrev main_call5_v1 : Ref sig .tc := ⟨.hbm, 155, rfl⟩
abbrev main_call5_cst : Ref sig .tc := ⟨.hbm, 156, rfl⟩
abbrev main_call5_v2 : Ref sig .tc := ⟨.hbm, 157, rfl⟩
abbrev main_call5_v3 : Ref sig .tc := ⟨.hbm, 158, rfl⟩
abbrev main_call5_cst_0 : Ref sig .tc := ⟨.hbm, 159, rfl⟩
abbrev main_call5_v4 : Ref sig .tc := ⟨.hbm, 160, rfl⟩
abbrev main_call5_v5 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_call6_v0 : Ref sig .tc := ⟨.hbm, 177, rfl⟩
abbrev main_call6_v1 : Ref sig .tc := ⟨.hbm, 178, rfl⟩
abbrev main_call6_cst : Ref sig .tc := ⟨.hbm, 179, rfl⟩
abbrev main_call6_v2 : Ref sig .tc := ⟨.hbm, 180, rfl⟩
abbrev main_call6_v3 : Ref sig .tc := ⟨.hbm, 181, rfl⟩
abbrev main_call6_cst_0 : Ref sig .tc := ⟨.hbm, 182, rfl⟩
abbrev main_call6_v4 : Ref sig .tc := ⟨.hbm, 183, rfl⟩
abbrev main_call6_v5 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_call7_v0 : Ref sig .tc := ⟨.hbm, 200, rfl⟩
abbrev main_call7_v1 : Ref sig .tc := ⟨.hbm, 201, rfl⟩
abbrev main_call7_cst : Ref sig .tc := ⟨.hbm, 202, rfl⟩
abbrev main_call7_v2 : Ref sig .tc := ⟨.hbm, 203, rfl⟩
abbrev main_call7_v3 : Ref sig .tc := ⟨.hbm, 204, rfl⟩
abbrev main_call7_cst_0 : Ref sig .tc := ⟨.hbm, 205, rfl⟩
abbrev main_call7_v4 : Ref sig .tc := ⟨.hbm, 206, rfl⟩
abbrev main_call7_v5 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_call8_v0 : Ref sig .tc := ⟨.hbm, 223, rfl⟩
abbrev main_call8_v1 : Ref sig .tc := ⟨.hbm, 224, rfl⟩
abbrev main_call8_cst : Ref sig .tc := ⟨.hbm, 225, rfl⟩
abbrev main_call8_v2 : Ref sig .tc := ⟨.hbm, 226, rfl⟩
abbrev main_call8_v3 : Ref sig .tc := ⟨.hbm, 227, rfl⟩
abbrev main_call8_cst_0 : Ref sig .tc := ⟨.hbm, 228, rfl⟩
abbrev main_call8_v4 : Ref sig .tc := ⟨.hbm, 229, rfl⟩
abbrev main_call8_v5 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_cst_6 : Ref sig .tc := ⟨.hbm, 240, rfl⟩
abbrev main_v155 : Ref sig .tc := ⟨.hbm, 241, rfl⟩
abbrev main_v156 : Ref sig .tc := ⟨.hbm, 242, rfl⟩
abbrev main_cst_7 : Ref sig .tc := ⟨.hbm, 243, rfl⟩
abbrev main_v157 : Ref sig .tc := ⟨.hbm, 244, rfl⟩
abbrev main_v158 : Ref sig .tc := ⟨.hbm, 245, rfl⟩
abbrev main_cst_8 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1x1024x2628 : Shape := ⟨3, ![1, 1024, 2628]⟩
abbrev S1024x2628 : Shape := ⟨2, ![1024, 2628]⟩
abbrev S_ : Shape := ⟨0, ![]⟩
abbrev S1024x60 : Shape := ⟨2, ![1024, 60]⟩
abbrev S1024x1024 : Shape := ⟨2, ![1024, 1024]⟩
abbrev S1024x68 : Shape := ⟨2, ![1024, 68]⟩
abbrev S1024x1536 : Shape := ⟨2, ![1024, 1536]⟩
abbrev S1024x2688 : Shape := ⟨2, ![1024, 2688]⟩
abbrev S16384x1024 : Shape := ⟨2, ![16384, 1024]⟩
abbrev S1024 : Shape := ⟨1, ![1024]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x512 : Shape := ⟨2, ![16384, 512]⟩
abbrev S16384x128 : Shape := ⟨2, ![16384, 128]⟩
abbrev S16384x256 : Shape := ⟨2, ![16384, 256]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x2688 : Shape := ⟨2, ![512, 2688]⟩

abbrev nBuf : Space → Nat
  | .hbm => 58
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2628, .f32⟩
  | .hbm, ⟨3, _⟩ => ⟨S1024x2628, .f32⟩
  | .hbm, ⟨4, _⟩ => ⟨S_, .f32⟩
  | .hbm, ⟨5, _⟩ => ⟨S1024x60, .f32⟩
  | .hbm, ⟨6, _⟩ => ⟨S1024x1024, .f32⟩
  | .hbm, ⟨7, _⟩ => ⟨S1024x68, .f32⟩
  | .hbm, ⟨8, _⟩ => ⟨S1024x1536, .f32⟩
  | .hbm, ⟨9, _⟩ => ⟨S1024x2688, .f32⟩
  | .hbm, ⟨10, _⟩ => ⟨S1024x2688, .bf16⟩
  | .hbm, ⟨11, _⟩ => ⟨S16384x1024, .f32⟩
  | .hbm, ⟨12, _⟩ => ⟨S1024, .f32⟩
  | .hbm, ⟨13, _⟩ => ⟨S1x1024, .f32⟩
  | .hbm, ⟨14, _⟩ => ⟨S2048, .i32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S2048, .f32⟩
  | .hbm, ⟨24, _⟩ => ⟨S2048x1, .f32⟩
  | .hbm, ⟨25, _⟩ => ⟨S1x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S2048x8, .f32⟩
  | .hbm, ⟨31, _⟩ => ⟨S_, .f32⟩
  | .hbm, ⟨32, _⟩ => ⟨S2048x48, .f32⟩
  | .hbm, ⟨33, _⟩ => ⟨S_, .f32⟩
  | .hbm, ⟨34, _⟩ => ⟨S2048x8, .f32⟩
  | .hbm, ⟨35, _⟩ => ⟨S_, .f32⟩
  | .hbm, ⟨36, _⟩ => ⟨S2048x48, .f32⟩
  | .hbm, ⟨37, _⟩ => ⟨S2048x48, .f32⟩
  | .hbm, ⟨38, _⟩ => ⟨S2048x64, .f32⟩
  | .hbm, ⟨39, _⟩ => ⟨S2048x64, .f32⟩
  | .hbm, ⟨40, _⟩ => ⟨S2048x8, .f32⟩
  | .hbm, ⟨41, _⟩ => ⟨S2048x64, .f32⟩
  | .hbm, ⟨42, _⟩ => ⟨S1x2048x1x64, .f32⟩
  | .hbm, ⟨43, _⟩ => ⟨S1x2048x2x64, .f32⟩
  | .hbm, ⟨44, _⟩ => ⟨S2048x128, .f32⟩
  | .hbm, ⟨45, _⟩ => ⟨S1x2048x1x64, .f32⟩
  | .hbm, ⟨46, _⟩ => ⟨S1x2048x2x64, .f32⟩
  | .hbm, ⟨47, _⟩ => ⟨S2048x128, .f32⟩
  | .hbm, ⟨48, _⟩ => ⟨S1x2048x1x64, .f32⟩
  | .hbm, ⟨49, _⟩ => ⟨S1x2048x2x64, .f32⟩
  | .hbm, ⟨50, _⟩ => ⟨S2048x128, .f32⟩
  | .hbm, ⟨51, _⟩ => ⟨S16384x512, .bf16⟩
  | .hbm, ⟨52, _⟩ => ⟨S16384x128, .f32⟩
  | .hbm, ⟨53, _⟩ => ⟨S16384x128, .f32⟩
  | .hbm, ⟨54, _⟩ => ⟨S16384x256, .bf16⟩
  | .hbm, ⟨55, _⟩ => ⟨S16384x128, .f32⟩
  | .hbm, ⟨56, _⟩ => ⟨S16384x512, .f32⟩
  | .hbm, ⟨57, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x256, .bf16⟩
  | .local _ .vmem, ⟨17, _⟩ => ⟨S512x256, .bf16⟩
  | .local _ .vmem, ⟨18, _⟩ => ⟨S512x128, .f32⟩
  | .local _ .vmem, ⟨19, _⟩ => ⟨S512x128, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42_0 : Ref sig .tc := ⟨.hbm, 51, rfl⟩
abbrev main_v42_1 : Ref sig .tc := ⟨.hbm, 52, rfl⟩
abbrev main_v42_2 : Ref sig .tc := ⟨.hbm, 53, rfl⟩
abbrev main_v42_3 : Ref sig .tc := ⟨.hbm, 54, rfl⟩
abbrev main_v42_4 : Ref sig .tc := ⟨.hbm, 55, rfl⟩
abbrev main_v42_5 : Ref sig .tc := ⟨.hbm, 56, rfl⟩
abbrev main_v42_6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S8x2048x1024 : Shape := ⟨3, ![8, 2048, 1024]⟩
abbrev S1x1024 : Shape := ⟨2, ![1, 1024]⟩
abbrev S1x1024x2628 : Shape := ⟨3, ![1, 1024, 2628]⟩
abbrev S2048 : Shape := ⟨1, ![2048]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2628 : Shape := ⟨2, ![1024, 2628]⟩
abbrev S8x2048x2628 : Shape := ⟨3, ![8, 2048, 2628]⟩
abbrev S8x2048x512 : Shape := ⟨3, ![8, 2048, 512]⟩
abbrev S8x2048x128 : Shape := ⟨3, ![8, 2048, 128]⟩
abbrev S8x2048x256 : Shape := ⟨3, ![8, 2048, 256]⟩
abbrev S8x2048x64 : Shape := ⟨3, ![8, 2048, 64]⟩
abbrev S8x2048x4 : Shape := ⟨3, ![8, 2048, 4]⟩
abbrev S8x2048x8x64 : Shape := ⟨4, ![8, 2048, 8, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x8x16 : Shape := ⟨4, ![8, 2048, 8, 16]⟩
abbrev S8x2048x8x8 : Shape := ⟨4, ![8, 2048, 8, 8]⟩
abbrev S1x2048x1x8 : Shape := ⟨4, ![1, 2048, 1, 8]⟩
abbrev S8x2048x8x48 : Shape := ⟨4, ![8, 2048, 8, 48]⟩
abbrev S8x2048x2x64 : Shape := ⟨4, ![8, 2048, 2, 64]⟩
abbrev S8x2048x2x16 : Shape := ⟨4, ![8, 2048, 2, 16]⟩
abbrev S8x2048x2x8 : Shape := ⟨4, ![8, 2048, 2, 8]⟩
abbrev S8x2048x2x48 : Shape := ⟨4, ![8, 2048, 2, 48]⟩
abbrev S8x2048x4x64 : Shape := ⟨4, ![8, 2048, 4, 64]⟩
abbrev S8x2048x4x16 : Shape := ⟨4, ![8, 2048, 4, 16]⟩
abbrev S8x2048x4x8 : Shape := ⟨4, ![8, 2048, 4, 8]⟩
abbrev S8x2048x4x48 : Shape := ⟨4, ![8, 2048, 4, 48]⟩
abbrev S8x2048x1x64 : Shape := ⟨4, ![8, 2048, 1, 64]⟩
abbrev S8x2048x1x16 : Shape := ⟨4, ![8, 2048, 1, 16]⟩
abbrev S8x2048x1x8 : Shape := ⟨4, ![8, 2048, 1, 8]⟩
abbrev S8x2048x1x48 : Shape := ⟨4, ![8, 2048, 1, 48]⟩
abbrev S8x2048x60 : Shape := ⟨3, ![8, 2048, 60]⟩
abbrev S16384x512 : Shape := ⟨2, ![16384, 512]⟩
abbrev S16384x128 : Shape := ⟨2, ![16384, 128]⟩
abbrev S16384x256 : Shape := ⟨2, ![16384, 256]⟩

abbrev nBuf : Space → Nat
  | .hbm => 202
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x2628, .f32⟩
  | 3 => ⟨S2048, .i32⟩
  | 4 => ⟨S1024, .f32⟩
  | 5 => ⟨S8x2048x1024, .f32⟩
  | 6 => ⟨S_, .f32⟩
  | 7 => ⟨S8x2048, .f32⟩
  | 8 => ⟨S8x2048x1, .f32⟩
  | 9 => ⟨S_, .f32⟩
  | 10 => ⟨S8x2048x1, .f32⟩
  | 11 => ⟨S8x2048x1, .f32⟩
  | 12 => ⟨S_, .f32⟩
  | 13 => ⟨S8x2048x1, .f32⟩
  | 14 => ⟨S8x2048x1, .f32⟩
  | 15 => ⟨S8x2048x1, .f32⟩
  | 16 => ⟨S8x2048x1024, .f32⟩
  | 17 => ⟨S8x2048x1024, .f32⟩
  | 18 => ⟨S1x1x1024, .f32⟩
  | 19 => ⟨S8x2048x1024, .f32⟩
  | 20 => ⟨S8x2048x1024, .f32⟩
  | 21 => ⟨S1024x2628, .f32⟩
  | 22 => ⟨S8x2048x2628, .f32⟩
  | 23 => ⟨S8x2048x512, .f32⟩
  | 24 => ⟨S8x2048x128, .f32⟩
  | 25 => ⟨S8x2048x128, .f32⟩
  | 26 => ⟨S8x2048x256, .f32⟩
  | 27 => ⟨S8x2048x64, .f32⟩
  | 28 => ⟨S8x2048x4, .f32⟩
  | 29 => ⟨S8x2048x512, .f32⟩
  | 30 => ⟨S8x2048x512, .f32⟩
  | 31 => ⟨S8x2048x512, .f32⟩
  | 32 => ⟨S8x2048x8x64, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S2048, .f32⟩
  | 42 => ⟨S2048x1, .f32⟩
  | 43 => ⟨S1x8, .f32⟩
  | 44 => ⟨S2048x8, .f32⟩
  | 45 => ⟨S2048x8, .f32⟩
  | 46 => ⟨S2048x8, .f32⟩
  | 47 => ⟨S2048x8, .f32⟩
  | 48 => ⟨S2048x1x8, .f32⟩
  | 49 => ⟨S2048x8, .f32⟩
  | 50 => ⟨S2048x1x8, .f32⟩
  | 51 => ⟨S8x2048x8x16, .f32⟩
  | 52 => ⟨S8x2048x8x8, .f32⟩
  | 53 => ⟨S8x2048x8x8, .f32⟩
  | 54 => ⟨S1x2048x1x8, .f32⟩
  | 55 => ⟨S8x2048x8x8, .f32⟩
  | 56 => ⟨S8x2048x8x8, .f32⟩
  | 57 => ⟨S1x2048x1x8, .f32⟩
  | 58 => ⟨S8x2048x8x8, .f32⟩
  | 59 => ⟨S8x2048x8x8, .f32⟩
  | 60 => ⟨S8x2048x8x8, .f32⟩
  | 61 => ⟨S1x2048x1x8, .f32⟩
  | 62 => ⟨S8x2048x8x8, .f32⟩
  | 63 => ⟨S8x2048x8x8, .f32⟩
  | 64 => ⟨S1x2048x1x8, .f32⟩
  | 65 => ⟨S8x2048x8x8, .f32⟩
  | 66 => ⟨S8x2048x8x8, .f32⟩
  | 67 => ⟨S8x2048x8x8, .f32⟩
  | 68 => ⟨S8x2048x8x16, .f32⟩
  | 69 => ⟨S8x2048x8x48, .f32⟩
  | 70 => ⟨S8x2048x8x64, .f32⟩
  | 71 => ⟨S8x2048x2x64, .f32⟩
  | 72 => ⟨S8, .f32⟩
  | 73 => ⟨S8, .f32⟩
  | 74 => ⟨S_, .f32⟩
  | 75 => ⟨S8, .f32⟩
  | 76 => ⟨S8, .f32⟩
  | 77 => ⟨S_, .f32⟩
  | 78 => ⟨S8, .f32⟩
  | 79 => ⟨S8, .f32⟩
  | 80 => ⟨S2048, .f32⟩
  | 81 => ⟨S2048x1, .f32⟩
  | 82 => ⟨S1x8, .f32⟩
  | 83 => ⟨S2048x8, .f32⟩
  | 84 => ⟨S2048x8, .f32⟩
  | 85 => ⟨S2048x8, .f32⟩
  | 86 => ⟨S2048x8, .f32⟩
  | 87 => ⟨S2048x1x8, .f32⟩
  | 88 => ⟨S2048x8, .f32⟩
  | 89 => ⟨S2048x1x8, .f32⟩
  | 90 => ⟨S8x2048x2x16, .f32⟩
  | 91 => ⟨S8x2048x2x8, .f32⟩
  | 92 => ⟨S8x2048x2x8, .f32⟩
  | 93 => ⟨S1x2048x1x8, .f32⟩
  | 94 => ⟨S8x2048x2x8, .f32⟩
  | 95 => ⟨S8x2048x2x8, .f32⟩
  | 96 => ⟨S1x2048x1x8, .f32⟩
  | 97 => ⟨S8x2048x2x8, .f32⟩
  | 98 => ⟨S8x2048x2x8, .f32⟩
  | 99 => ⟨S8x2048x2x8, .f32⟩
  | 100 => ⟨S1x2048x1x8, .f32⟩
  | 101 => ⟨S8x2048x2x8, .f32⟩
  | 102 => ⟨S8x2048x2x8, .f32⟩
  | 103 => ⟨S1x2048x1x8, .f32⟩
  | 104 => ⟨S8x2048x2x8, .f32⟩
  | 105 => ⟨S8x2048x2x8, .f32⟩
  | 106 => ⟨S8x2048x2x8, .f32⟩
  | 107 => ⟨S8x2048x2x16, .f32⟩
  | 108 => ⟨S8x2048x2x48, .f32⟩
  | 109 => ⟨S8x2048x2x64, .f32⟩
  | 110 => ⟨S8x2048x4x64, .f32⟩
  | 111 => ⟨S8, .f32⟩
  | 112 => ⟨S8, .f32⟩
  | 113 => ⟨S_, .f32⟩
  | 114 => ⟨S8, .f32⟩
  | 115 => ⟨S8, .f32⟩
  | 116 => ⟨S_, .f32⟩
  | 117 => ⟨S8, .f32⟩
  | 118 => ⟨S8, .f32⟩
  | 119 => ⟨S2048, .f32⟩
  | 120 => ⟨S2048x1, .f32⟩
  | 121 => ⟨S1x8, .f32⟩
  | 122 => ⟨S2048x8, .f32⟩
  | 123 => ⟨S2048x8, .f32⟩
  | 124 => ⟨S2048x8, .f32⟩
  | 125 => ⟨S2048x8, .f32⟩
  | 126 => ⟨S2048x1x8, .f32⟩
  | 127 => ⟨S2048x8, .f32⟩
  | _ => ⟨S8x2048x1024, .f32⟩

abbrev hbmTy0_1 (i : Nat) : BufTy := match i % 128 with
  | 0 => ⟨S2048x1x8, .f32⟩
  | 1 => ⟨S8x2048x4x16, .f32⟩
  | 2 => ⟨S8x2048x4x8, .f32⟩
  | 3 => ⟨S8x2048x4x8, .f32⟩
  | 4 => ⟨S1x2048x1x8, .f32⟩
  | 5 => ⟨S8x2048x4x8, .f32⟩
  | 6 => ⟨S8x2048x4x8, .f32⟩
  | 7 => ⟨S1x2048x1x8, .f32⟩
  | 8 => ⟨S8x2048x4x8, .f32⟩
  | 9 => ⟨S8x2048x4x8, .f32⟩
  | 10 => ⟨S8x2048x4x8, .f32⟩
  | 11 => ⟨S1x2048x1x8, .f32⟩
  | 12 => ⟨S8x2048x4x8, .f32⟩
  | 13 => ⟨S8x2048x4x8, .f32⟩
  | 14 => ⟨S1x2048x1x8, .f32⟩
  | 15 => ⟨S8x2048x4x8, .f32⟩
  | 16 => ⟨S8x2048x4x8, .f32⟩
  | 17 => ⟨S8x2048x4x8, .f32⟩
  | 18 => ⟨S8x2048x4x16, .f32⟩
  | 19 => ⟨S8x2048x4x48, .f32⟩
  | 20 => ⟨S8x2048x4x64, .f32⟩
  | 21 => ⟨S8x2048x1x64, .f32⟩
  | 22 => ⟨S8, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S2048, .f32⟩
  | 31 => ⟨S2048x1, .f32⟩
  | 32 => ⟨S1x8, .f32⟩
  | 33 => ⟨S2048x8, .f32⟩
  | 34 => ⟨S2048x8, .f32⟩
  | 35 => ⟨S2048x8, .f32⟩
  | 36 => ⟨S2048x8, .f32⟩
  | 37 => ⟨S2048x1x8, .f32⟩
  | 38 => ⟨S2048x8, .f32⟩
  | 39 => ⟨S2048x1x8, .f32⟩
  | 40 => ⟨S8x2048x1x16, .f32⟩
  | 41 => ⟨S8x2048x1x8, .f32⟩
  | 42 => ⟨S8x2048x1x8, .f32⟩
  | 43 => ⟨S1x2048x1x8, .f32⟩
  | 44 => ⟨S8x2048x1x8, .f32⟩
  | 45 => ⟨S8x2048x1x8, .f32⟩
  | 46 => ⟨S1x2048x1x8, .f32⟩
  | 47 => ⟨S8x2048x1x8, .f32⟩
  | 48 => ⟨S8x2048x1x8, .f32⟩
  | 49 => ⟨S8x2048x1x8, .f32⟩
  | 50 => ⟨S1x2048x1x8, .f32⟩
  | 51 => ⟨S8x2048x1x8, .f32⟩
  | 52 => ⟨S8x2048x1x8, .f32⟩
  | 53 => ⟨S1x2048x1x8, .f32⟩
  | 54 => ⟨S8x2048x1x8, .f32⟩
  | 55 => ⟨S8x2048x1x8, .f32⟩
  | 56 => ⟨S8x2048x1x8, .f32⟩
  | 57 => ⟨S8x2048x1x16, .f32⟩
  | 58 => ⟨S8x2048x1x48, .f32⟩
  | 59 => ⟨S8x2048x1x64, .f32⟩
  | 60 => ⟨S8x2048x64, .f32⟩
  | 61 => ⟨S8x2048x512, .f32⟩
  | 62 => ⟨S_, .f32⟩
  | 63 => ⟨S8x2048x60, .f32⟩
  | 64 => ⟨S8x2048x128, .f32⟩
  | 65 => ⟨S16384x512, .f32⟩
  | 66 => ⟨S16384x512, .bf16⟩
  | 67 => ⟨S16384x128, .f32⟩
  | 68 => ⟨S16384x128, .f32⟩
  | 69 => ⟨S16384x256, .f32⟩
  | 70 => ⟨S16384x256, .bf16⟩
  | 71 => ⟨S16384x128, .f32⟩
  | 72 => ⟨S16384x512, .f32⟩
  | 73 => ⟨S16384x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_4 : Ref sig .tc := ⟨.hbm, 74, rfl⟩
abbrev main_v66 : Ref sig .tc := ⟨.hbm, 75, rfl⟩
abbrev main_v67 : Ref sig .tc := ⟨.hbm, 76, rfl⟩
abbrev main_cst_5 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_cst_6 : Ref sig .tc := ⟨.hbm, 113, rfl⟩
abbrev main_v103 : Ref sig .tc := ⟨.hbm, 114, rfl⟩
abbrev main_v104 : Ref sig .tc := ⟨.hbm, 115, rfl⟩
abbrev main_cst_7 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_cst_8 : Ref sig .tc := ⟨.hbm, 152, rfl⟩
abbrev main_v140 : Ref sig .tc := ⟨.hbm, 153, rfl⟩
abbrev main_v141 : Ref sig .tc := ⟨.hbm, 154, rfl⟩
abbrev main_cst_9 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_cst_10 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S512x1024 : Shape := ⟨2, ![512, 1024]⟩
abbrev S1x1024x1408 : Shape := ⟨3, ![1, 1024, 1408]⟩
abbrev S1x1408x1024 : Shape := ⟨3, ![1, 1408, 1024]⟩
abbrev S512x128 : Shape := ⟨2, ![512, 128]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 15
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024x2816, .bf16⟩
  | .hbm, ⟨9, _⟩ => ⟨S1x1024x2816, .bf16⟩
  | .hbm, ⟨10, _⟩ => ⟨S1x2816x1024, .bf16⟩
  | .hbm, ⟨11, _⟩ => ⟨S1024, .f32⟩
  | .hbm, ⟨12, _⟩ => ⟨S1x1024, .f32⟩
  | .hbm, ⟨13, _⟩ => ⟨S16384x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | .local _ .vmem, ⟨16, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![32, 1, 2], ![false, false, false]⟩

def k0_cond2 (i : grid0.Coords) : BitVec 1 :=
  let arg1 : BitVec 32 := BitVec.ofNat 32 (i 1).val
  let c0_i32_18 : BitVec 32 := 0#32
  let v24 : BitVec 1 := Scalar.cmpi .eq arg1 c0_i32_18
  let arg2 : BitVec 32 := BitVec.ofNat 32 (i 2).val
  let c1_i32 : BitVec 32 := 1#32
  let v25 : BitVec 1 := Scalar.cmpi .eq arg2 c1_i32
  let v26 : BitVec 1 := Scalar.andi v24 v25
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference3Ideal.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S2816x1024 : Shape := ⟨2, ![2816, 1024]⟩
abbrev S16384x2816 : Shape := ⟨2, ![16384, 2816]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S16384x1024, .f32⟩
  | .hbm, ⟨40, _⟩ => ⟨S1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel4.lean ====
abbrev S16384x1024 : Shape := ⟨2, ![16384, 1024]⟩
abbrev S8x1024 : Shape := ⟨2, ![8, 1024]⟩
abbrev S1x6x1024 : Shape := ⟨3, ![1, 6, 1024]⟩
abbrev S1x3x1024x1024 : Shape := ⟨4, ![1, 3, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1x1024x128 : Shape := ⟨3, ![1, 1024, 128]⟩
abbrev S1x128x1024 : Shape := ⟨3, ![1, 128, 1024]⟩
abbrev S128x128 : Shape := ⟨2, ![128, 128]⟩
abbrev S_ : Shape := ⟨0, ![]⟩
abbrev S6x1024 : Shape := ⟨2, ![6, 1024]⟩
abbrev S1024 : Shape := ⟨1, ![1024]⟩
abbrev S8x2048x1024 : Shape := ⟨3, ![8, 2048, 1024]⟩
abbrev S8x1x1024 : Shape := ⟨3, ![8, 1, 1024]⟩
abbrev S8x2047x1024 : Shape := ⟨3, ![8, 2047, 1024]⟩
abbrev S3x1024x1024 : Shape := ⟨3, ![3, 1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S256x1024 : Shape := ⟨2, ![256, 1024]⟩
abbrev S1x1024x1024 : Shape := ⟨3, ![1, 1024, 1024]⟩
abbrev S1024x1024 : Shape := ⟨2, ![1024, 1024]⟩
abbrev S256x64 : Shape := ⟨2, ![256, 64]⟩
abbrev S256x128 : Shape := ⟨2, ![256, 128]⟩

abbrev nBuf : Space → Nat
  | .hbm => 54
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S8x1024, .f32⟩
  | .hbm, ⟨2, _⟩ => ⟨S1x6x1024, .f32⟩
  | .hbm, ⟨3, _⟩ => ⟨S1x3x1024x1024, .f32⟩
  | .hbm, ⟨4, _⟩ => ⟨S1x1024, .f32⟩
  | .hbm, ⟨5, _⟩ => ⟨S1x1024x64, .f32⟩
  | .hbm, ⟨6, _⟩ => ⟨S1x64x1024, .f32⟩
  | .hbm, ⟨7, _⟩ => ⟨S1x1024, .f32⟩
  | .hbm, ⟨8, _⟩ => ⟨S1x1024x64, .f32⟩
  | .hbm, ⟨9, _⟩ => ⟨S1x64x1024, .f32⟩
  | .hbm, ⟨10, _⟩ => ⟨S1x1024x128, .f32⟩
  | .hbm, ⟨11, _⟩ => ⟨S1x128x1024, .f32⟩
  | .hbm, ⟨12, _⟩ => ⟨S1x1024, .f32⟩
  | .hbm, ⟨13, _⟩ => ⟨S1x1024, .f32⟩
  | .hbm, ⟨14, _⟩ => ⟨S128x128, .bf16⟩
  | .hbm, ⟨15, _⟩ => ⟨S_, .f32⟩
  | .hbm, ⟨16, _⟩ => ⟨S1x1024, .f32⟩
  | .hbm, ⟨17, _⟩ => ⟨S6x1024, .f32⟩
  | .hbm, ⟨18, _⟩ => ⟨S8x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S8x1024, .f32⟩
  | .hbm, ⟨28, _⟩ => ⟨S8x2048x1024, .f32⟩
  | .hbm, ⟨29, _⟩ => ⟨S8x1x1024, .f32⟩
  | .hbm, ⟨30, _⟩ => ⟨S8x2047x1024, .f32⟩
  | .hbm, ⟨31, _⟩ => ⟨S8x2048x1024, .f32⟩
  | .hbm, ⟨32, _⟩ => ⟨S16384x1024, .f32⟩
  | .hbm, ⟨33, _⟩ => ⟨S3x1024x1024, .f32⟩
  | .hbm, ⟨34, _⟩ => ⟨S3x1024x1024, .bf16⟩
  | .hbm, ⟨35, _⟩ => ⟨S1024x64, .f32⟩
  | .hbm, ⟨36, _⟩ => ⟨S1024x64, .bf16⟩
  | .hbm, ⟨37, _⟩ => ⟨S64x1024, .f32⟩
  | .hbm, ⟨38, _⟩ => ⟨S64x1024, .bf16⟩
  | .hbm, ⟨39, _⟩ => ⟨S1024x64, .f32⟩
  | .hbm, ⟨40, _⟩ => ⟨S1024x64, .bf16⟩
  | .hbm, ⟨41, _⟩ => ⟨S64x1024, .f32⟩
  | .hbm, ⟨42, _⟩ => ⟨S64x1024, .bf16⟩
  | .hbm, ⟨43, _⟩ => ⟨S1024x128, .f32⟩
  | .hbm, ⟨44, _⟩ => ⟨S1024x128, .bf16⟩
  | .hbm, ⟨45, _⟩ => ⟨S128x1024, .f32⟩
  | .hbm, ⟨46, _⟩ => ⟨S128x1024, .bf16⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1024, .f32⟩
  | .local _ .vmem, ⟨6, _⟩ => ⟨S3x1024x1024, .bf16⟩
  | .local _ .vmem, ⟨7, _⟩ => ⟨S1024x64, .bf16⟩
  | .local _ .vmem, ⟨8, _⟩ => ⟨S64x1024, .bf16⟩
  | .local _ .vmem, ⟨9, _⟩ => ⟨S1024x64, .bf16⟩
  | .local _ .vmem, ⟨10, _⟩ => ⟨S64x1024, .bf16⟩
  | .local _ .vmem, ⟨11, _⟩ => ⟨S1024x128, .bf16⟩
  | .local _ .vmem, ⟨12, _⟩ => ⟨S128x1024, .bf16⟩
  | .local _ .vmem, ⟨13, _⟩ => ⟨S128x128, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31_0 : Ref sig .tc := ⟨.hbm, 47, rfl⟩
abbrev main_v31_1 : Ref sig .tc := ⟨.hbm, 48, rfl⟩
abbrev main_v31_2 : Ref sig .tc := ⟨.hbm, 49, rfl⟩
abbrev main_v31_3 : Ref sig .tc := ⟨.hbm, 50, rfl⟩
abbrev main_v31_4 : Ref sig .tc := ⟨.hbm, 51, rfl⟩
abbrev main_v31_5 : Ref sig .tc := ⟨.hbm, 52, rfl⟩
abbrev main_v31_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S16384x1024 : Shape := ⟨2, ![16384, 1024]⟩
abbrev S8x1024 : Shape := ⟨2, ![8, 1024]⟩
abbrev S1x6x1024 : Shape := ⟨3, ![1, 6, 1024]⟩
abbrev S1x3x1024x1024 : Shape := ⟨4, ![1, 3, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1x1024x128 : Shape := ⟨3, ![1, 1024, 128]⟩
abbrev S1x128x1024 : Shape := ⟨3, ![1, 128, 1024]⟩
abbrev S6x1024 : Shape := ⟨2, ![6, 1024]⟩
abbrev S3x1024x1024 : Shape := ⟨3, ![3, 1024, 1024]⟩
abbrev S8x2048x1024 : Shape := ⟨3, ![8, 2048, 1024]⟩
abbrev S8x1x1024 : Shape := ⟨3, ![8, 1, 1024]⟩
abbrev S8x2047x1024 : Shape := ⟨3, ![8, 2047, 1024]⟩
abbrev S1024 : Shape := ⟨1, ![1024]⟩
abbrev S1x1x1024 : Shape := ⟨3, ![1, 1, 1024]⟩
abbrev S1x1024x1024 : Shape := ⟨3, ![1, 1024, 1024]⟩
abbrev S1024x1024 : Shape := ⟨2, ![1024, 1024]⟩
abbrev S1024x64 : Shape := ⟨2, ![1024, 64]⟩
abbrev S8x2048x64 : Shape := ⟨3, ![8, 2048, 64]⟩
abbrev S64x1024 : Shape := ⟨2, ![64, 1024]⟩
abbrev S_ : Shape := ⟨0, ![]⟩
abbrev S1024x128 : Shape := ⟨2, ![1024, 128]⟩
abbrev S8x2048x128 : Shape := ⟨3, ![8, 2048, 128]⟩
abbrev S128x1024 : Shape := ⟨2, ![128, 1024]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩

abbrev nBuf : Space → Nat
  | .hbm => 159
  | .vmem => 0
  | .smem => 0
  | _ => 0

abbrev hbmTy0_0 (i : Nat) : BufTy := match i % 128 with
  | 0 => ⟨S16384x1024, .f32⟩
  | 1 => ⟨S8x1024, .f32⟩
  | 2 => ⟨S1x6x1024, .f32⟩
  | 3 => ⟨S1x3x1024x1024, .f32⟩
  | 4 => ⟨S1x1024, .f32⟩
  | 5 => ⟨S1x1024x64, .f32⟩
  | 6 => ⟨S1x64x1024, .f32⟩
  | 7 => ⟨S1x1024, .f32⟩
  | 8 => ⟨S1x1024x64, .f32⟩
  | 9 => ⟨S1x64x1024, .f32⟩
  | 10 => ⟨S1x1024x128, .f32⟩
  | 11 => ⟨S1x128x1024, .f32⟩
  | 12 => ⟨S1x1024, .f32⟩
  | 13 => ⟨S1x1024, .f32⟩
  | 14 => ⟨S6x1024, .f32⟩
  | 15 => ⟨S3x1024x1024, .f32⟩
  | 16 => ⟨S8x2048x1024, .f32⟩
  | 17 => ⟨S8x1x1024, .f32⟩
  | 18 => ⟨S8x2047x1024, .f32⟩
  | 19 => ⟨S8x2048x1024, .f32⟩
  | 20 => ⟨S8x2048x1024, .f32⟩
  | 21 => ⟨S1x1024, .f32⟩
  | 22 => ⟨S1024, .f32⟩
  | 23 => ⟨S1x1x1024, .f32⟩
  | 24 => ⟨S8x2048x1024, .f32⟩
  | 25 => ⟨S8x2048x1024, .f32⟩
  | 26 => ⟨S8x2048x1024, .f32⟩
  | 27 => ⟨S1x1024, .f32⟩
  | 28 => ⟨S1024, .f32⟩
  | 29 => ⟨S1x1x1024, .f32⟩
  | 30 => ⟨S8x2048x1024, .f32⟩
  | 31 => ⟨S8x2048x1024, .f32⟩
  | 32 => ⟨S8x2048x1024, .f32⟩
  | 33 => ⟨S1x1024, .f32⟩
  | 34 => ⟨S1024, .f32⟩
  | 35 => ⟨S1x1x1024, .f32⟩
  | 36 => ⟨S8x2048x1024, .f32⟩
  | 37 => ⟨S8x2048x1024, .f32⟩
  | 38 => ⟨S8x2048x1024, .f32⟩
  | 39 => ⟨S1x1024, .f32⟩
  | 40 => ⟨S1024, .f32⟩
  | 41 => ⟨S1x1x1024, .f32⟩
  | 42 => ⟨S8x2048x1024, .f32⟩
  | 43 => ⟨S8x2048x1024, .f32⟩
  | 44 => ⟨S8x2048x1024, .f32⟩
  | 45 => ⟨S1x1024, .f32⟩
  | 46 => ⟨S1024, .f32⟩
  | 47 => ⟨S1x1x1024, .f32⟩
  | 48 => ⟨S8x2048x1024, .f32⟩
  | 49 => ⟨S8x2048x1024, .f32⟩
  | 50 => ⟨S8x2048x1024, .f32⟩
  | 51 => ⟨S1x1024, .f32⟩
  | 52 => ⟨S1024, .f32⟩
  | 53 => ⟨S1x1x1024, .f32⟩
  | 54 => ⟨S8x2048x1024, .f32⟩
  | 55 => ⟨S8x2048x1024, .f32⟩
  | 56 => ⟨S8x2048x1024, .f32⟩
  | 57 => ⟨S1x1024x1024, .f32⟩
  | 58 => ⟨S1024x1024, .f32⟩
  | 59 => ⟨S8x2048x1024, .f32⟩
  | 60 => ⟨S1x1024x1024, .f32⟩
  | 61 => ⟨S1024x1024, .f32⟩
  | 62 => ⟨S8x2048x1024, .f32⟩
  | 63 => ⟨S1x1024x1024, .f32⟩
  | 64 => ⟨S1024x1024, .f32⟩
  | 65 => ⟨S8x2048x1024, .f32⟩
  | 66 => ⟨S1024, .f32⟩
  | 67 => ⟨S1024x64, .f32⟩
  | 68 => ⟨S8x2048x64, .f32⟩
  | 69 => ⟨S8x2048x64, .f32⟩
  | 70 => ⟨S64x1024, .f32⟩
  | 71 => ⟨S8x2048x1024, .f32⟩
  | 72 => ⟨S1x1x1024, .f32⟩
  | 73 => ⟨S8x2048x1024, .f32⟩
  | 74 => ⟨S8x2048x1024, .f32⟩
  | 75 => ⟨S8x2048x1024, .f32⟩
  | 76 => ⟨S_, .f32⟩
  | 77 => ⟨S8x2048x1024, .f32⟩
  | 78 => ⟨S8x2048x1024, .f32⟩
  | 79 => ⟨S8x2048x1024, .f32⟩
  | 80 => ⟨S8x2048x1024, .f32⟩
  | 81 => ⟨S8x2048x1024, .i1⟩
  | 82 => ⟨S8x2048x1024, .f32⟩
  | 83 => ⟨S8x2048x1024, .f32⟩
  | 84 => ⟨S8x2048x1024, .f32⟩
  | 85 => ⟨S8x2048x1024, .f32⟩
  | 86 => ⟨S8x2048x1024, .f32⟩
  | 87 => ⟨S8x2048x1024, .f32⟩
  | 88 => ⟨S8x2048x1024, .f32⟩
  | 89 => ⟨S8x2048x1024, .f32⟩
  | 90 => ⟨S8x2048x1024, .f32⟩
  | 91 => ⟨S_, .f32⟩
  | 92 => ⟨S8x2048x1024, .f32⟩
  | 93 => ⟨S8x2048x1024, .f32⟩
  | 94 => ⟨S8x2048x1024, .f32⟩
  | 95 => ⟨S8x2048x1024, .f32⟩
  | 96 => ⟨S1024, .f32⟩
  | 97 => ⟨S1024x64, .f32⟩
  | 98 => ⟨S8x2048x64, .f32⟩
  | 99 => ⟨S64x1024, .f32⟩
  | 100 => ⟨S8x2048x1024, .f32⟩
  | 101 => ⟨S1x1x1024, .f32⟩
  | 102 => ⟨S8x2048x1024, .f32⟩
  | 103 => ⟨S8x2048x1024, .f32⟩
  | 104 => ⟨S8x2048x1024, .f32⟩
  | 105 => ⟨S8x2048x1024, .f32⟩
  | 106 => ⟨S_, .f32⟩
  | 107 => ⟨S8x2048x1024, .f32⟩
  | 108 => ⟨S8x2048x1024, .f32⟩
  | 109 => ⟨S_, .f32⟩
  | 110 => ⟨S8x2048x1024, .f32⟩
  | 111 => ⟨S8x2048x1024, .f32⟩
  | 112 => ⟨S1024x128, .f32⟩
  | 113 => ⟨S8x2048x128, .f32⟩
  | 114 => ⟨S8x2048x128, .f32⟩
  | 115 => ⟨S8x2048x128, .f32⟩
  | 116 => ⟨S_, .f32⟩
  | 117 => ⟨S8x2048x128, .f32⟩
  | 118 => ⟨S8x2048x128, .f32⟩
  | 119 => ⟨S_, .f32⟩
  | 120 => ⟨S8x2048x128, .f32⟩
  | 121 => ⟨S8x2048x128, .f32⟩
  | 122 => ⟨S128x1024, .f32⟩
  | 123 => ⟨S8x2048x1024, .f32⟩
  | 124 => ⟨S1024, .f32⟩
  | 125 => ⟨S1x1x1024, .f32⟩
  | 126 => ⟨S8x2048x1024, .f32⟩
  | 127 => ⟨S8x2048x1024, .f32⟩
  | _ => ⟨S16384x1024, .f32⟩

abbrev hbmTy0_1 (i : Nat) : BufTy := match i % 128 with
  | 0 => ⟨S8x2048x16x64, .f32⟩
  | 1 => ⟨S8x2048x16x64, .f32⟩
  | 2 => ⟨S_, .f32⟩
  | 3 => ⟨S8x2048x16, .f32⟩
  | 4 => ⟨S8x2048x16x1, .f32⟩
  | 5 => ⟨S_, .f32⟩
  | 6 => ⟨S8x2048x16x1, .f32⟩
  | 7 => ⟨S8x2048x16x1, .f32⟩
  | 8 => ⟨S8x2048x16x1, .f32⟩
  | 9 => ⟨S8x2048x16x64, .f32⟩
  | 10 => ⟨S8x2048x16x64, .f32⟩
  | 11 => ⟨S_, .f32⟩
  | 12 => ⟨S8x2048x1024, .f32⟩
  | 13 => ⟨S8x2048x1024, .f32⟩
  | 14 => ⟨S1024, .f32⟩
  | 15 => ⟨S1x1x1024, .f32⟩
  | 16 => ⟨S8x2048x1024, .f32⟩
  | 17 => ⟨S8x2048x1024, .f32⟩
  | 18 => ⟨S_, .f32⟩
  | 19 => ⟨S8x2048x1024, .f32⟩
  | 20 => ⟨S8x2048x1024, .f32⟩
  | 21 => ⟨S8x2048x1024, .f32⟩
  | 22 => ⟨S8x2048x16x64, .f32⟩
  | 23 => ⟨S8x2048x16x64, .f32⟩
  | 24 => ⟨S16384x1024, .f32⟩
  | 25 => ⟨S16384x1024, .f32⟩
  | 26 => ⟨S16384x1024, .f32⟩
  | 27 => ⟨S16384x1024, .f32⟩
  | 28 => ⟨S16384x1024, .f32⟩
  | 29 => ⟨S16384x1024, .f32⟩
  | 30 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_v62 : Ref sig .tc := ⟨.hbm, 89, rfl⟩
abbrev main_v63 : Ref sig .tc := ⟨.hbm, 90, rfl⟩
abbrev main_cst : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_0 : Ref sig .tc := ⟨.hbm, 106, rfl⟩
abbrev main_v78 : Ref sig .tc := ⟨.hbm, 107, rfl⟩
abbrev main_v79 : Ref sig .tc := ⟨.hbm, 108, rfl⟩
abbrev main_cst_1 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_2 : Ref sig .tc := ⟨.hbm, 116, rfl⟩
abbrev main_v86 : Ref sig .tc := ⟨.hbm, 117, rfl⟩
abbrev main_v87 : Ref sig .tc := ⟨.hbm, 118, rfl⟩
abbrev main_cst_3 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_4 : Ref sig .tc := ⟨.hbm, 130, rfl⟩
abbrev main_v98 : Ref sig .tc := ⟨.hbm, 131, rfl⟩
abbrev main_v99 : Ref sig .tc := ⟨.hbm, 132, rfl⟩
abbrev main_cst_5 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_6 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_7 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩

abbrev nD : Nat := 1
abbrev τ : Topo := Topo.v7x

variable {F : FTy → Type} [FloatOps F]
-- ==== Kernel5.lean ====
abbrev S16384x1024 : Shape := ⟨2, ![16384, 1024]⟩
abbrev S16384x512 : Shape := ⟨2, ![16384, 512]⟩
abbrev S1x1024x1024 : Shape := ⟨3, ![1, 1024, 1024]⟩
abbrev S1x512x1024 : Shape := ⟨3, ![1, 512, 1024]⟩
abbrev S512x1024 : Shape := ⟨2, ![512, 1024]⟩
abbrev S512x512 : Shape := ⟨2, ![512, 512]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S1x1024x1024, .f32⟩
  | .hbm, ⟨4, _⟩ => ⟨S1x512x1024, .f32⟩
  | .hbm, ⟨5, _⟩ => ⟨S512x1024, .f32⟩
  | .hbm, ⟨6, _⟩ => ⟨S512x1024, .bf16⟩
  | .hbm, ⟨7, _⟩ => ⟨S1x512x1024, .f32⟩
  | .hbm, ⟨8, _⟩ => ⟨S512x1024, .f32⟩
  | .hbm, ⟨9, _⟩ => ⟨S512x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x1024 : Shape := ⟨2, ![16384, 1024]⟩
abbrev S16384x512 : Shape := ⟨2, ![16384, 512]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S1x1024x1024, .f32⟩
  | .hbm, ⟨4, _⟩ => ⟨S16384x512, .f32⟩
  | .hbm, ⟨5, _⟩ => ⟨S16384x1024, .f32⟩
  | .hbm, ⟨6, _⟩ => ⟨S1024x1024, .f32⟩
  | .hbm, ⟨7, _⟩ => ⟨S16384x1024, .f32⟩
  | .hbm, ⟨8, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S16384x1024 : Shape := ⟨2, ![16384, 1024]⟩
abbrev S1x1024 : Shape := ⟨2, ![1, 1024]⟩
abbrev S1x16x64 : Shape := ⟨3, ![1, 16, 64]⟩
abbrev S1x1024x1024 : Shape := ⟨3, ![1, 1024, 1024]⟩
abbrev S128x128 : Shape := ⟨2, ![128, 128]⟩
abbrev S_ : Shape := ⟨0, ![]⟩
abbrev S1024 : Shape := ⟨1, ![1024]⟩
abbrev S16x64 : Shape := ⟨2, ![16, 64]⟩
abbrev S8x1024 : Shape := ⟨2, ![8, 1024]⟩
abbrev S1024x1024 : Shape := ⟨2, ![1024, 1024]⟩
abbrev S256x1024 : Shape := ⟨2, ![256, 1024]⟩
abbrev S256x128 : Shape := ⟨2, ![256, 128]⟩

abbrev nBuf : Space → Nat
  | .hbm => 23
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S1x16x64, .f32⟩
  | .hbm, ⟨9, _⟩ => ⟨S1x1024x1024, .f32⟩
  | .hbm, ⟨10, _⟩ => ⟨S128x128, .bf16⟩
  | .hbm, ⟨11, _⟩ => ⟨S_, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16x64, .f32⟩
  | .hbm, ⟨18, _⟩ => ⟨S1x1024, .f32⟩
  | .hbm, ⟨19, _⟩ => ⟨S8x1024, .f32⟩
  | .hbm, ⟨20, _⟩ => ⟨S1024x1024, .f32⟩
  | .hbm, ⟨21, _⟩ => ⟨S1024x1024, .bf16⟩
  | .hbm, ⟨22, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S128x128, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S16384x1024 : Shape := ⟨2, ![16384, 1024]⟩
abbrev S1x1024 : Shape := ⟨2, ![1, 1024]⟩
abbrev S1x16x64 : Shape := ⟨3, ![1, 16, 64]⟩
abbrev S1x1024x1024 : Shape := ⟨3, ![1, 1024, 1024]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S1024 : Shape := ⟨1, ![1024]⟩
abbrev S16x64 : Shape := ⟨2, ![16, 64]⟩
abbrev S1024x1024 : Shape := ⟨2, ![1024, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S1x16x64, .f32⟩
  | .hbm, ⟨9, _⟩ => ⟨S1x1024x1024, .f32⟩
  | .hbm, ⟨10, _⟩ => ⟨S16384x16x64, .f32⟩
  | .hbm, ⟨11, _⟩ => ⟨S16384x16x64, .f32⟩
  | .hbm, ⟨12, _⟩ => ⟨S16384x16x64, .f32⟩
  | .hbm, ⟨13, _⟩ => ⟨S16384x16x64, .f32⟩
  | .hbm, ⟨14, _⟩ => ⟨S_, .f32⟩
  | .hbm, ⟨15, _⟩ => ⟨S16384x16, .f32⟩
  | .hbm, ⟨16, _⟩ => ⟨S16384x16x1, .f32⟩
  | .hbm, ⟨17, _⟩ => ⟨S_, .f32⟩
  | .hbm, ⟨18, _⟩ => ⟨S16384x16x1, .f32⟩
  | .hbm, ⟨19, _⟩ => ⟨S16384x16x1, .f32⟩
  | .hbm, ⟨20, _⟩ => ⟨S16384x16x64, .f32⟩
  | .hbm, ⟨21, _⟩ => ⟨S16384x16x64, .f32⟩
  | .hbm, ⟨22, _⟩ => ⟨S16384x16x64, .f32⟩
  | .hbm, ⟨23, _⟩ => ⟨S_, .f32⟩
  | .hbm, ⟨24, _⟩ => ⟨S16384x16, .f32⟩
  | .hbm, ⟨25, _⟩ => ⟨S16384x16x1, .f32⟩
  | .hbm, ⟨26, _⟩ => ⟨S_, .f32⟩
  | .hbm, ⟨27, _⟩ => ⟨S16384x16x1, .f32⟩
  | .hbm, ⟨28, _⟩ => ⟨S16384x16x1, .f32⟩
  | .hbm, ⟨29, _⟩ => ⟨S16384x16x64, .f32⟩
  | .hbm, ⟨30, _⟩ => ⟨S16384x16x64, .f32⟩
  | .hbm, ⟨31, _⟩ => ⟨S_, .f32⟩
  | .hbm, ⟨32, _⟩ => ⟨S16384x16x1, .f32⟩
  | .hbm, ⟨33, _⟩ => ⟨S16384x16x1, .f32⟩
  | .hbm, ⟨34, _⟩ => ⟨S16384x16x1, .f32⟩
  | .hbm, ⟨35, _⟩ => ⟨S16384x16x64, .f32⟩
  | .hbm, ⟨36, _⟩ => ⟨S16384x16x64, .f32⟩
  | .hbm, ⟨37, _⟩ => ⟨S1024, .f32⟩
  | .hbm, ⟨38, _⟩ => ⟨S16x64, .f32⟩
  | .hbm, ⟨39, _⟩ => ⟨S1x16x64, .f32⟩
  | .hbm, ⟨40, _⟩ => ⟨S16384x16x64, .f32⟩
  | .hbm, ⟨41, _⟩ => ⟨S16384x16x64, .f32⟩
  | .hbm, ⟨42, _⟩ => ⟨S1024, .f32⟩
  | .hbm, ⟨43, _⟩ => ⟨S16x64, .f32⟩
  | .hbm, ⟨44, _⟩ => ⟨S1x16x64, .f32⟩
  | .hbm, ⟨45, _⟩ => ⟨S16384x16x64, .f32⟩
  | .hbm, ⟨46, _⟩ => ⟨S16384x16x64, .f32⟩
  | .hbm, ⟨47, _⟩ => ⟨S16384x16x64, .f32⟩
  | .hbm, ⟨48, _⟩ => ⟨S16x64, .f32⟩
  | .hbm, ⟨49, _⟩ => ⟨S1x16x64, .f32⟩
  | .hbm, ⟨50, _⟩ => ⟨S16384x16x64, .f32⟩
  | .hbm, ⟨51, _⟩ => ⟨S16384x16x64, .f32⟩
  | .hbm, ⟨52, _⟩ => ⟨S_, .f32⟩
  | .hbm, ⟨53, _⟩ => ⟨S16384x16, .f32⟩
  | .hbm, ⟨54, _⟩ => ⟨S16384x16x1, .f32⟩
  | .hbm, ⟨55, _⟩ => ⟨S16384x16x64, .f32⟩
  | .hbm, ⟨56, _⟩ => ⟨S16384x16x64, .f32⟩
  | .hbm, ⟨57, _⟩ => ⟨S16384x16x64, .f32⟩
  | .hbm, ⟨58, _⟩ => ⟨S16384x1024, .f32⟩
  | .hbm, ⟨59, _⟩ => ⟨S16384x1024, .f32⟩
  | .hbm, ⟨60, _⟩ => ⟨S1024x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel7.lean ====
abbrev S16384x512 : Shape := ⟨2, ![16384, 512]⟩
abbrev S1x3x512 : Shape := ⟨3, ![1, 3, 512]⟩
abbrev S3x512 : Shape := ⟨2, ![3, 512]⟩
abbrev S512x512 : Shape := ⟨2, ![512, 512]⟩
abbrev S8x512 : Shape := ⟨2, ![8, 512]⟩
abbrev S1x512 : Shape := ⟨2, ![1, 512]⟩

abbrev nBuf : Space → Nat
  | .hbm => 5
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x3x512, .f32⟩
  | .hbm, ⟨3, _⟩ => ⟨S3x512, .f32⟩
  | .hbm, ⟨4, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S3x512, .f32⟩
  | .local _ .vmem, ⟨7, _⟩ => ⟨S512x512, .f32⟩
  | .local _ .vmem, ⟨8, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16384x512 : Shape := ⟨2, ![16384, 512]⟩
abbrev S1x3x512 : Shape := ⟨3, ![1, 3, 512]⟩
abbrev S8x2048x512 : Shape := ⟨3, ![8, 2048, 512]⟩
abbrev S3x512 : Shape := ⟨2, ![3, 512]⟩
abbrev S_ : Shape := ⟨0, ![]⟩
abbrev S8x2x512 : Shape := ⟨3, ![8, 2, 512]⟩
abbrev S8x2050x512 : Shape := ⟨3, ![8, 2050, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 34
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x3x512, .f32⟩
  | .hbm, ⟨3, _⟩ => ⟨S8x2048x512, .f32⟩
  | .hbm, ⟨4, _⟩ => ⟨S8x2048x512, .f32⟩
  | .hbm, ⟨5, _⟩ => ⟨S3x512, .f32⟩
  | .hbm, ⟨6, _⟩ => ⟨S_, .f32⟩
  | .hbm, ⟨7, _⟩ => ⟨S8x2x512, .f32⟩
  | .hbm, ⟨8, _⟩ => ⟨S8x2050x512, .f32⟩
  | .hbm, ⟨9, _⟩ => ⟨S1x512, .f32⟩
  | .hbm, ⟨10, _⟩ => ⟨S512, .f32⟩
  | .hbm, ⟨11, _⟩ => ⟨S8x2048x512, .f32⟩
  | .hbm, ⟨12, _⟩ => ⟨S1x1x512, .f32⟩
  | .hbm, ⟨13, _⟩ => ⟨S8x2048x512, .f32⟩
  | .hbm, ⟨14, _⟩ => ⟨S8x2048x512, .f32⟩
  | .hbm, ⟨15, _⟩ => ⟨S_, .f32⟩
  | .hbm, ⟨16, _⟩ => ⟨S8x2048x512, .f32⟩
  | .hbm, ⟨17, _⟩ => ⟨S8x2048x512, .f32⟩
  | .hbm, ⟨18, _⟩ => ⟨S1x512, .f32⟩
  | .hbm, ⟨19, _⟩ => ⟨S512, .f32⟩
  | .hbm, ⟨20, _⟩ => ⟨S8x2048x512, .f32⟩
  | .hbm, ⟨21, _⟩ => ⟨S1x1x512, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S1x512, .f32⟩
  | .hbm, ⟨26, _⟩ => ⟨S512, .f32⟩
  | .hbm, ⟨27, _⟩ => ⟨S8x2048x512, .f32⟩
  | .hbm, ⟨28, _⟩ => ⟨S1x1x512, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Kernel8.lean ====
abbrev S128x512 : Shape := ⟨2, ![128, 512]⟩
abbrev S32x2x512 : Shape := ⟨3, ![32, 2, 512]⟩
abbrev S1x3x512 : Shape := ⟨3, ![1, 3, 512]⟩
abbrev S32x4x512 : Shape := ⟨3, ![32, 4, 512]⟩
abbrev S32x6x512 : Shape := ⟨3, ![32, 6, 512]⟩
abbrev S4x32x512 : Shape := ⟨3, ![4, 32, 512]⟩
abbrev S6x32x512 : Shape := ⟨3, ![6, 32, 512]⟩
abbrev S3x512 : Shape := ⟨2, ![3, 512]⟩
abbrev S1x512 : Shape := ⟨2, ![1, 512]⟩
abbrev S1x32x512 : Shape := ⟨3, ![1, 32, 512]⟩
abbrev S32x512 : Shape := ⟨2, ![32, 512]⟩

abbrev nBuf : Space → Nat
  | .hbm => 12
  | .vmem => 4
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S32x2x512, .f32⟩
  | .hbm, ⟨3, _⟩ => ⟨S1x3x512, .f32⟩
  | .hbm, ⟨4, _⟩ => ⟨S32x4x512, .f32⟩
  | .hbm, ⟨5, _⟩ => ⟨S32x6x512, .f32⟩
  | .hbm, ⟨6, _⟩ => ⟨S32x2x512, .f32⟩
  | .hbm, ⟨7, _⟩ => ⟨S32x4x512, .f32⟩
  | .hbm, ⟨8, _⟩ => ⟨S4x32x512, .f32⟩
  | .hbm, ⟨9, _⟩ => ⟨S6x32x512, .f32⟩
  | .hbm, ⟨10, _⟩ => ⟨S3x512, .f32⟩
  | .hbm, ⟨11, _⟩ => ⟨S4x32x512, .f32⟩
  | .local _ .vmem, ⟨0, _⟩ => ⟨S4x32x512, .f32⟩
  | .local _ .vmem, ⟨1, _⟩ => ⟨S6x32x512, .f32⟩
  | .local _ .vmem, ⟨2, _⟩ => ⟨S3x512, .f32⟩
  | .local _ .vmem, ⟨3, _⟩ => ⟨S4x32x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference8Ideal.lean ====
abbrev S128x512 : Shape := ⟨2, ![128, 512]⟩
abbrev S32x2x512 : Shape := ⟨3, ![32, 2, 512]⟩
abbrev S1x3x512 : Shape := ⟨3, ![1, 3, 512]⟩
abbrev S32x4x512 : Shape := ⟨3, ![32, 4, 512]⟩
abbrev S3x512 : Shape := ⟨2, ![3, 512]⟩
abbrev S32x6x512 : Shape := ⟨3, ![32, 6, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S4x32x512 : Shape := ⟨3, ![4, 32, 512]⟩

abbrev nBuf : Space → Nat
  | .hbm => 34
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S32x2x512, .f32⟩
  | .hbm, ⟨3, _⟩ => ⟨S1x3x512, .f32⟩
  | .hbm, ⟨4, _⟩ => ⟨S32x4x512, .f32⟩
  | .hbm, ⟨5, _⟩ => ⟨S32x4x512, .f32⟩
  | .hbm, ⟨6, _⟩ => ⟨S3x512, .f32⟩
  | .hbm, ⟨7, _⟩ => ⟨S32x6x512, .f32⟩
  | .hbm, ⟨8, _⟩ => ⟨S1x512, .f32⟩
  | .hbm, ⟨9, _⟩ => ⟨S512, .f32⟩
  | .hbm, ⟨10, _⟩ => ⟨S32x4x512, .f32⟩
  | .hbm, ⟨11, _⟩ => ⟨S1x1x512, .f32⟩
  | .hbm, ⟨12, _⟩ => ⟨S32x4x512, .f32⟩
  | .hbm, ⟨13, _⟩ => ⟨S32x4x512, .f32⟩
  | .hbm, ⟨14, _⟩ => ⟨S_, .f32⟩
  | .hbm, ⟨15, _⟩ => ⟨S32x4x512, .f32⟩
  | .hbm, ⟨16, _⟩ => ⟨S32x4x512, .f32⟩
  | .hbm, ⟨17, _⟩ => ⟨S1x512, .f32⟩
  | .hbm, ⟨18, _⟩ => ⟨S512, .f32⟩
  | .hbm, ⟨19, _⟩ => ⟨S32x4x512, .f32⟩
  | .hbm, ⟨20, _⟩ => ⟨S1x1x512, .f32⟩
  | .hbm, ⟨21, _⟩ => ⟨S32x4x512, .f32⟩
  | .hbm, ⟨22, _⟩ => ⟨S32x4x512, .f32⟩
  | .hbm, ⟨23, _⟩ => ⟨S32x4x512, .f32⟩
  | .hbm, ⟨24, _⟩ => ⟨S1x512, .f32⟩
  | .hbm, ⟨25, _⟩ => ⟨S512, .f32⟩
  | .hbm, ⟨26, _⟩ => ⟨S32x4x512, .f32⟩
  | .hbm, ⟨27, _⟩ => ⟨S1x1x512, .f32⟩
  | .hbm, ⟨28, _⟩ => ⟨S32x4x512, .f32⟩
  | .hbm, ⟨29, _⟩ => ⟨S32x4x512, .f32⟩
  | .hbm, ⟨30, _⟩ => ⟨S32x4x512, .f32⟩
  | .hbm, ⟨31, _⟩ => ⟨S32x4x512, .f32⟩
  | .hbm, ⟨32, _⟩ => ⟨S4x32x512, .f32⟩
  | .hbm, ⟨33, _⟩ => ⟨S32x2x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Kernel9.lean ====
abbrev S32x64 : Shape := ⟨2, ![32, 64]⟩
abbrev S32x32x64 : Shape := ⟨3, ![32, 32, 64]⟩
abbrev S32x32x1 : Shape := ⟨3, ![32, 32, 1]⟩
abbrev S2560x128x64 : Shape := ⟨3, ![2560, 128, 64]⟩
abbrev S32x8x8192 : Shape := ⟨3, ![32, 8, 8192]⟩
abbrev S1x32x64 : Shape := ⟨3, ![1, 32, 64]⟩
abbrev S1x32x1 : Shape := ⟨3, ![1, 32, 1]⟩
abbrev S1x128x64 : Shape := ⟨3, ![1, 128, 64]⟩
abbrev S1x1 : Shape := ⟨2, ![1, 1]⟩
abbrev S1x8x2048 : Shape := ⟨3, ![1, 8, 2048]⟩
abbrev S32x1 : Shape := ⟨2, ![32, 1]⟩
abbrev S128x64 : Shape := ⟨2, ![128, 64]⟩
abbrev S32x128 : Shape := ⟨2, ![32, 128]⟩
abbrev S8x128 : Shape := ⟨2, ![8, 128]⟩
abbrev S1x8x128 : Shape := ⟨3, ![1, 8, 128]⟩

abbrev nBuf : Space → Nat
  | .hbm => 4
  | .vmem => 38
  | .smem => 1
  | _ => 0

abbrev bufTy : (tb : Table) → Fin (tcTables nBuf tb) → BufTy
  | .hbm, ⟨0, _⟩ => ⟨S32x32x64, .bf16⟩
  | .hbm, ⟨1, _⟩ => ⟨S32x32x1, .f32⟩
  | .hbm, ⟨2, _⟩ => ⟨S2560x128x64, .f32⟩
  | .hbm, ⟨3, _⟩ => ⟨S32x8x8192, .f32⟩
  | .local _ .vmem, ⟨0, _⟩ => ⟨S1x32x64, .bf16⟩
  | .local _ .vmem, ⟨1, _⟩ => ⟨S1x32x64, .bf16⟩
  | .local _ .vmem, ⟨2, _⟩ => ⟨S1x32x1, .f32⟩
  | .local _ .vmem, ⟨3, _⟩ => ⟨S1x32x1, .f32⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S1x128x64, .f32⟩
  | .local _ .vmem, ⟨11, _⟩ => ⟨S1x128x64, .f32⟩
  | .local _ .vmem, ⟨12, _⟩ => ⟨S1x128x64, .f32⟩
  | .local _ .vmem, ⟨13, _⟩ => ⟨S1x128x64, .f32⟩
  | .local _ .vmem, ⟨14, _⟩ => ⟨S1x128x64, .f32⟩
  | .local _ .vmem, ⟨15, _⟩ => ⟨S1x128x64, .f32⟩
  | .local _ .vmem, ⟨16, _⟩ => ⟨S1x128x64, .f32⟩
  | .local _ .vmem, ⟨17, _⟩ => ⟨S1x128x64, .f32⟩
  | .local _ .vmem, ⟨18, _⟩ => ⟨S1x128x64, .f32⟩
  | .local _ .vmem, ⟨19, _⟩ => ⟨S1x128x64, .f32⟩
  | .local _ .vmem, ⟨20, _⟩ => ⟨S1x128x64, .f32⟩
  | .local _ .vmem, ⟨21, _⟩ => ⟨S1x128x64, .f32⟩
  | .local _ .vmem, ⟨22, _⟩ => ⟨S1x128x64, .f32⟩
  | .local _ .vmem, ⟨23, _⟩ => ⟨S1x128x64, .f32⟩
  | .local _ .vmem, ⟨24, _⟩ => ⟨S1x128x64, .f32⟩
  | .local _ .vmem, ⟨25, _⟩ => ⟨S1x128x64, .f32⟩
  | .local _ .vmem, ⟨26, _⟩ => ⟨S1x128x64, .f32⟩
  | .local _ .vmem, ⟨27, _⟩ => ⟨S1x128x64, .f32⟩
  | .local _ .vmem, ⟨28, _⟩ => ⟨S1x128x64, .f32⟩
  | .local _ .vmem, ⟨29, _⟩ => ⟨S1x128x64, .f32⟩
  | .local _ .vmem, ⟨30, _⟩ => ⟨S1x128x64, .f32⟩
  | .local _ .vmem, ⟨31, _⟩ => ⟨S1x128x64, .f32⟩
  | .local _ .vmem, ⟨32, _⟩ => ⟨S1x128x64, .f32⟩
  | .local _ .vmem, ⟨33, _⟩ => ⟨S1x128x64, .f32⟩
  | .local _ .vmem, ⟨34, _⟩ => ⟨S1x128x64, .f32⟩
  | .local _ .vmem, ⟨35, _⟩ => ⟨S1x128x64, .f32⟩
  | .local _ .vmem, ⟨36, _⟩ => ⟨S1x8x2048, .f32⟩
  | .local _ .vmem, ⟨37, _⟩ => ⟨S1x8x2048, .f32⟩
  | .local _ .smem, ⟨0, _⟩ => ⟨S32x64, .i32⟩
  | _, _ => ⟨S32x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c16_i32 : BitVec 32 := 16#32
  let v0 : BitVec 32 := Scalar.muli arg1 c16_i32
  let v1 : BitVec 32 := Scalar.addi v0 c0_i32
  let v3 : Index := Scalar.indexCast v1
  ![v2.toNat, v3.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x64) ![v2.toNat, v3.toNat] S1x1.size (k0_off1_inb i 0)) numel1_S1x1
  let c0_i32_0 : BitVec 32 := 0#32
  let c0_i32_1 : BitVec 32 := 0#32
  let c0_i32_2 : BitVec 32 := 0#32
  ![v4.toNat, c0_i32_0.toNat, c0_i32_1.toNat]

def cc0_transform_3 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x64) ![v2.toNat, v3.toNat] S1x1.size (k0_off1_inb i 1)) numel1_S1x1
  let c0_i32 : BitVec 32 := 0#32
  let c0_i32_0 : BitVec 32 := 0#32
  let c0_i32_1 : BitVec 32 := 0#32
  ![v4.toNat, c0_i32.toNat, c0_i32_0.toNat]

def cc0_transform_4 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x64) ![v2.toNat, v3.toNat] S1x1.size (k0_off1_inb i 2)) numel1_S1x1
  let c0_i32 : BitVec 32 := 0#32
  let c0_i32_0 : BitVec 32 := 0#32
  let c0_i32_1 : BitVec 32 := 0#32
  ![v4.toNat, c0_i32.toNat, c0_i32_0.toNat]

def cc0_transform_5 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x64) ![v2.toNat, v3.toNat] S1x1.size (k0_off1_inb i 3)) numel1_S1x1
  let c0_i32 : BitVec 32 := 0#32
  let c0_i32_0 : BitVec 32 := 0#32
  let c0_i32_1 : BitVec 32 := 0#32
  ![v4.toNat, c0_i32.toNat, c0_i32_0.toNat]

def cc0_transform_6 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x64) ![v2.toNat, v3.toNat] S1x1.size (k0_off1_inb i 4)) numel1_S1x1
  let c0_i32 : BitVec 32 := 0#32
  let c0_i32_0 : BitVec 32 := 0#32
  let c0_i32_1 : BitVec 32 := 0#32
  ![v4.toNat, c0_i32.toNat, c0_i32_0.toNat]

def cc0_transform_7 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x64) ![v2.toNat, v3.toNat] S1x1.size (k0_off1_inb i 5)) numel1_S1x1
  let c0_i32 : BitVec 32 := 0#32
  let c0_i32_0 : BitVec 32 := 0#32
  let c0_i32_1 : BitVec 32 := 0#32
  ![v4.toNat, c0_i32.toNat, c0_i32_0.toNat]

def cc0_transform_8 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x64) ![v2.toNat, v3.toNat] S1x1.size (k0_off1_inb i 6)) numel1_S1x1
  let c0_i32 : BitVec 32 := 0#32
  let c0_i32_0 : BitVec 32 := 0#32
  let c0_i32_1 : BitVec 32 := 0#32
  ![v4.toNat, c0_i32.toNat, c0_i32_0.toNat]

def cc0_transform_9 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x64) ![v2.toNat, v3.toNat] S1x1.size (k0_off1_inb i 7)) numel1_S1x1
  let c0_i32 : BitVec 32 := 0#32
  let c0_i32_0 : BitVec 32 := 0#32
  let c0_i32_1 : BitVec 32 := 0#32
  ![v4.toNat, c0_i32.toNat, c0_i32_0.toNat]

def cc0_transform_10 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c8_i32 : BitVec 32 := 8#32
  let v1 : BitVec 32 := Scalar.addi v0 c8_i32
  let v2 : Index := Scalar.indexCast arg0
  let v3 : Index := Scalar.indexCast v1
  let v4 : BitVec 32 := pf.at 0 (Rect.unit (s := S32x64) ![v2.toNat, v3.toNat] S1x1.size (k0_off1_inb i 8)) numel1_S1x1
  let c0_i32 : BitVec 32 := 0#32
  let c0_i32_0 : BitVec 32 := 0#32
  let c0_i32_1 : BitVec 32 := 0#32
  ![v4.toNat, c0_i32.toNat, c0_i32_0.toNat]

def cc0_transform_11 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c9_i32 : BitVec 32 := 9#32
  let v1 : BitVec 32 := Scalar.addi v0 c9_i32
  let v2 : Index := Scalar.indexCast arg0
  let v3 : Index := Scalar.indexCast v1
  let v4 : BitVec 32 := pf.at 0 (Rect.unit (s := S32x64) ![v2.toNat, v3.toNat] S1x1.size (k0_off1_inb i 9)) numel1_S1x1
  let c0_i32 : BitVec 32 := 0#32
  let c0_i32_0 : BitVec 32 := 0#32
  let c0_i32_1 : BitVec 32 := 0#32
  ![v4.toNat, c0_i32.toNat, c0_i32_0.toNat]

def cc0_transform_12 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c10_i32 : BitVec 32 := 10#32
  let v1 : BitVec 32 := Scalar.addi v0 c10_i32
  let v2 : Index := Scalar.indexCast arg0
  let v3 : Index := Scalar.indexCast v1
  let v4 : BitVec 32 := pf.at 0 (Rect.unit (s := S32x64) ![v2.toNat, v3.toNat] S1x1.size (k0_off1_inb i 10)) numel1_S1x1
  let c0_i32 : BitVec 32 := 0#32
  let c0_i32_0 : BitVec 32 := 0#32
  let c0_i32_1 : BitVec 32 := 0#32
  ![v4.toNat, c0_i32.toNat, c0_i32_0.toNat]

def cc0_transform_13 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c11_i32 : BitVec 32 := 11#32
  let v1 : BitVec 32 := Scalar.addi v0 c11_i32
  let v2 : Index := Scalar.indexCast arg0
  let v3 : Index := Scalar.indexCast v1
  let v4 : BitVec 32 := pf.at 0 (Rect.unit (s := S32x64) ![v2.toNat, v3.toNat] S1x1.size (k0_off1_inb i 11)) numel1_S1x1
  let c0_i32 : BitVec 32 := 0#32
  let c0_i32_0 : BitVec 32 := 0#32
  let c0_i32_1 : BitVec 32 := 0#32
  ![v4.toNat, c0_i32.toNat, c0_i32_0.toNat]

def cc0_transform_14 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c12_i32 : BitVec 32 := 12#32
  let v1 : BitVec 32 := Scalar.addi v0 c12_i32
  let v2 : Index := Scalar.indexCast arg0
  let v3 : Index := Scalar.indexCast v1
  let v4 : BitVec 32 := pf.at 0 (Rect.unit (s := S32x64) ![v2.toNat, v3.toNat] S1x1.size (k0_off1_inb i 12)) numel1_S1x1
  let c0_i32 : BitVec 32 := 0#32
  let c0_i32_0 : BitVec 32 := 0#32
  let c0_i32_1 : BitVec 32 := 0#32
  ![v4.toNat, c0_i32.toNat, c0_i32_0.toNat]

def cc0_transform_15 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c13_i32 : BitVec 32 := 13#32
  let v1 : BitVec 32 := Scalar.addi v0 c13_i32
  let v2 : Index := Scalar.indexCast arg0
  let v3 : Index := Scalar.indexCast v1
  let v4 : BitVec 32 := pf.at 0 (Rect.unit (s := S32x64) ![v2.toNat, v3.toNat] S1x1.size (k0_off1_inb i 13)) numel1_S1x1
  let c0_i32 : BitVec 32 := 0#32
  let c0_i32_0 : BitVec 32 := 0#32
  let c0_i32_1 : BitVec 32 := 0#32
  ![v4.toNat, c0_i32.toNat, c0_i32_0.toNat]

def cc0_transform_16 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c14_i32 : BitVec 32 := 14#32
  let v1 : BitVec 32 := Scalar.addi v0 c14_i32
  let v2 : Index := Scalar.indexCast arg0
  let v3 : Index := Scalar.indexCast v1
  let v4 : BitVec 32 := pf.at 0 (Rect.unit (s := S32x64) ![v2.toNat, v3.toNat] S1x1.size (k0_off1_inb i 14)) numel1_S1x1
  let c0_i32 : BitVec 32 := 0#32
  let c0_i32_0 : BitVec 32 := 0#32
  let c0_i32_1 : BitVec 32 := 0#32
  ![v4.toNat, c0_i32.toNat, c0_i32_0.toNat]

def cc0_transform_17 (k0_off1_inb : ∀ i : grid0.Coords, ∀ (r : Fin 16), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c15_i32 : BitVec 32 := 15#32
  let v1 : BitVec 32 := Scalar.addi v0 c15_i32
  let v2 : Index := Scalar.indexCast arg0
  let v3 : Index := Scalar.indexCast v1
  let v4 : BitVec 32 := pf.at 0 (Rect.unit (s := S32x64) ![v2.toNat, v3.toNat] S1x1.size (k0_off1_inb i 15)) numel1_S1x1
  let c0_i32 : BitVec 32 := 0#32
  let c0_i32_0 : BitVec 32 := 0#32
  let c0_i32_1 : BitVec 32 := 0#32
  ![v4.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x32x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference9Ideal.lean ====
abbrev S32x64 : Shape := ⟨2, ![32, 64]⟩
abbrev S32x32x64 : Shape := ⟨3, ![32, 32, 64]⟩
abbrev S32x32x1 : Shape := ⟨3, ![32, 32, 1]⟩
abbrev S2560x128x64 : Shape := ⟨3, ![2560, 128, 64]⟩
abbrev S32x4x8x64 : Shape := ⟨4, ![32, 4, 8, 64]⟩
abbrev S32x8x4x64 : Shape := ⟨4, ![32, 8, 4, 64]⟩
abbrev S32x4x8 : Shape := ⟨3, ![32, 4, 8]⟩
abbrev S32x8x4 : Shape := ⟨3, ![32, 8, 4]⟩
abbrev S_ : Shape := ⟨0, ![]⟩
abbrev S32x64x1 : Shape := ⟨3, ![32, 64, 1]⟩
abbrev S32x64x128x64 : Shape := ⟨4, ![32, 64, 128, 64]⟩
abbrev S32x8192x64 : Shape := ⟨3, ![32, 8192, 64]⟩
abbrev S32x8x4x8192 : Shape := ⟨4, ![32, 8, 4, 8192]⟩
abbrev S32x8x8192 : Shape := ⟨3, ![32, 8, 8192]⟩

abbrev nBuf : Space → Nat
  | .hbm => 30
  | .vmem => 0
  | .smem => 0
  | _ => 0

abbrev bufTy : (tb : Table) → Fin (tcTables nBuf tb) → BufTy
  | .hbm, ⟨0, _⟩ => ⟨S32x64, .i32⟩
  | .hbm, ⟨1, _⟩ => ⟨S32x32x64, .bf16⟩
  | .hbm, ⟨2, _⟩ => ⟨S32x32x1, .f32⟩
  | .hbm, ⟨3, _⟩ => ⟨S2560x128x64, .f32⟩
  | .hbm, ⟨4, _⟩ => ⟨S32x32x64, .f32⟩
  | .hbm, ⟨5, _⟩ => ⟨S32x4x8x64, .f32⟩
  | .hbm, ⟨6, _⟩ => ⟨S32x8x4x64, .f32⟩
  | .hbm, ⟨7, _⟩ => ⟨S32x4x8, .f32⟩
  | .hbm, ⟨8, _⟩ => ⟨S32x8x4, .f32⟩
  | .hbm, ⟨9, _⟩ => ⟨S_, .i32⟩
  | .hbm, ⟨10, _⟩ => ⟨S32x64, .i32⟩
  | .hbm, ⟨11, _⟩ => ⟨S32x64, .i1⟩
  | .hbm, ⟨12, _⟩ => ⟨S_, .i32⟩
  | .hbm, ⟨13, _⟩ => ⟨S32x64, .i32⟩
  | .hbm, ⟨14, _⟩ => ⟨S32x64, .i32⟩
  | .hbm, ⟨15, _⟩ => ⟨S32x64, .i32⟩
  | .hbm, ⟨16, _⟩ => ⟨S32x64x1, .i32⟩
  | .hbm, ⟨17, _⟩ => ⟨S32x64x128x64, .f32⟩
  | .hbm, ⟨18, _⟩ => ⟨S32x8192x64, .f32⟩
  | .hbm, ⟨19, _⟩ => ⟨S32x8x4x8192, .f32⟩
  | .hbm, ⟨20, _⟩ => ⟨S_, .f32⟩
  | .hbm, ⟨21, _⟩ => ⟨S32x8x4x8192, .f32⟩
  | .hbm, ⟨22, _⟩ => ⟨S32x8x4x8192, .f32⟩
  | .hbm, ⟨23, _⟩ => ⟨S_, .f32⟩
  | .hbm, ⟨24, _⟩ => ⟨S32x8x4, .f32⟩
  | .hbm, ⟨25, _⟩ => ⟨S32x8x4, .f32⟩
  | .hbm, ⟨26, _⟩ => ⟨S_, .f32⟩
  | .hbm, ⟨27, _⟩ => ⟨S32x8x4x8192, .f32⟩
  | .hbm, ⟨28, _⟩ => ⟨S32x8x4x8192, .f32⟩
  | .hbm, ⟨29, _⟩ => ⟨S32x8x8192, .f32⟩
  | _, _ => ⟨S32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Proof.Moe.KernelBlock.lean ====
/-
  What one grid point of the routed mixer leaves in its carried arrays.

  The kernel carries three arrays from point to point: the normed rows of the current row block, the running sum of
  the experts, and the router's weights. The first point of a row block fills all three, every other point adds one
  half of one expert to the sum, and the last point of a row block writes the block of the result.
-/
module

public import proofs.«01_k».proof.Proof.Gen.KernelIdeal.Value
public import Idealize.ShloMosaic.Lib.Pipeline.Value
public import Idealize.ShloMosaic.Lib.Tactic

@[expose] public section

set_option maxRecDepth 16384

noncomputable section

namespace Cert.Moe

open Cert.KernelIdeal Cert.KernelIdeal.Gen Cert.KernelIdeal.Value
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The offset of a whole two-axis block. -/
theorem zero2 : (![0, 0] : Fin 2 → Nat) = fun _ => 0 := funext fun a => by fin_cases a <;> rfl

/-- The offset of a whole three-axis block. -/
theorem zero3 : (![0, 0, 0] : Fin 3 → Nat) = fun _ => 0 := funext fun a => by fin_cases a <;> rfl

/-! The memrefs of one point's call, and the blocks they hold. -/

variable (c : Dev nD) (i : grid0.Coords)
  (arg3 : Memref sig .tc .vmem S512x1024 .f32) (harg3 : arg3.IsWhole)
  (arg4 : Memref sig .tc .vmem S1x1024 .f32) (harg4 : arg4.IsWhole)
  (arg5 : Memref sig .tc .vmem S1024x128 .bf16) (harg5 : arg5.IsWhole)
  (arg6 : Memref sig .tc .vmem S1x1024x1408 .bf16) (harg6 : arg6.IsWhole)
  (arg7 : Memref sig .tc .vmem S1x1024x1408 .bf16) (harg7 : arg7.IsWhole)
  (arg8 : Memref sig .tc .vmem S1x1408x1024 .bf16) (harg8 : arg8.IsWhole)
  (arg9 : Memref sig .tc .vmem S1x1024 .f32) (harg9 : arg9.IsWhole)
  (arg10 : Memref sig .tc .vmem S512x1024 .f32) (harg10 : arg10.IsWhole)
  (arg11 : Memref sig .tc .vmem S512x1024 .bf16) (harg11 : arg11.IsWhole)
  (arg12 : Memref sig .tc .vmem S512x1024 .f32) (harg12 : arg12.IsWhole)
  (arg13 : Memref sig .tc .vmem S512x128 .f32) (harg13 : arg13.IsWhole)
  (x : Vec F S512x1024 .f32) (g : Vec F S1x1024 .f32) (wr : Vec F S1024x128 .bf16) (wg wu : Vec F S1x1024x1408 .bf16)
  (wd : Vec F S1x1408x1024 .bf16) (g2 : Vec F S1x1024 .f32)
  (xn : Vec F S512x1024 .bf16) (acc : Vec F S512x1024 .f32) (cw : Vec F S512x128 .f32)

/-- A point inside a row block adds its part of the experts to the running sum. -/
theorem sum_middle (hc0 : ¬cond0_0 i) (hc1 : ¬cond0_1 i) :
    sout0_B_1 c i arg3 harg3 arg4 harg4 arg5 harg5 arg6 harg6 arg7 harg7 arg8 harg8 arg9 harg9 arg10 harg10 arg11 harg11 arg12 harg12 arg13 harg13 hc0 hc1 x g wr wg wu wd g2 xn acc cw = k0_pay1 (k0_pay11 i xn wg wu cw acc wd) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 hc0 hc1 x g wr wg wu wd g2 xn acc cw)]
  unfold kernelRun0_B
  dsimp only
  sl_unfold_words
  rw [View.canon_unit_zero (S := S512x1024) zero2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S512x1024) zero2, View.ld_unit_zero (S := S1x1024) zero2, View.ld_unit_zero (S := S1024x128) zero2,
    View.ld_unit_zero (S := S512x128) zero2, View.ld_unit_zero (S := S1x1024x1408) zero3, View.ld_unit_zero (S := S1x1408x1024) zero3]

/-- The last point of a row block writes the block of the result: the rows plus the finished sum, normed. -/
theorem block_last (hc0 : ¬cond0_0 i) (hc1 : cond0_1 i) :
    out0_C_7 c i arg3 harg3 arg4 harg4 arg5 harg5 arg6 harg6 arg7 harg7 arg8 harg8 arg9 harg9 arg10 harg10 arg11 harg11 arg12 harg12 arg13 harg13 hc0 hc1 x g wr wg wu wd g2 xn acc cw = k0_pay2 x (k0_pay1 (k0_pay11 i xn wg wu cw acc wd)) g2 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 arg13 harg13 hc0 hc1 x g wr wg wu wd g2 xn acc cw)]
  unfold kernelRun0_C
  dsimp only
  sl_unfold_words
  rw [View.canon_unit_zero (S := S512x1024) zero2, View.readCov_unit_zero (S := S512x1024) _ zero2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S512x1024) zero2, View.ld_unit_zero (S := S1x1024) zero2, View.ld_unit_zero (S := S1024x128) zero2,
    View.ld_unit_zero (S := S512x128) zero2, View.ld_unit_zero (S := S1x1024x1408) zero3, View.ld_unit_zero (S := S1x1408x1024) zero3]

/-- The first point of a row block norms the rows. -/
theorem rows_first (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg13 harg13 hc0 hc1 x g wr wg wu wd g2 = k0_pay4 x g := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x g wr wg wu wd g2)]
  unfold kernelRun0_A
  dsimp only
  sl_unfold_words
  rw [View.canon_unit_zero (S := S512x1024) zero2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S512x1024) zero2, View.ld_unit_zero (S := S1x1024) zero2, View.ld_unit_zero (S := S1024x128) zero2,
    View.ld_unit_zero (S := S512x128) zero2, View.ld_unit_zero (S := S1x1024x1408) zero3, View.ld_unit_zero (S := S1x1408x1024) zero3]

/-- The first point of a row block computes the router's weights. -/
theorem weights_first (hc0 : cond0_0 i) (hc1 : ¬cond0_1 i) :
    sout0_A_2 c i arg3 harg3 arg4 harg4 arg5 harg5 arg6 harg6 arg7 harg7 arg8 harg8 arg9 harg9 arg10 harg10 arg11 harg11 arg12 harg12 arg13 harg13 hc0 hc1 x g wr wg wu wd g2 = k0_pay10 (k0_pay6 (F := F)) (k0_pay7 x g wr) (k0_pay8 x g wr) (k0_pay9 x g wr) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 hc0 hc1 x g wr wg wu wd g2)]
  unfold kernelRun0_A
  dsimp only
  sl_unfold_words
  rw [View.canon_unit_zero (S := S512x128) zero2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S512x1024) zero2, View.ld_unit_zero (S := S1x1024) zero2, View.ld_unit_zero (S := S1024x128) zero2,
    View.ld_unit_zero (S := S512x128) zero2, View.ld_unit_zero (S := S1x1024x1408) zero3, View.ld_unit_zero (S := S1x1408x1024) zero3]

/-- The first point of a row block starts the running sum from zero. -/
theorem sum_first (hc0 : cond0_0 i) (hc1 : ¬cond0_1 i) :
    sout0_A_1 c i arg3 harg3 arg4 harg4 arg5 harg5 arg6 harg6 arg7 harg7 arg8 harg8 arg9 harg9 arg10 harg10 arg11 harg11 arg12 harg12 arg13 harg13 hc0 hc1 x g wr wg wu wd g2 = k0_pay1 (k0_pay11 i (k0_pay4 x g) wg wu (k0_pay10 (k0_pay6 (F := F)) (k0_pay7 x g wr) (k0_pay8 x g wr) (k0_pay9 x g wr)) (k0_pay5 (F := F)) wd) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc1 x g wr wg wu wd g2)]
  unfold kernelRun0_A
  dsimp only
  sl_unfold_words
  rw [View.canon_cons_unit_zero (S := S512x1024) zero2, View.readCov_unit_zero (S := S512x1024) _ zero2,
    View.readCov_unit_zero (S := S512x1024) _ zero2, View.readCov_unit_zero (S := S512x128) _ zero2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S512x1024) zero2, View.ld_unit_zero (S := S1x1024) zero2, View.ld_unit_zero (S := S1024x128) zero2,
    View.ld_unit_zero (S := S512x128) zero2, View.ld_unit_zero (S := S1x1024x1408) zero3, View.ld_unit_zero (S := S1x1408x1024) zero3]

/-- The four arrays a point leaves: the result block, the normed rows, the running sum, the weights. -/
abbrev Carried (F : FTy → Type) [FloatOps F] : Type :=
  Vec F S512x1024 .f32 × Vec F S512x1024 .bf16 × Vec F S512x1024 .f32 × Vec F S512x128 .f32

variable (m : (ℓ : Loc nD τ sig) → Buf (Elt F) ℓ)

/-- What the first point of a row block leaves. -/
theorem step_first (c : Dev nD) (t : Fin cfg0.N) (a : Carried F) (h0 : t.val % 16 = 0) (h1 : ¬t.val % 16 = 15) :
    (stAt0 m c t.val t.isLt a).2.1 = k0_pay4 (iblk m c 0 t) (iblk m c 1 t) ∧
    (stAt0 m c t.val t.isLt a).2.2.2 = k0_pay10 (k0_pay6 (F := F)) (k0_pay7 (iblk m c 0 t) (iblk m c 1 t) (iblk m c 2 t))
      (k0_pay8 (iblk m c 0 t) (iblk m c 1 t) (iblk m c 2 t)) (k0_pay9 (iblk m c 0 t) (iblk m c 1 t) (iblk m c 2 t)) ∧
    (stAt0 m c t.val t.isLt a).2.2.1 = k0_pay1 (k0_pay11 (grid0.coords t) (stAt0 m c t.val t.isLt a).2.1 (iblk m c 3 t)
      (iblk m c 4 t) (stAt0 m c t.val t.isLt a).2.2.2 (k0_pay5 (F := F)) (iblk m c 5 t)) := by
  rw [stAt0_A m c t a h0 h1]
  dsimp only
  rw [rows_first, weights_first, sum_first]
  exact ⟨rfl, rfl, rfl⟩

/-- What a point inside a row block leaves. -/
theorem step_middle (c : Dev nD) (t : Fin cfg0.N) (a : Carried F) (h0 : ¬t.val % 16 = 0) (h1 : ¬t.val % 16 = 15) :
    (stAt0 m c t.val t.isLt a).2.1 = a.2.1 ∧ (stAt0 m c t.val t.isLt a).2.2.2 = a.2.2.2 ∧
    (stAt0 m c t.val t.isLt a).2.2.1 = k0_pay1 (k0_pay11 (grid0.coords t) a.2.1 (iblk m c 3 t)
      (iblk m c 4 t) a.2.2.2 a.2.2.1 (iblk m c 5 t)) := by
  rw [stAt0_B m c t a h0 h1]
  dsimp only
  rw [sum_middle]
  unfold sout0_B_0 sout0_B_2
  exact ⟨rfl, rfl, rfl⟩

/-- What the last point of a row block leaves in the result's block. -/
theorem step_last (c : Dev nD) (t : Fin cfg0.N) (a : Carried F) (h0 : ¬t.val % 16 = 0) (h1 : t.val % 16 = 15) :
    (stAt0 m c t.val t.isLt a).1 = k0_pay2 (iblk m c 0 t) (k0_pay1 (k0_pay11 (grid0.coords t) a.2.1 (iblk m c 3 t)
      (iblk m c 4 t) a.2.2.2 a.2.2.1 (iblk m c 5 t))) (iblk m c 6 t) := by
  rw [stAt0_C m c t a h0 h1]
  dsimp only
  rw [block_last]

end Cert.Moe
-- ==== Proof.Moe.Finite.lean ====
/-
  Finiteness over the extended reals, for the mixer: the RMS-normalised row is finite whatever the row holds, so the
  router's logits are finite once the norm's weights and the router's are.
-/
module

public import Idealize.ShloMosaic.Lib.Pointwise

@[expose] public section

noncomputable section

namespace Cert.Moe

open Idealize.ShloMosaic

/-- An extended real that is a real number. -/
def IsReal (x : EReal) : Prop := ∃ r : ℝ, x = (r : EReal)

theorem isReal_of_ne {x : EReal} (hb : x ≠ ⊥) (ht : x ≠ ⊤) : IsReal x := ⟨x.toReal, (EReal.coe_toReal ht hb).symm⟩

theorem IsReal.ne_bot {x : EReal} (h : IsReal x) : x ≠ ⊥ := by obtain ⟨r, rfl⟩ := h; exact EReal.coe_ne_bot r

theorem IsReal.ne_top {x : EReal} (h : IsReal x) : x ≠ ⊤ := by obtain ⟨r, rfl⟩ := h; exact EReal.coe_ne_top r

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_zero : IsReal 0 := ⟨0, rfl⟩

theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of real numbers, read as extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A magnitude below `⊤` is a real number's. -/
theorem isReal_of_abs_lt {x : EReal} (h : max x (-x) < ⊤) : IsReal x := by
  refine isReal_of_ne ?_ ?_
  · rintro rfl; simp at h
  · rintro rfl; simp at h

/-- A square over the extended reals is at least zero. -/
theorem sq_nonneg' (x : EReal) : 0 ≤ x * x := by
  induction x with
  | bot => simp
  | top => simp
  | coe r => rw [← EReal.coe_mul]; exact_mod_cast mul_self_nonneg r

/-- The square of an infinity is `⊤`. -/
theorem sq_of_not_real {x : EReal} (h : ¬IsReal x) : x * x = ⊤ := by
  induction x with
  | bot => simp
  | top => simp
  | coe r => exact absurd ⟨r, rfl⟩ h

/-- The divisor of the mean over 1024 entries. -/
theorem ofBits_1024 : Ideal.ofBits .f32 0x44800000#32 = ((1024 : ℝ) : EReal) := by
  simp [Ideal.ofBits, Ideal.ieee, -EReal.coe_mul]
  norm_num

/-- The norm's epsilon is a positive real number. -/
theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee]

/-- One row scaled by the reciprocal root of its mean square. -/
def unitRow (x : Fin 1024 → EReal) (k : Fin 1024) : EReal :=
  x k * Ideal.rsqrt (Ideal.div (∑ k, x k * x k) (Ideal.ofBits .f32 0x44800000#32) + Ideal.ofBits .f32 0x358637BD#32)

/-- One row under the RMS norm with weights `g`. -/
def normRow (x g : Fin 1024 → EReal) (k : Fin 1024) : EReal := unitRow x k * g k

/-- The scaled row is finite whatever the row holds: an infinity in it makes the mean square `⊤` and the scale zero. -/
theorem unitRow_isReal (x : Fin 1024 → EReal) (k : Fin 1024) : IsReal (unitRow x k) := by
  obtain ⟨e, he, hee⟩ := ofBits_eps
  unfold unitRow
  rw [hee, ofBits_1024, Ideal.div_coe (by norm_num)]
  by_cases hx : ∀ j, IsReal (x j)
  · choose v hv using hx
    have hs : (∑ k, x k * x k) = ((∑ k, v k * v k : ℝ) : EReal) := by
      rw [coe_sum]
      exact Finset.sum_congr rfl fun j _ => by rw [hv j, EReal.coe_mul]
    have hnn : 0 ≤ ∑ k, v k * v k := Finset.sum_nonneg fun j _ => mul_self_nonneg (v j)
    rw [hs, hv k, ← EReal.coe_mul, ← EReal.coe_add, Ideal.rsqrt_coe]
    have hp : 0 < (∑ k, v k * v k) * (1 / 1024) + e := by positivity
    rw [if_neg (not_lt.mpr hp.le), if_neg hp.ne']
    exact ⟨_, (EReal.coe_mul _ _).symm⟩
  · obtain ⟨j, hj⟩ := not_forall.mp hx
    have hs : (∑ k, x k * x k) = ⊤ := by
      rw [← top_le_iff, ← sq_of_not_real hj]
      exact Finset.single_le_sum (f := fun k => x k * x k) (fun i _ => sq_nonneg' (x i)) (Finset.mem_univ j)
    rw [hs, EReal.top_mul_coe_of_pos (by norm_num), EReal.top_add_coe, Ideal.rsqrt_top, mul_zero]
    exact isReal_zero

theorem normRow_isReal (x g : Fin 1024 → EReal) (hg : ∀ k, IsReal (g k)) (k : Fin 1024) : IsReal (normRow x g k) :=
  (unitRow_isReal x k).mul (hg k)

end Cert.Moe

end
-- ==== Proof.Moe.Route.lean ====
/-
  Routing a token to two of eight experts: the two greatest logits (an equal one later in the row loses), the softmax of
  the two as the experts' weights. The same weights from a masked row of 128 lanes by two rounds of "greatest, then the
  first lane that holds it", and from a stable sort's first two entries.
-/
module

public import Idealize.ShloMosaic.Lib.Pointwise
public import Idealize.ShloMosaic.Lib.SortPrefix
public import proofs.«01_k».proof.Proof.Moe.Finite

@[expose] public section

noncomputable section

namespace Cert.Moe

open Idealize.ShloMosaic

/-- `i1` is the first place of the row's greatest logit, `i2` the first place of the greatest among the others. -/
structure IsTop2 (l : Fin 8 → EReal) (i1 i2 : Fin 8) : Prop where
  max1 : ∀ j, l j ≤ l i1
  first1 : ∀ j, l j = l i1 → i1 ≤ j
  ne : i2 ≠ i1
  max2 : ∀ j, j ≠ i1 → l j ≤ l i2
  first2 : ∀ j, j ≠ i1 → l j = l i2 → i2 ≤ j

/-- A nonempty set of places has a first one among those of its greatest value. -/
theorem exists_first_max (l : Fin 8 → EReal) (s : Finset (Fin 8)) (hs : s.Nonempty) :
    ∃ i ∈ s, (∀ j ∈ s, l j ≤ l i) ∧ ∀ j ∈ s, l j = l i → i ≤ j := by
  obtain ⟨m, hm, hmax⟩ := s.exists_max_image l hs
  have hne : (s.filter fun j => l j = l m).Nonempty := ⟨m, Finset.mem_filter.mpr ⟨hm, rfl⟩⟩
  have hmem := Finset.mem_filter.mp (Finset.min'_mem _ hne)
  refine ⟨_, hmem.1, fun j hj => (hmax j hj).trans hmem.2.ge, fun j hj h => Finset.min'_le _ _ ?_⟩
  exact Finset.mem_filter.mpr ⟨hj, h.trans hmem.2⟩

theorem exists_top2 (l : Fin 8 → EReal) : ∃ p : Fin 8 × Fin 8, IsTop2 l p.1 p.2 := by
  obtain ⟨i1, -, h1, h1'⟩ := exists_first_max l Finset.univ ⟨0, Finset.mem_univ _⟩
  have hne : (Finset.univ.erase i1).Nonempty := Finset.card_pos.mp (by rw [Finset.card_erase_of_mem (Finset.mem_univ _)]; decide)
  obtain ⟨i2, hi2, h2, h2'⟩ := exists_first_max l (Finset.univ.erase i1) hne
  exact ⟨(i1, i2), fun j => h1 j (Finset.mem_univ j), fun j => h1' j (Finset.mem_univ j), Finset.ne_of_mem_erase hi2,
    fun j hj => h2 j (Finset.mem_erase.mpr ⟨hj, Finset.mem_univ j⟩), fun j hj => h2' j (Finset.mem_erase.mpr ⟨hj, Finset.mem_univ j⟩)⟩

/-- The two experts a row of logits selects, greatest first. -/
def top2 (l : Fin 8 → EReal) : Fin 8 × Fin 8 := (exists_top2 l).choose

theorem isTop2_top2 (l : Fin 8 → EReal) : IsTop2 l (top2 l).1 (top2 l).2 := (exists_top2 l).choose_spec

/-- Expert `e`'s weight when `i1` and `i2` are selected: the softmax of the two logits, at its place. -/
def weightAt (l : Fin 8 → EReal) (i1 i2 e : Fin 8) : EReal :=
  (if e = i1 then Ideal.div 1 (1 + Ideal.exp (l i2 - l i1)) else 0)
    + if e = i2 then Ideal.div (Ideal.exp (l i2 - l i1)) (1 + Ideal.exp (l i2 - l i1)) else 0

/-- Expert `e`'s weight under a row of logits. -/
def weight (l : Fin 8 → EReal) (e : Fin 8) : EReal := weightAt l (top2 l).1 (top2 l).2 e

/-- A weight is finite and at least zero. -/
theorem weight_isReal {l : Fin 8 → EReal} (hl : ∀ e, IsReal (l e)) (e : Fin 8) : IsReal (weight l e) ∧ 0 ≤ weight l e := by
  unfold weight weightAt
  obtain ⟨a, ha⟩ := hl (top2 l).1
  obtain ⟨b, hb⟩ := hl (top2 l).2
  have hp : (0 : ℝ) < 1 + Real.exp (b - a) := by positivity
  rw [ha, hb, ← EReal.coe_sub, Ideal.exp_coe, show (1 : EReal) = ((1 : ℝ) : EReal) from rfl, ← EReal.coe_add,
    Ideal.div_coe hp.ne', Ideal.div_coe hp.ne', ← EReal.coe_mul, ← EReal.coe_mul]
  have h1 : (0 : EReal) ≤ ((1 * (1 / (1 + Real.exp (b - a))) : ℝ) : EReal) := by exact_mod_cast by positivity
  have h2 : (0 : EReal) ≤ ((Real.exp (b - a) * (1 / (1 + Real.exp (b - a))) : ℝ) : EReal) := by exact_mod_cast by positivity
  constructor
  · refine IsReal.add ?_ ?_ <;> split
    · exact ⟨_, rfl⟩
    · exact isReal_zero
    · exact ⟨_, rfl⟩
    · exact isReal_zero
  · refine add_nonneg ?_ ?_ <;> split
    · exact h1
    · exact le_rfl
    · exact h2
    · exact le_rfl

/-! ## The weights read off a masked row of lanes -/

theorem fold_max_eq {ι : Type} [Fintype ι] (f : ι → EReal) (i : ι) (h : ∀ j, f j ≤ f i) : Finset.univ.fold max ⊥ f = f i :=
  le_antisymm ((Finset.fold_max_le _).mpr ⟨bot_le, fun j _ => h j⟩) ((Finset.le_fold_max _).mpr (Or.inr ⟨i, Finset.mem_univ i, le_rfl⟩))

theorem fold_min_eq {ι : Type} [Fintype ι] (f : ι → EReal) (i : ι) (h : ∀ j, f i ≤ f j) : Finset.univ.fold min ⊤ f = f i :=
  le_antisymm ((Finset.fold_min_le _).mpr (Or.inr ⟨i, Finset.mem_univ i, le_rfl⟩)) ((Finset.le_fold_min _).mpr ⟨le_top, fun j _ => h j⟩)

/-- Lane `k`'s number. -/
def lane (k : Fin 128) : EReal := ((k.val : ℝ) : EReal)

theorem lane_le {j k : Fin 128} : lane j ≤ lane k ↔ j ≤ k := by
  unfold lane; rw [EReal.coe_le_coe_iff, Nat.cast_le]; exact Iff.rfl

theorem lane_inj {j k : Fin 128} : lane j = lane k ↔ j = k := by
  unfold lane; rw [EReal.coe_eq_coe_iff, Nat.cast_inj, Fin.ext_iff]

/-- Expert `e`'s lane. -/
def laneOf (e : Fin 8) : Fin 128 := ⟨e.val, by omega⟩

theorem laneOf_inj {e e' : Fin 8} : laneOf e = laneOf e' ↔ e = e' := by
  unfold laneOf; rw [Fin.ext_iff, Fin.ext_iff]

/-- The logits in lanes 0 to 7 of 128, `⊥` in the rest. -/
def lanes (l : Fin 8 → EReal) (k : Fin 128) : EReal := if h : k.val < 8 then l ⟨k.val, h⟩ else ⊥

theorem lanes_laneOf (l : Fin 8 → EReal) (e : Fin 8) : lanes l (laneOf e) = l e := by
  unfold lanes laneOf; rw [dif_pos e.isLt]

/-- A lane is an expert's, or holds `⊥`. -/
theorem lanes_cases (l : Fin 8 → EReal) (k : Fin 128) : (∃ e, k = laneOf e) ∨ lanes l k = ⊥ := by
  by_cases h : k.val < 8
  · exact Or.inl ⟨⟨k.val, h⟩, rfl⟩
  · exact Or.inr (dif_neg h)

/-- The first lane whose value is `v`, found as the least lane number among them. -/
theorem fold_min_lane (f : Fin 128 → EReal) (v : EReal) (i : Fin 128) (hi : f i = v) (h : ∀ j, f j = v → i ≤ j) :
    Finset.univ.fold min ⊤ (fun k => if f k = v then lane k else ((128 : ℝ) : EReal)) = lane i := by
  have h1 := fold_min_eq (fun k => if f k = v then lane k else ((128 : ℝ) : EReal)) i fun j => by
    rw [if_pos hi]
    split
    · next hj => exact lane_le.mpr (h j hj)
    · unfold lane; rw [EReal.coe_le_coe_iff]; exact_mod_cast i.isLt.le
  rw [h1, if_pos hi]

variable {l : Fin 8 → EReal} (hl : ∀ e, IsReal (l e)) {i1 i2 : Fin 8} (h : IsTop2 l i1 i2)

include h in
theorem lanes_max1 : Finset.univ.fold max ⊥ (lanes l) = l i1 := by
  rw [fold_max_eq (lanes l) (laneOf i1) fun j => ?_, lanes_laneOf]
  rw [lanes_laneOf]
  rcases lanes_cases l j with ⟨e, rfl⟩ | hj
  · rw [lanes_laneOf]; exact h.max1 e
  · rw [hj]; exact bot_le

include hl h in
theorem lanes_first1 :
    Finset.univ.fold min ⊤ (fun k => if lanes l k = l i1 then lane k else ((128 : ℝ) : EReal)) = lane (laneOf i1) := by
  refine fold_min_lane _ _ _ (lanes_laneOf l i1) fun j hj => ?_
  rcases lanes_cases l j with ⟨e, rfl⟩ | hb
  · rw [lanes_laneOf] at hj; exact h.first1 e hj
  · exact absurd (hj.symm.trans hb) (hl i1).ne_bot

/-- The row with the first selected expert masked. -/
def rest (l : Fin 8 → EReal) (i1 : Fin 8) (k : Fin 128) : EReal := if lane k = lane (laneOf i1) then ⊥ else lanes l k

theorem rest_laneOf {l : Fin 8 → EReal} {i1 e : Fin 8} (he : e ≠ i1) : rest l i1 (laneOf e) = l e := by
  unfold rest; rw [if_neg fun hh => he (laneOf_inj.mp (lane_inj.mp hh)), lanes_laneOf]

theorem rest_cases (l : Fin 8 → EReal) (i1 : Fin 8) (k : Fin 128) : (∃ e, e ≠ i1 ∧ k = laneOf e) ∨ rest l i1 k = ⊥ := by
  by_cases hk : lane k = lane (laneOf i1)
  · exact Or.inr (if_pos hk)
  · rcases lanes_cases l k with ⟨e, rfl⟩ | hb
    · exact Or.inl ⟨e, fun he => hk (he ▸ rfl), rfl⟩
    · exact Or.inr ((if_neg hk).trans hb)

include h in
theorem rest_max : Finset.univ.fold max ⊥ (rest l i1) = l i2 := by
  rw [fold_max_eq (rest l i1) (laneOf i2) fun j => ?_, rest_laneOf h.ne]
  rw [rest_laneOf h.ne]
  rcases rest_cases l i1 j with ⟨e, he, rfl⟩ | hj
  · rw [rest_laneOf he]; exact h.max2 e he
  · rw [hj]; exact bot_le

include hl h in
theorem rest_first :
    Finset.univ.fold min ⊤ (fun k => if rest l i1 k = l i2 then lane k else ((128 : ℝ) : EReal)) = lane (laneOf i2) := by
  refine fold_min_lane _ _ _ (rest_laneOf h.ne) fun j hj => ?_
  rcases rest_cases l i1 j with ⟨e, he, rfl⟩ | hb
  · rw [rest_laneOf he] at hj; exact h.first2 e he hj
  · exact absurd (hj.symm.trans hb) (hl i2).ne_bot

/-! ## The weights read off a stable sort -/

/-- Sorting an increasing list of positions by greater key first, stably, is sorting it by greater key and then by the
    position. -/
theorem stableSort_eq_key_then_position {n : Nat} (f : Fin n → EReal) (L : List (Fin n)) (hL : L.Pairwise (· < ·)) :
    stableSort (fun a b => decide (f b < f a)) L
      = stableSort (fun a b => decide (f b < f a) || (decide (f a = f b) && decide (a < b))) L := by
  induction L with
  | nil => rfl
  | cons a L ih =>
    obtain ⟨ha, hL⟩ := List.pairwise_cons.mp hL
    unfold stableSort
    rw [ih hL]
    have hmem : ∀ b ∈ stableSort (fun a b => decide (f b < f a) || (decide (f a = f b) && decide (a < b))) L, a < b :=
      fun b hb => ha b ((perm_stableSort _ L).mem_iff.mp hb)
    generalize stableSort (fun a b => decide (f b < f a) || (decide (f a = f b) && decide (a < b))) L = M at hmem
    induction M with
    | nil => rfl
    | cons b M ihM =>
      have hb : decide (b < a) = false := decide_eq_false (not_lt.mpr (hmem b List.mem_cons_self).le)
      unfold insertBefore
      rw [ihM fun c hc => hmem c (List.mem_cons_of_mem b hc), hb, Bool.and_false, Bool.or_false]

/-- The first two positions a stable sort by greater logit gives are the two selected experts. -/
theorem sortedFrom_top2 {l : Fin 8 → EReal} {i1 i2 : Fin 8} (h : IsTop2 l i1 i2) (j : Fin 2) :
    sortedFrom (fun a b => decide (l b < l a)) (j.castLE (by decide)) = (![i1, i2] : Fin 2 → Fin 8) j := by
  have hB : StrictTotalBefore fun a b : Fin 8 => decide (l b < l a) || (decide (l a = l b) && decide (a < b)) :=
    StrictTotalBefore.of_key_then_position (fun a b : EReal => decide (b < a)) l (fun a => by simp)
      (fun a b c h1 h2 => by simp only [decide_eq_true_eq] at *; exact h2.trans h1)
      (fun a b => by
        simp only [decide_eq_true_eq]
        rcases lt_trichotomy a b with hab | hab | hab
        · exact Or.inr (Or.inr hab)
        · exact Or.inr (Or.inl hab)
        · exact Or.inl hab)
  have hp : sortedFrom (fun a b => decide (l b < l a)) (j.castLE (by decide))
      = sortedFrom (fun a b : Fin 8 => decide (l b < l a) || (decide (l a = l b) && decide (a < b))) (j.castLE (by decide)) := by
    have e := stableSort_eq_key_then_position l (List.finRange 8) (List.pairwise_lt_finRange 8)
    unfold sortedFrom sortPositions
    rw [List.get_of_eq e]
    rfl
  rw [hp]
  refine hB.sortedFrom_eq_of_prefix (by decide) (![i1, i2] : Fin 2 → Fin 8) ?_ ?_ ?_ j
  · intro a b hab
    have := h.ne
    match a, b with
    | ⟨0, _⟩, ⟨0, _⟩ => rfl
    | ⟨1, _⟩, ⟨1, _⟩ => rfl
    | ⟨0, _⟩, ⟨1, _⟩ => exact absurd (show i1 = i2 from hab).symm h.ne
    | ⟨1, _⟩, ⟨0, _⟩ => exact absurd (show i2 = i1 from hab) h.ne
  · have key : (decide (l i1 < l i2) || (decide (l i2 = l i1) && decide (i2 < i1))) = false := by
      simp only [Bool.or_eq_false_iff, Bool.and_eq_false_iff, decide_eq_false_iff_not, not_lt]
      refine ⟨h.max1 i2, ?_⟩
      by_cases e : l i2 = l i1
      · exact Or.inr (h.first1 i2 e)
      · exact Or.inl e
    intro a b hab
    match a, b with
    | ⟨0, _⟩, ⟨0, _⟩ => exact absurd hab (lt_irrefl _)
    | ⟨1, _⟩, ⟨1, _⟩ => exact absurd hab (lt_irrefl _)
    | ⟨0, _⟩, ⟨1, _⟩ => exact key
    | ⟨1, _⟩, ⟨0, _⟩ => exact absurd (show (1 : ℕ) < 0 from hab) (by decide)
  · intro a p hp'
    have h1 : p ≠ i1 := fun e => hp' 0 e.symm
    match a with
    | ⟨0, _⟩ =>
      show (decide (l i1 < l p) || (decide (l p = l i1) && decide (p < i1))) = false
      simp only [Bool.or_eq_false_iff, Bool.and_eq_false_iff, decide_eq_false_iff_not, not_lt]
      refine ⟨h.max1 p, ?_⟩
      by_cases e : l p = l i1
      · exact Or.inr (h.first1 p e)
      · exact Or.inl e
    | ⟨1, _⟩ =>
      show (decide (l i2 < l p) || (decide (l p = l i2) && decide (p < i2))) = false
      simp only [Bool.or_eq_false_iff, Bool.and_eq_false_iff, decide_eq_false_iff_not, not_lt]
      refine ⟨h.max2 p h1, ?_⟩
      by_cases e : l p = l i2
      · exact Or.inr (h.first2 p h1 e)
      · exact Or.inl e

end Cert.Moe

end
-- ==== Proof.Moe.Mix.lean ====
/-
  The mixture of one row, and the kernel's way of adding it up.

  Every expert is a gated product: the hidden values `(h · wg) * logistic (h · wg) * (h · wu)`, taken down by `wd`. The
  mixture adds the eight experts with the router's weights. The kernel adds sixteen parts instead, two halves of the
  hidden width for each expert, and puts the weight onto the hidden values before the last product.
-/
module

public import proofs.«01_k».proof.Proof.Moe.Route

@[expose] public section

noncomputable section

namespace Cert.Moe

open Idealize.ShloMosaic

/-- The router's logits of a row. -/
def logits (x g : Fin 1024 → EReal) (w : Fin 1024 → Fin 8 → EReal) (e : Fin 8) : EReal :=
  ∑ k, normRow x g k * w k e

/-- With finite gains and router weights the logits are finite, whatever the row is. -/
theorem logits_isReal (x g : Fin 1024 → EReal) (w : Fin 1024 → Fin 8 → EReal) (hg : ∀ k, IsReal (g k))
    (hw : ∀ k e, IsReal (w k e)) (e : Fin 8) : IsReal (logits x g w e) :=
  isReal_sum _ _ fun k _ => (normRow_isReal x g hg k).mul (hw k e)

/-- The hidden values of one expert. -/
def hidden (n : Fin 1024 → EReal) (wg wu : Fin 1024 → Fin 2816 → EReal) (f : Fin 2816) : EReal :=
  (∑ k, n k * wg k f) * Ideal.logistic (∑ k, n k * wg k f) * ∑ k, n k * wu k f

/-- What one expert makes of the normed row `n`. -/
def expert (n : Fin 1024 → EReal) (wg wu : Fin 1024 → Fin 2816 → EReal) (wd : Fin 2816 → Fin 1024 → EReal)
    (d : Fin 1024) : EReal :=
  ∑ f, hidden n wg wu f * wd f d

/-- The arguments of the mixer, by their coordinates. -/
structure Weights where
  /-- The gains of the norm before the mixer. -/
  g : Fin 1024 → EReal
  /-- The router. -/
  w : Fin 1024 → Fin 8 → EReal
  /-- The gate weights of the experts. -/
  wg : Fin 8 → Fin 1024 → Fin 2816 → EReal
  /-- The up weights of the experts. -/
  wu : Fin 8 → Fin 1024 → Fin 2816 → EReal
  /-- The down weights of the experts. -/
  wd : Fin 8 → Fin 2816 → Fin 1024 → EReal
  /-- The gains of the last norm. -/
  g2 : Fin 1024 → EReal

variable (W : Weights) (x : Fin 1024 → EReal)

/-- The mixture of the experts for the row `x`. -/
def mix (d : Fin 1024) : EReal :=
  ∑ e, weight (logits x W.g W.w) e * expert (normRow x W.g) (W.wg e) (W.wu e) (W.wd e) d

/-- The row of the result: the row plus its mixture, normed. -/
def outRow (d : Fin 1024) : EReal := normRow (fun d => x d + mix W x d) W.g2 d

/-- Hidden unit `f` of half `h`. -/
def unitOf (h : Fin 2) (f : Fin 1408) : Fin 2816 := ⟨1408 * h.val + f.val, by omega⟩

/-- A sum over the hidden width is the sum of its two halves. -/
theorem sum_halves (F : Fin 2816 → EReal) : ∑ f, F f = ∑ f, F (unitOf 0 f) + ∑ f, F (unitOf 1 f) := by
  rw [show (∑ f, F f) = _ from Fin.sum_univ_add (a := 1408) (b := 1408) F]
  refine congrArg (· + _) (Finset.sum_congr rfl fun f _ => congrArg F (Fin.ext ?_))
  show f.val = 1408 * 0 + f.val
  omega

/-- Part `h` of expert `e`, weighted with `c` as the kernel does: on the hidden values. -/
def half (n : Fin 1024 → EReal) (c : EReal) (e : Fin 8) (h : Fin 2) (d : Fin 1024) : EReal :=
  ∑ f, hidden n (W.wg e) (W.wu e) (unitOf h f) * c * W.wd e (unitOf h f) d

/-- A finite nonnegative factor moves into a sum. -/
theorem mul_sum_of_real {ι : Type} (s : Finset ι) (F : ι → EReal) {c : EReal} (hc : IsReal c) (h0 : 0 ≤ c) :
    c * ∑ i ∈ s, F i = ∑ i ∈ s, c * F i := by
  classical
  induction s using Finset.induction_on with
  | empty => simp
  | insert a s ha ih =>
    rw [Finset.sum_insert ha, Finset.sum_insert ha, EReal.left_distrib_of_nonneg_of_ne_top h0 hc.ne_top, ih]

/-- The two halves of an expert add up to the weighted expert. -/
theorem half_add (n : Fin 1024 → EReal) {c : EReal} (hc : IsReal c) (h0 : 0 ≤ c) (e : Fin 8) (d : Fin 1024) :
    half W n c e 0 d + half W n c e 1 d = c * expert n (W.wg e) (W.wu e) (W.wd e) d := by
  have h1 : ∀ h f, hidden n (W.wg e) (W.wu e) (unitOf h f) * c * W.wd e (unitOf h f) d
      = c * (hidden n (W.wg e) (W.wu e) (unitOf h f) * W.wd e (unitOf h f) d) := fun h f => by
    rw [mul_comm _ c, mul_assoc]
  unfold half expert
  simp only [h1]
  rw [← mul_sum_of_real _ _ hc h0, ← mul_sum_of_real _ _ hc h0, ← EReal.left_distrib_of_nonneg_of_ne_top h0 hc.ne_top,
    ← sum_halves fun f => hidden n (W.wg e) (W.wu e) f * W.wd e f d]

/-- Part `j` of the sixteen: expert `j / 2`, half `j % 2`. -/
def part (j : ℕ) (d : Fin 1024) : EReal :=
  half W (normRow x W.g) (weight (logits x W.g W.w) ⟨j / 2 % 8, Nat.mod_lt _ (by norm_num)⟩)
    ⟨j / 2 % 8, Nat.mod_lt _ (by norm_num)⟩ ⟨j % 2, Nat.mod_lt _ (by norm_num)⟩ d

/-- The sixteen parts add up to the mixture. -/
theorem sum_parts (hl : ∀ e, IsReal (logits x W.g W.w e)) (d : Fin 1024) :
    ∑ j ∈ Finset.range 16, part W x j d = mix W x d := by
  have hp : ∀ e : Fin 8, part W x (2 * e.val) d + part W x (2 * e.val + 1) d
      = weight (logits x W.g W.w) e * expert (normRow x W.g) (W.wg e) (W.wu e) (W.wd e) d := fun e => by
    have e0 : (⟨2 * e.val / 2 % 8, Nat.mod_lt _ (by norm_num)⟩ : Fin 8) = e := Fin.ext (by show 2 * e.val / 2 % 8 = e.val; omega)
    have e1 : (⟨(2 * e.val + 1) / 2 % 8, Nat.mod_lt _ (by norm_num)⟩ : Fin 8) = e :=
      Fin.ext (by show (2 * e.val + 1) / 2 % 8 = e.val; omega)
    have h0 : (⟨2 * e.val % 2, Nat.mod_lt _ (by norm_num)⟩ : Fin 2) = 0 := Fin.ext (by show 2 * e.val % 2 = 0; omega)
    have h1 : (⟨(2 * e.val + 1) % 2, Nat.mod_lt _ (by norm_num)⟩ : Fin 2) = 1 :=
      Fin.ext (by show (2 * e.val + 1) % 2 = 1; omega)
    unfold part
    rw [e0, e1, h0, h1]
    exact half_add W _ (weight_isReal hl e).1 (weight_isReal hl e).2 e d
  unfold mix
  simp only [← hp]
  simp only [Fin.sum_univ_eight, Finset.sum_range_succ, Finset.sum_range_zero, zero_add]
  show _ = part W x 0 d + part W x 1 d + (part W x 2 d + part W x 3 d) + (part W x 4 d + part W x 5 d)
    + (part W x 6 d + part W x 7 d) + (part W x 8 d + part W x 9 d) + (part W x 10 d + part W x 11 d)
    + (part W x 12 d + part W x 13 d) + (part W x 14 d + part W x 15 d)
  simp only [add_assoc]

end Cert.Moe
-- ==== Proof.Moe.Inputs.lean ====
/-
  The arrays the routed mixer's region reads, in terms of the arguments.

  The host code before the region only reshapes the arguments, pads the router from 8 to 128 columns, and casts the
  weights; over the extended reals a cast changes nothing.
-/
module

public import proofs.«01_k».proof.Proof.Moe.KernelBlock
public import proofs.«01_k».proof.Proof.Moe.Mix
public import proofs.«01_k».proof.Proof.Moe.Mix
public import Idealize.ShloMosaic.Lib.StableHlo.Run
public import Idealize.ShloMosaic.Lib.Pointwise
public import Idealize.ShloMosaic.Lib.KernelVsHost
public import Idealize.ShloMosaic.Lib.ValueLayout

@[expose] public section

set_option maxRecDepth 16384

noncomputable section

namespace Cert.Moe

open Cert.KernelIdeal Cert.KernelIdeal.Gen Cert.KernelIdeal.Value
open Idealize.ShloMosaic Idealize.ShloMosaic.TcCoe Idealize.SL.Sem
open Idealize.ShloMosaic.Pipeline (Dat)

variable (m : (ℓ : Loc nD τ sig) → Buf (Elt Ideal) ℓ) (c : Dev nD)

/-- The gate weights the region reads. -/
theorem gates_eq : V m c main_v6 = (truncf .bf16 (shapeCast S8x1024x2816 (m ((c : Thread nD τ).loc main_arg3)) shapeCasts_S1x8x1024x2816_S8x1024x2816) bitsLt_bf16_f32 : FVec Ideal S8x1024x2816 .bf16) := by
  show StableHlo.after (List.flatten [hostOps0, hostOps0_1, hostOps0_2]) (fun b => m (c, b)) main_v6 = _
  simp only [hostOps0, hostOps0_1, hostOps0_2, List.flatten_cons, List.flatten_nil, List.append_nil, List.cons_append,
    List.nil_append]
  after_results
  rfl

/-- The up weights the region reads. -/
theorem ups_eq : V m c main_v8 = (truncf .bf16 (shapeCast S8x1024x2816 (m ((c : Thread nD τ).loc main_arg4)) shapeCasts_S1x8x1024x2816_S8x1024x2816) bitsLt_bf16_f32 : FVec Ideal S8x1024x2816 .bf16) := by
  show StableHlo.after (List.flatten [hostOps0, hostOps0_1, hostOps0_2]) (fun b => m (c, b)) main_v8 = _
  simp only [hostOps0, hostOps0_1, hostOps0_2, List.flatten_cons, List.flatten_nil, List.append_nil, List.cons_append,
    List.nil_append]
  after_results
  rfl

/-- The down weights the region reads. -/
theorem downs_eq : V m c main_v10 = (truncf .bf16 (shapeCast S8x2816x1024 (m ((c : Thread nD τ).loc main_arg5)) shapeCasts_S1x8x2816x1024_S8x2816x1024) bitsLt_bf16_f32 : FVec Ideal S8x2816x1024 .bf16) := by
  show StableHlo.after (List.flatten [hostOps0, hostOps0_1, hostOps0_2]) (fun b => m (c, b)) main_v10 = _
  simp only [hostOps0, hostOps0_1, hostOps0_2, List.flatten_cons, List.flatten_nil, List.append_nil, List.cons_append,
    List.nil_append]
  after_results
  rfl

/-- The gains of the first norm, as the region reads them. -/
theorem gains_eq : V m c main_v1 = (shapeCast S1x1024 (shapeCast S1024 (m ((c : Thread nD τ).loc main_arg1)) shapeCasts_S1x1024_S1024) shapeCasts_S1024_S1x1024 : FVec Ideal S1x1024 .f32) := by
  show StableHlo.after (List.flatten [hostOps0, hostOps0_1, hostOps0_2]) (fun b => m (c, b)) main_v1 = _
  simp only [hostOps0, hostOps0_1, hostOps0_2, List.flatten_cons, List.flatten_nil, List.append_nil, List.cons_append,
    List.nil_append]
  after_results
  rfl

/-- The gains of the last norm, as the region reads them. -/
theorem lastGains_eq : V m c main_v11 = (shapeCast S1x1024 (m ((c : Thread nD τ).loc main_arg6)) shapeCasts_S1024_S1x1024 : FVec Ideal S1x1024 .f32) := by
  show StableHlo.after (List.flatten [hostOps0, hostOps0_1, hostOps0_2]) (fun b => m (c, b)) main_v11 = _
  simp only [hostOps0, hostOps0_1, hostOps0_2, List.flatten_cons, List.flatten_nil, List.append_nil, List.cons_append,
    List.nil_append]
  after_results
  rfl

/-- The router the region reads: padded to 128 columns. -/
theorem router_eq : V m c main_v4 = (truncf .bf16 (pad S1024x128 ![0, 0] ![0, 120] ![0, 0] (shapeCast S1024x8 (m ((c : Thread nD τ).loc main_arg2)) shapeCasts_S1x1024x8_S1024x8) (sitofp .f32 (constantI S_ 32 0#32)) pads_S1024x8_S1024x128_000_01200 h_S_) bitsLt_bf16_f32 : FVec Ideal S1024x128 .bf16) := by
  show StableHlo.after (List.flatten [hostOps0, hostOps0_1, hostOps0_2]) (fun b => m (c, b)) main_v4 = _
  simp only [hostOps0, hostOps0_1, hostOps0_2, List.flatten_cons, List.flatten_nil, List.append_nil, List.cons_append,
    List.nil_append]
  after_results
  rfl

/-- The gate weights, by their coordinates. -/
theorem gates_apply (e : Fin 8) (k : Fin 1024) (f : Fin 2816) :
    V m c main_v6 (ix3 e k f) = m ((c : Thread nD τ).loc main_arg3) (ix4 0 e k f) := by
  rw [gates_eq]
  exact ValueIdx.shapeCast_1abc_abc_apply _ _ e k f

/-- The up weights, by their coordinates. -/
theorem ups_apply (e : Fin 8) (k : Fin 1024) (f : Fin 2816) :
    V m c main_v8 (ix3 e k f) = m ((c : Thread nD τ).loc main_arg4) (ix4 0 e k f) := by
  rw [ups_eq]
  exact ValueIdx.shapeCast_1abc_abc_apply _ _ e k f

/-- The down weights, by their coordinates. -/
theorem downs_apply (e : Fin 8) (f : Fin 2816) (k : Fin 1024) :
    V m c main_v10 (ix3 e f k) = m ((c : Thread nD τ).loc main_arg5) (ix4 0 e f k) := by
  rw [downs_eq]
  exact ValueIdx.shapeCast_1abc_abc_apply _ _ e f k

/-- The first gains, by their coordinates. -/
theorem gains_apply (k : Fin 1024) :
    V m c main_v1 (ix2 0 k) = m ((c : Thread nD τ).loc main_arg1) (ix2 0 k) := by
  rw [gains_eq]
  exact (ValueIdx.shapeCast_a_1a_apply _ _ 0 k).trans (ValueIdx.shapeCast_1a_a_apply _ _ k)

/-- The last gains, by their coordinates. -/
theorem lastGains_apply (k : Fin 1024) :
    V m c main_v11 (ix2 0 k) = m ((c : Thread nD τ).loc main_arg6) (ix1 k) := by
  rw [lastGains_eq]
  exact ValueIdx.shapeCast_a_1a_apply _ _ 0 k

/-- The router's eight columns, by their coordinates. -/
theorem router_apply (k : Fin 1024) (e : Fin 8) :
    V m c main_v4 (ix2 k (laneOf e)) = m ((c : Thread nD τ).loc main_arg2) (ix3 0 k e) := by
  rw [router_eq]
  refine (pad_apply_of_inside ![0, 0] ![0, 120] ![0, 0] _ _ pads_S1024x8_S1024x128_000_01200 h_S_ _ (ix2 k e) fun a => ?_).trans
    (ValueIdx.shapeCast_1ab_ab_apply _ _ k e)
  match a with
  | ⟨0, _⟩ => show k.val = 0 + k.val * (0 + 1); omega
  | ⟨1, _⟩ => show e.val = 0 + e.val * (0 + 1); omega

end Cert.Moe
-- ==== Proof.Moe.Blocks.lean ====
/-
  The blocks the routed mixer's region reads at one grid point, in terms of the arguments.

  Point `t` works on the row block `t / 16`, the expert `t / 2 % 8` and the half `t % 2` of the hidden width.
-/
module

public import proofs.«01_k».proof.Proof.Moe.Inputs

@[expose] public section

set_option maxRecDepth 16384

noncomputable section

namespace Cert.Moe

open Cert.KernelIdeal Cert.KernelIdeal.Gen Cert.KernelIdeal.Value
open Idealize.ShloMosaic Idealize.ShloMosaic.TcCoe Idealize.SL.Sem
open Idealize.ShloMosaic.Pipeline (Dat)

/-- The expert of a point. -/
def expertOf (t : ℕ) : Fin 8 := ⟨t / 2 % 8, Nat.mod_lt _ (by norm_num)⟩

/-- The half of the hidden width of a point. -/
def halfOf (t : ℕ) : Fin 2 := ⟨t % 2, Nat.mod_lt _ (by norm_num)⟩

/-- Row `r` of row block `b`. -/
def rowOf (b : Fin 32) (r : Fin 512) : Fin 16384 := ⟨512 * b.val + r.val, by omega⟩

/-- The row block of a point. -/
def blockOf (t : Fin cfg0.N) : Fin 32 := ⟨t.val / 16, by have h := t.isLt; have hN : cfg0.N = 512 := N_0; omega⟩

/-- The first window's blocks follow the rows. -/
theorem index_rows : ∀ t : Fin grid0.N, win0_0.index t 0 = t.val / 16 ∧ win0_0.index t 1 = 0 := by decide +kernel

/-- The windows of the gains and of the router never move. -/
theorem index_still : ∀ t : Fin grid0.N, (win0_1.index t 0 = 0 ∧ win0_1.index t 1 = 0) ∧
    (win0_2.index t 0 = 0 ∧ win0_2.index t 1 = 0) ∧ (win0_6.index t 0 = 0 ∧ win0_6.index t 1 = 0) := by decide +kernel

/-- The windows of the gate and up weights follow the expert and, on the last axis, the half. -/
theorem index_wide : ∀ t : Fin grid0.N, (win0_3.index t 0 = t.val / 2 % 8 ∧ win0_3.index t 1 = 0 ∧ win0_3.index t 2 = t.val % 2) ∧
    (win0_4.index t 0 = t.val / 2 % 8 ∧ win0_4.index t 1 = 0 ∧ win0_4.index t 2 = t.val % 2) := by decide +kernel

/-- The window of the down weights follows the expert and, on the middle axis, the half. -/
theorem index_down : ∀ t : Fin grid0.N, win0_5.index t 0 = t.val / 2 % 8 ∧ win0_5.index t 1 = t.val % 2 ∧ win0_5.index t 2 = 0 := by
  decide +kernel

/-- The second grid coordinate of a point is its expert. -/
theorem coords_expert : ∀ t : Fin grid0.N, (grid0.coords t 1).val = t.val / 2 % 8 := by decide +kernel

variable (m : (ℓ : Loc nD τ sig) → Buf (Elt Ideal) ℓ) (c : Dev nD)

/-- The gains at every point. -/
theorem block_gains (t : Fin cfg0.N) (k : Fin 1024) :
    iblk m c 1 t (ix2 0 k) = m ((c : Thread nD τ).loc main_arg1) (ix2 0 k) := by
  have hi := (index_still t).1
  refine Eq.trans ?_ (gains_apply m c k)
  unfold iblk
  rw [View.read_apply]
  show V m c main_v1 _ = V m c main_v1 _
  congr 1
  funext a
  apply Fin.ext
  match a with
  | ⟨0, _⟩ =>
    show win0_1.index t 0 * 1 + 1 * 0 = 0
    rw [hi.1]
  | ⟨1, _⟩ =>
    show win0_1.index t 1 * 1024 + 1 * k.val = k.val
    rw [hi.2]; omega

/-- The router at every point. -/
theorem block_router (t : Fin cfg0.N) (k : Fin 1024) (e : Fin 8) :
    iblk m c 2 t (ix2 k (laneOf e)) = m ((c : Thread nD τ).loc main_arg2) (ix3 0 k e) := by
  have hi := (index_still t).2.1
  refine Eq.trans ?_ (router_apply m c k e)
  unfold iblk
  rw [View.read_apply]
  show V m c main_v4 _ = V m c main_v4 _
  congr 1
  funext a
  apply Fin.ext
  match a with
  | ⟨0, _⟩ =>
    show win0_2.index t 0 * 1024 + 1 * k.val = k.val
    rw [hi.1]; omega
  | ⟨1, _⟩ =>
    show win0_2.index t 1 * 128 + 1 * e.val = e.val
    rw [hi.2]; omega

/-- The last gains at every point. -/
theorem block_lastGains (t : Fin cfg0.N) (k : Fin 1024) :
    iblk m c 6 t (ix2 0 k) = m ((c : Thread nD τ).loc main_arg6) (ix1 k) := by
  have hi := (index_still t).2.2
  refine Eq.trans ?_ (lastGains_apply m c k)
  unfold iblk
  rw [View.read_apply]
  show V m c main_v11 _ = V m c main_v11 _
  congr 1
  funext a
  apply Fin.ext
  match a with
  | ⟨0, _⟩ =>
    show win0_6.index t 0 * 1 + 1 * 0 = 0
    rw [hi.1]
  | ⟨1, _⟩ =>
    show win0_6.index t 1 * 1024 + 1 * k.val = k.val
    rw [hi.2]; omega

/-- The gate weights at a point. -/
theorem block_gates (t : Fin cfg0.N) (k : Fin 1024) (f : Fin 1408) :
    iblk m c 3 t (ix3 0 k f) = m ((c : Thread nD τ).loc main_arg3) (ix4 0 (expertOf t.val) k (unitOf (halfOf t.val) f)) := by
  have hi := (index_wide t).1
  refine Eq.trans ?_ (gates_apply m c (expertOf t.val) k (unitOf (halfOf t.val) f))
  unfold iblk
  rw [View.read_apply]
  show V m c main_v6 _ = V m c main_v6 _
  congr 1
  funext a
  apply Fin.ext
  match a with
  | ⟨0, _⟩ =>
    show win0_3.index t 0 * 1 + 1 * 0 = t.val / 2 % 8
    rw [hi.1]; omega
  | ⟨1, _⟩ =>
    show win0_3.index t 1 * 1024 + 1 * k.val = k.val
    rw [hi.2.1]; omega
  | ⟨2, _⟩ =>
    show win0_3.index t 2 * 1408 + 1 * f.val = 1408 * (t.val % 2) + f.val
    rw [hi.2.2]; omega

/-- The up weights at a point. -/
theorem block_ups (t : Fin cfg0.N) (k : Fin 1024) (f : Fin 1408) :
    iblk m c 4 t (ix3 0 k f) = m ((c : Thread nD τ).loc main_arg4) (ix4 0 (expertOf t.val) k (unitOf (halfOf t.val) f)) := by
  have hi := (index_wide t).2
  refine Eq.trans ?_ (ups_apply m c (expertOf t.val) k (unitOf (halfOf t.val) f))
  unfold iblk
  rw [View.read_apply]
  show V m c main_v8 _ = V m c main_v8 _
  congr 1
  funext a
  apply Fin.ext
  match a with
  | ⟨0, _⟩ =>
    show win0_4.index t 0 * 1 + 1 * 0 = t.val / 2 % 8
    rw [hi.1]; omega
  | ⟨1, _⟩ =>
    show win0_4.index t 1 * 1024 + 1 * k.val = k.val
    rw [hi.2.1]; omega
  | ⟨2, _⟩ =>
    show win0_4.index t 2 * 1408 + 1 * f.val = 1408 * (t.val % 2) + f.val
    rw [hi.2.2]; omega

/-- The down weights at a point. -/
theorem block_downs (t : Fin cfg0.N) (f : Fin 1408) (d : Fin 1024) :
    iblk m c 5 t (ix3 0 f d) = m ((c : Thread nD τ).loc main_arg5) (ix4 0 (expertOf t.val) (unitOf (halfOf t.val) f) d) := by
  have hi := index_down t
  refine Eq.trans ?_ (downs_apply m c (expertOf t.val) (unitOf (halfOf t.val) f) d)
  unfold iblk
  rw [View.read_apply]
  show V m c main_v10 _ = V m c main_v10 _
  congr 1
  funext a
  apply Fin.ext
  match a with
  | ⟨0, _⟩ =>
    show win0_5.index t 0 * 1 + 1 * 0 = t.val / 2 % 8
    rw [hi.1]; omega
  | ⟨1, _⟩ =>
    show win0_5.index t 1 * 1408 + 1 * f.val = 1408 * (t.val % 2) + f.val
    rw [hi.2.1]; omega
  | ⟨2, _⟩ =>
    show win0_5.index t 2 * 1024 + 1 * d.val = d.val
    rw [hi.2.2]; omega

/-- The rows at a point. -/
theorem block_rows (t : Fin cfg0.N) (r : Fin 512) (k : Fin 1024) :
    iblk m c 0 t (ix2 r k) = m ((c : Thread nD τ).loc main_arg0) (ix2 (rowOf (blockOf t) r) k) := by
  have hi := index_rows t
  refine Eq.trans ?_ (congrFun (V_main_arg0 m c) (ix2 (rowOf (blockOf t) r) k))
  unfold iblk
  rw [View.read_apply]
  show V m c main_arg0 _ = V m c main_arg0 _
  congr 1
  funext a
  apply Fin.ext
  match a with
  | ⟨0, _⟩ =>
    show win0_0.index t 0 * 512 + 1 * r.val = 512 * (t.val / 16) + r.val
    rw [hi.1]; omega
  | ⟨1, _⟩ =>
    show win0_0.index t 1 * 1024 + 1 * k.val = k.val
    rw [hi.2]; omega

end Cert.Moe
-- ==== Proof.Moe.KernelMath.lean ====
/-
  The routed mixer's arithmetic at one place of a block, over the extended reals.

  Read at a row and a column, the values that one point stores are: the normed row, the router's weights, the running sum
  plus one half of an expert, and the normed row of the result.
-/
module

public import proofs.«01_k».proof.Proof.Moe.Mix
public import proofs.«01_k».proof.Proof.Gen.KernelIdeal.Skeleton
public import Idealize.ShloMosaic.Lib.Pointwise

@[expose] public section

set_option maxRecDepth 16384

noncomputable section

namespace Cert.Moe

open Cert.KernelIdeal Cert.KernelIdeal.Gen
open Idealize.ShloMosaic Idealize.ShloMosaic.TcCoe

/-- The word of minus infinity. -/
theorem ofBits_bot : Ideal.ofBits .f32 0xFF800000#32 = ⊥ := by simp [Ideal.ofBits, Ideal.ieee]

/-- The word of plus infinity. -/
theorem ofBits_top : Ideal.ofBits .f32 0x7F800000#32 = ⊤ := by simp [Ideal.ofBits, Ideal.ieee]

/-- The word of 128. -/
theorem ofBits_128 : Ideal.ofBits .f32 0x43000000#32 = ((128 : ℝ) : EReal) := by
  simp [Ideal.ofBits, Ideal.ieee, -EReal.coe_mul]; norm_num

/-- The word of 8. -/
theorem ofBits_8 : Ideal.ofBits .f32 0x41000000#32 = ((8 : ℝ) : EReal) := by
  simp [Ideal.ofBits, Ideal.ieee, -EReal.coe_mul]; norm_num

/-- The rows stored by the first point are normed. -/
theorem pay4_apply (x : Vec Ideal S512x1024 .f32) (g : Vec Ideal S1x1024 .f32) (r : Fin 512) (k : Fin 1024) :
    k0_pay4 x g (ix2 r k) = normRow (fun k => x (ix2 r k)) (fun k => g (ix2 0 k)) k := by
  pointwise [k0_pay4, k0_pay3]
  rfl

/-- The rows of the result are normed. -/
theorem pay2_apply (x y : Vec Ideal S512x1024 .f32) (g : Vec Ideal S1x1024 .f32) (r : Fin 512) (k : Fin 1024) :
    k0_pay2 x y g (ix2 r k) = normRow (fun k => x (ix2 r k) + y (ix2 r k)) (fun k => g (ix2 0 k)) k := by
  pointwise [k0_pay2]
  rfl

/-- The sum is stored as it is. -/
theorem pay1_eq (x : FVec Ideal S512x1024 .f32) : k0_pay1 x = x := by
  unfold k0_pay1
  exact shapeCast_id _ _

/-- The sum starts from zero. -/
theorem pay5_apply (r : Fin 512) (k : Fin 1024) : k0_pay5 (F := Ideal) (ix2 r k) = 0 := by
  pointwise [k0_pay5]

/-- A small number's word, read as an integer, is the number. -/
theorem toInt_ofNat_lane (k : Fin 128) : (BitVec.ofNat 32 k.val).toInt = (k.val : ℤ) := by
  have h := k.isLt
  rw [BitVec.toInt_ofNat']
  exact Int.bmod_eq_of_le (by omega) (by omega)

/-- The lanes' numbers. -/
theorem pay6_apply (r : Fin 512) (k : Fin 128) : k0_pay6 (F := Ideal) (ix2 r k) = lane k := by
  pointwise [k0_pay6]
  show (((BitVec.ofNat 32 k.val).toInt : ℝ) : EReal) = lane k
  rw [toInt_ofNat_lane]
  rfl

/-- The logits, `⊥` in the lanes after the eighth. -/
theorem pay7_apply (x : Vec Ideal S512x1024 .f32) (g : Vec Ideal S1x1024 .f32) (w : Vec Ideal S1024x128 .bf16) (r : Fin 512)
    (k : Fin 128) : k0_pay7 x g w (ix2 r k)
      = lanes (logits (fun k => x (ix2 r k)) (fun k => g (ix2 0 k)) fun k e => w (ix2 k (laneOf e))) k := by
  have h6 := pay6_apply r k
  pointwise [k0_pay6] at h6
  pointwise [k0_pay7, k0_pay6, k0_pay3]
  rw [h6, ofBits_8, ofBits_bot]
  unfold lanes
  by_cases hk : k.val < 8
  · rw [dif_pos hk, if_pos (by unfold lane; exact_mod_cast hk)]
    rfl
  · rw [dif_neg hk, if_neg (by unfold lane; exact_mod_cast hk)]

/-- The largest lane. -/
theorem pay8_apply (x : Vec Ideal S512x1024 .f32) (g : Vec Ideal S1x1024 .f32) (w : Vec Ideal S1024x128 .bf16) (r : Fin 512) :
    k0_pay8 x g w (ix2 r 0) = Finset.univ.fold max ⊥ fun k => k0_pay7 x g w (ix2 r k) := by
  pointwise [k0_pay8]
  rw [ofBits_bot]

/-- The lanes holding the maximum, by their numbers. -/
theorem pay9_apply (x : Vec Ideal S512x1024 .f32) (g : Vec Ideal S1x1024 .f32) (w : Vec Ideal S1024x128 .bf16) (r : Fin 512)
    (k : Fin 128) : k0_pay9 x g w (ix2 r k)
      = if k0_pay7 x g w (ix2 r k) = k0_pay8 x g w (ix2 r 0) then k0_pay6 (F := Ideal) (ix2 r k) else ((128 : ℝ) : EReal) := by
  pointwise [k0_pay9]
  rw [ofBits_128]

/-- The last step of the router: from the lanes' numbers, the logits in lanes, their maximum and the lanes that hold it, the
    two selected experts' weights. -/
theorem pay10_apply (a b : FVec Ideal S512x128 .f32) (c : FVec Ideal S512x1 .f32) (d : FVec Ideal S512x128 .f32) (r : Fin 512)
    (l : Fin 8 → EReal) (hl : ∀ e, IsReal (l e)) (ha : ∀ k, a (ix2 r k) = lane k) (hb : ∀ k, b (ix2 r k) = lanes l k)
    (hc : c (ix2 r 0) = l (top2 l).1)
    (hd : ∀ k, d (ix2 r k) = if lanes l k = l (top2 l).1 then lane k else ((128 : ℝ) : EReal)) (e : Fin 8) :
    k0_pay10 a b c d (ix2 r (laneOf e)) = weight l e := by
  have h := isTop2_top2 l
  have hr : ∀ k, (if lane k = lane (laneOf (top2 l).1) then ⊥ else lanes l k) = rest l (top2 l).1 k := fun _ => rfl
  pointwise [k0_pay10]
  simp only [ha, hb, hc, hd, ofBits_bot, ofBits_top, ofBits_128, lanes_first1 hl h, hr, rest_max h, rest_first hl h]
  simp only [lane_inj, laneOf_inj]
  rfl

/-- The router's weights, from a block of rows. -/
theorem weights_apply (x : Vec Ideal S512x1024 .f32) (g : Vec Ideal S1x1024 .f32) (w : Vec Ideal S1024x128 .bf16) (r : Fin 512)
    (hl : ∀ e, IsReal (logits (fun k => x (ix2 r k)) (fun k => g (ix2 0 k)) (fun k e => w (ix2 k (laneOf e))) e)) (e : Fin 8) :
    k0_pay10 (k0_pay6 (F := Ideal)) (k0_pay7 x g w) (k0_pay8 x g w) (k0_pay9 x g w) (ix2 r (laneOf e))
      = weight (logits (fun k => x (ix2 r k)) (fun k => g (ix2 0 k)) fun k e => w (ix2 k (laneOf e))) e := by
  have h8 : k0_pay8 x g w (ix2 r 0) = _ := (pay8_apply x g w r).trans
    ((congrArg (Finset.univ.fold max ⊥) (funext fun k => pay7_apply x g w r k)).trans (lanes_max1 (isTop2_top2 _)))
  refine pay10_apply _ _ _ _ r _ hl (fun k => pay6_apply r k) (fun k => pay7_apply x g w r k) h8 (fun k => ?_) e
  rw [pay9_apply, pay7_apply, h8, pay6_apply]

/-- Picking the lane whose number is `e`. -/
theorem sum_select_lane (v : Fin 128 → EReal) (e : Fin 8) :
    ∑ k : Fin 128, Scalar.select (IntOp.cmpi CmpIPredicate.eq (BitVec.ofNat 32 k.val) (BitVec.ofNat 32 e.val)) (v k) 0 = v (laneOf e) := by
  rw [Finset.sum_eq_single (laneOf e)]
  · simp [Scalar.select, IntOp.cmpi, laneOf]
  · intro k _ hk
    have hne : BitVec.ofNat 32 k.val ≠ BitVec.ofNat 32 e.val := fun h => hk (by
      have h' := congrArg BitVec.toNat h
      simp only [BitVec.toNat_ofNat] at h'
      exact Fin.ext (by show k.val = e.val; omega))
    have hb : (BitVec.ofNat 32 k.val == BitVec.ofNat 32 e.val) = false := beq_eq_false_iff_ne.mpr hne
    simp [Scalar.select, IntOp.cmpi, hb]
  · intro h; exact absurd (Finset.mem_univ _) h

/-- The running sum plus one part: the products of a block of the hidden width, weighted by the lane of the point's expert. -/
theorem pay11_apply (i : grid0.Coords) (e : Fin 8) (he : (i 1).val = e.val) (xn : Vec Ideal S512x1024 .bf16)
    (wg wu : Vec Ideal S1x1024x1408 .bf16) (cw : Vec Ideal S512x128 .f32) (acc : Vec Ideal S512x1024 .f32)
    (wd : Vec Ideal S1x1408x1024 .bf16) (r : Fin 512) (d : Fin 1024) :
    k0_pay11 i xn wg wu cw acc wd (ix2 r d) = acc (ix2 r d)
      + ∑ f : Fin 1408, (∑ k : Fin 1024, xn (ix2 r k) * wg (ix3 0 k f)) * Ideal.logistic (∑ k : Fin 1024, xn (ix2 r k) * wg (ix3 0 k f))
          * (∑ k : Fin 1024, xn (ix2 r k) * wu (ix3 0 k f)) * cw (ix2 r (laneOf e)) * wd (ix3 0 f d) := by
  pointwise [k0_pay11]
  rw [he, sum_select_lane (fun k => cw (ix2 r k))]

end Cert.Moe
-- ==== Proof.Moe.KernelArray.lean ====
/-
  The array the routed mixer ends with: every row normed after its mixture.

  Along the sixteen points of a row block the carried arrays hold the normed rows, the router's weights, and the sum of the
  parts so far (by induction on the point); the last point writes the rows of the result.
-/
module

public import proofs.«01_k».proof.Proof.Moe.Blocks
public import proofs.«01_k».proof.Proof.Moe.KernelMath

@[expose] public section

set_option maxRecDepth 16384

noncomputable section

namespace Cert.Moe

open Cert.KernelIdeal Cert.KernelIdeal.Gen Cert.KernelIdeal.Value
open Idealize.ShloMosaic Idealize.ShloMosaic.TcCoe Idealize.SL.Sem
open Idealize.ShloMosaic.Pipeline (Dat)

variable (m : (ℓ : Loc nD τ sig) → Buf (Elt Ideal) ℓ) (c : Dev nD)

/-- The weights in the launched arguments, by their coordinates. -/
def weightsOf : Weights where
  g k := m ((c : Thread nD τ).loc main_arg1) (ix2 0 k)
  w k e := m ((c : Thread nD τ).loc main_arg2) (ix3 0 k e)
  wg e k f := m ((c : Thread nD τ).loc main_arg3) (ix4 0 e k f)
  wu e k f := m ((c : Thread nD τ).loc main_arg4) (ix4 0 e k f)
  wd e f d := m ((c : Thread nD τ).loc main_arg5) (ix4 0 e f d)
  g2 k := m ((c : Thread nD τ).loc main_arg6) (ix1 k)

/-- Row `R` of the launched rows. -/
def rowAt (R : Fin 16384) (k : Fin 1024) : EReal := m ((c : Thread nD τ).loc main_arg0) (ix2 R k)

/-- The gains and the router are finite. -/
def RoutingFinite : Prop :=
  (∀ k, IsReal ((weightsOf m c).g k)) ∧ ∀ k e, IsReal ((weightsOf m c).w k e)

/-- What the carried arrays hold in row block `b` after part `s`. -/
structure Holds (b : Fin 32) (s : ℕ) (a : Carried Ideal) : Prop where
  rows : ∀ r k, a.2.1 (ix2 r k) = normRow (rowAt m c (rowOf b r)) (weightsOf m c).g k
  weights : ∀ r e, a.2.2.2 (ix2 r (laneOf e)) = weight (logits (rowAt m c (rowOf b r)) (weightsOf m c).g (weightsOf m c).w) e
  sum : ∀ r d, a.2.2.1 (ix2 r d) = ∑ j ∈ Finset.range (s + 1), part (weightsOf m c) (rowAt m c (rowOf b r)) j d

/-- The logits of a block's row, from the blocks the point reads. -/
theorem logits_block (t : Fin cfg0.N) (r : Fin 512) :
    logits (fun k => iblk m c 0 t (ix2 r k)) (fun k => iblk m c 1 t (ix2 0 k)) (fun k e => iblk m c 2 t (ix2 k (laneOf e)))
      = logits (rowAt m c (rowOf (blockOf t) r)) (weightsOf m c).g (weightsOf m c).w := by
  simp only [block_rows, block_gains, block_router]
  rfl

/-- A point adds its part. -/
theorem add_part (t : Fin cfg0.N) (b : Fin 32) (s : ℕ) (hs : t.val % 16 = s % 16) (xn : Vec Ideal S512x1024 .bf16)
    (cw : Vec Ideal S512x128 .f32) (acc : Vec Ideal S512x1024 .f32)
    (hx : ∀ r k, xn (ix2 r k) = normRow (rowAt m c (rowOf b r)) (weightsOf m c).g k)
    (hw : ∀ r e, cw (ix2 r (laneOf e)) = weight (logits (rowAt m c (rowOf b r)) (weightsOf m c).g (weightsOf m c).w) e)
    (r : Fin 512) (d : Fin 1024) :
    k0_pay1 (k0_pay11 (grid0.coords t) xn (iblk m c 3 t) (iblk m c 4 t) cw acc (iblk m c 5 t)) (ix2 r d)
      = acc (ix2 r d) + part (weightsOf m c) (rowAt m c (rowOf b r)) s d := by
  have h1 : expertOf t.val = ⟨s / 2 % 8, Nat.mod_lt _ (by norm_num)⟩ := Fin.ext (by show t.val / 2 % 8 = s / 2 % 8; omega)
  have h2 : halfOf t.val = ⟨s % 2, Nat.mod_lt _ (by norm_num)⟩ := Fin.ext (by show t.val % 2 = s % 2; omega)
  rw [pay1_eq, pay11_apply (grid0.coords t) (expertOf t.val) (coords_expert t)]
  refine congrArg (acc (ix2 r d) + ·) ?_
  unfold part half hidden
  rw [← h1, ← h2]
  refine Finset.sum_congr rfl fun f _ => ?_
  simp only [hx, hw, block_gates, block_ups, block_downs]
  rfl

/-- After the first point of a row block. -/
theorem holds_first (hf : RoutingFinite m c) (t : Fin cfg0.N) (a : Carried Ideal) (h0 : t.val % 16 = 0) :
    Holds m c (blockOf t) 0 (stAt0 m c t.val t.isLt a) := by
  obtain ⟨e1, e2, e3⟩ := step_first m c t a h0 (by omega)
  have hr : ∀ r k, (stAt0 m c t.val t.isLt a).2.1 (ix2 r k) = normRow (rowAt m c (rowOf (blockOf t) r)) (weightsOf m c).g k :=
    fun r k => by
      rw [e1, pay4_apply]
      simp only [block_rows, block_gains]
      rfl
  have hw : ∀ r e, (stAt0 m c t.val t.isLt a).2.2.2 (ix2 r (laneOf e))
      = weight (logits (rowAt m c (rowOf (blockOf t) r)) (weightsOf m c).g (weightsOf m c).w) e := fun r e => by
    rw [e2, weights_apply _ _ _ _ (by rw [logits_block]; exact logits_isReal _ _ _ hf.1 hf.2), logits_block]
  refine ⟨hr, hw, fun r d => ?_⟩
  rw [e3, add_part m c t (blockOf t) 0 (by omega) _ _ _ hr hw, pay5_apply, zero_add, Finset.sum_range_one]

/-- After a point inside a row block. -/
theorem holds_middle (t : Fin cfg0.N) (a : Carried Ideal) (s : ℕ) (hs : t.val % 16 = s + 1) (hs' : s + 1 < 15)
    (h : Holds m c (blockOf t) s a) : Holds m c (blockOf t) (s + 1) (stAt0 m c t.val t.isLt a) := by
  obtain ⟨e1, e2, e3⟩ := step_middle m c t a (by omega) (by omega)
  refine ⟨fun r k => by rw [e1]; exact h.rows r k, fun r e => by rw [e2]; exact h.weights r e, fun r d => ?_⟩
  rw [e3, add_part m c t (blockOf t) (s + 1) (by omega) _ _ _ h.rows h.weights, h.sum, ← Finset.sum_range_succ]

/-- After every point but the last of a row block, by induction on the point. -/
theorem holds_outs (hf : RoutingFinite m c) (n : ℕ) : ∀ hn : n < cfg0.N, n % 16 < 15 →
    Holds m c (blockOf ⟨n, hn⟩) (n % 16) (outsAt0 m c n hn) := by
  induction n with
  | zero =>
    intro hn _
    rw [outsAt0_zero]
    exact holds_first m c hf ⟨0, hn⟩ _ rfl
  | succ n ih =>
    intro hn h15
    rw [outsAt0_succ]
    by_cases h0 : (n + 1) % 16 = 0
    · rw [h0]; exact holds_first m c hf ⟨n + 1, hn⟩ _ h0
    · have hb : blockOf ⟨n + 1, hn⟩ = blockOf ⟨n, Nat.lt_of_succ_lt hn⟩ := Fin.ext (by show (n + 1) / 16 = n / 16; omega)
      have hm : (n + 1) % 16 = n % 16 + 1 := by omega
      rw [hm]
      refine holds_middle m c ⟨n + 1, hn⟩ _ (n % 16) hm (by omega) ?_
      rw [hb]
      exact ih _ (by omega)

/-- The block the last point of a row block writes. -/
theorem block_result (hf : RoutingFinite m c) (b : Fin 32) (hn : 16 * b.val + 15 < cfg0.N) (r : Fin 512) (d : Fin 1024) :
    (outsAt0 m c (16 * b.val + 15) hn).1 (ix2 r d) = outRow (weightsOf m c) (rowAt m c (rowOf b r)) d := by
  have hb : blockOf ⟨16 * b.val + 15, hn⟩ = b := Fin.ext (by show (16 * b.val + 15) / 16 = b.val; omega)
  have hb' : blockOf ⟨16 * b.val + 14, Nat.lt_of_succ_lt hn⟩ = b := Fin.ext (by show (16 * b.val + 14) / 16 = b.val; omega)
  have h := holds_outs m c hf (16 * b.val + 14) (Nat.lt_of_succ_lt hn) (by omega)
  rw [hb', show (16 * b.val + 14) % 16 = 14 by omega] at h
  have hr : ∀ e, IsReal (logits (rowAt m c (rowOf b r)) (weightsOf m c).g (weightsOf m c).w e) :=
    logits_isReal _ _ _ hf.1 hf.2
  rw [show outsAt0 m c (16 * b.val + 15) hn = stAt0 m c (16 * b.val + 15) hn (outsAt0 m c (16 * b.val + 14) (Nat.lt_of_succ_lt hn))
    from outsAt0_succ m c (16 * b.val + 14) hn]
  rw [step_last m c ⟨16 * b.val + 15, hn⟩ _ (by show ¬(16 * b.val + 15) % 16 = 0; omega) (by show (16 * b.val + 15) % 16 = 15; omega)]
  rw [pay2_apply]
  unfold outRow
  have hsum : ∀ k, k0_pay1 (k0_pay11 (grid0.coords ⟨16 * b.val + 15, hn⟩) (outsAt0 m c (16 * b.val + 14) (Nat.lt_of_succ_lt hn)).2.1
      (iblk m c 3 ⟨16 * b.val + 15, hn⟩) (iblk m c 4 ⟨16 * b.val + 15, hn⟩)
      (outsAt0 m c (16 * b.val + 14) (Nat.lt_of_succ_lt hn)).2.2.2 (outsAt0 m c (16 * b.val + 14) (Nat.lt_of_succ_lt hn)).2.2.1
      (iblk m c 5 ⟨16 * b.val + 15, hn⟩)) (ix2 r k) = mix (weightsOf m c) (rowAt m c (rowOf b r)) k := fun k => by
    rw [add_part m c ⟨16 * b.val + 15, hn⟩ b 15 (by show (16 * b.val + 15) % 16 = 15 % 16; omega) _ _ _ h.rows h.weights, h.sum,
      ← Finset.sum_range_succ]
    exact sum_parts _ _ hr k
  simp only [hsum, block_rows, block_lastGains, hb]
  rfl

/-- The result array: at row `R`, the row normed after its mixture. -/
theorem result_apply (hf : RoutingFinite m c) (R : Fin 16384) (d : Fin 1024) :
    G7 m c (ix2 R d) = outRow (weightsOf m c) (rowAt m c R) d := by
  have hN : cfg0.N = 512 := N_0
  have hlt : pt7Of (ix2 R d) < cfg0.N := by
    show 16 * (1 * (R.val / 512 - 0) + 1 * (d.val / 1024 - 0)) + 15 < cfg0.N
    omega
  unfold G7
  rw [dif_pos hlt, ← outsAt0_sweep m c _ hlt]
  have hp : pt7Of (ix2 R d) = 16 * (⟨R.val / 512, by omega⟩ : Fin 32).val + 15 := by
    show 16 * (1 * (R.val / 512 - 0) + 1 * (d.val / 1024 - 0)) + 15 = 16 * (R.val / 512) + 15
    omega
  have hl : loc7Of (ix2 R d) = ix2 ⟨R.val % 512, by omega⟩ d := funext fun a => Fin.ext (by
    match a with
    | ⟨0, _⟩ => rfl
    | ⟨1, _⟩ => show d.val % 1024 = d.val; omega)
  have hR : rowOf ⟨R.val / 512, by omega⟩ ⟨R.val % 512, by omega⟩ = R :=
    Fin.ext (by show 512 * (R.val / 512) + R.val % 512 = R.val; omega)
  have h := block_result m c hf ⟨R.val / 512, by omega⟩ (by show 16 * (R.val / 512) + 15 < cfg0.N; omega) ⟨R.val % 512, by omega⟩ d
  rw [hR] at h
  rw [hl]
  have hcongr : ∀ n n' (hn : n < cfg0.N) (hn' : n' < cfg0.N), n = n' → outsAt0 m c n hn = outsAt0 m c n' hn' := by
    intro n n' hn hn' e; subst e; rfl
  rw [hcongr _ _ hlt (by show 16 * (R.val / 512) + 15 < cfg0.N; omega) hp]
  exact h

end Cert.Moe
-- ==== Proof.Moe.RefRow.lean ====
/-
  What the reference makes of one row on its way to the mixture: the normed row, the logits, the two selected experts and
  the weights that combine them.
-/
module

public import proofs.«01_k».proof.Proof.Moe.Mix
public import proofs.«01_k».proof.Proof.Gen.ReferenceIdeal.Read
public import Idealize.ShloMosaic.Lib.Pointwise

@[expose] public section

set_option maxRecDepth 16384

noncomputable section

namespace Cert.Moe

open Cert.ReferenceIdeal Cert.ReferenceIdeal.Gen Cert.ReferenceIdeal.Read
open Idealize.ShloMosaic Idealize.ShloMosaic.TcCoe

/-- The reference's norm of an array of rows. -/
theorem norm_apply (x : FVec Ideal S16384x1024 .f32) (g : FVec Ideal S1024 .f32) (R : Fin 16384) (k : Fin 1024) :
    mulf (mulf x (broadcastInDim S16384x1024 ![0, 1] bcast_S16384x1_S16384x1024_0_1 (Host.rsqrt (addf (Host.divf
      (broadcastInDim S16384x1 ![0] bcast_S16384_S16384x1_0 (Host.reduceAdd (mulf x x) (constant S_ .f32 0x00000000#32)
        reducesTo_S16384x1024_S16384_d1 h_S_)) (broadcastInDim S16384x1 ![] bcast_S_S16384x1 (constant S_ .f32 0x44800000#32)))
      (broadcastInDim S16384x1 ![] bcast_S_S16384x1 (constant S_ .f32 0x358637BD#32))))))
      (broadcastInDim S16384x1024 ![0, 1] bcast_S1x1024_S16384x1024_0_1 (broadcastInDim S1x1024 ![1] bcast_S1024_S1x1024_1 g)) (ix2 R k)
    = normRow (fun k => x (ix2 R k)) (fun k => g (ix1 k)) k := by
  pointwise []
  rfl

variable (x0 : (⟨S16384x1024, .f32⟩ : BufTy).Contents (Elt Ideal)) (x1 : (⟨S1x1024, .f32⟩ : BufTy).Contents (Elt Ideal))
  (x2 : (⟨S1x1024x8, .f32⟩ : BufTy).Contents (Elt Ideal)) (x3 x4 : (⟨S1x8x1024x2816, .f32⟩ : BufTy).Contents (Elt Ideal))
  (x5 : (⟨S1x8x2816x1024, .f32⟩ : BufTy).Contents (Elt Ideal)) (x6 : (⟨S1024, .f32⟩ : BufTy).Contents (Elt Ideal))

/-- The normed rows. -/
theorem v13_apply (R : Fin 16384) (k : Fin 1024) :
    val_main_v13 x0 x1 (ix2 R k) = normRow (fun k => x0 (ix2 R k)) (fun k => x1 (ix2 0 k)) k := by
  have h := norm_apply x0 (val_main_v0 x1) R k
  have h0 : (fun k => val_main_v0 x1 (ix1 k)) = fun k => x1 (ix2 0 k) := by
    funext k
    pointwise [val_main_v0]
  rw [h0] at h
  exact h

/-- The logits. -/
theorem v18_apply (R : Fin 16384) (e : Fin 8) :
    val_main_v18 x0 x1 x2 (ix2 R e) = logits (fun k => x0 (ix2 R k)) (fun k => x1 (ix2 0 k)) (fun k e => x2 (ix3 0 k e)) e := by
  pointwise [val_main_v18, val_main_v14]
  simp only [v13_apply]
  rfl

/-- The gate: a value times its logistic. -/
theorem silu_apply (R : Fin 16384) (f : Fin 2816) :
    val_main_v41 x0 x1 x3 (ix2 R f) = val_main_v40 x0 x1 x3 (ix2 R f) * Ideal.logistic (val_main_v40 x0 x1 x3 (ix2 R f)) := by
  pointwise [val_main_v41, val_main_call1_v5, val_main_call1_v4, val_main_call1_v3, val_main_call1_v2, val_main_call1_v1, val_main_call1_v0, val_main_call1_cst, val_main_call1_cst_0]
  rfl

/-- The two greatest entries of a row, and where they stand: the selected experts' logits and numbers. -/
theorem topK_apply (l : FVec Ideal S16384x8 .f32) (R : Fin 16384) (l' : Fin 8 → EReal) (hl : ∀ e, l (ix2 R e) = l' e) (j : Fin 2) :
    (Host.topK S16384x2 1 (FloatOps.cmpfTotal (F := Ideal) (φ := .f32) .gt) l sliceFits_S16384x8_S16384x2).1 (ix2 R j)
        = l' ((![(top2 l').1, (top2 l').2] : Fin 2 → Fin 8) j) ∧
    (Host.topK S16384x2 1 (FloatOps.cmpfTotal (F := Ideal) (φ := .f32) .gt) l sliceFits_S16384x8_S16384x2).2 (ix2 R j)
        = BitVec.ofNat 32 ((![(top2 l').1, (top2 l').2] : Fin 2 → Fin 8) j).val := by
  obtain rfl : l' = fun e => l (ix2 R e) := funext fun e => (hl e).symm
  have hs := sortedFrom_top2 (isTop2_top2 fun e => l (ix2 R e)) j
  have ha : ∀ q k : Fin 8, (ix2 R q : S16384x8.Idx).along 1 k = ix2 R k := fun q k => funext fun a => by
    match a with
    | ⟨0, _⟩ => rfl
    | ⟨1, _⟩ => rfl
  have hc : (fun k k' : Fin 8 => FloatOps.cmpfTotal (F := Ideal) (φ := .f32) .gt (l ((ix2 R (j.castLE (by decide)) : S16384x8.Idx).along 1 k))
      (l ((ix2 R (j.castLE (by decide)) : S16384x8.Idx).along 1 k')) == 1#1) = fun a b => decide (l (ix2 R b) < l (ix2 R a)) := by
    funext k k'
    rw [ha, ha]
    show (BitVec.ofBool (decide (l (ix2 R k') < l (ix2 R k))) == 1#1) = _
    cases decide (l (ix2 R k') < l (ix2 R k)) <;> rfl
  have hx : ∀ {α : Type} (y : S16384x8.Idx → α), extractStridedSlice S16384x2 (fun _ => 0) y sliceFits_S16384x8_S16384x2 (ix2 R j)
      = y (ix2 R (j.castLE (by decide))) := fun y => extractStridedSlice_apply _ _ _ _ _ fun a => by
    match a with
    | ⟨0, _⟩ => exact (Nat.zero_add _).symm
    | ⟨1, _⟩ => exact (Nat.zero_add _).symm
  unfold Host.topK Host.sort2
  simp only [hx]
  constructor
  · show l ((ix2 R (j.castLE (by decide)) : S16384x8.Idx).along 1 (sortedFrom (fun k k' : Fin 8 => FloatOps.cmpfTotal (F := Ideal) (φ := .f32) .gt
      (l ((ix2 R (j.castLE (by decide)) : S16384x8.Idx).along 1 k)) (l ((ix2 R (j.castLE (by decide)) : S16384x8.Idx).along 1 k')) == 1#1)
      (j.castLE (by decide)))) = _
    rw [hc]
    exact (congrArg (fun q : Fin 8 => l ((ix2 R (j.castLE (by decide)) : S16384x8.Idx).along 1 q)) hs).trans (congrArg l (ha _ _))
  · show BitVec.ofNat 32 (((ix2 R (j.castLE (by decide)) : S16384x8.Idx).along 1 (sortedFrom (fun k k' : Fin 8 => FloatOps.cmpfTotal (F := Ideal) (φ := .f32) .gt
      (l ((ix2 R (j.castLE (by decide)) : S16384x8.Idx).along 1 k)) (l ((ix2 R (j.castLE (by decide)) : S16384x8.Idx).along 1 k')) == 1#1)
      (j.castLE (by decide)))) 1).val = _
    rw [hc]
    exact (congrArg (fun q : Fin 8 => BitVec.ofNat 32 ((ix2 R (j.castLE (by decide)) : S16384x8.Idx).along 1 q 1).val) hs).trans
      (congrArg (fun q : S16384x8.Idx => BitVec.ofNat 32 (q 1).val) (ha _ _))

/-- The row's logits, by the reference's arguments. -/
abbrev logitsOf (R : Fin 16384) : Fin 8 → EReal :=
  logits (fun k => x0 (ix2 R k)) (fun k => x1 (ix2 0 k)) fun k e => x2 (ix3 0 k e)

/-- The selected logits. -/
theorem values_apply (R : Fin 16384) (j : Fin 2) :
    val_main_values x0 x1 x2 (ix2 R j)
      = logitsOf x0 x1 x2 R ((![(top2 (logitsOf x0 x1 x2 R)).1, (top2 (logitsOf x0 x1 x2 R)).2] : Fin 2 → Fin 8) j) := by
  unfold val_main_values
  exact (topK_apply _ R _ (v18_apply x0 x1 x2 R) j).1

/-- The selected experts. -/
theorem indices_apply (R : Fin 16384) (j : Fin 2) :
    val_main_indices x0 x1 x2 (ix2 R j)
      = BitVec.ofNat 32 ((![(top2 (logitsOf x0 x1 x2 R)).1, (top2 (logitsOf x0 x1 x2 R)).2] : Fin 2 → Fin 8) j).val := by
  unfold val_main_indices
  exact (topK_apply _ R _ (v18_apply x0 x1 x2 R) j).2

/-- The softmax of two values, the first the larger. -/
theorem softmax_two (l : Fin 8 → EReal) (i1 i2 : Fin 8) (hl : ∀ e, IsReal (l e)) (h : IsTop2 l i1 i2) (v : Fin 2 → EReal)
    (hv : ∀ j, v j = l ((![i1, i2] : Fin 2 → Fin 8) j)) (j : Fin 2) :
    Ideal.div (Ideal.exp (v j - Finset.univ.fold max ⊥ v)) (∑ x, Ideal.exp (v x - Finset.univ.fold max ⊥ v))
      = (![Ideal.div 1 (1 + Ideal.exp (l i2 - l i1)), Ideal.div (Ideal.exp (l i2 - l i1)) (1 + Ideal.exp (l i2 - l i1))]
        : Fin 2 → EReal) j := by
  have hm : Finset.univ.fold max ⊥ v = l i1 := by
    rw [fold_max_eq v 0 fun j => ?_, hv]
    · rfl
    · rw [hv, hv]; exact h.max1 _
  have h0 : Ideal.exp (l i1 - l i1) = 1 := by
    obtain ⟨a, ha⟩ := hl i1
    rw [ha, ← EReal.coe_sub, sub_self, Ideal.exp_coe, Real.exp_zero, EReal.coe_one]
  have v0 : v 0 = l i1 := hv 0
  have v1 : v 1 = l i2 := hv 1
  rw [hm, Fin.sum_univ_two, v0, v1, h0]
  match j with
  | 0 => rw [v0, h0]; rfl
  | 1 => rw [v1]; rfl

/-- The softmax of the selected logits. -/
theorem v29_apply (hl : ∀ R e, IsReal (logitsOf x0 x1 x2 R e)) (R : Fin 16384) (j : Fin 2) :
    val_main_v29 x0 x1 x2 (ix2 R j)
      = (![Ideal.div 1 (1 + Ideal.exp (logitsOf x0 x1 x2 R (top2 (logitsOf x0 x1 x2 R)).2 - logitsOf x0 x1 x2 R (top2 (logitsOf x0 x1 x2 R)).1)),
        Ideal.div (Ideal.exp (logitsOf x0 x1 x2 R (top2 (logitsOf x0 x1 x2 R)).2 - logitsOf x0 x1 x2 R (top2 (logitsOf x0 x1 x2 R)).1))
          (1 + Ideal.exp (logitsOf x0 x1 x2 R (top2 (logitsOf x0 x1 x2 R)).2 - logitsOf x0 x1 x2 R (top2 (logitsOf x0 x1 x2 R)).1))]
        : Fin 2 → EReal) j := by
  have h := softmax_two (logitsOf x0 x1 x2 R) _ _ (hl R) (isTop2_top2 _) (fun j => val_main_values x0 x1 x2 (ix2 R j))
    (values_apply x0 x1 x2 R) j
  pointwise [val_main_v29, val_main_v28, val_main_v27, val_main_v26, val_main_v25, val_main_v24, val_main_v23, val_main_v22,
    val_main_v21, val_main_v20, val_main_v19, val_main_cst_2, val_main_cst_3, val_main_cst_4]
  have hb : Ideal.ofBits .f32 0xFF800000#32 = ⊥ := by simp [Ideal.ofBits, Ideal.ieee]
  rw [hb, max_eq_right bot_le]
  exact h

/-- Whether the `j`th selected expert is `e`. -/
theorem v30_apply (R : Fin 16384) (j : Fin 2) (e : Fin 8) :
    val_main_v30 x0 x1 x2 (ix3 R j e)
      = if e = (![(top2 (logitsOf x0 x1 x2 R)).1, (top2 (logitsOf x0 x1 x2 R)).2] : Fin 2 → Fin 8) j then 1 else 0 := by
  pointwise [val_main_v30, val_main_call0_v0, val_main_call0_v1, val_main_call0_v2, val_main_call0_v3, val_main_call0_v4]
  rw [indices_apply]
  generalize (![(top2 (logitsOf x0 x1 x2 R)).1, (top2 (logitsOf x0 x1 x2 R)).2] : Fin 2 → Fin 8) j = i
  show (((BitVec.ofBool (BitVec.ofNat 32 i.val == BitVec.ofNat 32 e.val)).toNat : ℝ) : EReal) = _
  by_cases h : e = i
  · subst h; simp
  · have hb : (BitVec.ofNat 32 i.val == BitVec.ofNat 32 e.val) = false := beq_eq_false_iff_ne.mpr fun hh => h (by
      have h' := congrArg BitVec.toNat hh
      simp only [BitVec.toNat_ofNat] at h'
      exact Fin.ext (by omega))
    rw [hb, if_neg h]; simp

/-- The weights that combine the experts. -/
theorem v31_apply (hl : ∀ R e, IsReal (logitsOf x0 x1 x2 R e)) (R : Fin 16384) (e : Fin 8) :
    val_main_v31 x0 x1 x2 (ix2 R e) = weight (logitsOf x0 x1 x2 R) e := by
  pointwise [val_main_v31]
  simp only [v29_apply x0 x1 x2 hl, v30_apply, Fin.sum_univ_two]
  unfold weight weightAt
  simp only [mul_ite, mul_one, mul_zero]
  rfl

end Cert.Moe
-- ==== Proof.Moe.RefValue.lean ====
/-
  What the reference computes: each expert's contribution to a row, their sum, and the row of the result.
-/
module

public import proofs.«01_k».proof.Proof.Moe.RefRow
public import Idealize.ShloMosaic.Lib.ValueLayout

@[expose] public section

set_option maxRecDepth 16384

noncomputable section

namespace Cert.Moe

open Cert.ReferenceIdeal Cert.ReferenceIdeal.Gen Cert.ReferenceIdeal.Read
open Idealize.ShloMosaic Idealize.ShloMosaic.TcCoe

/-- Expert `e`'s gate or up weights, sliced out of the array of all experts. -/
theorem up_slice_apply (x : FVec Ideal S1x8x1024x2816 .f32) (o : ℕ) (h : S8x1024x2816.Slices ![o, 0, 0] S1x1024x2816)
    (e : Fin 8) (he : e.val = o) (k : Fin 1024) (f : Fin 2816) :
    shapeCast S1024x2816 (extractStridedSlice S1x1024x2816 ![o, 0, 0] (shapeCast S8x1024x2816 x shapeCasts_S1x8x1024x2816_S8x1024x2816) h)
      shapeCasts_S1x1024x2816_S1024x2816 (ix2 k f) = x (ix4 0 e k f) := by
  refine (ValueIdx.shapeCast_1ab_ab_apply _ _ k f).trans ?_
  refine (extractStridedSlice_apply _ _ h _ (ix3 e k f) fun a => ?_).trans (ValueIdx.shapeCast_1abc_abc_apply _ _ e k f)
  match a with
  | ⟨0, _⟩ => exact he
  | ⟨1, _⟩ => exact (Nat.zero_add _).symm
  | ⟨2, _⟩ => exact (Nat.zero_add _).symm

/-- Expert `e`'s down weights, sliced out of the array of all experts. -/
theorem down_slice_apply (x : FVec Ideal S1x8x2816x1024 .f32) (o : ℕ) (h : S8x2816x1024.Slices ![o, 0, 0] S1x2816x1024)
    (e : Fin 8) (he : e.val = o) (f : Fin 2816) (d : Fin 1024) :
    shapeCast S2816x1024 (extractStridedSlice S1x2816x1024 ![o, 0, 0] (shapeCast S8x2816x1024 x shapeCasts_S1x8x2816x1024_S8x2816x1024) h)
      shapeCasts_S1x2816x1024_S2816x1024 (ix2 f d) = x (ix4 0 e f d) := by
  refine (ValueIdx.shapeCast_1ab_ab_apply _ _ f d).trans ?_
  refine (extractStridedSlice_apply _ _ h _ (ix3 e f d) fun a => ?_).trans (ValueIdx.shapeCast_1abc_abc_apply _ _ e f d)
  match a with
  | ⟨0, _⟩ => exact he
  | ⟨1, _⟩ => exact (Nat.zero_add _).symm
  | ⟨2, _⟩ => exact (Nat.zero_add _).symm

/-- One expert's column of the weights, spread along the rows. -/
theorem column_apply (c : FVec Ideal S16384x8 .f32) (o : ℕ) (h : S16384x8.Slices ![0, o] S16384x1) (e : Fin 8) (he : e.val = o)
    (R : Fin 16384) (d : Fin 1024) :
    broadcastInDim S16384x1024 ![0, 1] bcast_S16384x1_S16384x1024_0_1 (extractStridedSlice S16384x1 ![0, o] c h) (ix2 R d)
      = c (ix2 R e) := by
  refine (broadcastInDim_apply _ bcast_S16384x1_S16384x1024_0_1 _ (ix2 R d) (ix2 R 0) fun a => ?_).trans
    (extractStridedSlice_apply _ _ h _ (ix2 R e) fun a => ?_)
  · match a with
    | ⟨0, _⟩ => rfl
    | ⟨1, _⟩ => rfl
  · match a with
    | ⟨0, _⟩ => exact (Nat.zero_add _).symm
    | ⟨1, _⟩ => exact he

/-- A value times its logistic, for an array. -/
theorem silu_term_apply (G : FVec Ideal S16384x2816 .f32) (R : Fin 16384) (f : Fin 2816) :
    mulf G (Host.divf (broadcastInDim S16384x2816 ![] bcast_S_S16384x2816 (constant S_ .f32 0x3F800000#32))
      (addf (broadcastInDim S16384x2816 ![] bcast_S_S16384x2816 (constant S_ .f32 0x3F800000#32)) (Host.exp (Host.negf G)))) (ix2 R f)
      = G (ix2 R f) * Ideal.logistic (G (ix2 R f)) := by
  pointwise []
  rfl

/-- One expert applied to the rows `n`. -/
theorem expert_apply (n : FVec Ideal S16384x1024 .f32) (A B : FVec Ideal S1024x2816 .f32) (D : FVec Ideal S2816x1024 .f32)
    (R : Fin 16384) (d : Fin 1024) :
    Host.dotGeneral dot_S16384x2816_S2816x1024_S16384x1024_1_0_0_1_n_n none
      (mulf (mulf (Host.dotGeneral dot_S16384x1024_S1024x2816_S16384x2816_1_0_0_1_n_n none n A)
        (Host.divf (broadcastInDim S16384x2816 ![] bcast_S_S16384x2816 (constant S_ .f32 0x3F800000#32))
          (addf (broadcastInDim S16384x2816 ![] bcast_S_S16384x2816 (constant S_ .f32 0x3F800000#32))
            (Host.exp (Host.negf (Host.dotGeneral dot_S16384x1024_S1024x2816_S16384x2816_1_0_0_1_n_n none n A))))))
        (Host.dotGeneral dot_S16384x1024_S1024x2816_S16384x2816_1_0_0_1_n_n none n B)) D (ix2 R d)
      = expert (fun k => n (ix2 R k)) (fun k f => A (ix2 k f)) (fun k f => B (ix2 k f)) (fun f d => D (ix2 f d)) d := by
  pointwise []
  rfl

variable (x0 : (⟨S16384x1024, .f32⟩ : BufTy).Contents (Elt Ideal)) (x1 : (⟨S1x1024, .f32⟩ : BufTy).Contents (Elt Ideal))
  (x2 : (⟨S1x1024x8, .f32⟩ : BufTy).Contents (Elt Ideal)) (x3 x4 : (⟨S1x8x1024x2816, .f32⟩ : BufTy).Contents (Elt Ideal))
  (x5 : (⟨S1x8x2816x1024, .f32⟩ : BufTy).Contents (Elt Ideal)) (x6 : (⟨S1024, .f32⟩ : BufTy).Contents (Elt Ideal))

/-- The reference's arguments by their coordinates. -/
def refWeights : Weights where
  g k := x1 (ix2 0 k)
  w k e := x2 (ix3 0 k e)
  wg e k f := x3 (ix4 0 e k f)
  wu e k f := x4 (ix4 0 e k f)
  wd e f d := x5 (ix4 0 e f d)
  g2 k := x6 (ix1 k)

/-- Expert `e`'s contribution to row `R`. -/
def addend (R : Fin 16384) (d : Fin 1024) (e : Fin 8) : EReal :=
  weight (logitsOf x0 x1 x2 R) e * expert (normRow (fun k => x0 (ix2 R k)) fun k => x1 (ix2 0 k))
    (fun k f => x3 (ix4 0 e k f)) (fun k f => x4 (ix4 0 e k f)) (fun f d => x5 (ix4 0 e f d)) d

/-- One expert's contribution, from what its sliced weights hold. -/
theorem addend_of (hl : ∀ R e, IsReal (logitsOf x0 x1 x2 R e)) (R : Fin 16384) (d : Fin 1024) (e : Fin 8)
    (y : EReal) (A B : FVec Ideal S1024x2816 .f32) (D : FVec Ideal S2816x1024 .f32)
    (hA : ∀ k f, A (ix2 k f) = x3 (ix4 0 e k f)) (hB : ∀ k f, B (ix2 k f) = x4 (ix4 0 e k f))
    (hD : ∀ f d, D (ix2 f d) = x5 (ix4 0 e f d))
    (hy : y = expert (fun k => val_main_v13 x0 x1 (ix2 R k)) (fun k f => A (ix2 k f)) (fun k f => B (ix2 k f)) (fun f d => D (ix2 f d)) d) :
    val_main_v31 x0 x1 x2 (ix2 R e) * y = addend x0 x1 x2 x3 x4 x5 R d e := by
  rw [hy, v31_apply x0 x1 x2 hl]
  simp only [v13_apply, hA, hB, hD]
  rfl

/-- Expert 0. -/
theorem addend0_apply (hl : ∀ R e, IsReal (logitsOf x0 x1 x2 R e)) (R : Fin 16384) (d : Fin 1024) :
    val_main_v46 x0 x1 x2 x3 x4 x5 (ix2 R d) = addend x0 x1 x2 x3 x4 x5 R d 0 :=
  (congrArg (· * val_main_v44 x0 x1 x3 x4 x5 (ix2 R d)) (column_apply (val_main_v31 x0 x1 x2) 0 slices_S16384x8_S16384x1_0_0 0 rfl R d)).trans
    (addend_of x0 x1 x2 x3 x4 x5 hl R d 0 _ (val_main_v35 x3) (val_main_v37 x4) (val_main_v39 x5)
      (up_slice_apply x3 0 slices_S8x1024x2816_S1x1024x2816_0_0_0 0 rfl) (up_slice_apply x4 0 slices_S8x1024x2816_S1x1024x2816_0_0_0 0 rfl)
      (down_slice_apply x5 0 slices_S8x2816x1024_S1x2816x1024_0_0_0 0 rfl)
      (expert_apply (val_main_v13 x0 x1) (val_main_v35 x3) (val_main_v37 x4) (val_main_v39 x5) R d))

/-- Expert 1. -/
theorem addend1_apply (hl : ∀ R e, IsReal (logitsOf x0 x1 x2 R e)) (R : Fin 16384) (d : Fin 1024) :
    val_main_v61 x0 x1 x2 x3 x4 x5 (ix2 R d) = addend x0 x1 x2 x3 x4 x5 R d 1 :=
  (congrArg (· * val_main_v59 x0 x1 x3 x4 x5 (ix2 R d)) (column_apply (val_main_v31 x0 x1 x2) 1 slices_S16384x8_S16384x1_0_1 1 rfl R d)).trans
    (addend_of x0 x1 x2 x3 x4 x5 hl R d 1 _ (val_main_v50 x3) (val_main_v52 x4) (val_main_v54 x5)
      (up_slice_apply x3 1 slices_S8x1024x2816_S1x1024x2816_1_0_0 1 rfl) (up_slice_apply x4 1 slices_S8x1024x2816_S1x1024x2816_1_0_0 1 rfl)
      (down_slice_apply x5 1 slices_S8x2816x1024_S1x2816x1024_1_0_0 1 rfl)
      (expert_apply (val_main_v13 x0 x1) (val_main_v50 x3) (val_main_v52 x4) (val_main_v54 x5) R d))

/-- Expert 2. -/
theorem addend2_apply (hl : ∀ R e, IsReal (logitsOf x0 x1 x2 R e)) (R : Fin 16384) (d : Fin 1024) :
    val_main_v76 x0 x1 x2 x3 x4 x5 (ix2 R d) = addend x0 x1 x2 x3 x4 x5 R d 2 :=
  (congrArg (· * val_main_v74 x0 x1 x3 x4 x5 (ix2 R d)) (column_apply (val_main_v31 x0 x1 x2) 2 slices_S16384x8_S16384x1_0_2 2 rfl R d)).trans
    (addend_of x0 x1 x2 x3 x4 x5 hl R d 2 _ (val_main_v65 x3) (val_main_v67 x4) (val_main_v69 x5)
      (up_slice_apply x3 2 slices_S8x1024x2816_S1x1024x2816_2_0_0 2 rfl) (up_slice_apply x4 2 slices_S8x1024x2816_S1x1024x2816_2_0_0 2 rfl)
      (down_slice_apply x5 2 slices_S8x2816x1024_S1x2816x1024_2_0_0 2 rfl)
      (expert_apply (val_main_v13 x0 x1) (val_main_v65 x3) (val_main_v67 x4) (val_main_v69 x5) R d))

/-- Expert 3. -/
theorem addend3_apply (hl : ∀ R e, IsReal (logitsOf x0 x1 x2 R e)) (R : Fin 16384) (d : Fin 1024) :
    val_main_v91 x0 x1 x2 x3 x4 x5 (ix2 R d) = addend x0 x1 x2 x3 x4 x5 R d 3 :=
  (congrArg (· * val_main_v89 x0 x1 x3 x4 x5 (ix2 R d)) (column_apply (val_main_v31 x0 x1 x2) 3 slices_S16384x8_S16384x1_0_3 3 rfl R d)).trans
    (addend_of x0 x1 x2 x3 x4 x5 hl R d 3 _ (val_main_v80 x3) (val_main_v82 x4) (val_main_v84 x5)
      (up_slice_apply x3 3 slices_S8x1024x2816_S1x1024x2816_3_0_0 3 rfl) (up_slice_apply x4 3 slices_S8x1024x2816_S1x1024x2816_3_0_0 3 rfl)
      (down_slice_apply x5 3 slices_S8x2816x1024_S1x2816x1024_3_0_0 3 rfl)
      (expert_apply (val_main_v13 x0 x1) (val_main_v80 x3) (val_main_v82 x4) (val_main_v84 x5) R d))

/-- Expert 4. -/
theorem addend4_apply (hl : ∀ R e, IsReal (logitsOf x0 x1 x2 R e)) (R : Fin 16384) (d : Fin 1024) :
    val_main_v106 x0 x1 x2 x3 x4 x5 (ix2 R d) = addend x0 x1 x2 x3 x4 x5 R d 4 :=
  (congrArg (· * val_main_v104 x0 x1 x3 x4 x5 (ix2 R d)) (column_apply (val_main_v31 x0 x1 x2) 4 slices_S16384x8_S16384x1_0_4 4 rfl R d)).trans
    (addend_of x0 x1 x2 x3 x4 x5 hl R d 4 _ (val_main_v95 x3) (val_main_v97 x4) (val_main_v99 x5)
      (up_slice_apply x3 4 slices_S8x1024x2816_S1x1024x2816_4_0_0 4 rfl) (up_slice_apply x4 4 slices_S8x1024x2816_S1x1024x2816_4_0_0 4 rfl)
      (down_slice_apply x5 4 slices_S8x2816x1024_S1x2816x1024_4_0_0 4 rfl)
      (expert_apply (val_main_v13 x0 x1) (val_main_v95 x3) (val_main_v97 x4) (val_main_v99 x5) R d))

/-- Expert 5. -/
theorem addend5_apply (hl : ∀ R e, IsReal (logitsOf x0 x1 x2 R e)) (R : Fin 16384) (d : Fin 1024) :
    val_main_v121 x0 x1 x2 x3 x4 x5 (ix2 R d) = addend x0 x1 x2 x3 x4 x5 R d 5 :=
  (congrArg (· * val_main_v119 x0 x1 x3 x4 x5 (ix2 R d)) (column_apply (val_main_v31 x0 x1 x2) 5 slices_S16384x8_S16384x1_0_5 5 rfl R d)).trans
    (addend_of x0 x1 x2 x3 x4 x5 hl R d 5 _ (val_main_v110 x3) (val_main_v112 x4) (val_main_v114 x5)
      (up_slice_apply x3 5 slices_S8x1024x2816_S1x1024x2816_5_0_0 5 rfl) (up_slice_apply x4 5 slices_S8x1024x2816_S1x1024x2816_5_0_0 5 rfl)
      (down_slice_apply x5 5 slices_S8x2816x1024_S1x2816x1024_5_0_0 5 rfl)
      (expert_apply (val_main_v13 x0 x1) (val_main_v110 x3) (val_main_v112 x4) (val_main_v114 x5) R d))

/-- Expert 6. -/
theorem addend6_apply (hl : ∀ R e, IsReal (logitsOf x0 x1 x2 R e)) (R : Fin 16384) (d : Fin 1024) :
    val_main_v136 x0 x1 x2 x3 x4 x5 (ix2 R d) = addend x0 x1 x2 x3 x4 x5 R d 6 :=
  (congrArg (· * val_main_v134 x0 x1 x3 x4 x5 (ix2 R d)) (column_apply (val_main_v31 x0 x1 x2) 6 slices_S16384x8_S16384x1_0_6 6 rfl R d)).trans
    (addend_of x0 x1 x2 x3 x4 x5 hl R d 6 _ (val_main_v125 x3) (val_main_v127 x4) (val_main_v129 x5)
      (up_slice_apply x3 6 slices_S8x1024x2816_S1x1024x2816_6_0_0 6 rfl) (up_slice_apply x4 6 slices_S8x1024x2816_S1x1024x2816_6_0_0 6 rfl)
      (down_slice_apply x5 6 slices_S8x2816x1024_S1x2816x1024_6_0_0 6 rfl)
      (expert_apply (val_main_v13 x0 x1) (val_main_v125 x3) (val_main_v127 x4) (val_main_v129 x5) R d))

/-- Expert 7. -/
theorem addend7_apply (hl : ∀ R e, IsReal (logitsOf x0 x1 x2 R e)) (R : Fin 16384) (d : Fin 1024) :
    val_main_v151 x0 x1 x2 x3 x4 x5 (ix2 R d) = addend x0 x1 x2 x3 x4 x5 R d 7 :=
  (congrArg (· * val_main_v149 x0 x1 x3 x4 x5 (ix2 R d)) (column_apply (val_main_v31 x0 x1 x2) 7 slices_S16384x8_S16384x1_0_7 7 rfl R d)).trans
    (addend_of x0 x1 x2 x3 x4 x5 hl R d 7 _ (val_main_v140 x3) (val_main_v142 x4) (val_main_v144 x5)
      (up_slice_apply x3 7 slices_S8x1024x2816_S1x1024x2816_7_0_0 7 rfl) (up_slice_apply x4 7 slices_S8x1024x2816_S1x1024x2816_7_0_0 7 rfl)
      (down_slice_apply x5 7 slices_S8x2816x1024_S1x2816x1024_7_0_0 7 rfl)
      (expert_apply (val_main_v13 x0 x1) (val_main_v140 x3) (val_main_v142 x4) (val_main_v144 x5) R d))

/-- The experts' contributions add up to the mixture. -/
theorem v152_apply (hl : ∀ R e, IsReal (logitsOf x0 x1 x2 R e)) (R : Fin 16384) (d : Fin 1024) :
    val_main_v152 x0 x1 x2 x3 x4 x5 (ix2 R d) = mix (refWeights x1 x2 x3 x4 x5 x6) (fun k => x0 (ix2 R k)) d := by
  have hz : val_main_v32 (F := Ideal) (ix2 R d) = 0 := by
    pointwise [val_main_v32, val_main_cst_5]
  show val_main_v32 (F := Ideal) (ix2 R d)
      + val_main_v46 x0 x1 x2 x3 x4 x5 (ix2 R d) + val_main_v61 x0 x1 x2 x3 x4 x5 (ix2 R d)
      + val_main_v76 x0 x1 x2 x3 x4 x5 (ix2 R d) + val_main_v91 x0 x1 x2 x3 x4 x5 (ix2 R d)
      + val_main_v106 x0 x1 x2 x3 x4 x5 (ix2 R d) + val_main_v121 x0 x1 x2 x3 x4 x5 (ix2 R d)
      + val_main_v136 x0 x1 x2 x3 x4 x5 (ix2 R d) + val_main_v151 x0 x1 x2 x3 x4 x5 (ix2 R d) = _
  rw [hz, zero_add, addend0_apply x0 x1 x2 x3 x4 x5 hl, addend1_apply x0 x1 x2 x3 x4 x5 hl, addend2_apply x0 x1 x2 x3 x4 x5 hl,
    addend3_apply x0 x1 x2 x3 x4 x5 hl, addend4_apply x0 x1 x2 x3 x4 x5 hl, addend5_apply x0 x1 x2 x3 x4 x5 hl,
    addend6_apply x0 x1 x2 x3 x4 x5 hl, addend7_apply x0 x1 x2 x3 x4 x5 hl]
  exact (Fin.sum_univ_eight (addend x0 x1 x2 x3 x4 x5 R d)).symm

/-- The reference's result: each row plus its mixture, normed. -/
theorem reference_apply (hg : ∀ k, IsReal (x1 (ix2 0 k))) (hw : ∀ k e, IsReal (x2 (ix3 0 k e))) (R : Fin 16384) (d : Fin 1024) :
    val_main_v166 x0 x1 x2 x3 x4 x5 x6 (ix2 R d) = outRow (refWeights x1 x2 x3 x4 x5 x6) (fun k => x0 (ix2 R k)) d := by
  have hl : ∀ R e, IsReal (logitsOf x0 x1 x2 R e) := fun R e => logits_isReal _ _ _ hg hw e
  refine (norm_apply (val_main_v153 x0 x1 x2 x3 x4 x5) x6 R d).trans ?_
  have h : (fun k => val_main_v153 x0 x1 x2 x3 x4 x5 (ix2 R k))
      = fun k => x0 (ix2 R k) + mix (refWeights x1 x2 x3 x4 x5 x6) (fun k => x0 (ix2 R k)) k := by
    funext k
    exact congrArg (x0 (ix2 R k) + ·) (v152_apply x0 x1 x2 x3 x4 x5 x6 hl R k)
  rw [h]
  rfl

end Cert.Moe
-- ==== Proof.Moe.Equal.lean ====
/-
  The routed mixer and its reference agree, when the norm's gains and the router are finite.
-/
module

public import proofs.«01_k».proof.Defs
public import proofs.«01_k».proof.Proof.Moe.KernelArray
public import proofs.«01_k».proof.Proof.Moe.RefValue

@[expose] public section

set_option maxRecDepth 16384

noncomputable section

namespace Cert.Moe

open Idealize.ShloMosaic Idealize.ShloMosaic.TcCoe

/-- The shape relations of the precondition's function. -/
theorem pre_facts : Cert.Pre_routing_finite.Facts where
  bcast_S_S1x1024 := by decide
  bcast_S_S1x1024x8 := by decide

/-- An entry the comparison with infinity passes is finite. -/
theorem isReal_of_bit {x : EReal} (h : BitVec.ofBool (decide (max x (-x) < Ideal.ofBits .f32 0x7F800000#32)) = 1#1) : IsReal x := by
  rw [ofBits_top] at h
  refine isReal_of_abs_lt ?_
  by_contra hn
  rw [decide_eq_false hn] at h
  exact absurd h (by decide)

/-- The precondition makes the gains and the router finite. -/
theorem routingFinite (m : (ℓ : Loc Cert.KernelIdeal.nD Cert.KernelIdeal.τ Cert.KernelIdeal.sig) → Buf (Elt Ideal) ℓ)
    (h : Cert.Pre_KernelIdeal_routing_finite (hPre_routing_finite := pre_facts) m) (c : Dev Cert.KernelIdeal.nD) : RoutingFinite m c :=
  ⟨fun k => isReal_of_bit (congrFun (h c).1 (ix2 0 k)), fun k e => isReal_of_bit (congrFun (h c).2 (ix3 0 k e))⟩

/-- The two results are one array. -/
theorem results_equal (m : (ℓ : Loc Cert.KernelIdeal.nD Cert.KernelIdeal.τ Cert.KernelIdeal.sig) → Buf (Elt Ideal) ℓ)
    (c : Dev Cert.KernelIdeal.nD) (hf : RoutingFinite m c) :
    Cert.ReferenceIdeal.Read.val_main_v166 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      = Cert.KernelIdeal.Value.G7 (F := Ideal) m c := by
  funext i
  obtain ⟨R, d, rfl⟩ : ∃ (R : Fin 16384) (d : Fin 1024), i = ix2 R d := ⟨i 0, i 1, funext fun a => by
    match a with
    | ⟨0, _⟩ => rfl
    | ⟨1, _⟩ => rfl⟩
  exact (reference_apply _ _ _ _ _ _ _ hf.1 hf.2 R d).trans (result_apply m c hf R d).symm

end Cert.Moe
-- ==== Proof.Proj.Rope.lean ====
/-
  Partial rotary positions over the extended reals: the first sixteen entries of a head turn in pairs `(d, d + 8)`.

  `turned` is the rotation as the mathematics writes it. `lanes_turned` is the kernel's way to it: a lane times a table,
  plus its two neighbours eight lanes away times two other tables, where the tables are zero where a neighbour does not
  count. Zero times anything is zero over the extended reals, so nothing need be assumed of the entries.
-/
module

public import Idealize.ShloMosaic.Lib.Pointwise
public import Idealize.ShloMosaic.Lib.ValueLayout
public import Idealize.ShloMosaic.Lib.ValueIdx
public import Idealize.ShloMosaic.Lib.Pipeline.Value
public import Idealize.ShloMosaic.PureOps.Ideal.Laws

@[expose] public section

set_option maxRecDepth 16384

noncomputable section

namespace Cert.Proj

open Idealize.ShloMosaic

/-- The angle by which position `t` turns the pair `j`: `t * theta ^ (-j / 8)`. -/
def angle (t j : ℕ) : EReal :=
  FloatOps.sitofp (F := Ideal) .f32 (BitVec.ofNat 32 t) *
    Ideal.pow (Ideal.ofBits .f32 0x48F42400#32)
      (Ideal.div (-FloatOps.sitofp (F := Ideal) .f32 (BitVec.ofNat 32 j)) (Ideal.ofBits .f32 0x41000000#32))

/-- Entry `d` of the head `h` at position `t`, turned. -/
def turned (h : ℕ → EReal) (t d : ℕ) : EReal :=
  if d < 8 then h d * Ideal.cos (angle t d) - h (d + 8) * Ideal.sin (angle t d)
  else if d < 16 then h d * Ideal.cos (angle t (d - 8)) + h (d - 8) * Ideal.sin (angle t (d - 8))
  else h d

/-- Only the head's 64 entries matter. -/
theorem turned_congr {h h' : ℕ → EReal} (hh : ∀ d, d < 64 → h d = h' d) (t : ℕ) {d : ℕ} (hd : d < 64) :
    turned h t d = turned h' t d := by
  unfold turned
  split_ifs with h1 h2
  · rw [hh d hd, hh (d + 8) (by omega)]
  · rw [hh d hd, hh (d - 8) (by omega)]
  · exact hh d hd

/-- The table that multiplies the lane itself. -/
def tableHere (t d : ℕ) : EReal :=
  if d < 8 then Ideal.cos (angle t d) else if d < 16 then Ideal.cos (angle t (d - 8)) else 1

/-- The table that multiplies the lane eight before. -/
def tableBefore (t d : ℕ) : EReal :=
  if d < 8 then 0 else if d < 16 then Ideal.sin (angle t (d - 8)) else 0

/-- The table that multiplies the lane eight after. -/
def tableAfter (t d : ℕ) : EReal :=
  if d < 8 then -Ideal.sin (angle t d) else 0

/-- Two heads in 128 lanes, turned by the tables. -/
theorem lanes_turned (h : ℕ → EReal) (o t : ℕ) (l : Fin 128) :
    h (o + l.val) * tableHere t (l.val % 64) + h (o + (l.val + 128 - 8) % 128) * tableBefore t (l.val % 64) +
      h (o + (l.val + 128 - 120) % 128) * tableAfter t (l.val % 64)
    = turned (fun d => h (o + l.val / 64 * 64 + d)) t (l.val % 64) := by
  have hl := l.isLt
  have e : o + l.val / 64 * 64 + l.val % 64 = o + l.val := by omega
  unfold tableHere tableBefore tableAfter turned
  simp only [e]
  split_ifs with h1 h2
  · have e2 : o + l.val / 64 * 64 + (l.val % 64 + 8) = o + (l.val + 128 - 120) % 128 := by omega
    rw [e2, mul_zero, add_zero, mul_neg, sub_eq_add_neg]
  · have e2 : o + l.val / 64 * 64 + (l.val % 64 - 8) = o + (l.val + 128 - 8) % 128 := by omega
    rw [e2, mul_zero, add_zero]
  · rw [mul_zero, mul_zero, add_zero, add_zero, mul_one]

/-- The rotation as the host code writes it, over `n` heads: the first sixteen entries in two halves, joined again, and
    the rest as it was. -/
theorem host_turned {n : ℕ} (X : FVec Ideal ⟨4, ![8, 2048, n, 64]⟩ .f32) (C S : FVec Ideal ⟨3, ![2048, 1, 8]⟩ .f32)
    (f16 : Shape.Slices ⟨4, ![8, 2048, n, 64]⟩ ![0, 0, 0, 0] ⟨4, ![8, 2048, n, 16]⟩)
    (f0 : Shape.Slices ⟨4, ![8, 2048, n, 16]⟩ ![0, 0, 0, 0] ⟨4, ![8, 2048, n, 8]⟩)
    (f8 : Shape.Slices ⟨4, ![8, 2048, n, 16]⟩ ![0, 0, 0, 8] ⟨4, ![8, 2048, n, 8]⟩)
    (f48 : Shape.Slices ⟨4, ![8, 2048, n, 64]⟩ ![0, 0, 0, 16] ⟨4, ![8, 2048, n, 48]⟩)
    (b1 : Shape.BroadcastsInDim ⟨3, ![2048, 1, 8]⟩ ⟨4, ![1, 2048, 1, 8]⟩ ![1, 2, 3])
    (b2 : Shape.BroadcastsInDim ⟨4, ![1, 2048, 1, 8]⟩ ⟨4, ![8, 2048, n, 8]⟩ ![0, 1, 2, 3])
    (c16 : Shape.Concatenates [⟨4, ![8, 2048, n, 8]⟩, ⟨4, ![8, 2048, n, 8]⟩] ⟨4, ![8, 2048, n, 16]⟩ 3)
    (c64 : Shape.Concatenates [⟨4, ![8, 2048, n, 16]⟩, ⟨4, ![8, 2048, n, 48]⟩] ⟨4, ![8, 2048, n, 64]⟩ 3)
    (b : Fin 8) (p : Fin 2048) (j : Fin n) (d : Fin 64) (h : ℕ → EReal) (hX : ∀ e : Fin 64, X (ix4 b p j e) = h e.val)
    (hC : ∀ e : Fin 8, C (ix3 p 0 e) = Ideal.cos (angle p.val e.val)) (hS : ∀ e : Fin 8, S (ix3 p 0 e) = Ideal.sin (angle p.val e.val)) :
    concatenate ⟨4, ![8, 2048, n, 64]⟩ 3
      [⟨⟨4, ![8, 2048, n, 16]⟩, concatenate ⟨4, ![8, 2048, n, 16]⟩ 3
        [⟨⟨4, ![8, 2048, n, 8]⟩, (subf
            (mulf (extractStridedSlice ⟨4, ![8, 2048, n, 8]⟩ ![0, 0, 0, 0] (extractStridedSlice ⟨4, ![8, 2048, n, 16]⟩ ![0, 0, 0, 0] X f16) f0)
              (broadcastInDim ⟨4, ![8, 2048, n, 8]⟩ ![0, 1, 2, 3] b2 (broadcastInDim ⟨4, ![1, 2048, 1, 8]⟩ ![1, 2, 3] b1 C)))
            (mulf (extractStridedSlice ⟨4, ![8, 2048, n, 8]⟩ ![0, 0, 0, 8] (extractStridedSlice ⟨4, ![8, 2048, n, 16]⟩ ![0, 0, 0, 0] X f16) f8)
              (broadcastInDim ⟨4, ![8, 2048, n, 8]⟩ ![0, 1, 2, 3] b2 (broadcastInDim ⟨4, ![1, 2048, 1, 8]⟩ ![1, 2, 3] b1 S)))
            : FVec Ideal ⟨4, ![8, 2048, n, 8]⟩ .f32)⟩,
         ⟨⟨4, ![8, 2048, n, 8]⟩, (addf
            (mulf (extractStridedSlice ⟨4, ![8, 2048, n, 8]⟩ ![0, 0, 0, 8] (extractStridedSlice ⟨4, ![8, 2048, n, 16]⟩ ![0, 0, 0, 0] X f16) f8)
              (broadcastInDim ⟨4, ![8, 2048, n, 8]⟩ ![0, 1, 2, 3] b2 (broadcastInDim ⟨4, ![1, 2048, 1, 8]⟩ ![1, 2, 3] b1 C)))
            (mulf (extractStridedSlice ⟨4, ![8, 2048, n, 8]⟩ ![0, 0, 0, 0] (extractStridedSlice ⟨4, ![8, 2048, n, 16]⟩ ![0, 0, 0, 0] X f16) f0)
              (broadcastInDim ⟨4, ![8, 2048, n, 8]⟩ ![0, 1, 2, 3] b2 (broadcastInDim ⟨4, ![1, 2048, 1, 8]⟩ ![1, 2, 3] b1 S)))
            : FVec Ideal ⟨4, ![8, 2048, n, 8]⟩ .f32)⟩] c16⟩,
       ⟨⟨4, ![8, 2048, n, 48]⟩, extractStridedSlice ⟨4, ![8, 2048, n, 48]⟩ ![0, 0, 0, 16] X f48⟩] c64 (ix4 b p j d)
    = turned h p.val d.val := by
  have hb : ∀ (Y : FVec Ideal ⟨3, ![2048, 1, 8]⟩ .f32) (e : Fin 8),
      broadcastInDim ⟨4, ![8, 2048, n, 8]⟩ ![0, 1, 2, 3] b2 (broadcastInDim ⟨4, ![1, 2048, 1, 8]⟩ ![1, 2, 3] b1 Y) (ix4 b p j e) = Y (ix3 p 0 e) := by
    intro Y e
    refine (broadcastInDim_apply _ _ _ _ (ix4 0 p 0 e) ?_).trans (broadcastInDim_apply _ _ _ _ (ix3 p 0 e) ?_) <;> intro a
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
  have h0 : ∀ e : Fin 8, extractStridedSlice ⟨4, ![8, 2048, n, 8]⟩ ![0, 0, 0, 0] (extractStridedSlice ⟨4, ![8, 2048, n, 16]⟩ ![0, 0, 0, 0] X f16) f0 (ix4 b p j e) = h e.val := by
    intro e
    refine ((extractStridedSlice_apply _ _ _ _ (ix4 b p j ⟨e.val, by omega⟩) ?_).trans
      (extractStridedSlice_apply _ _ _ _ (ix4 b p j ⟨e.val, by omega⟩) ?_)).trans (hX ⟨e.val, by omega⟩) <;> intro a
    all_goals
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
  have h8 : ∀ e : Fin 8, extractStridedSlice ⟨4, ![8, 2048, n, 8]⟩ ![0, 0, 0, 8] (extractStridedSlice ⟨4, ![8, 2048, n, 16]⟩ ![0, 0, 0, 0] X f16) f8 (ix4 b p j e) = h (8 + e.val) := by
    intro e
    refine ((extractStridedSlice_apply _ _ _ _ (ix4 b p j ⟨8 + e.val, by omega⟩) ?_).trans
      (extractStridedSlice_apply _ _ _ _ (ix4 b p j ⟨8 + e.val, by omega⟩) ?_)).trans (hX ⟨8 + e.val, by omega⟩) <;> intro a
    · match a with
      | ⟨0, _⟩ => exact (Nat.zero_add _).symm
      | ⟨1, _⟩ => exact (Nat.zero_add _).symm
      | ⟨2, _⟩ => exact (Nat.zero_add _).symm
      | ⟨3, _⟩ => rfl
    · match a with
      | ⟨0, _⟩ => exact (Nat.zero_add _).symm
      | ⟨1, _⟩ => exact (Nat.zero_add _).symm
      | ⟨2, _⟩ => exact (Nat.zero_add _).symm
      | ⟨3, _⟩ => exact (Nat.zero_add _).symm
  unfold turned
  split_ifs with h1 h2
  · refine (concatenate_pair_apply_left 3 _ _ c64 _ rfl (ix4 b p j ⟨d.val, by omega⟩) ?_).trans
      ((concatenate_pair_apply_left 3 _ _ c16 _ rfl (ix4 b p j ⟨d.val, h1⟩) ?_).trans ?_)
    · intro a
      match a with
      | ⟨0, _⟩ => rfl
      | ⟨1, _⟩ => rfl
      | ⟨2, _⟩ => rfl
      | ⟨3, _⟩ => rfl
    · intro a
      match a with
      | ⟨0, _⟩ => rfl
      | ⟨1, _⟩ => rfl
      | ⟨2, _⟩ => rfl
      | ⟨3, _⟩ => rfl
    · have e8 : 8 + d.val = d.val + 8 := by omega
      refine (congrArg₂ (· - ·) (congrArg₂ (· * ·) (h0 ⟨d.val, h1⟩) ((hb C ⟨d.val, h1⟩).trans (hC _)))
        (congrArg₂ (· * ·) (h8 ⟨d.val, h1⟩) ((hb S ⟨d.val, h1⟩).trans (hS _)))).trans ?_
      simp only [e8]
  · refine (concatenate_pair_apply_left 3 _ _ c64 _ rfl (ix4 b p j ⟨d.val, h2⟩) ?_).trans
      ((concatenate_pair_apply_right 3 _ _ c16 _ rfl rfl (ix4 b p j ⟨d.val - 8, by omega⟩) ?_ ?_).trans ?_)
    · intro a
      match a with
      | ⟨0, _⟩ => rfl
      | ⟨1, _⟩ => rfl
      | ⟨2, _⟩ => rfl
      | ⟨3, _⟩ => rfl
    · intro a ha
      match a, ha with
      | ⟨0, _⟩, _ => rfl
      | ⟨1, _⟩, _ => rfl
      | ⟨2, _⟩, _ => rfl
      | ⟨3, _⟩, ha => exact absurd rfl ha
    · show d.val - 8 + 8 = d.val
      omega
    · have e8 : 8 + (d.val - 8) = d.val := by omega
      refine (congrArg₂ (· + ·) (congrArg₂ (· * ·) (h8 ⟨d.val - 8, by omega⟩) ((hb C ⟨d.val - 8, by omega⟩).trans (hC _)))
        (congrArg₂ (· * ·) (h0 ⟨d.val - 8, by omega⟩) ((hb S ⟨d.val - 8, by omega⟩).trans (hS _)))).trans ?_
      simp only [e8]
  · refine (concatenate_pair_apply_right 3 _ _ c64 _ rfl rfl (ix4 b p j ⟨d.val - 16, by omega⟩) ?_ ?_).trans
      ((extractStridedSlice_apply _ _ _ _ (ix4 b p j d) ?_).trans (hX d))
    · intro a ha
      match a, ha with
      | ⟨0, _⟩, _ => rfl
      | ⟨1, _⟩, _ => rfl
      | ⟨2, _⟩, _ => rfl
      | ⟨3, _⟩, ha => exact absurd rfl ha
    · show d.val - 16 + 16 = d.val
      omega
    · intro a
      match a with
      | ⟨0, _⟩ => exact (Nat.zero_add _).symm
      | ⟨1, _⟩ => exact (Nat.zero_add _).symm
      | ⟨2, _⟩ => exact (Nat.zero_add _).symm
      | ⟨3, _⟩ =>
        show d.val = 16 + (d.val - 16)
        omega

end Cert.Proj
-- ==== Proof.Proj.Spec.lean ====
/-
  The even layer's projection, entry by entry: what the call and its reference both compute.
-/
module

public import proofs.«01_k».proof.Proof.Moe.Mix
public import proofs.«01_k».proof.Proof.Proj.Rope

@[expose] public section

set_option maxRecDepth 16384

noncomputable section

namespace Cert.Proj

open Idealize.ShloMosaic

/-- The batch of a row of the flattened prompt. -/
def batchOf (R : Fin 16384) : Fin 8 := ⟨R.val / 2048, by omega⟩

/-- The position of a row of the flattened prompt. -/
def posOf (R : Fin 16384) : Fin 2048 := ⟨R.val % 2048, Nat.mod_lt _ (by norm_num)⟩

variable (x : FVec Ideal ⟨3, ![8, 2048, 1024]⟩ .f32) (g : FVec Ideal ⟨2, ![1, 1024]⟩ .f32) (w : FVec Ideal ⟨3, ![1, 1024, 2628]⟩ .f32)

/-- The normed row. -/
def normed (R : Fin 16384) (k : Fin 1024) : EReal :=
  Moe.normRow (fun k => x (ix3 (batchOf R) (posOf R) k)) (fun k => g (ix2 0 k)) k

/-- Column `c` of the weights, zero past the last. -/
def col (c : ℕ) (k : Fin 1024) : EReal := if h : c < 2628 then w (ix3 0 k ⟨c, h⟩) else 0

/-- Entry `c` of the projected row. -/
def entry (R : Fin 16384) (c : ℕ) : EReal := ∑ k, normed x g R k * col w c k

/-- Heads of 64 from column `o` on, turned by the row's position. -/
def heads (o : ℕ) (R : Fin 16384) (d : ℕ) : EReal :=
  turned (fun e => entry x g w R (o + d / 64 * 64 + e)) (posOf R).val (d % 64)

/-- The index key, the index weights, and zeros to fill the lanes. -/
def keyAndWeights (R : Fin 16384) (d : ℕ) : EReal :=
  if d < 64 then heads x g w 1024 R d else if d < 68 then entry x g w R (1024 + d) else 0

/-- The product of the last two parts. -/
def product (R : Fin 16384) (d : ℕ) : EReal := entry x g w R (1604 + d) * entry x g w R (2116 + d)

end Cert.Proj
-- ==== Proof.Proj.KernelBlock.lean ====
/-
  The arithmetic of one point of the projection's region, at a row and a lane: every part of the projected row that is
  turned is one chunk of 128 lanes times three tables, the others are slices.
-/
module

public import proofs.«01_k».proof.Proof.Gen.Kernel2Ideal.Value
public import proofs.«01_k».proof.Proof.Proj.Spec
public import proofs.«01_k».proof.Proof.Moe.KernelBlock
public import Idealize.ShloMosaic.Lib.Pointwise

@[expose] public section

set_option maxRecDepth 16384

noncomputable section

namespace Cert.Proj

open Cert.Kernel2Ideal Cert.Kernel2Ideal.Gen Cert.Kernel2Ideal.Value
open Idealize.ShloMosaic Idealize.ShloMosaic.TcCoe Idealize.SL.Sem

open Cert.Moe (normRow zero2)

/-- The projected row. -/
theorem pay1_apply (x : Vec Ideal S512x1024 .f32) (g : Vec Ideal S1x1024 .f32) (w : Vec Ideal S1024x2688 .bf16) (r : Fin 512) (c : Fin 2688) :
    k0_pay1 x g w (ix2 r c) = ∑ k, normRow (fun k => x (ix2 r k)) (fun k => g (ix2 0 k)) k * w (ix2 k c) := by
  pointwise [k0_pay1]
  rfl

theorem pay2_eq (a : Vec Ideal S512x128 .f32) : k0_pay2 a = a := funext fun i => by
  unfold k0_pay2; exact congrFun (shapeCast_self a _) i

theorem pay3_eq (a : Vec Ideal S512x128 .f32) : k0_pay3 a = a := funext fun i => by
  unfold k0_pay3; exact congrFun (shapeCast_self a _) i

theorem pay4_eq (a : Vec Ideal S512x128 .f32) : k0_pay4 a = a := funext fun i => by
  unfold k0_pay4; exact congrFun (shapeCast_self a _) i

/-- A row `h` of the projected block at position `t`, with the tables' rows of that position. -/
structure Turning (H : FVec Ideal S512x2688 .f32) (a b d : FVec Ideal S512x128 .f32) (r : Fin 512) (h : ℕ → EReal) (t : ℕ) : Prop where
  /-- The projected row. -/
  row : ∀ c : Fin 2688, H (ix2 r c) = h c.val
  /-- The first table's row. -/
  here : ∀ l : Fin 128, a (ix2 r l) = tableHere t (l.val % 64)
  /-- The second table's row. -/
  before : ∀ l : Fin 128, b (ix2 r l) = tableBefore t (l.val % 64)
  /-- The third table's row. -/
  after : ∀ l : Fin 128, d (ix2 r l) = tableAfter t (l.val % 64)

variable {H : FVec Ideal S512x2688 .f32} {a b d : FVec Ideal S512x128 .f32} {r : Fin 512} {h : ℕ → EReal} {t : ℕ}

/-- A chunk of 128 lanes from column `o` on, times the tables, is the heads turned. -/
theorem Turning.chunk (T : Turning H a b d r h t) (o : ℕ) (ho : o + 128 ≤ 2688) (l : Fin 128) :
    H (ix2 r ⟨o + l.val, by omega⟩) * a (ix2 r l) + H (ix2 r ⟨o + (l.val + 128 - 8) % 128, by omega⟩) * b (ix2 r l)
      + H (ix2 r ⟨o + (l.val + 128 - 120) % 128, by omega⟩) * d (ix2 r l)
    = turned (fun e => h (o + l.val / 64 * 64 + e)) t (l.val % 64) := by
  rw [T.row, T.row, T.row, T.here, T.before, T.after]
  exact lanes_turned h o t l

theorem Turning.pay9 (T : Turning H a b d r h t) (l : Fin 128) :
    k0_pay9 H a b d (ix2 r l) = turned (fun e => h (256 + l.val / 64 * 64 + e)) t (l.val % 64) := by
  refine Eq.trans ?_ (T.chunk 256 (by norm_num) l)
  pointwise [k0_pay9]

theorem Turning.pay10 (T : Turning H a b d r h t) (l : Fin 128) :
    k0_pay10 H a b d (ix2 r l) = turned (fun e => h (384 + l.val / 64 * 64 + e)) t (l.val % 64) := by
  refine Eq.trans ?_ (T.chunk 384 (by norm_num) l)
  pointwise [k0_pay10]

theorem Turning.pay11 (T : Turning H a b d r h t) (l : Fin 128) :
    k0_pay11 H a b d (ix2 r l) = turned (fun e => h (512 + l.val / 64 * 64 + e)) t (l.val % 64) := by
  refine Eq.trans ?_ (T.chunk 512 (by norm_num) l)
  pointwise [k0_pay11]

theorem Turning.pay13 (T : Turning H a b d r h t) (l : Fin 128) :
    k0_pay13 H a b d (ix2 r l) = turned (fun e => h (768 + l.val / 64 * 64 + e)) t (l.val % 64) := by
  refine Eq.trans ?_ (T.chunk 768 (by norm_num) l)
  pointwise [k0_pay13]

theorem Turning.pay14 (T : Turning H a b d r h t) (l : Fin 128) :
    k0_pay14 H a b d (ix2 r l) = turned (fun e => h (896 + l.val / 64 * 64 + e)) t (l.val % 64) := by
  refine Eq.trans ?_ (T.chunk 896 (by norm_num) l)
  pointwise [k0_pay14]

/-- The comparison of a lane with 64. -/
theorem lane_lt (l : Fin 128) : IntOp.cmpi .slt (BitVec.ofNat 32 l.val) 64#32 = if l.val < 64 then 1#1 else 0#1 := by
  revert l; decide +kernel

theorem Turning.pay15 (T : Turning H a b d r h t) (l : Fin 128) :
    k0_pay15 H a b d (ix2 r l) = if l.val < 64 then turned (fun e => h (1024 + l.val / 64 * 64 + e)) t (l.val % 64) else h (1024 + l.val) := by
  have e : k0_pay15 H a b d (ix2 r l) = Scalar.select (IntOp.cmpi .slt (BitVec.ofNat 32 l.val) 64#32)
      (H (ix2 r ⟨1024 + l.val, by omega⟩) * a (ix2 r l) + H (ix2 r ⟨1024 + (l.val + 128 - 8) % 128, by omega⟩) * b (ix2 r l)
        + H (ix2 r ⟨1024 + (l.val + 128 - 120) % 128, by omega⟩) * d (ix2 r l)) (H (ix2 r ⟨1024 + l.val, by omega⟩)) := by
    pointwise [k0_pay15]
  rw [e, T.chunk 1024 (by norm_num) l, T.row, lane_lt]
  split_ifs <;> rfl

theorem Turning.pay12 (T : Turning H a b d r h t) (l : Fin 128) : k0_pay12 H (ix2 r l) = h (640 + l.val) := by
  refine Eq.trans ?_ (T.row ⟨640 + l.val, by omega⟩)
  pointwise [k0_pay12]

theorem Turning.pay16 (T : Turning H a b d r h t) (l : Fin 512) : k0_pay16 H (ix2 r l) = h (1152 + l.val) := by
  refine Eq.trans ?_ (T.row ⟨1152 + l.val, by omega⟩)
  pointwise [k0_pay16]

theorem Turning.pay17 (T : Turning H a b d r h t) (l : Fin 512) : k0_pay17 H (ix2 r l) = h (1664 + l.val) * h (2176 + l.val) := by
  refine Eq.trans ?_ (congrArg₂ (· * ·) (T.row ⟨1664 + l.val, by omega⟩) (T.row ⟨2176 + l.val, by omega⟩))
  pointwise [k0_pay17]

variable {x : Vec Ideal S512x1024 .f32} {g : Vec Ideal S1x1024 .f32} {w : Vec Ideal S1024x2688 .bf16}

theorem Turning.pay5 (T : Turning (k0_pay1 x g w) a b d r h t) (l : Fin 128) :
    k0_pay5 x g w a b d (ix2 r l) = turned (fun e => h (0 + l.val / 64 * 64 + e)) t (l.val % 64) := by
  refine Eq.trans ?_ (T.chunk 0 (by norm_num) l)
  unfold k0_pay5
  rw [pay2_eq, pay3_eq, pay4_eq]
  generalize k0_pay1 x g w = H
  pointwise

theorem Turning.pay8 (T : Turning (k0_pay1 x g w) a b d r h t) (l : Fin 128) :
    k0_pay8 b d (k0_pay6 x g w) (k0_pay7 x g w a) (ix2 r l) = turned (fun e => h (128 + l.val / 64 * 64 + e)) t (l.val % 64) := by
  refine Eq.trans ?_ (T.chunk 128 (by norm_num) l)
  unfold k0_pay7 k0_pay6
  rw [pay2_eq]
  generalize k0_pay1 x g w = H
  pointwise [k0_pay8]

end Cert.Proj
-- ==== Proof.Proj.KernelOut.lean ====
/-
  The blocks a point of the projection's region writes, at a row and a lane, from the row of the projection and the
  tables' rows of its position.
-/
module

public import proofs.«01_k».proof.Proof.Proj.KernelBlock

@[expose] public section

set_option maxRecDepth 16384

noncomputable section

namespace Cert.Proj

open Cert.Kernel2Ideal Cert.Kernel2Ideal.Gen Cert.Kernel2Ideal.Value
open Idealize.ShloMosaic Idealize.ShloMosaic.TcCoe Idealize.SL.Sem

open Cert.Moe (zero2)

variable {x : Vec Ideal S512x1024 .f32} {g : Vec Ideal S1x1024 .f32} {w : Vec Ideal S1024x2688 .bf16}
variable {a b d : Vec Ideal S512x128 .f32} {r : Fin 512} {h : ℕ → EReal} {t : ℕ}

theorem pay18_eq : k0_pay18 x g w a b d = k0_pay1 x g w := by
  unfold k0_pay18
  rw [View.ld_unit_zero (S := S512x1024) zero2, View.ld_unit_zero (S := S1x1024) zero2, View.ld_unit_zero (S := S1024x2688) zero2]

theorem pay19_eq : k0_pay19 x g w a b d = a := by
  unfold k0_pay19
  rw [View.ld_unit_zero (S := S512x128) zero2, pay2_eq]

theorem pay20_eq : k0_pay20 x g w a b d = b := by
  unfold k0_pay20
  rw [View.ld_unit_zero (S := S512x128) zero2, pay3_eq]

theorem pay21_eq : k0_pay21 x g w a b d = d := by
  unfold k0_pay21
  rw [View.ld_unit_zero (S := S512x128) zero2, pay4_eq]

/-- An index of the plane at a point of it. -/
theorem eq_ix2 {p q : ℕ} (i : (⟨2, ![p, q]⟩ : Shape).Idx) : i = ix2 (i 0) (i 1) :=
  funext fun a => by match a with | ⟨0, _⟩ => rfl | ⟨1, _⟩ => rfl

/-- A chunk of 128 lanes at a multiple of 128 of heads from `o` on. -/
theorem chunk_shift (h : ℕ → EReal) (t o n : ℕ) (l : ℕ) :
    turned (fun e => h (o + 128 * n + l / 64 * 64 + e)) t (l % 64)
      = turned (fun e => h (o + (128 * n + l) / 64 * 64 + e)) t ((128 * n + l) % 64) := by
  have e1 : (128 * n + l) / 64 * 64 = 128 * n + l / 64 * 64 := by omega
  have e2 : (128 * n + l) % 64 = l % 64 := by omega
  rw [e1, e2]
  simp only [Nat.add_assoc]

variable {hs : Fin 512 → ℕ → EReal} {ts : Fin 512 → ℕ}

theorem out6_apply (T : ∀ r, Turning (k0_pay1 x g w) a b d r (hs r) (ts r)) (r : Fin 512) (l : Fin 512) :
    out0_6 x g w a b d (ix2 r l) = turned (fun e => hs r (0 + l.val / 64 * 64 + e)) (ts r) (l.val % 64) := by
  unfold out0_6
  rw [pay18_eq, pay19_eq, pay20_eq, pay21_eq, View.ld_unit_zero (S := S512x1024) zero2, View.ld_unit_zero (S := S1x1024) zero2,
    View.ld_unit_zero (S := S1024x2688) zero2, View.ld_unit_zero (S := S512x128) zero2, View.ld_unit_zero (S := S512x128) zero2,
    View.ld_unit_zero (S := S512x128) zero2]
  refine View.canon_apply_of_pieces (Val := Elt Ideal) (fun i : S512x512.Idx => turned (fun e => hs (i 0) (0 + (i 1).val / 64 * 64 + e)) (ts (i 0)) ((i 1).val % 64))
    _ (fun p hp j => ?_) (ix2 r l) (cover0_6 _ _ _ _ _)
  simp only [List.mem_cons, List.mem_nil_iff, or_false] at hp
  have fit : ∀ (i : S512x512.Idx) (q : Fin 512) (n : ℕ) (k : Fin 128), (i 0).val = 0 + 1 * q.val → (i 1).val = 128 * n + 1 * k.val →
      turned (fun e => hs q (0 + 128 * n + k.val / 64 * 64 + e)) (ts q) (k.val % 64)
        = turned (fun e => hs (i 0) (0 + (i 1).val / 64 * 64 + e)) (ts (i 0)) ((i 1).val % 64) := by
    intro i q n k h0 h1
    have e0 : i 0 = q := Fin.ext (by rw [h0]; omega)
    rw [chunk_shift, e0, show (i 1).val = 128 * n + k.val by omega]
  rcases hp with rfl | rfl | rfl | rfl
  · refine (congrArg _ (eq_ix2 j)).trans (((T (j 0)).pay10 (j 1)).trans (fit _ (j 0) 3 (j 1) rfl rfl))
  · refine (congrArg _ (eq_ix2 j)).trans (((T (j 0)).pay9 (j 1)).trans (fit _ (j 0) 2 (j 1) rfl rfl))
  · refine (congrArg _ (eq_ix2 j)).trans (((T (j 0)).pay8 (j 1)).trans (fit _ (j 0) 1 (j 1) rfl rfl))
  · refine (congrArg _ (eq_ix2 j)).trans (((T (j 0)).pay5 (j 1)).trans (fit _ (j 0) 0 (j 1) rfl rfl))

theorem out9_apply (T : ∀ r, Turning (k0_pay1 x g w) a b d r (hs r) (ts r)) (r : Fin 512) (l : Fin 256) :
    out0_9 x g w a b d (ix2 r l) = turned (fun e => hs r (768 + l.val / 64 * 64 + e)) (ts r) (l.val % 64) := by
  unfold out0_9
  rw [pay18_eq, pay19_eq, pay20_eq, pay21_eq]
  refine View.canon_apply_of_pieces (Val := Elt Ideal) (fun i : S512x256.Idx => turned (fun e => hs (i 0) (768 + (i 1).val / 64 * 64 + e)) (ts (i 0)) ((i 1).val % 64))
    _ (fun p hp j => ?_) (ix2 r l) (cover0_9 _ _ _)
  simp only [List.mem_cons, List.mem_nil_iff, or_false] at hp
  have fit : ∀ (i : S512x256.Idx) (q : Fin 512) (n : ℕ) (k : Fin 128), (i 0).val = 0 + 1 * q.val → (i 1).val = 128 * n + 1 * k.val →
      turned (fun e => hs q (768 + 128 * n + k.val / 64 * 64 + e)) (ts q) (k.val % 64)
        = turned (fun e => hs (i 0) (768 + (i 1).val / 64 * 64 + e)) (ts (i 0)) ((i 1).val % 64) := by
    intro i q n k h0 h1
    have e0 : i 0 = q := Fin.ext (by rw [h0]; omega)
    rw [chunk_shift, e0, show (i 1).val = 128 * n + k.val by omega]
  rcases hp with rfl | rfl
  · refine (congrArg _ (eq_ix2 j)).trans (((T (j 0)).pay14 (j 1)).trans (fit _ (j 0) 1 (j 1) rfl rfl))
  · refine (congrArg _ (eq_ix2 j)).trans (((T (j 0)).pay13 (j 1)).trans (fit _ (j 0) 0 (j 1) rfl rfl))

theorem out7_apply (T : Turning (k0_pay1 x g w) a b d r h t) (l : Fin 128) :
    out0_7 x g w a b d (ix2 r l) = turned (fun e => h (512 + l.val / 64 * 64 + e)) t (l.val % 64) := by
  unfold out0_7
  rw [pay18_eq, pay19_eq, pay20_eq, pay21_eq, View.canon_unit_zero (S := S512x128) zero2]
  exact T.pay11 l

theorem out8_apply (T : Turning (k0_pay1 x g w) a b d r h t) (l : Fin 128) :
    out0_8 x g w a b d (ix2 r l) = h (640 + l.val) := by
  unfold out0_8
  rw [pay18_eq, View.canon_unit_zero (S := S512x128) zero2]
  exact T.pay12 l

theorem out10_apply (T : Turning (k0_pay1 x g w) a b d r h t) (l : Fin 128) :
    out0_10 x g w a b d (ix2 r l)
      = if l.val < 64 then turned (fun e => h (1024 + l.val / 64 * 64 + e)) t (l.val % 64) else h (1024 + l.val) := by
  unfold out0_10
  rw [pay18_eq, pay19_eq, pay20_eq, pay21_eq, View.canon_unit_zero (S := S512x128) zero2]
  exact T.pay15 l

theorem out11_apply (T : Turning (k0_pay1 x g w) a b d r h t) (l : Fin 512) :
    out0_11 x g w a b d (ix2 r l) = h (1152 + l.val) := by
  unfold out0_11
  rw [pay18_eq, View.canon_unit_zero (S := S512x512) zero2]
  exact T.pay16 l

theorem out12_apply (T : Turning (k0_pay1 x g w) a b d r h t) (l : Fin 512) :
    out0_12 x g w a b d (ix2 r l) = h (1664 + l.val) * h (2176 + l.val) := by
  unfold out0_12
  rw [pay18_eq, View.canon_unit_zero (S := S512x512) zero2]
  exact T.pay17 l

end Cert.Proj
-- ==== Proof.Proj.Tables.lean ====
/-
  What the host code prepares for the projection: the weights with zero columns between the index weights and the
  convolution's parts, and the three tables of the rotation, each row of them twice over 128 lanes.
-/
module

public import proofs.«01_k».proof.Proof.Gen.Kernel2Ideal.Value
public import proofs.«01_k».proof.Proof.Proj.Spec
public import Idealize.ShloMosaic.Lib.StableHlo.Run

@[expose] public section

set_option maxRecDepth 16384

noncomputable section

namespace Cert.Proj

open Cert.Kernel2Ideal Cert.Kernel2Ideal.Gen Cert.Kernel2Ideal.Value
open Idealize.ShloMosaic Idealize.ShloMosaic.TcCoe Idealize.SL.Sem

/-- The angles, as the host code computes them. -/
def angles : FVec Ideal S2048x8 .f32 :=
  mulf (broadcastInDim S2048x8 ![0, 1] bcast_S2048x1_S2048x8_0_1 (broadcastInDim S2048x1 ![0] bcast_S2048_S2048x1_0
      (sitofp .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))

theorem angles_apply (t : Fin 2048) (j : Fin 8) : angles (ix2 t j) = angle t.val j.val := by
  pointwise [angles]
  rfl

/-- Eight zeros a row. -/
def zeros8 : FVec Ideal S2048x8 .f32 := broadcastInDim S2048x8 ![] bcast_S_S2048x8 (constant S_ .f32 0x00000000#32)

/-- Forty-eight zeros a row. -/
def zeros48 : FVec Ideal S2048x48 .f32 := broadcastInDim S2048x48 ![] bcast_S_S2048x48 (constant S_ .f32 0x00000000#32)

/-- Forty-eight ones a row, as a sum with zero. -/
def ones48 : FVec Ideal S2048x48 .f32 := addf zeros48 (broadcastInDim S2048x48 ![] bcast_S_S2048x48 (constant S_ .f32 0x3F800000#32))

theorem zeros8_apply (i : S2048x8.Idx) : zeros8 i = 0 := by
  rw [show i = ix2 (i 0) (i 1) from funext fun a => by match a with | ⟨0, _⟩ => rfl | ⟨1, _⟩ => rfl]
  pointwise [zeros8]

theorem zeros48_apply (i : S2048x48.Idx) : zeros48 i = 0 := by
  rw [show i = ix2 (i 0) (i 1) from funext fun a => by match a with | ⟨0, _⟩ => rfl | ⟨1, _⟩ => rfl]
  pointwise [zeros48]

theorem ones48_apply (i : S2048x48.Idx) : ones48 i = 1 := by
  refine (congrArg (· + _) (zeros48_apply i)).trans ((zero_add _).trans ?_)
  show Ideal.ofBits .f32 0x3F800000#32 = 1
  simp [Ideal.ofBits, Ideal.ieee, -EReal.coe_mul]
  try norm_num

/-- Three parts of a table's row joined. -/
abbrev table (a b : FVec Ideal S2048x8 .f32) (e : FVec Ideal S2048x48 .f32) : FVec Ideal S2048x64 .f32 :=
  concatenate S2048x64 1 [⟨S2048x8, a⟩, ⟨S2048x8, b⟩, ⟨S2048x48, e⟩] concatenates_S2048x8_S2048x8_S2048x48_S2048x64_d1

theorem table_apply (a b : FVec Ideal S2048x8 .f32) (e : FVec Ideal S2048x48 .f32) (t : Fin 2048) (d : Fin 64) :
    table a b e (ix2 t d) = if h : d.val < 8 then a (ix2 t ⟨d.val, h⟩) else if h' : d.val < 16 then b (ix2 t ⟨d.val - 8, by omega⟩)
      else e (ix2 t ⟨d.val - 16, by omega⟩) := by
  have hd := d.isLt
  split_ifs with h1 h2
  · refine concatenate_apply_piece 1 [⟨S2048x8, a⟩, ⟨S2048x8, b⟩, ⟨S2048x48, e⟩] concatenates_S2048x8_S2048x8_S2048x48_S2048x64_d1
      (ix2 t d) 0 (by show 0 < 3; decide) S2048x8 a rfl rfl 0 rfl (ix2 t ⟨d.val, h1⟩) ?_ ?_
    · intro q hq
      match q, hq with
      | ⟨0, _⟩, _ => rfl
      | ⟨1, _⟩, hq => exact absurd rfl hq
    · exact Nat.zero_add _
  · refine concatenate_apply_piece 1 [⟨S2048x8, a⟩, ⟨S2048x8, b⟩, ⟨S2048x48, e⟩] concatenates_S2048x8_S2048x8_S2048x48_S2048x64_d1
      (ix2 t d) 1 (by show 1 < 3; decide) S2048x8 b rfl rfl 8 rfl (ix2 t ⟨d.val - 8, by omega⟩) ?_ ?_
    · intro q hq
      match q, hq with
      | ⟨0, _⟩, _ => rfl
      | ⟨1, _⟩, hq => exact absurd rfl hq
    · show 8 + (d.val - 8) = d.val
      omega
  · refine concatenate_apply_piece 1 [⟨S2048x8, a⟩, ⟨S2048x8, b⟩, ⟨S2048x48, e⟩] concatenates_S2048x8_S2048x8_S2048x48_S2048x64_d1
      (ix2 t d) 2 (by show 2 < 3; decide) S2048x48 e rfl rfl 16 rfl (ix2 t ⟨d.val - 16, by omega⟩) ?_ ?_
    · intro q hq
      match q, hq with
      | ⟨0, _⟩, _ => rfl
      | ⟨1, _⟩, hq => exact absurd rfl hq
    · show 16 + (d.val - 16) = d.val
      omega

/-- A table's row twice over 128 lanes. -/
abbrev twice (y : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 y shapeCasts_S2048x64_S1x2048x1x64)) shapeCasts_S1x2048x2x64_S2048x128

theorem twice_apply (y : FVec Ideal S2048x64 .f32) (t : Fin 2048) (l : Fin 128) :
    twice y (ix2 t l) = y (ix2 t ⟨l.val % 64, Nat.mod_lt _ (by norm_num)⟩) := by
  refine (shapeCast_apply _ shapeCasts_S1x2048x2x64_S2048x128 _ (ix4 0 t ⟨l.val / 64, by omega⟩ ⟨l.val % 64, Nat.mod_lt _ (by norm_num)⟩) ?_).trans
    ((broadcastInDim_apply _ bcast_S1x2048x1x64_S1x2048x2x64_0_1_2_3 _ _ (ix4 0 t 0 ⟨l.val % 64, Nat.mod_lt _ (by norm_num)⟩) ?_).trans
      (shapeCast_apply _ shapeCasts_S2048x64_S1x2048x1x64 _ (ix2 t ⟨l.val % 64, Nat.mod_lt _ (by norm_num)⟩) ?_))
  · rewrite [Shape.rowMajor_val_four, Shape.rowMajor_val_two]
    show ((0 * 2048 + t.val) * 2 + l.val / 64) * 64 + l.val % 64 = t.val * 128 + l.val
    omega
  · intro a
    match a with
    | ⟨0, _⟩ => rfl
    | ⟨1, _⟩ => rfl
    | ⟨2, _⟩ => rfl
    | ⟨3, _⟩ => rfl
  · rewrite [Shape.rowMajor_val_four, Shape.rowMajor_val_two]
    show t.val * 64 + l.val % 64 = ((0 * 2048 + t.val) * 1 + 0) * 64 + l.val % 64
    omega

variable (m : (ℓ : Loc nD τ sig) → Buf (Elt Ideal) ℓ) (c : Dev nD)

/-- The first table, as the region reads it. -/
theorem here_eq : V m c main_v35 = twice (table (Host.cos angles) (Host.cos angles) ones48) := by
  show StableHlo.after hostOps0 (fun b => m (c, b)) main_v35 = _
  after_results
  rfl

/-- The second table. -/
theorem before_eq : V m c main_v38 = twice (table zeros8 (Host.sin angles) zeros48) := by
  show StableHlo.after hostOps0 (fun b => m (c, b)) main_v38 = _
  after_results
  rfl

/-- The third table. -/
theorem after_eq : V m c main_v41 = twice (table (Host.negf (Host.sin angles)) zeros8 zeros48) := by
  show StableHlo.after hostOps0 (fun b => m (c, b)) main_v41 = _
  after_results
  rfl

theorem here_apply (t : Fin 2048) (l : Fin 128) : V m c main_v35 (ix2 t l) = tableHere t.val (l.val % 64) := by
  refine (congrFun (here_eq m c) (ix2 t l)).trans ((twice_apply _ t l).trans ((table_apply _ _ _ t _).trans ?_))
  unfold tableHere
  show (if h : l.val % 64 < 8 then _ else if h' : l.val % 64 < 16 then _ else _) = _
  split_ifs with h1 h2
  · exact congrArg Ideal.cos (angles_apply t _)
  · exact congrArg Ideal.cos (angles_apply t _)
  · exact ones48_apply _

theorem before_apply (t : Fin 2048) (l : Fin 128) : V m c main_v38 (ix2 t l) = tableBefore t.val (l.val % 64) := by
  refine (congrFun (before_eq m c) (ix2 t l)).trans ((twice_apply _ t l).trans ((table_apply _ _ _ t _).trans ?_))
  unfold tableBefore
  show (if h : l.val % 64 < 8 then _ else if h' : l.val % 64 < 16 then _ else _) = _
  split_ifs with h1 h2
  · exact zeros8_apply _
  · exact congrArg Ideal.sin (angles_apply t _)
  · exact zeros48_apply _

theorem after_apply (t : Fin 2048) (l : Fin 128) : V m c main_v41 (ix2 t l) = tableAfter t.val (l.val % 64) := by
  refine (congrFun (after_eq m c) (ix2 t l)).trans ((twice_apply _ t l).trans ((table_apply _ _ _ t _).trans ?_))
  unfold tableAfter
  show (if h : l.val % 64 < 8 then _ else if h' : l.val % 64 < 16 then _ else _) = _
  split_ifs with h1 h2
  · exact congrArg (fun z => -Ideal.sin z) (angles_apply t _)
  · exact zeros8_apply _
  · exact zeros48_apply _

/-- The parts of the weights with a gap of zero columns, from the matrix of the weights. -/
abbrev gapParts (y : FVec Ideal S1024x2628 .f32) : List ((s : Shape) × (s.Idx → EReal)) :=
  [⟨S1024x1024, extractStridedSlice S1024x1024 ![0, 0] y slices_S1024x2628_S1024x1024_0_0⟩,
   ⟨S1024x68, extractStridedSlice S1024x68 ![0, 1024] y slices_S1024x2628_S1024x68_0_1024⟩,
   ⟨S1024x60, broadcastInDim S1024x60 ![] bcast_S_S1024x60 (constant S_ .f32 0x00000000#32 : FVec Ideal S_ .f32)⟩,
   ⟨S1024x1536, extractStridedSlice S1024x1536 ![0, 1092] y slices_S1024x2628_S1024x1536_0_1092⟩]

/-- The weights with a gap of zero columns. -/
abbrev gapped (y : FVec Ideal S1024x2628 .f32) : FVec Ideal S1024x2688 .f32 :=
  concatenate S1024x2688 1 (gapParts y) concatenates_S1024x1024_S1024x68_S1024x60_S1024x1536_S1024x2688_d1

/-- The weights, as the region reads them. -/
theorem weights_eq : V m c main_v6 = (truncf .bf16 (gapped (shapeCast S1024x2628 (m ((c : Thread nD τ).loc main_arg2)) shapeCasts_S1x1024x2628_S1024x2628)) bitsLt_bf16_f32
    : FVec Ideal S1024x2688 .bf16) := by
  show StableHlo.after hostOps0 (fun b => m (c, b)) main_v6 = _
  after_results
  rfl

/-- The rows, as the region reads them. -/
theorem rows_eq : V m c main_v7 = (shapeCast S16384x1024 (m ((c : Thread nD τ).loc main_arg0)) shapeCasts_S8x2048x1024_S16384x1024 : FVec Ideal S16384x1024 .f32) := by
  show StableHlo.after hostOps0 (fun b => m (c, b)) main_v7 = _
  after_results
  rfl

/-- The gains, as the region reads them. -/
theorem gains_eq : V m c main_v9 = (shapeCast S1x1024 (shapeCast S1024 (m ((c : Thread nD τ).loc main_arg1)) shapeCasts_S1x1024_S1024) shapeCasts_S1024_S1x1024 : FVec Ideal S1x1024 .f32) := by
  show StableHlo.after hostOps0 (fun b => m (c, b)) main_v9 = _
  after_results
  rfl

end Cert.Proj
-- ==== Proof.Proj.Blocks.lean ====
/-
  The blocks a point of the projection's region reads, at their coordinates: 512 rows of the prompt, the gains, the
  weights with their gap, and the tables' rows of the positions.
-/
module

public import proofs.«01_k».proof.Proof.Proj.Tables
public import Idealize.ShloMosaic.Lib.Pointwise
public import Idealize.ShloMosaic.Lib.ValueLayout

@[expose] public section

set_option maxRecDepth 16384

noncomputable section

namespace Cert.Proj

open Cert.Kernel2Ideal Cert.Kernel2Ideal.Gen Cert.Kernel2Ideal.Value
open Idealize.ShloMosaic Idealize.ShloMosaic.TcCoe Idealize.SL.Sem
open Idealize.ShloMosaic.Pipeline (Dat)

/-- Column `c` of the weights with their gap. -/
def gapCol (w : FVec Ideal ⟨3, ![1, 1024, 2628]⟩ .f32) (c : ℕ) (k : Fin 1024) : EReal :=
  if c < 1092 then col w c k else if c < 1152 then 0 else col w (c - 60) k

/-- The weights with their gap, at a row and a column. -/
theorem gapped_apply (w : FVec Ideal S1x1024x2628 .f32) (y : FVec Ideal S1024x2628 .f32)
    (hy : ∀ (k : Fin 1024) (c : Fin 2628), y (ix2 k c) = w (ix3 0 k c)) (k : Fin 1024) (c : Fin 2688) :
    gapped y (ix2 k c) = gapCol w c.val k := by
  have hc := c.isLt
  have hcol : ∀ (j : ℕ) (hj : j < 2628), y (ix2 k ⟨j, hj⟩) = col w j k := fun j hj =>
    (hy k ⟨j, hj⟩).trans (by unfold col; rw [dif_pos hj])
  unfold gapCol
  by_cases h1 : c.val < 1024
  · rw [if_pos (by omega)]
    refine Eq.trans (concatenate_apply_piece 1 (gapParts y) concatenates_S1024x1024_S1024x68_S1024x60_S1024x1536_S1024x2688_d1
      (ix2 k c) 0 (by show 0 < 4; decide) S1024x1024 _ rfl rfl 0 rfl (ix2 k ⟨c.val, h1⟩) ?_ ?_) ?_
    · intro q hq
      match q, hq with
      | ⟨0, _⟩, _ => rfl
      | ⟨1, _⟩, hq => exact absurd rfl hq
    · exact Nat.zero_add _
    · refine (extractStridedSlice_apply _ _ _ _ (ix2 k ⟨c.val, by omega⟩) (fun a => match a with
        | ⟨0, _⟩ => (Nat.zero_add _).symm
        | ⟨1, _⟩ => (Nat.zero_add _).symm)).trans (hcol _ _)
  · by_cases h2 : c.val < 1092
    · rw [if_pos h2]
      refine Eq.trans (concatenate_apply_piece 1 (gapParts y) concatenates_S1024x1024_S1024x68_S1024x60_S1024x1536_S1024x2688_d1
        (ix2 k c) 1 (by show 1 < 4; decide) S1024x68 _ rfl rfl 1024 rfl (ix2 k ⟨c.val - 1024, by omega⟩) ?_ ?_) ?_
      · intro q hq
        match q, hq with
        | ⟨0, _⟩, _ => rfl
        | ⟨1, _⟩, hq => exact absurd rfl hq
      · show 1024 + (c.val - 1024) = c.val
        omega
      · refine (extractStridedSlice_apply _ _ _ _ (ix2 k ⟨c.val, by omega⟩) (fun a => match a with
          | ⟨0, _⟩ => (Nat.zero_add _).symm
          | ⟨1, _⟩ => by show c.val = 1024 + (c.val - 1024); omega)).trans (hcol _ _)
    · rw [if_neg h2]
      by_cases h3 : c.val < 1152
      · rw [if_pos h3]
        refine Eq.trans (concatenate_apply_piece 1 (gapParts y) concatenates_S1024x1024_S1024x68_S1024x60_S1024x1536_S1024x2688_d1
          (ix2 k c) 2 (by show 2 < 4; decide) S1024x60 _ rfl rfl 1092 rfl (ix2 k ⟨c.val - 1092, by omega⟩) ?_ ?_) ?_
        · intro q hq
          match q, hq with
          | ⟨0, _⟩, _ => rfl
          | ⟨1, _⟩, hq => exact absurd rfl hq
        · show 1092 + (c.val - 1092) = c.val
          omega
        · pointwise
      · rw [if_neg h3]
        refine Eq.trans (concatenate_apply_piece 1 (gapParts y) concatenates_S1024x1024_S1024x68_S1024x60_S1024x1536_S1024x2688_d1
          (ix2 k c) 3 (by show 3 < 4; decide) S1024x1536 _ rfl rfl 1152 rfl (ix2 k ⟨c.val - 1152, by omega⟩) ?_ ?_) ?_
        · intro q hq
          match q, hq with
          | ⟨0, _⟩, _ => rfl
          | ⟨1, _⟩, hq => exact absurd rfl hq
        · show 1152 + (c.val - 1152) = c.val
          omega
        · refine (extractStridedSlice_apply _ _ _ _ (ix2 k ⟨c.val - 60, by omega⟩) (fun a => match a with
            | ⟨0, _⟩ => (Nat.zero_add _).symm
            | ⟨1, _⟩ => by show c.val - 60 = 1092 + (c.val - 1152); omega)).trans (hcol _ _)

variable (m : (ℓ : Loc nD τ sig) → Buf (Elt Ideal) ℓ) (c : Dev nD)

/-- Row `r` of a point's row block. -/
def rowOf (t : Fin cfg0.N) (r : Fin 512) : Fin 16384 :=
  ⟨512 * t.val + r.val, by have h := t.isLt; have hN : cfg0.N = 32 := N_0; omega⟩

theorem posOf_rowOf (t : Fin cfg0.N) (r : Fin 512) : (posOf (rowOf t r)).val = 512 * (t.val % 4) + r.val := by
  show (512 * t.val + r.val) % 2048 = _
  omega

/-- The windows of the rows and of the tables follow the point. -/
theorem index_moving : ∀ t : Fin grid0.N, (win0_0.index t 0 = t.val ∧ win0_0.index t 1 = 0) ∧
    (win0_3.index t 0 = t.val % 4 ∧ win0_3.index t 1 = 0) ∧ (win0_4.index t 0 = t.val % 4 ∧ win0_4.index t 1 = 0) ∧
    (win0_5.index t 0 = t.val % 4 ∧ win0_5.index t 1 = 0) := by decide +kernel

/-- The windows of the gains and of the weights never move. -/
theorem index_still : ∀ t : Fin grid0.N, (win0_1.index t 0 = 0 ∧ win0_1.index t 1 = 0) ∧
    (win0_2.index t 0 = 0 ∧ win0_2.index t 1 = 0) := by decide +kernel

/-- The rows at a point. -/
theorem block_rows (t : Fin cfg0.N) (r : Fin 512) (k : Fin 1024) :
    iblk m c 0 t (ix2 r k) = m ((c : Thread nD τ).loc main_arg0) (ix3 (batchOf (rowOf t r)) (posOf (rowOf t r)) k) := by
  have hi := (index_moving t).1
  refine Eq.trans ?_ ((congrFun (rows_eq m c) (ix2 (rowOf t r) k)).trans
    (shapeCast_apply _ shapeCasts_S8x2048x1024_S16384x1024 _ (ix3 (batchOf (rowOf t r)) (posOf (rowOf t r)) k) ?_))
  · unfold iblk
    rw [View.read_apply]
    show V m c main_v7 _ = V m c main_v7 _
    congr 1
    funext a
    apply Fin.ext
    match a with
    | ⟨0, _⟩ =>
      show win0_0.index t 0 * 512 + 1 * r.val = 512 * t.val + r.val
      rw [hi.1]; omega
    | ⟨1, _⟩ =>
      show win0_0.index t 1 * 1024 + 1 * k.val = k.val
      rw [hi.2]; omega
  · rewrite [Shape.rowMajor_val_three, Shape.rowMajor_val_two]
    show ((rowOf t r).val / 2048 * 2048 + (rowOf t r).val % 2048) * 1024 + k.val = (rowOf t r).val * 1024 + k.val
    omega

/-- The gains at every point. -/
theorem block_gains (t : Fin cfg0.N) (k : Fin 1024) :
    iblk m c 1 t (ix2 0 k) = m ((c : Thread nD τ).loc main_arg1) (ix2 0 k) := by
  have hi := (index_still t).1
  refine Eq.trans ?_ ((congrFun (gains_eq m c) (ix2 0 k)).trans
    ((ValueIdx.shapeCast_a_1a_apply _ _ 0 k).trans (ValueIdx.shapeCast_1a_a_apply _ _ k)))
  unfold iblk
  rw [View.read_apply]
  show V m c main_v9 _ = V m c main_v9 _
  congr 1
  funext a
  apply Fin.ext
  match a with
  | ⟨0, _⟩ =>
    show win0_1.index t 0 * 1 + 1 * 0 = 0
    rw [hi.1]
  | ⟨1, _⟩ =>
    show win0_1.index t 1 * 1024 + 1 * k.val = k.val
    rw [hi.2]; omega

/-- The weights at every point. -/
theorem block_weights (t : Fin cfg0.N) (k : Fin 1024) (j : Fin 2688) :
    iblk m c 2 t (ix2 k j) = gapCol (m ((c : Thread nD τ).loc main_arg2)) j.val k := by
  have hi := (index_still t).2
  refine Eq.trans ?_ ((congrFun (weights_eq m c) (ix2 k j)).trans
    (gapped_apply (m ((c : Thread nD τ).loc main_arg2)) _ (fun k j => ValueIdx.shapeCast_1ab_ab_apply _ _ k j) k j))
  unfold iblk
  rw [View.read_apply]
  show V m c main_v6 _ = V m c main_v6 _
  congr 1
  funext a
  apply Fin.ext
  match a with
  | ⟨0, _⟩ =>
    show win0_2.index t 0 * 1024 + 1 * k.val = k.val
    rw [hi.1]; omega
  | ⟨1, _⟩ =>
    show win0_2.index t 1 * 2688 + 1 * j.val = j.val
    rw [hi.2]; omega

/-- The first table at a point. -/
theorem block_here (t : Fin cfg0.N) (r : Fin 512) (l : Fin 128) :
    iblk m c 3 t (ix2 r l) = tableHere (posOf (rowOf t r)).val (l.val % 64) := by
  have hi := (index_moving t).2.1
  refine Eq.trans ?_ (here_apply m c (posOf (rowOf t r)) l)
  unfold iblk
  rw [View.read_apply]
  show V m c main_v35 _ = V m c main_v35 _
  congr 1
  funext a
  apply Fin.ext
  match a with
  | ⟨0, _⟩ =>
    refine Eq.trans ?_ (posOf_rowOf t r).symm
    show win0_3.index t 0 * 512 + 1 * r.val = _
    rw [hi.1]; omega
  | ⟨1, _⟩ =>
    show win0_3.index t 1 * 128 + 1 * l.val = l.val
    rw [hi.2]; omega

/-- The second table at a point. -/
theorem block_before (t : Fin cfg0.N) (r : Fin 512) (l : Fin 128) :
    iblk m c 4 t (ix2 r l) = tableBefore (posOf (rowOf t r)).val (l.val % 64) := by
  have hi := (index_moving t).2.2.1
  refine Eq.trans ?_ (before_apply m c (posOf (rowOf t r)) l)
  unfold iblk
  rw [View.read_apply]
  show V m c main_v38 _ = V m c main_v38 _
  congr 1
  funext a
  apply Fin.ext
  match a with
  | ⟨0, _⟩ =>
    refine Eq.trans ?_ (posOf_rowOf t r).symm
    show win0_4.index t 0 * 512 + 1 * r.val = _
    rw [hi.1]; omega
  | ⟨1, _⟩ =>
    show win0_4.index t 1 * 128 + 1 * l.val = l.val
    rw [hi.2]; omega

/-- The third table at a point. -/
theorem block_after (t : Fin cfg0.N) (r : Fin 512) (l : Fin 128) :
    iblk m c 5 t (ix2 r l) = tableAfter (posOf (rowOf t r)).val (l.val % 64) := by
  have hi := (index_moving t).2.2.2
  refine Eq.trans ?_ (after_apply m c (posOf (rowOf t r)) l)
  unfold iblk
  rw [View.read_apply]
  show V m c main_v41 _ = V m c main_v41 _
  congr 1
  funext a
  apply Fin.ext
  match a with
  | ⟨0, _⟩ =>
    refine Eq.trans ?_ (posOf_rowOf t r).symm
    show win0_5.index t 0 * 512 + 1 * r.val = _
    rw [hi.1]; omega
  | ⟨1, _⟩ =>
    show win0_5.index t 1 * 128 + 1 * l.val = l.val
    rw [hi.2]; omega

end Cert.Proj
-- ==== Proof.Proj.KernelArray.lean ====
/-
  The arrays the projection's call ends with, at a row of the prompt and a lane: heads turned by the row's position,
  slices of the projected row, and the product of its last two parts.
-/
module

public import proofs.«01_k».proof.Proof.Proj.KernelOut
public import proofs.«01_k».proof.Proof.Proj.Blocks

@[expose] public section

set_option maxRecDepth 16384

noncomputable section

namespace Cert.Proj

open Cert.Kernel2Ideal Cert.Kernel2Ideal.Gen Cert.Kernel2Ideal.Value
open Idealize.ShloMosaic Idealize.ShloMosaic.TcCoe Idealize.SL.Sem
open Idealize.ShloMosaic.Pipeline (Dat)

/-! The projected row with the gap. -/

section
variable (x : FVec Ideal ⟨3, ![8, 2048, 1024]⟩ .f32) (g : FVec Ideal ⟨2, ![1, 1024]⟩ .f32) (w : FVec Ideal ⟨3, ![1, 1024, 2628]⟩ .f32)

/-- Entry `c` of the projected row with the gap. -/
def gapEntry (R : Fin 16384) (c : ℕ) : EReal := ∑ k, normed x g R k * gapCol w c k

theorem gapEntry_low (R : Fin 16384) {c : ℕ} (h : c < 1092) : gapEntry x g w R c = entry x g w R c := by
  unfold gapEntry entry gapCol
  simp only [if_pos h]

theorem gapEntry_gap (R : Fin 16384) {c : ℕ} (h : ¬c < 1092) (h' : c < 1152) : gapEntry x g w R c = 0 := by
  unfold gapEntry gapCol
  simp only [if_neg h, if_pos h', mul_zero, Finset.sum_const_zero]

theorem gapEntry_high (R : Fin 16384) (c : ℕ) : gapEntry x g w R (1152 + c) = entry x g w R (1092 + c) := by
  unfold gapEntry gapCol entry
  have e : 1152 + c - 60 = 1092 + c := by omega
  simp only [if_neg (show ¬1152 + c < 1092 by omega), if_neg (show ¬1152 + c < 1152 by omega), e]

/-- Heads below the gap are the heads without it. -/
theorem heads_gap (R : Fin 16384) (o d n : ℕ) (hd : d < n) (hn : n % 64 = 0) (ho : o + n ≤ 1092) :
    turned (fun e => gapEntry x g w R (o + d / 64 * 64 + e)) (posOf R).val (d % 64) = heads x g w o R d :=
  turned_congr (fun e he => gapEntry_low x g w R (by omega)) _ (Nat.mod_lt _ (by norm_num))
end

variable (m : (ℓ : Loc nD τ sig) → Buf (Elt Ideal) ℓ) (c : Dev nD)

/-- The three arguments. -/
abbrev argX : FVec Ideal ⟨3, ![8, 2048, 1024]⟩ .f32 := m ((c : Thread nD τ).loc main_arg0)
@[inherit_doc argX] abbrev argG : FVec Ideal ⟨2, ![1, 1024]⟩ .f32 := m ((c : Thread nD τ).loc main_arg1)
@[inherit_doc argX] abbrev argW : FVec Ideal ⟨3, ![1, 1024, 2628]⟩ .f32 := m ((c : Thread nD τ).loc main_arg2)

/-- What a point reads, row by row. -/
theorem turning (t : Fin cfg0.N) (r : Fin 512) :
    Turning (k0_pay1 (iblk m c 0 t) (iblk m c 1 t) (iblk m c 2 t)) (iblk m c 3 t) (iblk m c 4 t) (iblk m c 5 t) r
      (gapEntry (argX m c) (argG m c) (argW m c) (rowOf t r)) (posOf (rowOf t r)).val where
  row j := by
    rw [pay1_apply]
    unfold gapEntry normed
    simp only [block_rows, block_gains, block_weights]
  here l := block_here m c t r l
  before l := block_before m c t r l
  after l := block_after m c t r l

/-- The point that writes a row. -/
def pointOf (R : Fin 16384) : Fin cfg0.N := ⟨R.val / 512, by have hN : cfg0.N = 32 := N_0; omega⟩

/-- The place of a row in its block. -/
def placeOf (R : Fin 16384) : Fin 512 := ⟨R.val % 512, Nat.mod_lt _ (by norm_num)⟩

theorem rowOf_place (R : Fin 16384) : rowOf (pointOf R) (placeOf R) = R :=
  Fin.ext (by show 512 * (R.val / 512) + R.val % 512 = R.val; omega)

/-- The windows of the results follow the point. -/
theorem index_out : ∀ t : Fin grid0.N, (win0_6.index t 0 = t.val ∧ win0_6.index t 1 = 0) ∧ (win0_7.index t 0 = t.val ∧ win0_7.index t 1 = 0) ∧
    (win0_8.index t 0 = t.val ∧ win0_8.index t 1 = 0) ∧ (win0_9.index t 0 = t.val ∧ win0_9.index t 1 = 0) ∧
    (win0_10.index t 0 = t.val ∧ win0_10.index t 1 = 0) ∧ (win0_11.index t 0 = t.val ∧ win0_11.index t 1 = 0) ∧
    (win0_12.index t 0 = t.val ∧ win0_12.index t 1 = 0) := by decide +kernel

/-- A row and a lane from a block index, a place in the block and a lane. -/
theorem place_eq {n : ℕ} (R : Fin 16384) (l : Fin n) (i : (⟨2, ![16384, n]⟩ : Shape).Idx) (p q : ℕ)
    (hp : p = (pointOf R).val ∧ q = 0) (h0 : (i 0).val = p * 512 + 1 * (R.val % 512)) (h1 : (i 1).val = q * n + 1 * l.val) : ix2 R l = i := by
  funext a
  apply Fin.ext
  match a with
  | ⟨0, _⟩ =>
    refine Eq.trans ?_ h0.symm
    rw [hp.1]
    show R.val = R.val / 512 * 512 + 1 * (R.val % 512)
    omega
  | ⟨1, _⟩ =>
    refine Eq.trans ?_ h1.symm
    rw [hp.2]
    show l.val = _
    omega

theorem array6 (R : Fin 16384) (l : Fin 512) :
    (dats m 0 c).arrAt 6 cfg0.N (ix2 R l) = heads (argX m c) (argG m c) (argW m c) 0 R l.val := by
  have e := congrFun ((blocks6 m c (pointOf R) (flush0_6 _)).trans (flushed6 m c (pointOf R))) (ix2 (placeOf R) l)
  refine Eq.trans (congrArg ((dats m 0 c).arrAt 6 cfg0.N) (place_eq R l _ _ _ (index_out (pointOf R)).1 rfl rfl)) (Eq.trans e ?_)
  refine (out6_apply (turning m c (pointOf R)) (placeOf R) l).trans ?_
  rw [rowOf_place]
  exact heads_gap _ _ _ R 0 l.val 512 l.isLt rfl (by norm_num)

theorem array7 (R : Fin 16384) (l : Fin 128) :
    (dats m 0 c).arrAt 7 cfg0.N (ix2 R l) = heads (argX m c) (argG m c) (argW m c) 512 R l.val := by
  have e := congrFun ((blocks7 m c (pointOf R) (flush0_7 _)).trans (flushed7 m c (pointOf R))) (ix2 (placeOf R) l)
  refine Eq.trans (congrArg ((dats m 0 c).arrAt 7 cfg0.N) (place_eq R l _ _ _ (index_out (pointOf R)).2.1 rfl rfl)) (Eq.trans e ?_)
  refine (out7_apply (turning m c (pointOf R) (placeOf R)) l).trans ?_
  rw [rowOf_place]
  exact heads_gap _ _ _ R 512 l.val 128 l.isLt rfl (by norm_num)

theorem array8 (R : Fin 16384) (l : Fin 128) :
    (dats m 0 c).arrAt 8 cfg0.N (ix2 R l) = entry (argX m c) (argG m c) (argW m c) R (640 + l.val) := by
  have e := congrFun ((blocks8 m c (pointOf R) (flush0_8 _)).trans (flushed8 m c (pointOf R))) (ix2 (placeOf R) l)
  refine Eq.trans (congrArg ((dats m 0 c).arrAt 8 cfg0.N) (place_eq R l _ _ _ (index_out (pointOf R)).2.2.1 rfl rfl)) (Eq.trans e ?_)
  refine (out8_apply (turning m c (pointOf R) (placeOf R)) l).trans ?_
  rw [rowOf_place]
  exact gapEntry_low _ _ _ R (by omega)

theorem array9 (R : Fin 16384) (l : Fin 256) :
    (dats m 0 c).arrAt 9 cfg0.N (ix2 R l) = heads (argX m c) (argG m c) (argW m c) 768 R l.val := by
  have e := congrFun ((blocks9 m c (pointOf R) (flush0_9 _)).trans (flushed9 m c (pointOf R))) (ix2 (placeOf R) l)
  refine Eq.trans (congrArg ((dats m 0 c).arrAt 9 cfg0.N) (place_eq R l _ _ _ (index_out (pointOf R)).2.2.2.1 rfl rfl)) (Eq.trans e ?_)
  refine (out9_apply (turning m c (pointOf R)) (placeOf R) l).trans ?_
  rw [rowOf_place]
  exact heads_gap _ _ _ R 768 l.val 256 l.isLt rfl (by norm_num)

theorem array10 (R : Fin 16384) (l : Fin 128) :
    (dats m 0 c).arrAt 10 cfg0.N (ix2 R l) = keyAndWeights (argX m c) (argG m c) (argW m c) R l.val := by
  have e := congrFun ((blocks10 m c (pointOf R) (flush0_10 _)).trans (flushed10 m c (pointOf R))) (ix2 (placeOf R) l)
  refine Eq.trans (congrArg ((dats m 0 c).arrAt 10 cfg0.N) (place_eq R l _ _ _ (index_out (pointOf R)).2.2.2.2.1 rfl rfl)) (Eq.trans e ?_)
  refine (out10_apply (turning m c (pointOf R) (placeOf R)) l).trans ?_
  rw [rowOf_place]
  unfold keyAndWeights
  split_ifs with h1 h2
  · exact heads_gap _ _ _ R 1024 l.val 64 h1 rfl (by norm_num)
  · exact gapEntry_low _ _ _ R (by omega)
  · exact gapEntry_gap _ _ _ R (by omega) (by omega)

theorem array11 (R : Fin 16384) (l : Fin 512) :
    (dats m 0 c).arrAt 11 cfg0.N (ix2 R l) = entry (argX m c) (argG m c) (argW m c) R (1092 + l.val) := by
  have e := congrFun ((blocks11 m c (pointOf R) (flush0_11 _)).trans (flushed11 m c (pointOf R))) (ix2 (placeOf R) l)
  refine Eq.trans (congrArg ((dats m 0 c).arrAt 11 cfg0.N) (place_eq R l _ _ _ (index_out (pointOf R)).2.2.2.2.2.1 rfl rfl)) (Eq.trans e ?_)
  refine (out11_apply (turning m c (pointOf R) (placeOf R)) l).trans ?_
  rw [rowOf_place]
  exact gapEntry_high _ _ _ R _

theorem array12 (R : Fin 16384) (l : Fin 512) :
    (dats m 0 c).arrAt 12 cfg0.N (ix2 R l) = product (argX m c) (argG m c) (argW m c) R l.val := by
  have e := congrFun ((blocks12 m c (pointOf R) (flush0_12 _)).trans (flushed12 m c (pointOf R))) (ix2 (placeOf R) l)
  refine Eq.trans (congrArg ((dats m 0 c).arrAt 12 cfg0.N) (place_eq R l _ _ _ (index_out (pointOf R)).2.2.2.2.2.2 rfl rfl)) (Eq.trans e ?_)
  refine (out12_apply (turning m c (pointOf R) (placeOf R)) l).trans ?_
  rw [rowOf_place]
  unfold product
  have e1 := gapEntry_high (argX m c) (argG m c) (argW m c) R (512 + l.val)
  have e2 := gapEntry_high (argX m c) (argG m c) (argW m c) R (1024 + l.val)
  rw [← Nat.add_assoc, ← Nat.add_assoc] at e1 e2
  exact congrArg₂ (· * ·) e1 e2

end Cert.Proj
-- ==== Proof.Proj.Reference.lean ====
/-
  The reference's projection of the prompt, read entry by entry.
-/
module

public import proofs.«01_k».proof.Proof.Gen.Reference2Ideal.Read
public import proofs.«01_k».proof.Proof.Proj.Spec

@[expose] public section

set_option maxRecDepth 16384

noncomputable section

namespace Cert.Proj

open Idealize.ShloMosaic Idealize.ShloMosaic.TcCoe
open Cert.Reference2Ideal Cert.Reference2Ideal.Gen Cert.Reference2Ideal.Read

/-- Lanes split into `n` heads of 64. -/
theorem split_apply {n W : ℕ} (hW : W = n * 64) (y : FVec Ideal ⟨3, ![8, 2048, W]⟩ .f32)
    (f : Shape.ShapeCasts ⟨3, ![8, 2048, W]⟩ ⟨4, ![8, 2048, n, 64]⟩) (b : Fin 8) (p : Fin 2048) (j : Fin n) (e : Fin 64) :
    shapeCast ⟨4, ![8, 2048, n, 64]⟩ y f (ix4 b p j e) = y (ix3 b p ⟨j.val * 64 + e.val, by omega⟩) := by
  refine shapeCast_apply y f _ _ ?_
  rewrite [Shape.rowMajor_val_three, Shape.rowMajor_val_four]
  show (b.val * 2048 + p.val) * W + (j.val * 64 + e.val) = ((b.val * 2048 + p.val) * n + j.val) * 64 + e.val
  rw [hW]
  ring

/-- Heads joined to lanes and batches to rows. -/
theorem join_apply {n W : ℕ} (hW : W = n * 64) (y : FVec Ideal ⟨4, ![8, 2048, n, 64]⟩ .f32)
    (f : Shape.ShapeCasts ⟨4, ![8, 2048, n, 64]⟩ ⟨2, ![16384, W]⟩) (R : Fin 16384) (d : Fin W) :
    shapeCast ⟨2, ![16384, W]⟩ y f (ix2 R d)
      = y (ix4 (batchOf R) (posOf R) ⟨d.val / 64, by omega⟩ ⟨d.val % 64, Nat.mod_lt _ (by norm_num)⟩) := by
  refine shapeCast_apply y f _ _ ?_
  rewrite [Shape.rowMajor_val_four, Shape.rowMajor_val_two]
  show ((R.val / 2048 * 2048 + R.val % 2048) * n + d.val / 64) * 64 + d.val % 64 = R.val * W + d.val
  have e1 : R.val / 2048 * 2048 + R.val % 2048 = R.val := by omega
  have e2 : d.val / 64 * 64 + d.val % 64 = d.val := by omega
  have e3 : R.val * (n * 64) = R.val * W := by rw [hW]
  rw [e1]
  calc (R.val * n + d.val / 64) * 64 + d.val % 64 = R.val * (n * 64) + (d.val / 64 * 64 + d.val % 64) := by ring
    _ = _ := by rw [e2, e3]

/-- Batches joined to rows. -/
theorem rows_apply {W : ℕ} (y : FVec Ideal ⟨3, ![8, 2048, W]⟩ .f32)
    (f : Shape.ShapeCasts ⟨3, ![8, 2048, W]⟩ ⟨2, ![16384, W]⟩) (R : Fin 16384) (d : Fin W) :
    shapeCast ⟨2, ![16384, W]⟩ y f (ix2 R d) = y (ix3 (batchOf R) (posOf R) d) := by
  refine shapeCast_apply y f _ _ ?_
  rewrite [Shape.rowMajor_val_three, Shape.rowMajor_val_two]
  show (R.val / 2048 * 2048 + R.val % 2048) * W + d.val = R.val * W + d.val
  have e1 : R.val / 2048 * 2048 + R.val % 2048 = R.val := by omega
  rw [e1]

variable (x0 : (⟨S8x2048x1024, .f32⟩ : BufTy).Contents (Elt Ideal)) (x1 : (⟨S1x1024, .f32⟩ : BufTy).Contents (Elt Ideal))
  (x2 : (⟨S1x1024x2628, .f32⟩ : BufTy).Contents (Elt Ideal))

/-- The normed rows. -/
theorem v14_apply (R : Fin 16384) (k : Fin 1024) :
    val_main_v14 x0 x1 (ix3 (batchOf R) (posOf R) k) = normed x0 x1 R k := by
  pointwise [val_main_v14, val_main_v13, val_main_v12, val_main_v11, val_main_v10, val_main_v9, val_main_v8, val_main_v7,
    val_main_v6, val_main_v5, val_main_v4, val_main_v3, val_main_v2, val_main_v1, val_main_cst, val_main_cst_0, val_main_cst_1]
  rfl

/-- The projected rows. -/
theorem v16_apply (R : Fin 16384) (c : Fin 2628) :
    val_main_v16 x0 x1 x2 (ix3 (batchOf R) (posOf R) c) = entry x0 x1 x2 R c.val := by
  rw [val_main_v16_apply]
  refine Finset.sum_congr rfl fun k _ => ?_
  have el : lidx_main_v16 (ix3 (batchOf R) (posOf R) c) k = ix3 (batchOf R) (posOf R) k := funext fun a => by
    match a with
    | ⟨0, _⟩ => rfl
    | ⟨1, _⟩ => rfl
    | ⟨2, _⟩ => rfl
  have er : ridx_main_v16 (ix3 (batchOf R) (posOf R) c) k = ix2 k c := funext fun a => by
    match a with
    | ⟨0, _⟩ => rfl
    | ⟨1, _⟩ => rfl
  rw [el, er, v14_apply]
  refine congrArg (normed x0 x1 R k * ·) ((ValueIdx.shapeCast_1ab_ab_apply _ _ k c).trans ?_)
  unfold col
  rw [dif_pos c.isLt]
  rfl

/-- A run of columns of the projected rows. -/
theorem part_apply {W o : ℕ} (f : Shape.Slices S8x2048x2628 ![0, 0, o] ⟨3, ![8, 2048, W]⟩) (R : Fin 16384) (d : Fin W)
    (hd : o + d.val < 2628) :
    extractStridedSlice ⟨3, ![8, 2048, W]⟩ ![0, 0, o] (val_main_v16 x0 x1 x2) f (ix3 (batchOf R) (posOf R) d)
      = entry x0 x1 x2 R (o + d.val) := by
  refine (extractStridedSlice_apply _ _ f _ (ix3 (batchOf R) (posOf R) ⟨o + d.val, hd⟩) fun a => ?_).trans (v16_apply x0 x1 x2 R ⟨o + d.val, hd⟩)
  match a with
  | ⟨0, _⟩ => exact (Nat.zero_add _).symm
  | ⟨1, _⟩ => exact (Nat.zero_add _).symm
  | ⟨2, _⟩ => rfl

/-- The cosines, for each of the four calls of the rotation. -/
theorem cosines (p : Fin 2048) (e : Fin 8) :
    val_main_v40 (F := Ideal) (ix3 p 0 e) = Ideal.cos (angle p.val e.val) := by
  pointwise [val_main_v40, val_main_v39, val_main_v38, val_main_v36, val_main_v37, val_main_v34, val_main_v35, val_main_v33,
    val_main_v32, val_main_v31, val_main_v30, val_main_v29, val_main_v28, val_main_v27, val_main_v0, val_main_cst_2, val_main_cst_3]
  rfl

/-- The sines. -/
theorem sines (p : Fin 2048) (e : Fin 8) :
    val_main_v42 (F := Ideal) (ix3 p 0 e) = Ideal.sin (angle p.val e.val) := by
  pointwise [val_main_v42, val_main_v41, val_main_v38, val_main_v36, val_main_v37, val_main_v34, val_main_v35, val_main_v33,
    val_main_v32, val_main_v31, val_main_v30, val_main_v29, val_main_v28, val_main_v27, val_main_v0, val_main_cst_2, val_main_cst_3]
  rfl

/-- What a head of a run of columns holds before its rotation. -/
theorem split_part {n W o : ℕ} (hW : W = n * 64) (f : Shape.Slices S8x2048x2628 ![0, 0, o] ⟨3, ![8, 2048, W]⟩)
    (fs : Shape.ShapeCasts ⟨3, ![8, 2048, W]⟩ ⟨4, ![8, 2048, n, 64]⟩) (ho : o + W ≤ 2628) (R : Fin 16384) (j : Fin n) (e : Fin 64) :
    shapeCast ⟨4, ![8, 2048, n, 64]⟩ (extractStridedSlice ⟨3, ![8, 2048, W]⟩ ![0, 0, o] (val_main_v16 x0 x1 x2) f) fs (ix4 (batchOf R) (posOf R) j e)
      = entry x0 x1 x2 R (o + j.val * 64 + e.val) := by
  refine (split_apply hW _ fs (batchOf R) (posOf R) j e).trans ((part_apply x0 x1 x2 f R _ ?_).trans ?_)
  · show o + (j.val * 64 + e.val) < 2628
    omega
  · show entry x0 x1 x2 R (o + (j.val * 64 + e.val)) = _
    rw [Nat.add_assoc]

/-- The queries. -/
theorem v179_apply (R : Fin 16384) (d : Fin 512) : val_main_v179 x0 x1 x2 (ix2 R d) = heads x0 x1 x2 0 R d.val :=
  (join_apply rfl (val_main_v62 x0 x1 x2) shapeCasts_S8x2048x8x64_S16384x512 R d).trans
    (host_turned (val_main_v26 x0 x1 x2) (val_main_v40 (F := Ideal)) (val_main_v42 (F := Ideal)) _ _ _ _ _ _ _ _ _ _ _ _ _
      (fun e => split_part x0 x1 x2 rfl slices_S8x2048x2628_S8x2048x512_0_0_0 shapeCasts_S8x2048x512_S8x2048x8x64 (by norm_num) R _ e)
      (cosines _) (sines _))

/-- The keys. -/
theorem v180_apply (R : Fin 16384) (d : Fin 128) : val_main_v180 x0 x1 x2 (ix2 R d) = heads x0 x1 x2 512 R d.val :=
  (join_apply rfl (val_main_v99 x0 x1 x2) shapeCasts_S8x2048x2x64_S16384x128 R d).trans
    (host_turned (val_main_v63 x0 x1 x2) (val_main_v40 (F := Ideal)) (val_main_v42 (F := Ideal)) _ _ _ _ _ _ _ _ _ _ _ _ _
      (fun e => split_part x0 x1 x2 rfl slices_S8x2048x2628_S8x2048x128_0_0_512 shapeCasts_S8x2048x128_S8x2048x2x64 (by norm_num) R _ e)
      (cosines _) (sines _))

/-- The values. -/
theorem v181_apply (R : Fin 16384) (d : Fin 128) : val_main_v181 x0 x1 x2 (ix2 R d) = entry x0 x1 x2 R (640 + d.val) :=
  (rows_apply (val_main_v19 x0 x1 x2) shapeCasts_S8x2048x128_S16384x128 R d).trans
    (part_apply x0 x1 x2 slices_S8x2048x2628_S8x2048x128_0_0_640 R d (by omega))

/-- The index queries. -/
theorem v183_apply (R : Fin 16384) (d : Fin 256) : val_main_v183 x0 x1 x2 (ix2 R d) = heads x0 x1 x2 768 R d.val :=
  (join_apply rfl (val_main_v136 x0 x1 x2) shapeCasts_S8x2048x4x64_S16384x256 R d).trans
    (host_turned (val_main_v100 x0 x1 x2) (val_main_v40 (F := Ideal)) (val_main_v42 (F := Ideal)) _ _ _ _ _ _ _ _ _ _ _ _ _
      (fun e => split_part x0 x1 x2 rfl slices_S8x2048x2628_S8x2048x256_0_0_768 shapeCasts_S8x2048x256_S8x2048x4x64 (by norm_num) R _ e)
      (cosines _) (sines _))

/-- The index key, one head. -/
theorem v174_apply (R : Fin 16384) (d : Fin 64) : val_main_v174 x0 x1 x2 (ix3 (batchOf R) (posOf R) d) = heads x0 x1 x2 1024 R d.val := by
  have h1 : val_main_v174 x0 x1 x2 (ix3 (batchOf R) (posOf R) d) = val_main_v173 x0 x1 x2 (ix4 (batchOf R) (posOf R) 0 d) := by
    refine shapeCast_apply (val_main_v173 x0 x1 x2) shapeCasts_S8x2048x1x64_S8x2048x64 _ _ ?_
    rewrite [Shape.rowMajor_val_three, Shape.rowMajor_val_four]
    show (((batchOf R).val * 2048 + (posOf R).val) * 1 + 0) * 64 + d.val = ((batchOf R).val * 2048 + (posOf R).val) * 64 + d.val
    omega
  refine h1.trans ((host_turned (val_main_v137 x0 x1 x2) (val_main_v40 (F := Ideal)) (val_main_v42 (F := Ideal)) _ _ _ _ _ _ _ _ _ _ _ _
    (fun e => entry x0 x1 x2 R (1024 + e)) (fun e => ?_) (cosines _) (sines _)).trans ?_)
  · refine (broadcastInDim_apply _ bcast_S8x2048x64_S8x2048x1x64_0_1_3 (val_main_v21 x0 x1 x2) _ (ix3 (batchOf R) (posOf R) e) fun a => ?_).trans
      (part_apply x0 x1 x2 slices_S8x2048x2628_S8x2048x64_0_0_1024 R e (by omega))
    match a with
    | ⟨0, _⟩ => rfl
    | ⟨1, _⟩ => rfl
    | ⟨2, _⟩ => rfl
  · unfold heads
    have e0 : d.val / 64 = 0 := Nat.div_eq_of_lt d.isLt
    rw [e0, Nat.mod_eq_of_lt d.isLt]

/-- The arrays joined for the index key. -/
def joined : List ((s : Shape) × (s.Idx → EReal)) :=
  [⟨S8x2048x64, val_main_v174 x0 x1 x2⟩, ⟨S8x2048x4, val_main_v22 x0 x1 x2⟩, ⟨S8x2048x60, val_main_v176 (F := Ideal)⟩]

/-- The index key, the index weights and the zeros. -/
theorem v184_apply (R : Fin 16384) (d : Fin 128) : val_main_v184 x0 x1 x2 (ix2 R d) = keyAndWeights x0 x1 x2 R d.val := by
  refine (rows_apply (val_main_v177 x0 x1 x2) shapeCasts_S8x2048x128_S16384x128 R d).trans ?_
  have hd := d.isLt
  unfold keyAndWeights
  split_ifs with h1 h2
  · refine (concatenate_apply_piece 2 (joined x0 x1 x2) concatenates_S8x2048x64_S8x2048x4_S8x2048x60_S8x2048x128_d2 _ 0 (by show 0 < 3; decide) S8x2048x64 (val_main_v174 x0 x1 x2) rfl rfl 0 rfl
      (ix3 (batchOf R) (posOf R) ⟨d.val, h1⟩) ?_ ?_).trans (v174_apply x0 x1 x2 R ⟨d.val, h1⟩)
    · intro a ha
      match a, ha with
      | ⟨0, _⟩, _ => rfl
      | ⟨1, _⟩, _ => rfl
      | ⟨2, _⟩, ha => exact absurd rfl ha
    · exact Nat.zero_add _
  · refine (concatenate_apply_piece 2 (joined x0 x1 x2) concatenates_S8x2048x64_S8x2048x4_S8x2048x60_S8x2048x128_d2 _ 1 (by show 1 < 3; decide) S8x2048x4 (val_main_v22 x0 x1 x2) rfl rfl 64 rfl
      (ix3 (batchOf R) (posOf R) ⟨d.val - 64, by omega⟩) ?_ ?_).trans
      ((part_apply x0 x1 x2 slices_S8x2048x2628_S8x2048x4_0_0_1088 R ⟨d.val - 64, by omega⟩ (by show 1088 + (d.val - 64) < 2628; omega)).trans ?_)
    · intro a ha
      match a, ha with
      | ⟨0, _⟩, _ => rfl
      | ⟨1, _⟩, _ => rfl
      | ⟨2, _⟩, ha => exact absurd rfl ha
    · show 64 + (d.val - 64) = d.val
      omega
    · have e : 1088 + (d.val - 64) = 1024 + d.val := by omega
      show entry x0 x1 x2 R (1088 + (d.val - 64)) = _
      rw [e]
  · refine (concatenate_apply_piece 2 (joined x0 x1 x2) concatenates_S8x2048x64_S8x2048x4_S8x2048x60_S8x2048x128_d2 _ 2 (by show 2 < 3; decide) S8x2048x60 (val_main_v176 (F := Ideal)) rfl rfl 68 rfl
      (ix3 (batchOf R) (posOf R) ⟨d.val - 68, by omega⟩) ?_ ?_).trans ?_
    · intro a ha
      match a, ha with
      | ⟨0, _⟩, _ => rfl
      | ⟨1, _⟩, _ => rfl
      | ⟨2, _⟩, ha => exact absurd rfl ha
    · show 68 + (d.val - 68) = d.val
      omega
    · pointwise [val_main_v176, val_main_cst_10]

/-- The convolution's gate. -/
theorem v185_apply (R : Fin 16384) (d : Fin 512) : val_main_v185 x0 x1 x2 (ix2 R d) = entry x0 x1 x2 R (1092 + d.val) :=
  (rows_apply (val_main_v23 x0 x1 x2) shapeCasts_S8x2048x512_S16384x512 R d).trans
    (part_apply x0 x1 x2 slices_S8x2048x2628_S8x2048x512_0_0_1092 R d (by omega))

/-- The convolution's input. -/
theorem v186_apply (R : Fin 16384) (d : Fin 512) : val_main_v186 x0 x1 x2 (ix2 R d) = product x0 x1 x2 R d.val :=
  (rows_apply (val_main_v175 x0 x1 x2) shapeCasts_S8x2048x512_S16384x512 R d).trans
    (congrArg₂ (· * ·) (part_apply x0 x1 x2 slices_S8x2048x2628_S8x2048x512_0_0_1604 R d (by omega))
      (part_apply x0 x1 x2 slices_S8x2048x2628_S8x2048x512_0_0_2116 R d (by omega)))

end Cert.Proj
-- ==== Proof.Proj.Equal.lean ====
/-
  The seven arrays of the projection's call are the reference's.
-/
module

public import proofs.«01_k».proof.Proof.Proj.KernelArray
public import proofs.«01_k».proof.Proof.Proj.Reference

@[expose] public section

set_option maxRecDepth 16384

noncomputable section

namespace Cert.Proj

open Cert.Kernel2Ideal Cert.Kernel2Ideal.Gen Cert.Kernel2Ideal.Value
open Idealize.ShloMosaic Idealize.ShloMosaic.TcCoe Idealize.SL.Sem
open Idealize.ShloMosaic.Pipeline (Dat)

open Cert.Reference2Ideal.Read (val_main_v179 val_main_v180 val_main_v181 val_main_v183 val_main_v184 val_main_v185 val_main_v186)

/-- Two planes equal at every row and lane are equal. -/
theorem plane_ext {p q : ℕ} {A B : (⟨2, ![p, q]⟩ : Shape).Idx → EReal} (h : ∀ i j, A (ix2 i j) = B (ix2 i j)) : A = B :=
  funext fun i => by rw [eq_ix2 i]; exact h _ _

variable (m : (ℓ : Loc nD τ sig) → Buf (Elt Ideal) ℓ) (c : Dev nD)

/-- The query. -/
theorem query_equal : val_main_v179 (argX m c) (argG m c) (argW m c) = (dats m 0 c).arrAt 6 cfg0.N :=
  plane_ext fun R d => (v179_apply _ _ _ R d).trans (array6 m c R d).symm

/-- The key. -/
theorem key_equal : val_main_v180 (argX m c) (argG m c) (argW m c) = (dats m 0 c).arrAt 7 cfg0.N :=
  plane_ext fun R d => (v180_apply _ _ _ R d).trans (array7 m c R d).symm

/-- The value. -/
theorem value_equal : val_main_v181 (argX m c) (argG m c) (argW m c) = (dats m 0 c).arrAt 8 cfg0.N :=
  plane_ext fun R d => (v181_apply _ _ _ R d).trans (array8 m c R d).symm

/-- The index query. -/
theorem indexQuery_equal : val_main_v183 (argX m c) (argG m c) (argW m c) = (dats m 0 c).arrAt 9 cfg0.N :=
  plane_ext fun R d => (v183_apply _ _ _ R d).trans (array9 m c R d).symm

/-- The index key and the index weights. -/
theorem indexKey_equal : val_main_v184 (argX m c) (argG m c) (argW m c) = (dats m 0 c).arrAt 10 cfg0.N :=
  plane_ext fun R d => (v184_apply _ _ _ R d).trans (array10 m c R d).symm

/-- The first part of the convolution. -/
theorem gate_equal : val_main_v185 (argX m c) (argG m c) (argW m c) = (dats m 0 c).arrAt 11 cfg0.N :=
  plane_ext fun R d => (v185_apply _ _ _ R d).trans (array11 m c R d).symm

/-- The product of the other two. -/
theorem product_equal : val_main_v186 (argX m c) (argG m c) (argW m c) = (dats m 0 c).arrAt 12 cfg0.N :=
  plane_ext fun R d => (v186_apply _ _ _ R d).trans (array12 m c R d).symm

end Cert.Proj
-- ==== Proof.Ffn.KernelBlock.lean ====
/-
  What one grid point of the dense mixer leaves in its carried arrays and in its two result blocks.

  A row block takes two points, one for each half of the hidden width. The first norms the rows and starts the sum from
  zero; the second adds its half and writes the two blocks: the rows plus the sum, and the same normed.
-/
module

public import proofs.«01_k».proof.Proof.Gen.Kernel3Ideal.Value
public import proofs.«01_k».proof.Proof.Moe.KernelBlock
public import Idealize.ShloMosaic.Lib.Pipeline.Value
public import Idealize.ShloMosaic.Lib.Tactic

@[expose] public section

set_option maxRecDepth 16384

noncomputable section

namespace Cert.Ffn

open Cert.Kernel3Ideal Cert.Kernel3Ideal.Gen Cert.Kernel3Ideal.Value
open Idealize.ShloMosaic Idealize.ShloMosaic.TcCoe Idealize.SL.Sem
open Idealize.ShloMosaic.Pipeline (Dat)

open Cert.Moe (zero2 zero3)

variable {F : FTy → Type} [FloatOps F]

/-! The memrefs of one point's call, and the blocks they hold. -/

variable (c : Dev nD) (i : grid0.Coords)
  (arg3 : Memref sig .tc .vmem S512x1024 .f32) (harg3 : arg3.IsWhole)
  (arg4 : Memref sig .tc .vmem S1x1024 .f32) (harg4 : arg4.IsWhole)
  (arg5 : Memref sig .tc .vmem S1x1024x1408 .bf16) (harg5 : arg5.IsWhole)
  (arg6 : Memref sig .tc .vmem S1x1024x1408 .bf16) (harg6 : arg6.IsWhole)
  (arg7 : Memref sig .tc .vmem S1x1408x1024 .bf16) (harg7 : arg7.IsWhole)
  (arg8 : Memref sig .tc .vmem S1x1024 .f32) (harg8 : arg8.IsWhole)
  (arg9 : Memref sig .tc .vmem S512x1024 .f32) (harg9 : arg9.IsWhole)
  (arg10 : Memref sig .tc .vmem S512x1024 .f32) (harg10 : arg10.IsWhole)
  (arg11 : Memref sig .tc .vmem S512x1024 .bf16) (harg11 : arg11.IsWhole)
  (arg12 : Memref sig .tc .vmem S512x1024 .f32) (harg12 : arg12.IsWhole)
  (arg13 : Memref sig .tc .vmem S512x128 .f32) (harg13 : arg13.IsWhole)
  (x : Vec F S512x1024 .f32) (g : Vec F S1x1024 .f32) (wg wu : Vec F S1x1024x1408 .bf16)
  (wd : Vec F S1x1408x1024 .bf16) (g2 : Vec F S1x1024 .f32)
  (xn : Vec F S512x1024 .bf16) (acc : Vec F S512x1024 .f32)

/-- The first point norms the rows. -/
theorem rows_first (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg13 harg13 hc0 hc1 x g wg wu wd g2 = k0_pay1 x g := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x g wg wu wd g2)]
  unfold kernelRun0_A
  dsimp only
  sl_unfold_words
  rw [View.canon_unit_zero (S := S512x1024) zero2]
  simp only [View.readAt_eq_ld, harg3.read_unread, harg4.read_unread, View.ld_unit_zero (S := S512x1024) zero2,
    View.ld_unit_zero (S := S1x1024) zero2]

/-- The first point starts the sum from zero and adds its half. -/
theorem sum_first (hc0 : cond0_0 i) (hc1 : ¬cond0_1 i) :
    sout0_A_1 c i arg3 harg3 arg4 harg4 arg5 harg5 arg6 harg6 arg7 harg7 arg8 harg8 arg9 harg9 arg10 harg10 arg11 harg11 arg12 harg12 arg13 harg13 hc0 hc1 x g wg wu wd g2 = k0_pay3 (k0_pay1 x g) wg wu (k0_pay2 (F := F)) wd := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc1 x g wg wu wd g2)]
  unfold kernelRun0_A
  dsimp only
  sl_unfold_words
  rw [View.canon_cons_unit_zero (S := S512x1024) zero2, View.readCov_unit_zero (S := S512x1024) _ zero2,
    View.readCov_unit_zero (S := S512x1024) _ zero2]
  simp only [View.readAt_eq_ld, harg3.read_unread, harg4.read_unread, harg5.read_unread, harg6.read_unread, harg7.read_unread,
    View.ld_unit_zero (S := S512x1024) zero2, View.ld_unit_zero (S := S1x1024) zero2,
    View.ld_unit_zero (S := S1x1024x1408) zero3, View.ld_unit_zero (S := S1x1408x1024) zero3]

/-- The last point writes the rows plus the finished sum. -/
theorem block_last (hc0 : ¬cond0_0 i) (hc1 : cond0_1 i) :
    out0_B_6 c i arg3 harg3 arg4 harg4 arg5 harg5 arg6 harg6 arg7 harg7 arg8 harg8 arg9 harg9 arg10 harg10 arg11 harg11 arg12 harg12 arg13 harg13 hc0 hc1 x g wg wu wd g2 xn acc = k0_pay4 x (k0_pay3 xn wg wu acc wd) := by
  unfold out0_B_6
  rw [View.read_writes_eq_canon _ _ _ (cover0_B_6 c i arg3 harg3 arg4 harg4 arg5 harg5 arg6 harg6 arg7 harg7 arg8 harg8 arg9 harg9 arg10 harg10 arg11 harg11 arg12 harg12 arg13 harg13 hc0 hc1 x g wg wu wd g2 xn acc)]
  unfold kernelRun0_B
  dsimp only
  sl_unfold_words
  rw [View.canon_unit_zero (S := S512x1024) zero2, View.readCov_unit_zero (S := S512x1024) _ zero2]
  simp only [View.readAt_eq_ld, harg3.read_unread, harg5.read_unread, harg6.read_unread, harg7.read_unread, harg11.read_unread, harg12.read_unread,
    View.ld_unit_zero (S := S512x1024) zero2, View.ld_unit_zero (S := S1x1024x1408) zero3, View.ld_unit_zero (S := S1x1408x1024) zero3]

/-- The last point writes the same rows normed. -/
theorem normed_last (hc0 : ¬cond0_0 i) (hc1 : cond0_1 i) :
    out0_B_7 c i arg3 harg3 arg4 harg4 arg5 harg5 arg6 harg6 arg7 harg7 arg8 harg8 arg9 harg9 arg10 harg10 arg11 harg11 arg12 harg12 arg13 harg13 hc0 hc1 x g wg wu wd g2 xn acc = k0_pay5 x (k0_pay3 xn wg wu acc wd) g2 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 arg13 harg13 hc0 hc1 x g wg wu wd g2 xn acc)]
  unfold kernelRun0_B
  dsimp only
  sl_unfold_words
  rw [View.canon_unit_zero (S := S512x1024) zero2, View.readCov_unit_zero (S := S512x1024) _ zero2]
  simp only [View.readAt_eq_ld, harg3.read_unread, harg5.read_unread, harg6.read_unread, harg7.read_unread, harg8.read_unread, harg11.read_unread, harg12.read_unread,
    View.ld_unit_zero (S := S512x1024) zero2, View.ld_unit_zero (S := S1x1024) zero2, View.ld_unit_zero (S := S1x1024x1408) zero3,
    View.ld_unit_zero (S := S1x1408x1024) zero3]

/-- The arrays a point leaves: the two result blocks, the normed rows, the sum. -/
abbrev Carried (F : FTy → Type) [FloatOps F] : Type :=
  Vec F S512x1024 .f32 × Vec F S512x1024 .f32 × Vec F S512x1024 .bf16 × Vec F S512x1024 .f32

variable (m : (ℓ : Loc nD τ sig) → Buf (Elt F) ℓ)

/-- What the first point of a row block leaves. -/
theorem step_first (c : Dev nD) (t : Fin cfg0.N) (a : Carried F) (h0 : t.val % 2 = 0) (h1 : ¬t.val % 2 = 1) :
    (stAt0 m c t.val t.isLt a).2.2.1 = k0_pay1 (iblk m c 0 t) (iblk m c 1 t) ∧
    (stAt0 m c t.val t.isLt a).2.2.2 = k0_pay3 (k0_pay1 (iblk m c 0 t) (iblk m c 1 t)) (iblk m c 2 t) (iblk m c 3 t)
      (k0_pay2 (F := F)) (iblk m c 4 t) := by
  rw [stAt0_A m c t a h0 h1]
  dsimp only
  rw [rows_first, sum_first]
  exact ⟨rfl, rfl⟩

/-- What the last point of a row block leaves in the result blocks. -/
theorem step_last (c : Dev nD) (t : Fin cfg0.N) (a : Carried F) (h0 : ¬t.val % 2 = 0) (h1 : t.val % 2 = 1) :
    (stAt0 m c t.val t.isLt a).1 = k0_pay4 (iblk m c 0 t) (k0_pay3 a.2.2.1 (iblk m c 2 t) (iblk m c 3 t) a.2.2.2 (iblk m c 4 t)) ∧
    (stAt0 m c t.val t.isLt a).2.1 = k0_pay5 (iblk m c 0 t) (k0_pay3 a.2.2.1 (iblk m c 2 t) (iblk m c 3 t) a.2.2.2 (iblk m c 4 t))
      (iblk m c 5 t) := by
  rw [stAt0_B m c t a h0 h1]
  dsimp only
  rw [block_last, normed_last]
  exact ⟨rfl, rfl⟩

end Cert.Ffn
-- ==== Proof.Ffn.Blocks.lean ====
/-
  The arrays the dense mixer's region reads, and the blocks of them at one grid point, in terms of the arguments.

  Point `t` works on the row block `t / 2` and the half `t % 2` of the hidden width. The host code before the region only
  reshapes the gains and casts the weights; over the extended reals a cast changes nothing.
-/
module

public import proofs.«01_k».proof.Proof.Ffn.KernelBlock
public import proofs.«01_k».proof.Proof.Moe.Mix
public import Idealize.ShloMosaic.Lib.StableHlo.Run
public import Idealize.ShloMosaic.Lib.ValueLayout

@[expose] public section

set_option maxRecDepth 16384

noncomputable section

namespace Cert.Ffn

open Cert.Kernel3Ideal Cert.Kernel3Ideal.Gen Cert.Kernel3Ideal.Value
open Idealize.ShloMosaic Idealize.ShloMosaic.TcCoe Idealize.SL.Sem
open Idealize.ShloMosaic.Pipeline (Dat)

open Cert.Moe (unitOf)

variable (m : (ℓ : Loc nD τ sig) → Buf (Elt Ideal) ℓ) (c : Dev nD)

/-- The gate weights the region reads. -/
theorem gates_eq : V m c main_v2 = (truncf .bf16 (m ((c : Thread nD τ).loc main_arg2) : FVec Ideal S1x1024x2816 .f32) bitsLt_bf16_f32 : FVec Ideal S1x1024x2816 .bf16) := by
  show StableHlo.after hostOps0 (fun b => m (c, b)) main_v2 = _
  after_results

/-- The up weights the region reads. -/
theorem ups_eq : V m c main_v3 = (truncf .bf16 (m ((c : Thread nD τ).loc main_arg3) : FVec Ideal S1x1024x2816 .f32) bitsLt_bf16_f32 : FVec Ideal S1x1024x2816 .bf16) := by
  show StableHlo.after hostOps0 (fun b => m (c, b)) main_v3 = _
  after_results

/-- The down weights the region reads. -/
theorem downs_eq : V m c main_v4 = (truncf .bf16 (m ((c : Thread nD τ).loc main_arg4) : FVec Ideal S1x2816x1024 .f32) bitsLt_bf16_f32 : FVec Ideal S1x2816x1024 .bf16) := by
  show StableHlo.after hostOps0 (fun b => m (c, b)) main_v4 = _
  after_results

/-- The gains of the first norm, as the region reads them. -/
theorem gains_eq : V m c main_v1 = (shapeCast S1x1024 (shapeCast S1024 (m ((c : Thread nD τ).loc main_arg1)) shapeCasts_S1x1024_S1024) shapeCasts_S1024_S1x1024 : FVec Ideal S1x1024 .f32) := by
  show StableHlo.after hostOps0 (fun b => m (c, b)) main_v1 = _
  after_results
  rfl

/-- The gains of the second norm, as the region reads them. -/
theorem nextGains_eq : V m c main_v6 = (shapeCast S1x1024 (shapeCast S1024 (m ((c : Thread nD τ).loc main_arg5)) shapeCasts_S1x1024_S1024) shapeCasts_S1024_S1x1024 : FVec Ideal S1x1024 .f32) := by
  show StableHlo.after hostOps0 (fun b => m (c, b)) main_v6 = _
  after_results
  rfl

/-- The half of the hidden width of a point. -/
def halfOf (t : ℕ) : Fin 2 := ⟨t % 2, Nat.mod_lt _ (by norm_num)⟩

/-- Row `r` of row block `b`. -/
def rowOf (b : Fin 32) (r : Fin 512) : Fin 16384 := ⟨512 * b.val + r.val, by omega⟩

/-- The row block of a point. -/
def blockOf (t : Fin cfg0.N) : Fin 32 := ⟨t.val / 2, by have h := t.isLt; have hN : cfg0.N = 64 := N_0; omega⟩

/-- The first window's blocks follow the rows. -/
theorem index_rows : ∀ t : Fin grid0.N, win0_0.index t 0 = t.val / 2 ∧ win0_0.index t 1 = 0 := by decide +kernel

/-- The windows of the gains never move. -/
theorem index_still : ∀ t : Fin grid0.N, (win0_1.index t 0 = 0 ∧ win0_1.index t 1 = 0) ∧
    (win0_5.index t 0 = 0 ∧ win0_5.index t 1 = 0) := by decide +kernel

/-- The windows of the gate and up weights follow, on the last axis, the half. -/
theorem index_wide : ∀ t : Fin grid0.N, (win0_2.index t 0 = 0 ∧ win0_2.index t 1 = 0 ∧ win0_2.index t 2 = t.val % 2) ∧
    (win0_3.index t 0 = 0 ∧ win0_3.index t 1 = 0 ∧ win0_3.index t 2 = t.val % 2) := by decide +kernel

/-- The window of the down weights follows, on the middle axis, the half. -/
theorem index_down : ∀ t : Fin grid0.N, win0_4.index t 0 = 0 ∧ win0_4.index t 1 = t.val % 2 ∧ win0_4.index t 2 = 0 := by
  decide +kernel

/-- The gains at every point. -/
theorem block_gains (t : Fin cfg0.N) (k : Fin 1024) :
    iblk m c 1 t (ix2 0 k) = m ((c : Thread nD τ).loc main_arg1) (ix2 0 k) := by
  have hi := (index_still t).1
  refine Eq.trans ?_ ((congrFun (gains_eq m c) (ix2 0 k)).trans
    ((ValueIdx.shapeCast_a_1a_apply _ _ 0 k).trans (ValueIdx.shapeCast_1a_a_apply _ _ k)))
  unfold iblk
  rw [View.read_apply]
  show V m c main_v1 _ = V m c main_v1 _
  congr 1
  funext a
  apply Fin.ext
  match a with
  | ⟨0, _⟩ =>
    show win0_1.index t 0 * 1 + 1 * 0 = 0
    rw [hi.1]
  | ⟨1, _⟩ =>
    show win0_1.index t 1 * 1024 + 1 * k.val = k.val
    rw [hi.2]; omega

/-- The second norm's gains at every point. -/
theorem block_nextGains (t : Fin cfg0.N) (k : Fin 1024) :
    iblk m c 5 t (ix2 0 k) = m ((c : Thread nD τ).loc main_arg5) (ix2 0 k) := by
  have hi := (index_still t).2
  refine Eq.trans ?_ ((congrFun (nextGains_eq m c) (ix2 0 k)).trans
    ((ValueIdx.shapeCast_a_1a_apply _ _ 0 k).trans (ValueIdx.shapeCast_1a_a_apply _ _ k)))
  unfold iblk
  rw [View.read_apply]
  show V m c main_v6 _ = V m c main_v6 _
  congr 1
  funext a
  apply Fin.ext
  match a with
  | ⟨0, _⟩ =>
    show win0_5.index t 0 * 1 + 1 * 0 = 0
    rw [hi.1]
  | ⟨1, _⟩ =>
    show win0_5.index t 1 * 1024 + 1 * k.val = k.val
    rw [hi.2]; omega

/-- The gate weights at a point. -/
theorem block_gates (t : Fin cfg0.N) (k : Fin 1024) (f : Fin 1408) :
    iblk m c 2 t (ix3 0 k f) = m ((c : Thread nD τ).loc main_arg2) (ix3 0 k (unitOf (halfOf t.val) f)) := by
  have hi := (index_wide t).1
  refine Eq.trans ?_ (congrFun (gates_eq m c) (ix3 0 k (unitOf (halfOf t.val) f)))
  unfold iblk
  rw [View.read_apply]
  show V m c main_v2 _ = V m c main_v2 _
  congr 1
  funext a
  apply Fin.ext
  match a with
  | ⟨0, _⟩ =>
    show win0_2.index t 0 * 1 + 1 * 0 = 0
    rw [hi.1]
  | ⟨1, _⟩ =>
    show win0_2.index t 1 * 1024 + 1 * k.val = k.val
    rw [hi.2.1]; omega
  | ⟨2, _⟩ =>
    show win0_2.index t 2 * 1408 + 1 * f.val = 1408 * (t.val % 2) + f.val
    rw [hi.2.2]; omega

/-- The up weights at a point. -/
theorem block_ups (t : Fin cfg0.N) (k : Fin 1024) (f : Fin 1408) :
    iblk m c 3 t (ix3 0 k f) = m ((c : Thread nD τ).loc main_arg3) (ix3 0 k (unitOf (halfOf t.val) f)) := by
  have hi := (index_wide t).2
  refine Eq.trans ?_ (congrFun (ups_eq m c) (ix3 0 k (unitOf (halfOf t.val) f)))
  unfold iblk
  rw [View.read_apply]
  show V m c main_v3 _ = V m c main_v3 _
  congr 1
  funext a
  apply Fin.ext
  match a with
  | ⟨0, _⟩ =>
    show win0_3.index t 0 * 1 + 1 * 0 = 0
    rw [hi.1]
  | ⟨1, _⟩ =>
    show win0_3.index t 1 * 1024 + 1 * k.val = k.val
    rw [hi.2.1]; omega
  | ⟨2, _⟩ =>
    show win0_3.index t 2 * 1408 + 1 * f.val = 1408 * (t.val % 2) + f.val
    rw [hi.2.2]; omega

/-- The down weights at a point. -/
theorem block_downs (t : Fin cfg0.N) (f : Fin 1408) (d : Fin 1024) :
    iblk m c 4 t (ix3 0 f d) = m ((c : Thread nD τ).loc main_arg4) (ix3 0 (unitOf (halfOf t.val) f) d) := by
  have hi := index_down t
  refine Eq.trans ?_ (congrFun (downs_eq m c) (ix3 0 (unitOf (halfOf t.val) f) d))
  unfold iblk
  rw [View.read_apply]
  show V m c main_v4 _ = V m c main_v4 _
  congr 1
  funext a
  apply Fin.ext
  match a with
  | ⟨0, _⟩ =>
    show win0_4.index t 0 * 1 + 1 * 0 = 0
    rw [hi.1]
  | ⟨1, _⟩ =>
    show win0_4.index t 1 * 1408 + 1 * f.val = 1408 * (t.val % 2) + f.val
    rw [hi.2.1]; omega
  | ⟨2, _⟩ =>
    show win0_4.index t 2 * 1024 + 1 * d.val = d.val
    rw [hi.2.2]; omega

/-- The rows at a point. -/
theorem block_rows (t : Fin cfg0.N) (r : Fin 512) (k : Fin 1024) :
    iblk m c 0 t (ix2 r k) = m ((c : Thread nD τ).loc main_arg0) (ix2 (rowOf (blockOf t) r) k) := by
  have hi := index_rows t
  refine Eq.trans ?_ (congrFun (V_main_arg0 m c) (ix2 (rowOf (blockOf t) r) k))
  unfold iblk
  rw [View.read_apply]
  show V m c main_arg0 _ = V m c main_arg0 _
  congr 1
  funext a
  apply Fin.ext
  match a with
  | ⟨0, _⟩ =>
    show win0_0.index t 0 * 512 + 1 * r.val = 512 * (t.val / 2) + r.val
    rw [hi.1]; omega
  | ⟨1, _⟩ =>
    show win0_0.index t 1 * 1024 + 1 * k.val = k.val
    rw [hi.2]; omega

end Cert.Ffn
-- ==== Proof.Ffn.KernelArray.lean ====
/-
  The two arrays the dense mixer ends with: every row plus its gated product, and the same rows normed.
-/
module

public import proofs.«01_k».proof.Proof.Ffn.Blocks
public import Idealize.ShloMosaic.Lib.Pointwise

@[expose] public section

set_option maxRecDepth 16384

noncomputable section

namespace Cert.Ffn

open Cert.Kernel3Ideal Cert.Kernel3Ideal.Gen Cert.Kernel3Ideal.Value
open Idealize.ShloMosaic Idealize.ShloMosaic.TcCoe Idealize.SL.Sem
open Idealize.ShloMosaic.Pipeline (Dat)

open Cert.Moe (normRow hidden expert unitOf sum_halves)

/-! The arithmetic of one point at a row and a column. -/

/-- The rows stored by the first point are normed. -/
theorem pay1_apply (x : Vec Ideal S512x1024 .f32) (g : Vec Ideal S1x1024 .f32) (r : Fin 512) (k : Fin 1024) :
    k0_pay1 x g (ix2 r k) = normRow (fun k => x (ix2 r k)) (fun k => g (ix2 0 k)) k := by
  pointwise [k0_pay1]
  rfl

/-- The sum starts from zero. -/
theorem pay2_apply (r : Fin 512) (k : Fin 1024) : k0_pay2 (F := Ideal) (ix2 r k) = 0 := by
  pointwise [k0_pay2]

/-- The sum plus one half of the hidden width. -/
theorem pay3_apply (xn : Vec Ideal S512x1024 .bf16) (wg wu : Vec Ideal S1x1024x1408 .bf16) (acc : Vec Ideal S512x1024 .f32)
    (wd : Vec Ideal S1x1408x1024 .bf16) (r : Fin 512) (d : Fin 1024) :
    k0_pay3 xn wg wu acc wd (ix2 r d) = acc (ix2 r d)
      + ∑ f : Fin 1408, (∑ k : Fin 1024, xn (ix2 r k) * wg (ix3 0 k f)) * Ideal.logistic (∑ k : Fin 1024, xn (ix2 r k) * wg (ix3 0 k f))
          * (∑ k : Fin 1024, xn (ix2 r k) * wu (ix3 0 k f)) * wd (ix3 0 f d) := by
  pointwise [k0_pay3]

/-- The first result's rows: the rows plus the sum. -/
theorem pay4_apply (x y : Vec Ideal S512x1024 .f32) (r : Fin 512) (k : Fin 1024) :
    k0_pay4 x y (ix2 r k) = x (ix2 r k) + y (ix2 r k) := by
  pointwise [k0_pay4]

/-- The second result's rows: the same, normed. -/
theorem pay5_apply (x y : Vec Ideal S512x1024 .f32) (g : Vec Ideal S1x1024 .f32) (r : Fin 512) (k : Fin 1024) :
    k0_pay5 x y g (ix2 r k) = normRow (fun k => x (ix2 r k) + y (ix2 r k)) (fun k => g (ix2 0 k)) k := by
  pointwise [k0_pay5, k0_pay4]
  rfl

/-! The arrays. -/

/-- The arguments of the dense mixer, by their coordinates. -/
structure Weights where
  /-- The gains of the norm before the mixer. -/
  g : Fin 1024 → EReal
  /-- The gate weights. -/
  wg : Fin 1024 → Fin 2816 → EReal
  /-- The up weights. -/
  wu : Fin 1024 → Fin 2816 → EReal
  /-- The down weights. -/
  wd : Fin 2816 → Fin 1024 → EReal
  /-- The gains of the norm after the mixer. -/
  g2 : Fin 1024 → EReal

/-- The row plus its gated product. -/
def mixedRow (W : Weights) (x : Fin 1024 → EReal) (d : Fin 1024) : EReal :=
  x d + expert (normRow x W.g) W.wg W.wu W.wd d

/-- The same, normed. -/
def normedRow (W : Weights) (x : Fin 1024 → EReal) (d : Fin 1024) : EReal := normRow (mixedRow W x) W.g2 d

/-- The product's sum over one half of the hidden width. -/
def half (W : Weights) (x : Fin 1024 → EReal) (h : Fin 2) (d : Fin 1024) : EReal :=
  ∑ f, hidden (normRow x W.g) W.wg W.wu (unitOf h f) * W.wd (unitOf h f) d

/-- The two halves make the whole. -/
theorem half_add (W : Weights) (x : Fin 1024 → EReal) (d : Fin 1024) :
    half W x 0 d + half W x 1 d = expert (normRow x W.g) W.wg W.wu W.wd d :=
  (sum_halves fun f => hidden (normRow x W.g) W.wg W.wu f * W.wd f d).symm

variable (m : (ℓ : Loc nD τ sig) → Buf (Elt Ideal) ℓ) (c : Dev nD)

/-- The weights in the launched arguments, by their coordinates. -/
def weightsOf : Weights where
  g k := m ((c : Thread nD τ).loc main_arg1) (ix2 0 k)
  wg k f := m ((c : Thread nD τ).loc main_arg2) (ix3 0 k f)
  wu k f := m ((c : Thread nD τ).loc main_arg3) (ix3 0 k f)
  wd f d := m ((c : Thread nD τ).loc main_arg4) (ix3 0 f d)
  g2 k := m ((c : Thread nD τ).loc main_arg5) (ix2 0 k)

/-- Row `R` of the launched rows. -/
def rowAt (R : Fin 16384) (k : Fin 1024) : EReal := m ((c : Thread nD τ).loc main_arg0) (ix2 R k)

/-- A point adds its half. -/
theorem add_half (t : Fin cfg0.N) (b : Fin 32) (xn : Vec Ideal S512x1024 .bf16) (acc : Vec Ideal S512x1024 .f32)
    (hx : ∀ r k, xn (ix2 r k) = normRow (rowAt m c (rowOf b r)) (weightsOf m c).g k) (r : Fin 512) (d : Fin 1024) :
    k0_pay3 xn (iblk m c 2 t) (iblk m c 3 t) acc (iblk m c 4 t) (ix2 r d)
      = acc (ix2 r d) + half (weightsOf m c) (rowAt m c (rowOf b r)) (halfOf t.val) d := by
  rw [pay3_apply]
  refine congrArg (acc (ix2 r d) + ·) ?_
  unfold half Moe.hidden
  refine Finset.sum_congr rfl fun f _ => ?_
  simp only [hx, block_gates, block_ups, block_downs]
  rfl

/-- The carried arrays after the first point of a row block: the normed rows and the first half. -/
theorem first_holds (t : Fin cfg0.N) (a : Carried Ideal) (h0 : t.val % 2 = 0) :
    (∀ r k, (stAt0 m c t.val t.isLt a).2.2.1 (ix2 r k) = normRow (rowAt m c (rowOf (blockOf t) r)) (weightsOf m c).g k) ∧
    ∀ r d, (stAt0 m c t.val t.isLt a).2.2.2 (ix2 r d) = half (weightsOf m c) (rowAt m c (rowOf (blockOf t) r)) 0 d := by
  obtain ⟨e1, e2⟩ := step_first m c t a h0 (by omega)
  have hr : ∀ r k, k0_pay1 (iblk m c 0 t) (iblk m c 1 t) (ix2 r k) = normRow (rowAt m c (rowOf (blockOf t) r)) (weightsOf m c).g k :=
    fun r k => by
      rw [pay1_apply]
      simp only [block_rows, block_gains]
      rfl
  have hh : halfOf t.val = 0 := Fin.ext (by show t.val % 2 = 0; omega)
  refine ⟨fun r k => by rw [e1]; exact hr r k, fun r d => ?_⟩
  rw [e2, add_half m c t (blockOf t) _ _ hr, pay2_apply, zero_add, hh]

/-- The carried arrays after a row block's first point, whatever was carried into it. -/
theorem outs_first (b : Fin 32) (hn : 2 * b.val < cfg0.N) :
    (∀ r k, (outsAt0 m c (2 * b.val) hn).2.2.1 (ix2 r k) = normRow (rowAt m c (rowOf b r)) (weightsOf m c).g k) ∧
    ∀ r d, (outsAt0 m c (2 * b.val) hn).2.2.2 (ix2 r d) = half (weightsOf m c) (rowAt m c (rowOf b r)) 0 d := by
  have hs : ∃ a, outsAt0 m c (2 * b.val) hn = stAt0 m c (2 * b.val) hn a := by
    have h : ∀ n (hn : n < cfg0.N), ∃ a, outsAt0 m c n hn = stAt0 m c n hn a := by
      intro n hn
      cases n with
      | zero => exact ⟨_, outsAt0_zero m c hn⟩
      | succ n => exact ⟨_, outsAt0_succ m c n hn⟩
    exact h _ hn
  obtain ⟨a, ha⟩ := hs
  have h := first_holds m c ⟨2 * b.val, hn⟩ a (by show 2 * b.val % 2 = 0; omega)
  have hb : blockOf ⟨2 * b.val, hn⟩ = b := Fin.ext (by show 2 * b.val / 2 = b.val; omega)
  rw [hb] at h
  rw [ha]
  exact h

/-- The blocks the last point of a row block writes. -/
theorem blocks_result (b : Fin 32) (hn : 2 * b.val + 1 < cfg0.N) (r : Fin 512) (d : Fin 1024) :
    (outsAt0 m c (2 * b.val + 1) hn).1 (ix2 r d) = mixedRow (weightsOf m c) (rowAt m c (rowOf b r)) d ∧
    (outsAt0 m c (2 * b.val + 1) hn).2.1 (ix2 r d) = normedRow (weightsOf m c) (rowAt m c (rowOf b r)) d := by
  have hb : blockOf ⟨2 * b.val + 1, hn⟩ = b := Fin.ext (by show (2 * b.val + 1) / 2 = b.val; omega)
  have hh : halfOf (2 * b.val + 1) = 1 := Fin.ext (by show (2 * b.val + 1) % 2 = 1; omega)
  obtain ⟨h1, h2⟩ := outs_first m c b (Nat.lt_of_succ_lt hn)
  have hsum : ∀ k, k0_pay3 (outsAt0 m c (2 * b.val) (Nat.lt_of_succ_lt hn)).2.2.1 (iblk m c 2 ⟨2 * b.val + 1, hn⟩)
      (iblk m c 3 ⟨2 * b.val + 1, hn⟩) (outsAt0 m c (2 * b.val) (Nat.lt_of_succ_lt hn)).2.2.2 (iblk m c 4 ⟨2 * b.val + 1, hn⟩) (ix2 r k)
      = expert (normRow (rowAt m c (rowOf b r)) (weightsOf m c).g) (weightsOf m c).wg (weightsOf m c).wu (weightsOf m c).wd k := fun k => by
    rw [add_half m c ⟨2 * b.val + 1, hn⟩ b _ _ h1, h2]
    show _ + half _ _ (halfOf (2 * b.val + 1)) _ = _
    rw [hh]
    exact half_add _ _ k
  obtain ⟨e1, e2⟩ := step_last m c ⟨2 * b.val + 1, hn⟩ (outsAt0 m c (2 * b.val) (Nat.lt_of_succ_lt hn))
    (by show ¬(2 * b.val + 1) % 2 = 0; omega) (by show (2 * b.val + 1) % 2 = 1; omega)
  rw [show outsAt0 m c (2 * b.val + 1) hn = stAt0 m c (2 * b.val + 1) hn (outsAt0 m c (2 * b.val) (Nat.lt_of_succ_lt hn))
    from outsAt0_succ m c (2 * b.val) hn]
  constructor
  · refine (congrFun e1 (ix2 r d)).trans ?_
    rw [pay4_apply, hsum, block_rows, hb]
    rfl
  · refine (congrFun e2 (ix2 r d)).trans ?_
    rw [pay5_apply]
    simp only [hsum, block_rows, block_nextGains, hb]
    rfl

/-- Where a row of the result arrays stands: its block, the point that writes it, and its place. -/
theorem place (R : Fin 16384) (d : Fin 1024) :
    loc6Of (ix2 R d) = ix2 ⟨R.val % 512, by omega⟩ d ∧ loc7Of (ix2 R d) = ix2 ⟨R.val % 512, by omega⟩ d := by
  constructor <;>
  · funext a
    apply Fin.ext
    match a with
    | ⟨0, _⟩ => rfl
    | ⟨1, _⟩ => show d.val % 1024 = d.val; omega

/-- What two equal points leave is equal. -/
theorem outs_congr {n n' : ℕ} (hn : n < cfg0.N) (hn' : n' < cfg0.N) (e : n = n') : outsAt0 m c n hn = outsAt0 m c n' hn' := by
  subst e; rfl

/-- The result arrays at row `R`. -/
theorem result_apply (R : Fin 16384) (d : Fin 1024) :
    G6 m c (ix2 R d) = mixedRow (weightsOf m c) (rowAt m c R) d ∧ G7 m c (ix2 R d) = normedRow (weightsOf m c) (rowAt m c R) d := by
  have hN : cfg0.N = 64 := N_0
  have hlt6 : pt6Of (ix2 R d) < cfg0.N := by
    show 2 * (1 * (R.val / 512 - 0) + 1 * (d.val / 1024 - 0)) + 1 < cfg0.N
    omega
  have hlt7 : pt7Of (ix2 R d) < cfg0.N := hlt6
  have hp : pt6Of (ix2 R d) = 2 * (⟨R.val / 512, by omega⟩ : Fin 32).val + 1 := by
    show 2 * (1 * (R.val / 512 - 0) + 1 * (d.val / 1024 - 0)) + 1 = 2 * (R.val / 512) + 1
    omega
  have hR : rowOf ⟨R.val / 512, by omega⟩ ⟨R.val % 512, by omega⟩ = R :=
    Fin.ext (by show 512 * (R.val / 512) + R.val % 512 = R.val; omega)
  have h := blocks_result m c ⟨R.val / 512, by omega⟩ (by show 2 * (R.val / 512) + 1 < cfg0.N; omega) ⟨R.val % 512, by omega⟩ d
  rw [hR] at h
  have hn : 2 * (⟨R.val / 512, by omega⟩ : Fin 32).val + 1 < cfg0.N := by show 2 * (R.val / 512) + 1 < cfg0.N; omega
  constructor
  · unfold G6
    rw [dif_pos hlt6, ← outsAt0_sweep m c _ hlt6, (place R d).1, outs_congr m c hlt6 hn hp]
    exact h.1
  · unfold G7
    rw [dif_pos hlt7, ← outsAt0_sweep m c _ hlt7, (place R d).2, outs_congr m c hlt7 hn hp]
    exact h.2

end Cert.Ffn
-- ==== Proof.Ffn.Equal.lean ====
/-
  The dense mixer: the kernel's two arrays are the reference's, over the extended reals and for all arguments.
-/
module

public import proofs.«01_k».proof.Proof.Ffn.KernelArray
public import proofs.«01_k».proof.Proof.Gen.Reference3Ideal.Read

@[expose] public section

set_option maxRecDepth 16384

noncomputable section

namespace Cert.Ffn

open Cert.Reference3Ideal Cert.Reference3Ideal.Gen Cert.Reference3Ideal.Read
open Idealize.ShloMosaic Idealize.ShloMosaic.TcCoe

open Cert.Moe (normRow expert)

/-- The reference's norm of an array of rows. -/
theorem norm_apply (x : FVec Ideal S16384x1024 .f32) (g : FVec Ideal S1024 .f32) (R : Fin 16384) (k : Fin 1024) :
    mulf (mulf x (broadcastInDim S16384x1024 ![0, 1] bcast_S16384x1_S16384x1024_0_1 (Host.rsqrt (addf (Host.divf
      (broadcastInDim S16384x1 ![0] bcast_S16384_S16384x1_0 (Host.reduceAdd (mulf x x) (constant S_ .f32 0x00000000#32)
        reducesTo_S16384x1024_S16384_d1 h_S_)) (broadcastInDim S16384x1 ![] bcast_S_S16384x1 (constant S_ .f32 0x44800000#32)))
      (broadcastInDim S16384x1 ![] bcast_S_S16384x1 (constant S_ .f32 0x358637BD#32))))))
      (broadcastInDim S16384x1024 ![0, 1] bcast_S1x1024_S16384x1024_0_1 (broadcastInDim S1x1024 ![1] bcast_S1024_S1x1024_1 g)) (ix2 R k)
    = normRow (fun k => x (ix2 R k)) (fun k => g (ix1 k)) k := by
  pointwise []
  rfl

/-- The gated product applied to the rows `n`. -/
theorem gated_apply (n : FVec Ideal S16384x1024 .f32) (A B : FVec Ideal S1024x2816 .f32) (D : FVec Ideal S2816x1024 .f32)
    (R : Fin 16384) (d : Fin 1024) :
    Host.dotGeneral dot_S16384x2816_S2816x1024_S16384x1024_1_0_0_1_n_n none
      (mulf (mulf (Host.dotGeneral dot_S16384x1024_S1024x2816_S16384x2816_1_0_0_1_n_n none n A)
        (Host.divf (broadcastInDim S16384x2816 ![] bcast_S_S16384x2816 (constant S_ .f32 0x3F800000#32))
          (addf (broadcastInDim S16384x2816 ![] bcast_S_S16384x2816 (constant S_ .f32 0x3F800000#32))
            (Host.exp (Host.negf (Host.dotGeneral dot_S16384x1024_S1024x2816_S16384x2816_1_0_0_1_n_n none n A))))))
        (Host.dotGeneral dot_S16384x1024_S1024x2816_S16384x2816_1_0_0_1_n_n none n B)) D (ix2 R d)
      = expert (fun k => n (ix2 R k)) (fun k f => A (ix2 k f)) (fun k f => B (ix2 k f)) (fun f d => D (ix2 f d)) d := by
  pointwise []
  rfl

variable (x0 : (⟨S16384x1024, .f32⟩ : BufTy).Contents (Elt Ideal)) (x1 : (⟨S1x1024, .f32⟩ : BufTy).Contents (Elt Ideal))
  (x2 x3 : (⟨S1x1024x2816, .f32⟩ : BufTy).Contents (Elt Ideal)) (x4 : (⟨S1x2816x1024, .f32⟩ : BufTy).Contents (Elt Ideal))
  (x5 : (⟨S1x1024, .f32⟩ : BufTy).Contents (Elt Ideal))

/-- The reference's arguments by their coordinates. -/
def refWeights : Weights where
  g k := x1 (ix2 0 k)
  wg k f := x2 (ix3 0 k f)
  wu k f := x3 (ix3 0 k f)
  wd f d := x4 (ix3 0 f d)
  g2 k := x5 (ix2 0 k)

/-- The normed rows. -/
theorem v13_apply (R : Fin 16384) (k : Fin 1024) :
    val_main_v13 x0 x1 (ix2 R k) = normRow (fun k => x0 (ix2 R k)) (fun k => x1 (ix2 0 k)) k := by
  have h := norm_apply x0 (val_main_v0 x1) R k
  have h0 : (fun k => val_main_v0 x1 (ix1 k)) = fun k => x1 (ix2 0 k) := by
    funext k
    pointwise [val_main_v0]
  rw [h0] at h
  exact h

/-- The first result: the rows plus their gated product. -/
theorem v22_apply (R : Fin 16384) (d : Fin 1024) :
    val_main_v22 x0 x1 x2 x3 x4 (ix2 R d) = mixedRow (refWeights x1 x2 x3 x4 x5) (fun k => x0 (ix2 R k)) d := by
  refine congrArg (x0 (ix2 R d) + ·) ((gated_apply (val_main_v13 x0 x1) (val_main_v14 x2) (val_main_v15 x3) (val_main_v16 x4) R d).trans ?_)
  have ha : ∀ k f, val_main_v14 x2 (ix2 k f) = x2 (ix3 0 k f) := fun k f => ValueIdx.shapeCast_1ab_ab_apply _ _ k f
  have hb : ∀ k f, val_main_v15 x3 (ix2 k f) = x3 (ix3 0 k f) := fun k f => ValueIdx.shapeCast_1ab_ab_apply _ _ k f
  have hd : ∀ f d, val_main_v16 x4 (ix2 f d) = x4 (ix3 0 f d) := fun f d => ValueIdx.shapeCast_1ab_ab_apply _ _ f d
  simp only [v13_apply, ha, hb, hd]
  rfl

/-- The second result: the same, normed. -/
theorem v36_apply (R : Fin 16384) (d : Fin 1024) :
    val_main_v36 x0 x1 x2 x3 x4 x5 (ix2 R d) = normedRow (refWeights x1 x2 x3 x4 x5) (fun k => x0 (ix2 R k)) d := by
  have h := norm_apply (val_main_v22 x0 x1 x2 x3 x4) (val_main_v23 x5) R d
  have h0 : (fun k => val_main_v23 x5 (ix1 k)) = fun k => x5 (ix2 0 k) := by
    funext k
    pointwise [val_main_v23]
  rw [h0] at h
  simp only [v22_apply x0 x1 x2 x3 x4 x5] at h
  exact h

/-- The kernel's arrays are the reference's, at the kernel's arguments. -/
theorem results_equal (m : (ℓ : Loc Kernel3Ideal.nD Kernel3Ideal.τ Kernel3Ideal.sig) → Buf (Elt Ideal) ℓ) (c : Dev Kernel3Ideal.nD) :
    val_main_v22 (m ((c : Thread Kernel3Ideal.nD Kernel3Ideal.τ).loc Kernel3Ideal.main_arg0))
        (m ((c : Thread Kernel3Ideal.nD Kernel3Ideal.τ).loc Kernel3Ideal.main_arg1))
        (m ((c : Thread Kernel3Ideal.nD Kernel3Ideal.τ).loc Kernel3Ideal.main_arg2))
        (m ((c : Thread Kernel3Ideal.nD Kernel3Ideal.τ).loc Kernel3Ideal.main_arg3))
        (m ((c : Thread Kernel3Ideal.nD Kernel3Ideal.τ).loc Kernel3Ideal.main_arg4)) = Kernel3Ideal.Value.G6 m c ∧
    val_main_v36 (m ((c : Thread Kernel3Ideal.nD Kernel3Ideal.τ).loc Kernel3Ideal.main_arg0))
        (m ((c : Thread Kernel3Ideal.nD Kernel3Ideal.τ).loc Kernel3Ideal.main_arg1))
        (m ((c : Thread Kernel3Ideal.nD Kernel3Ideal.τ).loc Kernel3Ideal.main_arg2))
        (m ((c : Thread Kernel3Ideal.nD Kernel3Ideal.τ).loc Kernel3Ideal.main_arg3))
        (m ((c : Thread Kernel3Ideal.nD Kernel3Ideal.τ).loc Kernel3Ideal.main_arg4))
        (m ((c : Thread Kernel3Ideal.nD Kernel3Ideal.τ).loc Kernel3Ideal.main_arg5)) = Kernel3Ideal.Value.G7 m c := by
  have hx : ∀ i : S16384x1024.Idx, i = ix2 (i 0) (i 1) := fun i => funext fun a => by
    match a with
    | ⟨0, _⟩ => rfl
    | ⟨1, _⟩ => rfl
  constructor <;> funext i <;> rw [hx i]
  · exact (v22_apply _ _ _ _ _ (m ((c : Thread Kernel3Ideal.nD Kernel3Ideal.τ).loc Kernel3Ideal.main_arg5)) (i 0) (i 1)).trans
      (result_apply m c (i 0) (i 1)).1.symm
  · exact (v36_apply _ _ _ _ _ _ (i 0) (i 1)).trans (result_apply m c (i 0) (i 1)).2.symm

end Cert.Ffn
-- ==== Proof.Heads.Sum.lean ====
/-
  Sums over a head's 64 lanes by a product with a table of ones: a row of 1024 lanes is cut into eight chunks of 128,
  each chunk is split into a rounded part and the rest, and both are multiplied by the table that joins lanes of one
  head. For a finite row the rest is zero, and what a lane gets is the sum over its head.
-/
module

public import proofs.«01_k».proof.Proof.Gen.Kernel4Ideal.Value
public import proofs.«01_k».proof.Proof.Moe.Finite
public import Idealize.ShloMosaic.Lib.Pointwise
public import Idealize.ShloMosaic.Lib.ValueLayout

@[expose] public section

set_option maxRecDepth 16384

noncomputable section

namespace Cert.Heads

open Cert.Kernel4Ideal Cert.Kernel4Ideal.Gen
open Idealize.ShloMosaic Idealize.ShloMosaic.TcCoe

open Cert.Moe (IsReal)

/-- The sum over the head of lane `d`. -/
def headSum (s : Fin 1024 → EReal) (d : Fin 1024) : EReal := ∑ e : Fin 64, s ⟨d.val / 64 * 64 + e.val, by omega⟩

/-- One chunk of a block, split in two and multiplied by the table. -/
def chunk (y : FVec Ideal S256x128 .f32) (g : Vec Ideal S128x128 .bf16) : FVec Ideal S256x128 .f32 :=
  addf (matmul (φ₂ := .bf16) dot_S256x128_S128x128_S256x128_1_0_0_1_n_n none (truncf .bf16 y bitsLt_bf16_f32) g
      (constant S256x128 .f32 0x00000000#32))
    (matmul (φ₂ := .bf16) dot_S256x128_S128x128_S256x128_1_0_0_1_n_n none
      (truncf .bf16 (subf y (extf .f32 (truncf .bf16 y bitsLt_bf16_f32) bitsLt_bf16_f32)) bitsLt_bf16_f32) g
      (constant S256x128 .f32 0x00000000#32))

theorem chunk_apply (y : FVec Ideal S256x128 .f32) (g : Vec Ideal S128x128 .bf16) (r : Fin 256) (l : Fin 128) :
    chunk y g (ix2 r l) = (∑ q : Fin 128, y (ix2 r q) * g (ix2 q l)) + ∑ q : Fin 128, (y (ix2 r q) - y (ix2 r q)) * g (ix2 q l) := by
  pointwise [chunk]

/-- Chunk `j` of a block. -/
def cutAt (s : FVec Ideal S256x1024 .f32) : Fin 8 → FVec Ideal S256x128 .f32
  | 0 => extractStridedSlice S256x128 ![0, 0] s slices_S256x1024_o0_0_S256x128
  | 1 => extractStridedSlice S256x128 ![0, 128] s slices_S256x1024_o0_128_S256x128
  | 2 => extractStridedSlice S256x128 ![0, 256] s slices_S256x1024_o0_256_S256x128
  | 3 => extractStridedSlice S256x128 ![0, 384] s slices_S256x1024_o0_384_S256x128
  | 4 => extractStridedSlice S256x128 ![0, 512] s slices_S256x1024_o0_512_S256x128
  | 5 => extractStridedSlice S256x128 ![0, 640] s slices_S256x1024_o0_640_S256x128
  | 6 => extractStridedSlice S256x128 ![0, 768] s slices_S256x1024_o0_768_S256x128
  | 7 => extractStridedSlice S256x128 ![0, 896] s slices_S256x1024_o0_896_S256x128

theorem cutAt_apply (s : FVec Ideal S256x1024 .f32) (j : Fin 8) (r : Fin 256) (q : Fin 128) :
    cutAt s j (ix2 r q) = s (ix2 r ⟨128 * j.val + q.val, by omega⟩) := by
  have hq := q.isLt
  have at_lane : ∀ (o : ℕ) (f : Shape.Slices S256x1024 ![0, o] S256x128) (h : o + q.val < 1024),
      extractStridedSlice S256x128 ![0, o] s f (ix2 r q) = s (ix2 r ⟨o + q.val, h⟩) := fun o f h =>
    extractStridedSlice_apply ![0, o] s f (ix2 r q) (ix2 r ⟨o + q.val, h⟩) (fun a => match a with
      | ⟨0, _⟩ => (Nat.zero_add _).symm
      | ⟨1, _⟩ => rfl)
  match j with
  | 0 => exact at_lane 0 slices_S256x1024_o0_0_S256x128 _
  | 1 => exact at_lane 128 slices_S256x1024_o0_128_S256x128 _
  | 2 => exact at_lane 256 slices_S256x1024_o0_256_S256x128 _
  | 3 => exact at_lane 384 slices_S256x1024_o0_384_S256x128 _
  | 4 => exact at_lane 512 slices_S256x1024_o0_512_S256x128 _
  | 5 => exact at_lane 640 slices_S256x1024_o0_640_S256x128 _
  | 6 => exact at_lane 768 slices_S256x1024_o0_768_S256x128 _
  | 7 => exact at_lane 896 slices_S256x1024_o0_896_S256x128 _

/-- Eight chunks of a row. -/
abbrev parts (f : Fin 8 → FVec Ideal S256x128 .f32) : List ((s : Shape) × (s.Idx → EReal)) :=
  [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩]

/-- Eight chunks side by side, at a lane. -/
theorem join_apply (f : Fin 8 → FVec Ideal S256x128 .f32)
    (h : Shape.Concatenates ((parts f).map (·.1)) S256x1024 1) (r : Fin 256) (d : Fin 1024)
    (j : Fin 8) (l : Fin 128) (hd : d.val = 128 * j.val + l.val) :
    concatenate S256x1024 1 (parts f) h (ix2 r d) = f j (ix2 r l) := by
  have side : ∀ q : Fin 2, q ≠ 1 → (ix2 (n0 := 256) (n1 := 128) r l q).val = (ix2 (n0 := 256) (n1 := 1024) r d q).val := by
    intro q hq
    match q, hq with
    | ⟨0, _⟩, _ => rfl
    | ⟨1, _⟩, hq => exact absurd rfl hq
  fin_cases j
  · exact concatenate_apply_piece 1 (parts f) h (ix2 r d) 0 (by show 0 < 8; decide) S256x128 _ rfl rfl 0 rfl (ix2 r l) (fun q hq => side q hq) hd.symm
  · exact concatenate_apply_piece 1 (parts f) h (ix2 r d) 1 (by show 1 < 8; decide) S256x128 _ rfl rfl 128 rfl (ix2 r l) (fun q hq => side q hq) hd.symm
  · exact concatenate_apply_piece 1 (parts f) h (ix2 r d) 2 (by show 2 < 8; decide) S256x128 _ rfl rfl 256 rfl (ix2 r l) (fun q hq => side q hq) hd.symm
  · exact concatenate_apply_piece 1 (parts f) h (ix2 r d) 3 (by show 3 < 8; decide) S256x128 _ rfl rfl 384 rfl (ix2 r l) (fun q hq => side q hq) hd.symm
  · exact concatenate_apply_piece 1 (parts f) h (ix2 r d) 4 (by show 4 < 8; decide) S256x128 _ rfl rfl 512 rfl (ix2 r l) (fun q hq => side q hq) hd.symm
  · exact concatenate_apply_piece 1 (parts f) h (ix2 r d) 5 (by show 5 < 8; decide) S256x128 _ rfl rfl 640 rfl (ix2 r l) (fun q hq => side q hq) hd.symm
  · exact concatenate_apply_piece 1 (parts f) h (ix2 r d) 6 (by show 6 < 8; decide) S256x128 _ rfl rfl 768 rfl (ix2 r l) (fun q hq => side q hq) hd.symm
  · exact concatenate_apply_piece 1 (parts f) h (ix2 r d) 7 (by show 7 < 8; decide) S256x128 _ rfl rfl 896 rfl (ix2 r l) (fun q hq => side q hq) hd.symm

/-- A block's sums over the heads, as the calls compute them. -/
def headSums (s : FVec Ideal S256x1024 .f32) (g : Vec Ideal S128x128 .bf16) : FVec Ideal S256x1024 .f32 :=
  concatenate S256x1024 1 (parts fun j => chunk (cutAt s j) g)
    concatenates_S256x128_S256x128_S256x128_S256x128_S256x128_S256x128_S256x128_S256x128_S256x1024_d1

/-- The table of ones: it joins the lanes of one head. -/
def Ones (g : Vec Ideal S128x128 .bf16) : Prop := ∀ q l : Fin 128, g (ix2 q l) = if q.val / 64 = l.val / 64 then 1 else 0

theorem sub_self_of_real {x : EReal} (h : IsReal x) : x - x = 0 := by
  obtain ⟨r, rfl⟩ := h
  rw [← EReal.coe_sub, sub_self, EReal.coe_zero]

/-- A sum over 128 lanes masked to one half is the sum over that half. -/
theorem sum_half (y : Fin 128 → EReal) (l : Fin 128) :
    (∑ q : Fin 128, y q * (if q.val / 64 = l.val / 64 then (1 : EReal) else 0)) = ∑ e : Fin 64, y ⟨l.val / 64 * 64 + e.val, by omega⟩ := by
  have hl := l.isLt
  rw [show (∑ q : Fin 128, _) = _ from Fin.sum_univ_add (a := 64) (b := 64) fun q : Fin 128 => y q * (if q.val / 64 = l.val / 64 then (1 : EReal) else 0)]
  have lo : ∀ e : Fin 64, (Fin.castAdd 64 e).val / 64 = 0 := fun e => by show e.val / 64 = 0; omega
  have hi : ∀ e : Fin 64, (Fin.natAdd 64 e).val / 64 = 1 := fun e => by show (64 + e.val) / 64 = 1; omega
  simp only [lo, hi]
  rcases (show l.val / 64 = 0 ∨ l.val / 64 = 1 by omega) with h | h
  · simp only [h, if_true, if_neg (show ¬(1 = 0) by decide), mul_one, mul_zero, Finset.sum_const_zero, add_zero]
    refine Finset.sum_congr rfl fun e _ => congrArg y (Fin.ext ?_)
    show e.val = 0 * 64 + e.val
    omega
  · simp only [h, if_true, if_neg (show ¬(0 = 1) by decide), mul_one, mul_zero, Finset.sum_const_zero, zero_add]
    refine Finset.sum_congr rfl fun e _ => congrArg y (Fin.ext ?_)
    show 64 + e.val = 1 * 64 + e.val
    omega

/-- A finite row's sums over the heads. -/
theorem headSums_apply {s : FVec Ideal S256x1024 .f32} {g : Vec Ideal S128x128 .bf16} (hg : Ones g) (r : Fin 256)
    (hs : ∀ k, IsReal (s (ix2 r k))) (d : Fin 1024) : headSums s g (ix2 r d) = headSum (fun k => s (ix2 r k)) d := by
  unfold headSums headSum
  rw [join_apply _ _ r d ⟨d.val / 128, by omega⟩ ⟨d.val % 128, Nat.mod_lt _ (by norm_num)⟩ (by show d.val = 128 * (d.val / 128) + d.val % 128; omega),
    chunk_apply]
  simp only [cutAt_apply, sub_self_of_real (hs _), zero_mul, Finset.sum_const_zero, add_zero, hg _ _]
  refine (sum_half (fun q => s (ix2 r ⟨128 * (d.val / 128) + q.val, by omega⟩)) ⟨d.val % 128, Nat.mod_lt _ (by norm_num)⟩).trans ?_
  refine Finset.sum_congr rfl fun e _ => congrArg (fun k => s (ix2 r k)) (Fin.ext ?_)
  show 128 * (d.val / 128) + (d.val % 128 / 64 * 64 + e.val) = d.val / 64 * 64 + e.val
  omega

end Cert.Heads
-- ==== Proof.TimeMix.Spec.lean ====
/-
  The time mix of one row, up to its recurrence: the row is mixed with the row before it six times, and the mixed rows
  give the receptance, the log of the decay, the key, the value, the removal key, the removal key with its rate, and
  the gate.
-/
module

public import proofs.«01_k».proof.Proof.Heads.Sum

@[expose] public section

noncomputable section

namespace Cert.TimeMix

open Idealize.ShloMosaic

open Cert.Moe (IsReal isReal_sum)
open Cert.Heads (headSum sub_self_of_real)

/-- The row `x` mixed with the row `p` before it, by the weights `u`. -/
def mixed (x p u : Fin 1024 → EReal) (k : Fin 1024) : EReal := x k + (p k - x k) * u k

/-- The arguments of the time mix, by their coordinates. -/
structure Weights where
  /-- The six mixing weights. -/
  u : Fin 6 → Fin 1024 → EReal
  /-- The three projections. -/
  w : Fin 3 → Fin 1024 → Fin 1024 → EReal
  /-- The decay's offset. -/
  w0 : Fin 1024 → EReal
  /-- The decay's first factor. -/
  w1 : Fin 1024 → Fin 64 → EReal
  /-- The decay's second factor. -/
  w2 : Fin 64 → Fin 1024 → EReal
  /-- The rate's offset. -/
  a0 : Fin 1024 → EReal
  /-- The rate's first factor. -/
  a1 : Fin 1024 → Fin 64 → EReal
  /-- The rate's second factor. -/
  a2 : Fin 64 → Fin 1024 → EReal
  /-- The gate's first factor. -/
  g1 : Fin 1024 → Fin 128 → EReal
  /-- The gate's second factor. -/
  g2 : Fin 128 → Fin 1024 → EReal
  /-- The removal key's gains. -/
  kk : Fin 1024 → EReal
  /-- How much the rate changes the key. -/
  ka : Fin 1024 → EReal

/-- The weights as the arrays hold them. -/
def weightsOf (mu : FVec Ideal ⟨3, ![1, 6, 1024]⟩ .f32) (w : FVec Ideal ⟨4, ![1, 3, 1024, 1024]⟩ .f32)
    (w0 : FVec Ideal ⟨2, ![1, 1024]⟩ .f32) (w1 : FVec Ideal ⟨3, ![1, 1024, 64]⟩ .f32) (w2 : FVec Ideal ⟨3, ![1, 64, 1024]⟩ .f32)
    (a0 : FVec Ideal ⟨2, ![1, 1024]⟩ .f32) (a1 : FVec Ideal ⟨3, ![1, 1024, 64]⟩ .f32) (a2 : FVec Ideal ⟨3, ![1, 64, 1024]⟩ .f32)
    (g1 : FVec Ideal ⟨3, ![1, 1024, 128]⟩ .f32) (g2 : FVec Ideal ⟨3, ![1, 128, 1024]⟩ .f32)
    (kk ka : FVec Ideal ⟨2, ![1, 1024]⟩ .f32) : Weights where
  u i k := mu (ix3 0 i k)
  w j k d := w (ix4 0 j k d)
  w0 k := w0 (ix2 0 k)
  w1 k j := w1 (ix3 0 k j)
  w2 j d := w2 (ix3 0 j d)
  a0 k := a0 (ix2 0 k)
  a1 k j := a1 (ix3 0 k j)
  a2 j d := a2 (ix3 0 j d)
  g1 k j := g1 (ix3 0 k j)
  g2 j d := g2 (ix3 0 j d)
  kk k := kk (ix2 0 k)
  ka k := ka (ix2 0 k)

namespace Weights

variable (W : Weights) (x p : Fin 1024 → EReal) (d : Fin 1024)

/-- Mixture `i` of the row through projection `j`. -/
def proj (i : Fin 6) (j : Fin 3) : EReal := ∑ k, mixed x p (W.u i) k * W.w j k d

/-- What the decay is made of. -/
def decayLogit : EReal :=
  W.w0 d + ∑ j : Fin 64, Ideal.tanh (∑ k, mixed x p (W.u 1) k * W.w1 k j) * W.w2 j d

/-- The log of the decay of a value: minus the exponential of minus its softplus and a half. -/
def logDecay (z : EReal) : EReal :=
  -Ideal.exp (-(max (-z) 0 + Ideal.log (1 + Ideal.exp (-max z (-z)))) - Ideal.ofBits .f32 0x3F000000#32)

/-- The rate. -/
def rate : EReal :=
  Ideal.logistic (W.a0 d + ∑ j : Fin 64, (∑ k, mixed x p (W.u 4) k * W.a1 k j) * W.a2 j d)

/-- The gate. -/
def gate : EReal := ∑ j : Fin 128, Ideal.logistic (∑ k, mixed x p (W.u 5) k * W.g1 k j) * W.g2 j d

/-- The removal key before it is normed. -/
def removalRaw : EReal := W.proj x p d 2 1 * W.kk d

/-- The removal key: every head divided by its length. -/
def removal : EReal :=
  W.removalRaw x p d * Ideal.rsqrt (max (headSum (fun k => W.removalRaw x p k * W.removalRaw x p k) d) (Ideal.ofBits .f32 0x179ABE15#32))

/-- The key. -/
def key : EReal := W.proj x p d 2 1 * (1 + (W.rate x p d - 1) * W.ka d)

/-- With a finite row, a finite row before it, and finite mixing weights, projections and gains, the removal key before
    it is normed is finite. -/
theorem removalRaw_isReal (hx : ∀ k, IsReal (x k)) (hp : ∀ k, IsReal (p k)) (hu : ∀ k, IsReal (W.u 2 k))
    (hw : ∀ k d, IsReal (W.w 1 k d)) (hk : ∀ d, IsReal (W.kk d)) : IsReal (W.removalRaw x p d) := by
  refine IsReal.mul (isReal_sum _ _ fun k _ => IsReal.mul (IsReal.add (hx k) (IsReal.mul ?_ (hu k))) (hw k d)) (hk d)
  obtain ⟨a, ha⟩ := hx k
  obtain ⟨b, hb⟩ := hp k
  exact ⟨b - a, by rw [ha, hb, EReal.coe_sub]⟩

end Weights

end Cert.TimeMix
-- ==== Proof.TimeMix.KernelBlock.lean ====
/-
  The blocks a point of the time-mix projection's region writes, at a row and a lane, from the row, the row before it
  and the weights.
-/
module

public import proofs.«01_k».proof.Proof.TimeMix.Spec
public import proofs.«01_k».proof.Proof.Moe.KernelBlock

@[expose] public section

set_option maxRecDepth 16384

noncomputable section

namespace Cert.TimeMix

open Cert.Kernel4Ideal Cert.Kernel4Ideal.Gen Cert.Kernel4Ideal.Value
open Idealize.ShloMosaic Idealize.ShloMosaic.TcCoe Idealize.SL.Sem

open Cert.Moe (zero2 IsReal)
open Cert.Heads (headSum headSums headSums_apply Ones)

/-- What a point reads: a row, the row before it, and the weights. -/
structure Reads (x0 x1 : Vec Ideal S256x1024 .f32) (x2 x3 : Vec Ideal S8x1024 .f32) (x4 : Vec Ideal S3x1024x1024 .bf16)
    (x5 : Vec Ideal S1024x64 .bf16) (x6 : Vec Ideal S64x1024 .bf16) (x7 : Vec Ideal S1024x64 .bf16) (x8 : Vec Ideal S64x1024 .bf16)
    (x9 : Vec Ideal S1024x128 .bf16) (x10 : Vec Ideal S128x1024 .bf16) (x11 : Vec Ideal S128x128 .bf16)
    (r : Fin 256) (W : Weights) (x p : Fin 1024 → EReal) : Prop where
  row : ∀ k, x0 (ix2 r k) = x k
  before : ∀ k, x1 (ix2 r k) = p k
  mix : ∀ (i : Fin 6) k, x2 (ix2 ⟨i.val, by omega⟩ k) = W.u i k
  decay : ∀ k, x3 (ix2 0 k) = W.w0 k
  rate : ∀ k, x3 (ix2 1 k) = W.a0 k
  gain : ∀ k, x3 (ix2 2 k) = W.kk k
  change : ∀ k, x3 (ix2 3 k) = W.ka k
  proj : ∀ j k d, x4 (ix3 j k d) = W.w j k d
  decayIn : ∀ k j, x5 (ix2 k j) = W.w1 k j
  decayOut : ∀ j d, x6 (ix2 j d) = W.w2 j d
  rateIn : ∀ k j, x7 (ix2 k j) = W.a1 k j
  rateOut : ∀ j d, x8 (ix2 j d) = W.a2 j d
  gateIn : ∀ k j, x9 (ix2 k j) = W.g1 k j
  gateOut : ∀ j d, x10 (ix2 j d) = W.g2 j d
  ones : Ones x11

variable {x0 x1 : Vec Ideal S256x1024 .f32} {x2 x3 : Vec Ideal S8x1024 .f32} {x4 : Vec Ideal S3x1024x1024 .bf16}
  {x5 : Vec Ideal S1024x64 .bf16} {x6 : Vec Ideal S64x1024 .bf16} {x7 : Vec Ideal S1024x64 .bf16} {x8 : Vec Ideal S64x1024 .bf16}
  {x9 : Vec Ideal S1024x128 .bf16} {x10 : Vec Ideal S128x1024 .bf16} {x11 : Vec Ideal S128x128 .bf16}
  {r : Fin 256} {W : Weights} {x p : Fin 1024 → EReal}

/-- Each mixture, at a lane. -/
theorem Reads.row' (T : Reads x0 x1 x2 x3 x4 x5 x6 x7 x8 x9 x10 x11 r W x p) (i : Fin 6) (k : Fin 1024) :
    x0 (ix2 r k) + (x1 (ix2 r k) - x0 (ix2 r k)) * x2 (ix2 ⟨i.val, by omega⟩ k) = mixed x p (W.u i) k := by
  rw [T.row, T.before, T.mix, mixed]

/-- One of the three projections, loaded alone. -/
theorem ld_proj (j : Fin 3) (inb) (k d : Fin 1024) (X : Vec Ideal S3x1024x1024 .bf16) :
    View.ld X (Rect.unit (s := S3x1024x1024) ![j.val, 0, 0] S1x1024x1024.size inb) (ix3 0 k d) = X (ix3 j k d) := by
  show X _ = X _
  refine congrArg X (funext fun a => Fin.ext ?_)
  match a with
  | ⟨0, _⟩ => rfl
  | ⟨1, _⟩ => show 0 + 1 * k.val = k.val; omega
  | ⟨2, _⟩ => show 0 + 1 * d.val = d.val; omega

/-- The receptance's block. -/
theorem Reads.receptance (T : Reads x0 x1 x2 x3 x4 x5 x6 x7 x8 x9 x10 x11 r W x p) (d : Fin 1024) :
    out0_12 x0 x1 x2 x3 x4 x5 x6 x7 x8 x9 x10 x11 (ix2 r d) = W.proj x p d 0 0 := by
  unfold out0_12
  rw [View.canon_unit_zero (S := S256x1024) zero2, View.ld_unit_zero (S := S256x1024) zero2, View.ld_unit_zero (S := S256x1024) zero2,
    View.ld_unit_zero (S := S8x1024) zero2]
  pointwise [k0_pay10, k0_pay4, k0_pay5]
  exact Finset.sum_congr rfl fun k _ => congrArg₂ _ (T.row' 0 k) (T.proj 0 k d)

/-- The value's block. -/
theorem Reads.value (T : Reads x0 x1 x2 x3 x4 x5 x6 x7 x8 x9 x10 x11 r W x p) (d : Fin 1024) :
    out0_15 x0 x1 x2 x3 x4 x5 x6 x7 x8 x9 x10 x11 (ix2 r d) = W.proj x p d 3 2 := by
  unfold out0_15 k0_pay34 k0_pay35
  rw [View.canon_unit_zero (S := S256x1024) zero2, View.ld_unit_zero (S := S256x1024) zero2, View.ld_unit_zero (S := S256x1024) zero2,
    View.ld_unit_zero (S := S8x1024) zero2]
  pointwise [k0_pay15, k0_pay4, k0_pay5]
  exact Finset.sum_congr rfl fun k _ => congrArg₂ _ (T.row' 3 k) (T.proj 2 k d)

/-- The projected key. -/
theorem Reads.projKey (T : Reads x0 x1 x2 x3 x4 x5 x6 x7 x8 x9 x10 x11 r W x p) (d : Fin 1024) :
    k0_pay37 x0 x1 x2 x3 x4 x5 x6 x7 x8 x9 x10 x11 (ix2 r d) = W.proj x p d 2 1 := by
  unfold k0_pay37 k0_pay34 k0_pay35
  rw [View.ld_unit_zero (S := S256x1024) zero2, View.ld_unit_zero (S := S256x1024) zero2,
    View.ld_unit_zero (S := S8x1024) zero2]
  pointwise [k0_pay14, k0_pay4, k0_pay5]
  exact Finset.sum_congr rfl fun k _ => congrArg₂ _ (T.row' 2 k) (T.proj 1 k d)

/-- The log decay's block. -/
theorem Reads.decayed (T : Reads x0 x1 x2 x3 x4 x5 x6 x7 x8 x9 x10 x11 r W x p) (d : Fin 1024) :
    out0_13 x0 x1 x2 x3 x4 x5 x6 x7 x8 x9 x10 x11 (ix2 r d) = Weights.logDecay (W.decayLogit x p d) := by
  have e : x3 (ix2 0 d) + ∑ j, Ideal.tanh (∑ k, (x0 (ix2 r k) + (x1 (ix2 r k) - x0 (ix2 r k)) * x2 (ix2 1 k)) * x5 (ix2 k j)) * x6 (ix2 j d)
      = W.decayLogit x p d :=
    congrArg₂ _ (T.decay d) (Finset.sum_congr rfl fun j _ => congrArg₂ _
      (congrArg Ideal.tanh (Finset.sum_congr rfl fun k _ => congrArg₂ _ (T.row' 1 k) (T.decayIn k j))) (T.decayOut j d))
  unfold out0_13
  rw [View.canon_unit_zero (S := S256x1024) zero2, View.ld_unit_zero (S := S256x1024) zero2, View.ld_unit_zero (S := S256x1024) zero2,
    View.ld_unit_zero (S := S8x1024) zero2, View.ld_unit_zero (S := S8x1024) zero2, View.ld_unit_zero (S := S1024x64) zero2,
    View.ld_unit_zero (S := S64x1024) zero2]
  pointwise [k0_pay13, k0_pay12, k0_pay11, k0_pay4, k0_pay5, k0_pay6]
  rw [e]
  simp only [zero_sub]
  rfl

/-- The rate. -/
theorem Reads.rates (T : Reads x0 x1 x2 x3 x4 x5 x6 x7 x8 x9 x10 x11 r W x p) (d : Fin 1024) :
    k0_pay38 x0 x1 x2 x3 x4 x5 x6 x7 x8 x9 x10 x11 (ix2 r d) = W.rate x p d := by
  unfold k0_pay38 k0_pay34 k0_pay35
  rw [View.ld_unit_zero (S := S256x1024) zero2, View.ld_unit_zero (S := S256x1024) zero2,
    View.ld_unit_zero (S := S8x1024) zero2, View.ld_unit_zero (S := S8x1024) zero2, View.ld_unit_zero (S := S1024x64) zero2,
    View.ld_unit_zero (S := S64x1024) zero2]
  pointwise [k0_pay17, k0_pay16, k0_pay7, k0_pay4, k0_pay5, k0_pay6]
  exact congrArg Ideal.logistic (congrArg₂ _ (T.rate d) (Finset.sum_congr rfl fun j _ => congrArg₂ _
    (Finset.sum_congr rfl fun k _ => congrArg₂ _ (T.row' 4 k) (T.rateIn k j)) (T.rateOut j d)))

/-- The gate's block. -/
theorem Reads.gated (T : Reads x0 x1 x2 x3 x4 x5 x6 x7 x8 x9 x10 x11 r W x p) (d : Fin 1024) :
    out0_18 x0 x1 x2 x3 x4 x5 x6 x7 x8 x9 x10 x11 (ix2 r d) = W.gate x p d := by
  unfold out0_18 k0_pay34 k0_pay35
  rw [View.canon_unit_zero (S := S256x1024) zero2, View.ld_unit_zero (S := S256x1024) zero2, View.ld_unit_zero (S := S256x1024) zero2,
    View.ld_unit_zero (S := S8x1024) zero2, View.ld_unit_zero (S := S1024x128) zero2,
    View.ld_unit_zero (S := S128x1024) zero2]
  pointwise [k0_pay18, k0_pay4, k0_pay5]
  exact Finset.sum_congr rfl fun j _ => congrArg₂ _ (congrArg Ideal.logistic
    (Finset.sum_congr rfl fun k _ => congrArg₂ _ (T.row' 5 k) (T.gateIn k j))) (T.gateOut j d)

/-- The key's block. -/
theorem Reads.keyed (T : Reads x0 x1 x2 x3 x4 x5 x6 x7 x8 x9 x10 x11 r W x p) (d : Fin 1024) :
    out0_14 x0 x1 x2 x3 x4 x5 x6 x7 x8 x9 x10 x11 (ix2 r d) = W.key x p d := by
  unfold out0_14
  rw [View.canon_unit_zero (S := S256x1024) zero2, View.ld_unit_zero (S := S8x1024) zero2]
  pointwise [k0_pay3, k0_pay9, k0_pay6]
  rw [T.projKey, T.rates, T.change]
  rfl

/-- The removal key before it is normed. -/
theorem Reads.raw (T : Reads x0 x1 x2 x3 x4 x5 x6 x7 x8 x9 x10 x11 r W x p) (d : Fin 1024) :
    k0_pay39 x0 x1 x2 x3 x4 x5 x6 x7 x8 x9 x10 x11 (ix2 r d) = W.removalRaw x p d := by
  unfold k0_pay39 k0_pay36
  rw [View.ld_unit_zero (S := S8x1024) zero2]
  pointwise [k0_pay19, k0_pay8, k0_pay6]
  rw [T.projKey, T.gain]
  rfl

/-- Its square. -/
theorem Reads.square (T : Reads x0 x1 x2 x3 x4 x5 x6 x7 x8 x9 x10 x11 r W x p) (d : Fin 1024) :
    k0_pay40 x0 x1 x2 x3 x4 x5 x6 x7 x8 x9 x10 x11 (ix2 r d) = W.removalRaw x p d * W.removalRaw x p d := by
  unfold k0_pay40 k0_pay36
  rw [View.ld_unit_zero (S := S8x1024) zero2]
  pointwise [k0_pay20, k0_pay19, k0_pay8, k0_pay6]
  rw [T.projKey, T.gain]
  rfl

/-- The removal key's payload: the norm is by the head's sum of squares. -/
theorem removal_sums :
    k0_pay1 (k0_pay39 x0 x1 x2 x3 x4 x5 x6 x7 x8 x9 x10 x11) (View.ld x11 r0_9) (k0_pay41 x0 x1 x2 x3 x4 x5 x6 x7 x8 x9 x10 x11) (k0_pay42 x0 x1 x2 x3 x4 x5 x6 x7 x8 x9 x10 x11) (k0_pay43 x0 x1 x2 x3 x4 x5 x6 x7 x8 x9 x10 x11) (k0_pay44 x0 x1 x2 x3 x4 x5 x6 x7 x8 x9 x10 x11) (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay48 x0 x1 x2 x3 x4 x5 x6 x7 x8 x9 x10 x11) (k0_pay49 x0 x1 x2 x3 x4 x5 x6 x7 x8 x9 x10 x11)
      = mulf (k0_pay39 x0 x1 x2 x3 x4 x5 x6 x7 x8 x9 x10 x11) (rsqrt (maximumf (headSums (k0_pay40 x0 x1 x2 x3 x4 x5 x6 x7 x8 x9 x10 x11) (View.ld x11 r0_9))
          (broadcast S256x1024 (Scalar.ofBits .f32 0x179ABE15#32)))) := rfl

/-- The removal key, where it is finite before it is normed. -/
theorem Reads.removed (T : Reads x0 x1 x2 x3 x4 x5 x6 x7 x8 x9 x10 x11 r W x p) (hf : ∀ d, IsReal (W.removalRaw x p d)) (d : Fin 1024) :
    out0_16 x0 x1 x2 x3 x4 x5 x6 x7 x8 x9 x10 x11 (ix2 r d) = W.removal x p d := by
  unfold out0_16
  rw [View.canon_unit_zero (S := S256x1024) zero2, removal_sums, View.ld_unit_zero (S := S128x128) zero2]
  show k0_pay39 x0 x1 x2 x3 x4 x5 x6 x7 x8 x9 x10 x11 (ix2 r d)
    * Ideal.rsqrt (max (headSums (k0_pay40 x0 x1 x2 x3 x4 x5 x6 x7 x8 x9 x10 x11) x11 (ix2 r d)) (Ideal.ofBits .f32 0x179ABE15#32)) = _
  rw [headSums_apply T.ones r (fun k => by rw [T.square]; exact IsReal.mul (hf k) (hf k)) d, T.raw]
  simp only [T.square]
  rfl

/-- The removal key with its rate, where it is finite before it is normed. -/
theorem Reads.removedRate (T : Reads x0 x1 x2 x3 x4 x5 x6 x7 x8 x9 x10 x11 r W x p) (hf : ∀ d, IsReal (W.removalRaw x p d)) (d : Fin 1024) :
    out0_17 x0 x1 x2 x3 x4 x5 x6 x7 x8 x9 x10 x11 (ix2 r d) = W.removal x p d * W.rate x p d := by
  have e := T.removed hf d
  unfold out0_16 at e
  unfold out0_17
  rw [View.canon_unit_zero (S := S256x1024) zero2] at e ⊢
  refine Eq.trans ?_ (congrArg₂ (· * ·) e (T.rates d))
  rfl

end Cert.TimeMix
-- ==== Proof.Heads.Table4.lean ====
/-
  The bits of the table of ones in the time-mix projection's call.
-/
module

public import proofs.«01_k».proof.Kernel4Ideal

@[expose] public section

set_option maxRecDepth 16384

noncomputable section

namespace Cert.Heads

/-- The table's bits: one where row and column lie in one half. -/
theorem bits4 : ∀ q l : Fin 128, Cert.Kernel4Ideal.lit0t (q.val * 128 + l.val) = if q.val / 64 = l.val / 64 then 0x3F80#16 else 0#16 := by
  decide +kernel

end Cert.Heads
-- ==== Proof.TimeMix.Host.lean ====
/-
  What the time-mix projection's region reads at each point, and the arrays it ends with at a row and a lane.
-/
module

public import proofs.«01_k».proof.Proof.TimeMix.KernelBlock
public import proofs.«01_k».proof.Proof.Heads.Table4

@[expose] public section

set_option maxRecDepth 16384

noncomputable section

namespace Cert.TimeMix

open Cert.Kernel4Ideal Cert.Kernel4Ideal.Gen Cert.Kernel4Ideal.Value
open Idealize.ShloMosaic Idealize.ShloMosaic.TcCoe Idealize.SL.Sem
open Idealize.ShloMosaic.Pipeline (Dat)

open Cert.Moe (IsReal)
open Cert.Heads (Ones)

variable (m : (ℓ : Loc nD τ sig) → Buf (Elt Ideal) ℓ) (c : Dev nD)

/-- The calls' arguments: the normed rows, the carried rows, the mixing weights, the projections, the decay's offset and
    factors, the rate's, the gate's factors, the removal key's gains, and how much the rate changes the key. -/
abbrev argX : FVec Ideal S16384x1024 .f32 := m ((c : Thread nD τ).loc main_arg0)
@[inherit_doc argX] abbrev argS : FVec Ideal S8x1024 .f32 := m ((c : Thread nD τ).loc main_arg1)
@[inherit_doc argX] abbrev argMu : FVec Ideal S1x6x1024 .f32 := m ((c : Thread nD τ).loc main_arg2)
@[inherit_doc argX] abbrev argP : FVec Ideal S1x3x1024x1024 .f32 := m ((c : Thread nD τ).loc main_arg3)
@[inherit_doc argX] abbrev argW0 : FVec Ideal S1x1024 .f32 := m ((c : Thread nD τ).loc main_arg4)
@[inherit_doc argX] abbrev argW1 : FVec Ideal S1x1024x64 .f32 := m ((c : Thread nD τ).loc main_arg5)
@[inherit_doc argX] abbrev argW2 : FVec Ideal S1x64x1024 .f32 := m ((c : Thread nD τ).loc main_arg6)
@[inherit_doc argX] abbrev argA0 : FVec Ideal S1x1024 .f32 := m ((c : Thread nD τ).loc main_arg7)
@[inherit_doc argX] abbrev argA1 : FVec Ideal S1x1024x64 .f32 := m ((c : Thread nD τ).loc main_arg8)
@[inherit_doc argX] abbrev argA2 : FVec Ideal S1x64x1024 .f32 := m ((c : Thread nD τ).loc main_arg9)
@[inherit_doc argX] abbrev argG1 : FVec Ideal S1x1024x128 .f32 := m ((c : Thread nD τ).loc main_arg10)
@[inherit_doc argX] abbrev argG2 : FVec Ideal S1x128x1024 .f32 := m ((c : Thread nD τ).loc main_arg11)
@[inherit_doc argX] abbrev argKk : FVec Ideal S1x1024 .f32 := m ((c : Thread nD τ).loc main_arg12)
@[inherit_doc argX] abbrev argKa : FVec Ideal S1x1024 .f32 := m ((c : Thread nD τ).loc main_arg13)

/-- The weights as the call's arguments hold them. -/
abbrev kernelWeights : Weights :=
  weightsOf (argMu m c) (argP m c) (argW0 m c) (argW1 m c) (argW2 m c) (argA0 m c) (argA1 m c) (argA2 m c) (argG1 m c) (argG2 m c)
    (argKk m c) (argKa m c)

/-- A row of zeros. -/
abbrev zeroRow : FVec Ideal S1x1024 .f32 := broadcastInDim S1x1024 ![] bcast_S_S1x1024 (constant S_ .f32 0x00000000#32)

/-- A weight row, as the calls pass it on. -/
abbrev flatRow (x : FVec Ideal S1x1024 .f32) : FVec Ideal S1x1024 .f32 :=
  shapeCast S1x1024 (shapeCast S1024 x shapeCasts_S1x1024_S1024) shapeCasts_S1024_S1x1024

theorem flatRow_apply (x : FVec Ideal S1x1024 .f32) (k : Fin 1024) : flatRow x (ix2 0 k) = x (ix2 0 k) :=
  (ValueIdx.shapeCast_a_1a_apply _ _ 0 k).trans (ValueIdx.shapeCast_1a_a_apply _ _ k)

/-- The rows the mixing weights are padded to. -/
abbrev mixRows : List ((s : Shape) × (s.Idx → EReal)) :=
  [⟨S6x1024, shapeCast S6x1024 (argMu m c) shapeCasts_S1x6x1024_S6x1024⟩, ⟨S1x1024, zeroRow⟩, ⟨S1x1024, zeroRow⟩]

/-- The rows the offsets and gains are padded to. -/
abbrev vecRows : List ((s : Shape) × (s.Idx → EReal)) :=
  [⟨S1x1024, flatRow (argW0 m c)⟩, ⟨S1x1024, flatRow (argA0 m c)⟩, ⟨S1x1024, flatRow (argKk m c)⟩, ⟨S1x1024, flatRow (argKa m c)⟩,
    ⟨S1x1024, zeroRow⟩, ⟨S1x1024, zeroRow⟩, ⟨S1x1024, zeroRow⟩, ⟨S1x1024, zeroRow⟩]

theorem mix_eq : V m c main_v2 = (concatenate S8x1024 0 (mixRows m c) concatenates_S6x1024_S1x1024_S1x1024_S8x1024_d0 : FVec Ideal S8x1024 .f32) := by
  show StableHlo.after hostOps0 (fun b => m (c, b)) main_v2 = _
  after_results
  rfl

theorem vec_eq : V m c main_v11 = (concatenate S8x1024 0 (vecRows m c) concatenates_S1x1024_S1x1024_S1x1024_S1x1024_S1x1024_S1x1024_S1x1024_S1x1024_S8x1024_d0 : FVec Ideal S8x1024 .f32) := by
  show StableHlo.after hostOps0 (fun b => m (c, b)) main_v11 = _
  after_results
  rfl

theorem proj_eq : V m c main_v18 = (truncf .bf16 (shapeCast S3x1024x1024 (argP m c) shapeCasts_S1x3x1024x1024_S3x1024x1024) bitsLt_bf16_f32 : FVec Ideal S3x1024x1024 .bf16) := by
  show StableHlo.after hostOps0 (fun b => m (c, b)) main_v18 = _
  after_results
  rfl

theorem decayIn_eq : V m c main_v20 = (truncf .bf16 (shapeCast S1024x64 (argW1 m c) shapeCasts_S1x1024x64_S1024x64) bitsLt_bf16_f32 : FVec Ideal S1024x64 .bf16) := by
  show StableHlo.after hostOps0 (fun b => m (c, b)) main_v20 = _
  after_results
  rfl

theorem decayOut_eq : V m c main_v22 = (truncf .bf16 (shapeCast S64x1024 (argW2 m c) shapeCasts_S1x64x1024_S64x1024) bitsLt_bf16_f32 : FVec Ideal S64x1024 .bf16) := by
  show StableHlo.after hostOps0 (fun b => m (c, b)) main_v22 = _
  after_results
  rfl

theorem rateIn_eq : V m c main_v24 = (truncf .bf16 (shapeCast S1024x64 (argA1 m c) shapeCasts_S1x1024x64_S1024x64) bitsLt_bf16_f32 : FVec Ideal S1024x64 .bf16) := by
  show StableHlo.after hostOps0 (fun b => m (c, b)) main_v24 = _
  after_results
  rfl

theorem rateOut_eq : V m c main_v26 = (truncf .bf16 (shapeCast S64x1024 (argA2 m c) shapeCasts_S1x64x1024_S64x1024) bitsLt_bf16_f32 : FVec Ideal S64x1024 .bf16) := by
  show StableHlo.after hostOps0 (fun b => m (c, b)) main_v26 = _
  after_results
  rfl

theorem gateIn_eq : V m c main_v28 = (truncf .bf16 (shapeCast S1024x128 (argG1 m c) shapeCasts_S1x1024x128_S1024x128) bitsLt_bf16_f32 : FVec Ideal S1024x128 .bf16) := by
  show StableHlo.after hostOps0 (fun b => m (c, b)) main_v28 = _
  after_results
  rfl

theorem gateOut_eq : V m c main_v30 = (truncf .bf16 (shapeCast S128x1024 (argG2 m c) shapeCasts_S1x128x1024_S128x1024) bitsLt_bf16_f32 : FVec Ideal S128x1024 .bf16) := by
  show StableHlo.after hostOps0 (fun b => m (c, b)) main_v30 = _
  after_results
  rfl

/-- The table's words. -/
theorem table_eq : V m c main_cst = (fun i => FloatOps.ofBits .bf16 (lit0 (S128x128.rowMajor i)) : FVec Ideal S128x128 .bf16) := by
  show StableHlo.after hostOps0 (fun b => m (c, b)) main_cst = _
  after_results
  rfl

end Cert.TimeMix
-- ==== Proof.TimeMix.KernelArray.lean ====
/-
  The blocks the region's points read, and the arrays the region ends with, at a row and a lane.
-/
module

public import proofs.«01_k».proof.Proof.TimeMix.Host

@[expose] public section

set_option maxRecDepth 16384

noncomputable section

namespace Cert.TimeMix

open Cert.Kernel4Ideal Cert.Kernel4Ideal.Gen Cert.Kernel4Ideal.Value
open Idealize.ShloMosaic Idealize.ShloMosaic.TcCoe Idealize.SL.Sem
open Idealize.ShloMosaic.Pipeline (Dat)

open Cert.Moe (IsReal)
open Cert.Heads (Ones)

variable (m : (ℓ : Loc nD τ sig) → Buf (Elt Ideal) ℓ) (c : Dev nD)

/-- Row `r` of a point's row block. -/
def rowOf (t : Fin cfg0.N) (r : Fin 256) : Fin 16384 :=
  ⟨256 * t.val + r.val, by have h := t.isLt; have hN : cfg0.N = 64 := N_0; omega⟩

/-- The windows of the rows and of the results follow the point. -/
theorem index_rows : ∀ t : Fin grid0.N, (win0_0.index t 0 = t.val ∧ win0_0.index t 1 = 0) ∧ (win0_1.index t 0 = t.val ∧ win0_1.index t 1 = 0) ∧
    (win0_12.index t 0 = t.val ∧ win0_12.index t 1 = 0) ∧
    (win0_13.index t 0 = t.val ∧ win0_13.index t 1 = 0) ∧
    (win0_14.index t 0 = t.val ∧ win0_14.index t 1 = 0) ∧
    (win0_15.index t 0 = t.val ∧ win0_15.index t 1 = 0) ∧
    (win0_16.index t 0 = t.val ∧ win0_16.index t 1 = 0) ∧
    (win0_17.index t 0 = t.val ∧ win0_17.index t 1 = 0) ∧
    (win0_18.index t 0 = t.val ∧ win0_18.index t 1 = 0) := by decide +kernel

/-- The windows of the weights never move. -/
theorem index_still : ∀ t : Fin grid0.N, (∀ a, win0_2.index t a = 0) ∧ (∀ a, win0_3.index t a = 0) ∧ (∀ a, win0_4.index t a = 0) ∧
    (∀ a, win0_5.index t a = 0) ∧ (∀ a, win0_6.index t a = 0) ∧ (∀ a, win0_7.index t a = 0) ∧ (∀ a, win0_8.index t a = 0) ∧
    (∀ a, win0_9.index t a = 0) ∧ (∀ a, win0_10.index t a = 0) ∧ (∀ a, win0_11.index t a = 0) := by decide +kernel

/-- A block that starts at zero reads the array at the same place. -/
theorem still {n s i : ℕ} (h : n = 0) : n * s + 1 * i = i := by rw [h]; omega

/-- An index of a plane from its two coordinates. -/
theorem at_ix2 {p q : ℕ} (i : (⟨2, ![p, q]⟩ : Shape).Idx) (a : Fin p) (b : Fin q) (h0 : (i 0).val = a.val) (h1 : (i 1).val = b.val) :
    i = ix2 a b :=
  funext fun z => Fin.ext (by match z with | ⟨0, _⟩ => exact h0 | ⟨1, _⟩ => exact h1)

/-- The block of rows at a point. -/
theorem block_x (t : Fin cfg0.N) (r : Fin 256) (d : Fin 1024) : iblk m c 0 t (ix2 r d) = argX m c (ix2 (rowOf t r) d) := by
  have hi := (index_rows t).1
  refine Eq.trans ?_ (congrFun (V_main_arg0 m c) (ix2 (rowOf t r) d))
  unfold iblk
  rw [View.read_apply]
  refine congrArg (V m c main_arg0) (at_ix2 _ _ _ ?_ (still hi.2))
  show win0_0.index t 0 * 256 + 1 * r.val = 256 * t.val + r.val
  rw [hi.1]; omega

/-- The block of rows before the rows at a point. -/
theorem block_before (t : Fin cfg0.N) (r : Fin 256) (d : Fin 1024) : iblk m c 1 t (ix2 r d) = V m c main_v16 (ix2 (rowOf t r) d) := by
  have hi := (index_rows t).2.1
  unfold iblk
  rw [View.read_apply]
  refine congrArg (V m c main_v16) (at_ix2 _ _ _ ?_ (still hi.2))
  show win0_1.index t 0 * 256 + 1 * r.val = 256 * t.val + r.val
  rw [hi.1]; omega

/-- The other blocks are the whole arrays. -/
theorem whole2 (t : Fin cfg0.N) : iblk m c 2 t = V m c main_v2 :=
  funext fun i => congrArg (V m c main_v2) (funext fun a => Fin.ext (still ((index_still t).1 a)))

@[inherit_doc whole2] theorem whole3 (t : Fin cfg0.N) : iblk m c 3 t = V m c main_v11 :=
  funext fun i => congrArg (V m c main_v11) (funext fun a => Fin.ext (still ((index_still t).2.1 a)))

@[inherit_doc whole2] theorem whole4 (t : Fin cfg0.N) : iblk m c 4 t = V m c main_v18 :=
  funext fun i => congrArg (V m c main_v18) (funext fun a => Fin.ext (still ((index_still t).2.2.1 a)))

@[inherit_doc whole2] theorem whole5 (t : Fin cfg0.N) : iblk m c 5 t = V m c main_v20 :=
  funext fun i => congrArg (V m c main_v20) (funext fun a => Fin.ext (still ((index_still t).2.2.2.1 a)))

@[inherit_doc whole2] theorem whole6 (t : Fin cfg0.N) : iblk m c 6 t = V m c main_v22 :=
  funext fun i => congrArg (V m c main_v22) (funext fun a => Fin.ext (still ((index_still t).2.2.2.2.1 a)))

@[inherit_doc whole2] theorem whole7 (t : Fin cfg0.N) : iblk m c 7 t = V m c main_v24 :=
  funext fun i => congrArg (V m c main_v24) (funext fun a => Fin.ext (still ((index_still t).2.2.2.2.2.1 a)))

@[inherit_doc whole2] theorem whole8 (t : Fin cfg0.N) : iblk m c 8 t = V m c main_v26 :=
  funext fun i => congrArg (V m c main_v26) (funext fun a => Fin.ext (still ((index_still t).2.2.2.2.2.2.1 a)))

@[inherit_doc whole2] theorem whole9 (t : Fin cfg0.N) : iblk m c 9 t = V m c main_v28 :=
  funext fun i => congrArg (V m c main_v28) (funext fun a => Fin.ext (still ((index_still t).2.2.2.2.2.2.2.1 a)))

@[inherit_doc whole2] theorem whole10 (t : Fin cfg0.N) : iblk m c 10 t = V m c main_v30 :=
  funext fun i => congrArg (V m c main_v30) (funext fun a => Fin.ext (still ((index_still t).2.2.2.2.2.2.2.2.1 a)))

@[inherit_doc whole2] theorem whole11 (t : Fin cfg0.N) : iblk m c 11 t = V m c main_cst :=
  funext fun i => congrArg (V m c main_cst) (funext fun a => Fin.ext (still ((index_still t).2.2.2.2.2.2.2.2.2 a)))

/-- The table at every point joins the lanes of one head. -/
theorem ones_table : Ones (V m c main_cst) := fun q l => by
  rw [table_eq]
  have h : Ideal.ofBits .bf16 (lit0 (S128x128.rowMajor (ix2 q l))) = Ideal.ofBits .bf16 (if q.val / 64 = l.val / 64 then 0x3F80#16 else 0#16) :=
    congrArg (Ideal.ofBits .bf16) ((show lit0 (S128x128.rowMajor (ix2 q l)) = lit0t (q.val * 128 + l.val) from
      congrArg lit0t (Shape.rowMajor_val_two (ix2 q l))).trans (Cert.Heads.bits4 q l))
  refine Eq.trans h ?_
  split_ifs
  · exact Ideal.ofBits_one_bf16
  · exact Ideal.ofBits_zero_bf16

/-- Each mixing weight at its row. -/
theorem mix_apply (i : Fin 6) (k : Fin 1024) : V m c main_v2 (ix2 ⟨i.val, by omega⟩ k) = argMu m c (ix3 0 i k) := by
  rw [mix_eq]
  refine (concatenate_apply_piece 0 (mixRows m c) concatenates_S6x1024_S1x1024_S1x1024_S8x1024_d0 (ix2 ⟨i.val, by omega⟩ k) 0 (by show 0 < 3; decide) S6x1024 _ rfl rfl
    0 rfl (ix2 i k) (fun b hb => ?_) (Nat.zero_add _)).trans (ValueIdx.shapeCast_1ab_ab_apply _ _ i k)
  match b, hb with
  | ⟨0, _⟩, hb => exact absurd rfl hb
  | ⟨1, _⟩, _ => rfl

/-- Away from the first axis, two indices of one lane agree. -/
theorem side {p q n : ℕ} {i : (⟨2, ![p, n]⟩ : Shape).Idx} {j : (⟨2, ![q, n]⟩ : Shape).Idx} (b : Fin 2) (hb : b ≠ 0) (h : (i 1).val = (j 1).val) :
    (i b).val = (j b).val := by
  match b, hb with
  | ⟨0, _⟩, hb => exact absurd rfl hb
  | ⟨1, _⟩, _ => exact h

/-- Row 0: the decay's offset. -/
theorem vec0_apply (k : Fin 1024) : V m c main_v11 (ix2 0 k) = argW0 m c (ix2 0 k) := by
  rw [vec_eq]
  exact (concatenate_apply_piece 0 (vecRows m c) concatenates_S1x1024_S1x1024_S1x1024_S1x1024_S1x1024_S1x1024_S1x1024_S1x1024_S8x1024_d0 (ix2 0 k) 0
    (by show 0 < 8; decide) S1x1024 _ rfl rfl 0 rfl (ix2 0 k) (fun b hb => side b hb rfl) rfl).trans (flatRow_apply _ k)

/-- Row 1: the rate's offset. -/
theorem vec1_apply (k : Fin 1024) : V m c main_v11 (ix2 1 k) = argA0 m c (ix2 0 k) := by
  rw [vec_eq]
  exact (concatenate_apply_piece 0 (vecRows m c) concatenates_S1x1024_S1x1024_S1x1024_S1x1024_S1x1024_S1x1024_S1x1024_S1x1024_S8x1024_d0 (ix2 1 k) 1
    (by show 1 < 8; decide) S1x1024 _ rfl rfl 1 rfl (ix2 0 k) (fun b hb => side b hb rfl) rfl).trans (flatRow_apply _ k)

/-- Row 2: the removal key's gains. -/
theorem vec2_apply (k : Fin 1024) : V m c main_v11 (ix2 2 k) = argKk m c (ix2 0 k) := by
  rw [vec_eq]
  exact (concatenate_apply_piece 0 (vecRows m c) concatenates_S1x1024_S1x1024_S1x1024_S1x1024_S1x1024_S1x1024_S1x1024_S1x1024_S8x1024_d0 (ix2 2 k) 2
    (by show 2 < 8; decide) S1x1024 _ rfl rfl 2 rfl (ix2 0 k) (fun b hb => side b hb rfl) rfl).trans (flatRow_apply _ k)

/-- Row 3: the key's change. -/
theorem vec3_apply (k : Fin 1024) : V m c main_v11 (ix2 3 k) = argKa m c (ix2 0 k) := by
  rw [vec_eq]
  exact (concatenate_apply_piece 0 (vecRows m c) concatenates_S1x1024_S1x1024_S1x1024_S1x1024_S1x1024_S1x1024_S1x1024_S1x1024_S8x1024_d0 (ix2 3 k) 3
    (by show 3 < 8; decide) S1x1024 _ rfl rfl 3 rfl (ix2 0 k) (fun b hb => side b hb rfl) rfl).trans (flatRow_apply _ k)

/-- What a point reads. -/
theorem reads (t : Fin cfg0.N) (r : Fin 256) :
    Reads (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) r (kernelWeights m c) (fun k => argX m c (ix2 (rowOf t r) k)) (fun k => V m c main_v16 (ix2 (rowOf t r) k)) where
  row k := block_x m c t r k
  before k := block_before m c t r k
  mix i k := (congrFun (whole2 m c t) _).trans (mix_apply m c i k)
  decay k := (congrFun (whole3 m c t) _).trans (vec0_apply m c k)
  rate k := (congrFun (whole3 m c t) _).trans (vec1_apply m c k)
  gain k := (congrFun (whole3 m c t) _).trans (vec2_apply m c k)
  change k := (congrFun (whole3 m c t) _).trans (vec3_apply m c k)
  proj j k d := (congrFun ((whole4 m c t).trans (proj_eq m c)) _).trans (ValueIdx.shapeCast_1abc_abc_apply _ _ j k d)
  decayIn k j := (congrFun ((whole5 m c t).trans (decayIn_eq m c)) _).trans (ValueIdx.shapeCast_1ab_ab_apply _ _ k j)
  decayOut j d := (congrFun ((whole6 m c t).trans (decayOut_eq m c)) _).trans (ValueIdx.shapeCast_1ab_ab_apply _ _ j d)
  rateIn k j := (congrFun ((whole7 m c t).trans (rateIn_eq m c)) _).trans (ValueIdx.shapeCast_1ab_ab_apply _ _ k j)
  rateOut j d := (congrFun ((whole8 m c t).trans (rateOut_eq m c)) _).trans (ValueIdx.shapeCast_1ab_ab_apply _ _ j d)
  gateIn k j := (congrFun ((whole9 m c t).trans (gateIn_eq m c)) _).trans (ValueIdx.shapeCast_1ab_ab_apply _ _ k j)
  gateOut j d := (congrFun ((whole10 m c t).trans (gateOut_eq m c)) _).trans (ValueIdx.shapeCast_1ab_ab_apply _ _ j d)
  ones q l := (congrFun (whole11 m c t) _).trans (ones_table m c q l)

/-- The point that writes a row. -/
def pointOf (R : Fin 16384) : Fin cfg0.N := ⟨R.val / 256, by have hN : cfg0.N = 64 := N_0; omega⟩

/-- The place of a row in its block. -/
def placeOf (R : Fin 16384) : Fin 256 := ⟨R.val % 256, Nat.mod_lt _ (by norm_num)⟩

theorem rowOf_place (R : Fin 16384) : rowOf (pointOf R) (placeOf R) = R :=
  Fin.ext (by show 256 * (R.val / 256) + R.val % 256 = R.val; omega)

/-- The place of a row in its block lies in the array at the row. -/
theorem spot (R : Fin 16384) (d : Fin 1024) (i : S16384x1024.Idx) {n0 n1 : ℕ} (h0 : (i 0).val = n0 * 256 + 1 * (placeOf R).val)
    (h1 : (i 1).val = n1 * 1024 + 1 * d.val) (hn : n0 = (pointOf R).val ∧ n1 = 0) : i = ix2 R d :=
  at_ix2 i R d (h0.trans (by rw [hn.1]; show R.val / 256 * 256 + 1 * (R.val % 256) = R.val; omega)) (h1.trans (still hn.2))

/-- What a point reads at a row's place is the row, the row before it and the weights. -/
theorem readsAt (R : Fin 16384) :
    Reads (iblk m c 0 (pointOf R)) (iblk m c 1 (pointOf R)) (iblk m c 2 (pointOf R)) (iblk m c 3 (pointOf R)) (iblk m c 4 (pointOf R))
      (iblk m c 5 (pointOf R)) (iblk m c 6 (pointOf R)) (iblk m c 7 (pointOf R)) (iblk m c 8 (pointOf R)) (iblk m c 9 (pointOf R))
      (iblk m c 10 (pointOf R)) (iblk m c 11 (pointOf R)) (placeOf R) (kernelWeights m c) (fun k => argX m c (ix2 R k)) (fun k => V m c main_v16 (ix2 R k)) := by
  have T := reads m c (pointOf R) (placeOf R)
  rw [rowOf_place] at T
  exact T

/-- The receptance. -/
theorem array12 (R : Fin 16384) (d : Fin 1024) :
    (dats m 0 c).arrAt 12 cfg0.N (ix2 R d) = (kernelWeights m c).proj (fun k => argX m c (ix2 R k)) (fun k => V m c main_v16 (ix2 R k)) d 0 0 :=
  (congrArg ((dats m 0 c).arrAt 12 cfg0.N) (spot R d _ rfl rfl (index_rows (pointOf R)).2.2.1).symm).trans
    ((congrFun ((blocks12 m c (pointOf R) (flush0_12 _)).trans (flushed12 m c (pointOf R))) (ix2 (placeOf R) d)).trans ((readsAt m c R).receptance d))

/-- The log of the decay. -/
theorem array13 (R : Fin 16384) (d : Fin 1024) :
    (dats m 0 c).arrAt 13 cfg0.N (ix2 R d) = Weights.logDecay ((kernelWeights m c).decayLogit (fun k => argX m c (ix2 R k)) (fun k => V m c main_v16 (ix2 R k)) d) :=
  (congrArg ((dats m 0 c).arrAt 13 cfg0.N) (spot R d _ rfl rfl (index_rows (pointOf R)).2.2.2.1).symm).trans
    ((congrFun ((blocks13 m c (pointOf R) (flush0_13 _)).trans (flushed13 m c (pointOf R))) (ix2 (placeOf R) d)).trans ((readsAt m c R).decayed d))

/-- The key. -/
theorem array14 (R : Fin 16384) (d : Fin 1024) :
    (dats m 0 c).arrAt 14 cfg0.N (ix2 R d) = (kernelWeights m c).key (fun k => argX m c (ix2 R k)) (fun k => V m c main_v16 (ix2 R k)) d :=
  (congrArg ((dats m 0 c).arrAt 14 cfg0.N) (spot R d _ rfl rfl (index_rows (pointOf R)).2.2.2.2.1).symm).trans
    ((congrFun ((blocks14 m c (pointOf R) (flush0_14 _)).trans (flushed14 m c (pointOf R))) (ix2 (placeOf R) d)).trans ((readsAt m c R).keyed d))

/-- The value. -/
theorem array15 (R : Fin 16384) (d : Fin 1024) :
    (dats m 0 c).arrAt 15 cfg0.N (ix2 R d) = (kernelWeights m c).proj (fun k => argX m c (ix2 R k)) (fun k => V m c main_v16 (ix2 R k)) d 3 2 :=
  (congrArg ((dats m 0 c).arrAt 15 cfg0.N) (spot R d _ rfl rfl (index_rows (pointOf R)).2.2.2.2.2.1).symm).trans
    ((congrFun ((blocks15 m c (pointOf R) (flush0_15 _)).trans (flushed15 m c (pointOf R))) (ix2 (placeOf R) d)).trans ((readsAt m c R).value d))

/-- The removal key. -/
theorem array16 (R : Fin 16384) (d : Fin 1024)
    (hf : ∀ d, IsReal ((kernelWeights m c).removalRaw (fun k => argX m c (ix2 R k)) (fun k => V m c main_v16 (ix2 R k)) d)) :
    (dats m 0 c).arrAt 16 cfg0.N (ix2 R d) = (kernelWeights m c).removal (fun k => argX m c (ix2 R k)) (fun k => V m c main_v16 (ix2 R k)) d :=
  (congrArg ((dats m 0 c).arrAt 16 cfg0.N) (spot R d _ rfl rfl (index_rows (pointOf R)).2.2.2.2.2.2.1).symm).trans
    ((congrFun ((blocks16 m c (pointOf R) (flush0_16 _)).trans (flushed16 m c (pointOf R))) (ix2 (placeOf R) d)).trans ((readsAt m c R).removed hf d))

/-- The removal key with its rate. -/
theorem array17 (R : Fin 16384) (d : Fin 1024)
    (hf : ∀ d, IsReal ((kernelWeights m c).removalRaw (fun k => argX m c (ix2 R k)) (fun k => V m c main_v16 (ix2 R k)) d)) :
    (dats m 0 c).arrAt 17 cfg0.N (ix2 R d) = (kernelWeights m c).removal (fun k => argX m c (ix2 R k)) (fun k => V m c main_v16 (ix2 R k)) d * (kernelWeights m c).rate (fun k => argX m c (ix2 R k)) (fun k => V m c main_v16 (ix2 R k)) d :=
  (congrArg ((dats m 0 c).arrAt 17 cfg0.N) (spot R d _ rfl rfl (index_rows (pointOf R)).2.2.2.2.2.2.2.1).symm).trans
    ((congrFun ((blocks17 m c (pointOf R) (flush0_17 _)).trans (flushed17 m c (pointOf R))) (ix2 (placeOf R) d)).trans ((readsAt m c R).removedRate hf d))

/-- The gate. -/
theorem array18 (R : Fin 16384) (d : Fin 1024) :
    (dats m 0 c).arrAt 18 cfg0.N (ix2 R d) = (kernelWeights m c).gate (fun k => argX m c (ix2 R k)) (fun k => V m c main_v16 (ix2 R k)) d :=
  (congrArg ((dats m 0 c).arrAt 18 cfg0.N) (spot R d _ rfl rfl (index_rows (pointOf R)).2.2.2.2.2.2.2.2).symm).trans
    ((congrFun ((blocks18 m c (pointOf R) (flush0_18 _)).trans (flushed18 m c (pointOf R))) (ix2 (placeOf R) d)).trans ((readsAt m c R).gated d))

end Cert.TimeMix
-- ==== Proof.TimeMix.Reference.lean ====
/-
  The reference's time mix, read entry by entry.
-/
module

public import proofs.«01_k».proof.Proof.Gen.Reference4Ideal.Read
public import proofs.«01_k».proof.Proof.Proj.Reference
public import proofs.«01_k».proof.Proof.TimeMix.Spec

@[expose] public section

set_option maxRecDepth 16384

noncomputable section

namespace Cert.TimeMix

open Idealize.ShloMosaic Idealize.ShloMosaic.TcCoe
open Cert.Reference4Ideal Cert.Reference4Ideal.Gen Cert.Reference4Ideal.Read
open Cert.Proj (batchOf posOf split_apply rows_apply)
open Cert.Moe (IsReal)
open Cert.Heads (headSum)

variable (x0 : (⟨S16384x1024, .f32⟩ : BufTy).Contents (Elt Ideal)) (x1 : (⟨S8x1024, .f32⟩ : BufTy).Contents (Elt Ideal)) (x2 : (⟨S1x6x1024, .f32⟩ : BufTy).Contents (Elt Ideal))
  (x3 : (⟨S1x3x1024x1024, .f32⟩ : BufTy).Contents (Elt Ideal)) (x4 : (⟨S1x1024, .f32⟩ : BufTy).Contents (Elt Ideal)) (x5 : (⟨S1x1024x64, .f32⟩ : BufTy).Contents (Elt Ideal))
  (x6 : (⟨S1x64x1024, .f32⟩ : BufTy).Contents (Elt Ideal)) (x7 : (⟨S1x1024, .f32⟩ : BufTy).Contents (Elt Ideal)) (x8 : (⟨S1x1024x64, .f32⟩ : BufTy).Contents (Elt Ideal))
  (x9 : (⟨S1x64x1024, .f32⟩ : BufTy).Contents (Elt Ideal)) (x10 : (⟨S1x1024x128, .f32⟩ : BufTy).Contents (Elt Ideal)) (x11 : (⟨S1x128x1024, .f32⟩ : BufTy).Contents (Elt Ideal))
  (x12 x13 : (⟨S1x1024, .f32⟩ : BufTy).Contents (Elt Ideal))

/-- The row before row `R`: the one above it in its sequence, or the carried one at the start. -/
def rowBefore (R : Fin 16384) (k : Fin 1024) : EReal := val_main_v5 x0 x1 (ix3 (batchOf R) (posOf R) k)

/-- Row `R`. -/
def rowAt (R : Fin 16384) (k : Fin 1024) : EReal := x0 (ix2 R k)

/-- Row `R` is at its place in its sequence. -/
theorem place_eq (R : Fin 16384) (h) : (⟨(batchOf R).val * 2048 + (posOf R).val, h⟩ : Fin 16384) = R :=
  Fin.ext (by show R.val / 2048 * 2048 + R.val % 2048 = R.val; omega)

/-- The weights. -/
abbrev weights : Weights := weightsOf x2 x3 x4 x5 x6 x7 x8 x9 x10 x11 x12 x13

/-- The first mixture. -/
theorem mix0 (R : Fin 16384) (k : Fin 1024) : val_main_v12 x0 x1 x2 (ix3 (batchOf R) (posOf R) k)
    = mixed (rowAt x0 R) (rowBefore x0 x1 R) (fun k => x2 (ix3 0 0 k)) k := by
  pointwise [val_main_v12, val_main_v11, val_main_v10, val_main_v9, val_main_v8, val_main_v7, val_main_v6, val_main_v2, val_main_v0]
  rw [place_eq]
  rfl

/-- The second mixture. -/
theorem mix1 (R : Fin 16384) (k : Fin 1024) : val_main_v18 x0 x1 x2 (ix3 (batchOf R) (posOf R) k)
    = mixed (rowAt x0 R) (rowBefore x0 x1 R) (fun k => x2 (ix3 0 1 k)) k := by
  pointwise [val_main_v18, val_main_v17, val_main_v16, val_main_v15, val_main_v14, val_main_v13, val_main_v6, val_main_v2, val_main_v0]
  rw [place_eq]
  rfl

/-- The third mixture. -/
theorem mix2 (R : Fin 16384) (k : Fin 1024) : val_main_v24 x0 x1 x2 (ix3 (batchOf R) (posOf R) k)
    = mixed (rowAt x0 R) (rowBefore x0 x1 R) (fun k => x2 (ix3 0 2 k)) k := by
  pointwise [val_main_v24, val_main_v23, val_main_v22, val_main_v21, val_main_v20, val_main_v19, val_main_v6, val_main_v2, val_main_v0]
  rw [place_eq]
  rfl

/-- The fourth mixture. -/
theorem mix3 (R : Fin 16384) (k : Fin 1024) : val_main_v30 x0 x1 x2 (ix3 (batchOf R) (posOf R) k)
    = mixed (rowAt x0 R) (rowBefore x0 x1 R) (fun k => x2 (ix3 0 3 k)) k := by
  pointwise [val_main_v30, val_main_v29, val_main_v28, val_main_v27, val_main_v26, val_main_v25, val_main_v6, val_main_v2, val_main_v0]
  rw [place_eq]
  rfl

/-- The fifth mixture. -/
theorem mix4 (R : Fin 16384) (k : Fin 1024) : val_main_v36 x0 x1 x2 (ix3 (batchOf R) (posOf R) k)
    = mixed (rowAt x0 R) (rowBefore x0 x1 R) (fun k => x2 (ix3 0 4 k)) k := by
  pointwise [val_main_v36, val_main_v35, val_main_v34, val_main_v33, val_main_v32, val_main_v31, val_main_v6, val_main_v2, val_main_v0]
  rw [place_eq]
  rfl

/-- The last mixture. -/
theorem mix5 (R : Fin 16384) (k : Fin 1024) : val_main_v42 x0 x1 x2 (ix3 (batchOf R) (posOf R) k)
    = mixed (rowAt x0 R) (rowBefore x0 x1 R) (fun k => x2 (ix3 0 5 k)) k := by
  pointwise [val_main_v42, val_main_v41, val_main_v40, val_main_v39, val_main_v38, val_main_v37, val_main_v6, val_main_v2, val_main_v0]
  rw [place_eq]
  rfl

/-- The receptance, at a place of the sequence. -/
theorem receptance_apply (R : Fin 16384) (d : Fin 1024) : val_main_v45 x0 x1 x2 x3 (ix3 (batchOf R) (posOf R) d)
    = (weights x2 x3 x4 x5 x6 x7 x8 x9 x10 x11 x12 x13).proj (rowAt x0 R) (rowBefore x0 x1 R) d 0 0 := by
  pointwise [val_main_v45, val_main_v44, val_main_v43, val_main_v1]
  exact Finset.sum_congr rfl fun k _ => congrArg (· * _) (mix0 x0 x1 x2 R k)

/-- The projected key, at a place of the sequence. -/
theorem proj_key_apply (R : Fin 16384) (d : Fin 1024) : val_main_v48 x0 x1 x2 x3 (ix3 (batchOf R) (posOf R) d)
    = (weights x2 x3 x4 x5 x6 x7 x8 x9 x10 x11 x12 x13).proj (rowAt x0 R) (rowBefore x0 x1 R) d 2 1 := by
  pointwise [val_main_v48, val_main_v47, val_main_v46, val_main_v1]
  exact Finset.sum_congr rfl fun k _ => congrArg (· * _) (mix2 x0 x1 x2 R k)

/-- The value, at a place of the sequence. -/
theorem value_apply (R : Fin 16384) (d : Fin 1024) : val_main_v51 x0 x1 x2 x3 (ix3 (batchOf R) (posOf R) d)
    = (weights x2 x3 x4 x5 x6 x7 x8 x9 x10 x11 x12 x13).proj (rowAt x0 R) (rowBefore x0 x1 R) d 3 2 := by
  pointwise [val_main_v51, val_main_v50, val_main_v49, val_main_v1]
  exact Finset.sum_congr rfl fun k _ => congrArg (· * _) (mix3 x0 x1 x2 R k)

/-- What the decay is made of, at a place of the sequence. -/
theorem logit_apply (R : Fin 16384) (d : Fin 1024) : val_main_v60 x0 x1 x2 x4 x5 x6 (ix3 (batchOf R) (posOf R) d)
    = (weights x2 x3 x4 x5 x6 x7 x8 x9 x10 x11 x12 x13).decayLogit (rowAt x0 R) (rowBefore x0 x1 R) d := by
  pointwise [val_main_v60, val_main_v59, val_main_v58, val_main_v57, val_main_v56, val_main_v55, val_main_v54, val_main_v53, val_main_v52]
  exact congrArg (x4 (ix2 0 d) + ·) (Finset.sum_congr rfl fun j _ => congrArg (· * x6 (ix3 0 j d))
    (congrArg Ideal.tanh (Finset.sum_congr rfl fun k _ => congrArg (· * x5 (ix3 0 k j)) (mix1 x0 x1 x2 R k))))

/-- The log of the decay, at a place of the sequence. -/
theorem decay_apply (R : Fin 16384) (d : Fin 1024) : val_main_v67 x0 x1 x2 x4 x5 x6 (ix3 (batchOf R) (posOf R) d)
    = Weights.logDecay ((weights x2 x3 x4 x5 x6 x7 x8 x9 x10 x11 x12 x13).decayLogit (rowAt x0 R) (rowBefore x0 x1 R) d) := by
  pointwise [val_main_v67, val_main_v66, val_main_v65, val_main_v64, val_main_v63, val_main_v62, val_main_cst, val_main_call0_cst,
    val_main_call0_v0, val_main_call0_v1, val_main_call0_v2, val_main_call0_v3, val_main_call0_v4, val_main_call0_v5, val_main_call0_v6,
    val_main_call0_v7, val_main_call0_v8, val_main_call0_v9, val_main_call0_v10, val_main_call0_v11, val_main_v61]
  rw [logit_apply x0 x1 x2 x3 x4 x5 x6 x7 x8 x9 x10 x11 x12 x13]
  generalize (weights x2 x3 x4 x5 x6 x7 x8 x9 x10 x11 x12 x13).decayLogit (rowAt x0 R) (rowBefore x0 x1 R) d = z
  rw [if_neg (fun h => h rfl)]
  have e : FloatOps.absf (F := Ideal) (φ := .f32) (-z) = max z (-z) := by
    show max (-z) (- -z) = max z (-z)
    rw [neg_neg, max_comm]
  rw [e]
  rfl

/-- The rate, at a place of the sequence. -/
theorem rate_apply (R : Fin 16384) (d : Fin 1024) : val_main_v81 x0 x1 x2 x7 x8 x9 (ix3 (batchOf R) (posOf R) d)
    = (weights x2 x3 x4 x5 x6 x7 x8 x9 x10 x11 x12 x13).rate (rowAt x0 R) (rowBefore x0 x1 R) d := by
  pointwise [val_main_v81, val_main_v80, val_main_v79, val_main_v78, val_main_v77, val_main_v76, val_main_v75, val_main_v74, val_main_v73,
    val_main_v72, val_main_v71, val_main_v70, val_main_v69, val_main_v68, val_main_cst_0, val_main_cst_1]
  exact congrArg Ideal.logistic (congrArg (x7 (ix2 0 d) + ·) (Finset.sum_congr rfl fun j _ => congrArg (· * x9 (ix3 0 j d))
    (Finset.sum_congr rfl fun k _ => congrArg (· * x8 (ix3 0 k j)) (mix4 x0 x1 x2 R k))))

/-- The gate, at a place of the sequence. -/
theorem gate_apply (R : Fin 16384) (d : Fin 1024) : val_main_v91 x0 x1 x2 x10 x11 (ix3 (batchOf R) (posOf R) d)
    = (weights x2 x3 x4 x5 x6 x7 x8 x9 x10 x11 x12 x13).gate (rowAt x0 R) (rowBefore x0 x1 R) d := by
  pointwise [val_main_v91, val_main_v90, val_main_v89, val_main_v88, val_main_v87, val_main_v86, val_main_v85, val_main_v84,
    val_main_v83, val_main_v82, val_main_cst_2, val_main_cst_3]
  exact Finset.sum_congr rfl fun j _ => congrArg (· * x11 (ix3 0 j d))
    (congrArg Ideal.logistic (Finset.sum_congr rfl fun k _ => congrArg (· * x10 (ix3 0 k j)) (mix5 x0 x1 x2 R k)))

/-- The removal key before it is normed, at a place of the sequence. -/
theorem raw_apply (R : Fin 16384) (d : Fin 1024) : val_main_v95 x0 x1 x2 x3 x12 (ix3 (batchOf R) (posOf R) d)
    = (weights x2 x3 x4 x5 x6 x7 x8 x9 x10 x11 x12 x13).removalRaw (rowAt x0 R) (rowBefore x0 x1 R) d := by
  pointwise [val_main_v95, val_main_v94, val_main_v93, val_main_v92]
  exact congrArg (· * x12 (ix2 0 d)) (proj_key_apply x0 x1 x2 x3 x4 x5 x6 x7 x8 x9 x10 x11 x12 x13 R d)

/-- The key, at a place of the sequence. -/
theorem key_apply (R : Fin 16384) (d : Fin 1024) : val_main_v113 x0 x1 x2 x3 x7 x8 x9 x13 (ix3 (batchOf R) (posOf R) d)
    = (weights x2 x3 x4 x5 x6 x7 x8 x9 x10 x11 x12 x13).key (rowAt x0 R) (rowBefore x0 x1 R) d := by
  pointwise [val_main_v113, val_main_v112, val_main_v111, val_main_v110, val_main_v109, val_main_v108, val_main_v107, val_main_v106,
    val_main_v105, val_main_cst_6, val_main_cst_7]
  exact congrArg₂ (fun a b : EReal => a * (1 + (b - 1) * x13 (ix2 0 d))) (proj_key_apply x0 x1 x2 x3 x4 x5 x6 x7 x8 x9 x10 x11 x12 x13 R d)
    (rate_apply x0 x1 x2 x3 x4 x5 x6 x7 x8 x9 x10 x11 x12 x13 R d)

/-- A lane of a head, among all lanes. -/
def laneAt (d : Fin 1024) (e : Fin 64) : Fin 1024 := ⟨d.val / 64 * 64 + e.val, by omega⟩

/-- A lane is at its place in its head. -/
theorem lane_eq (d : Fin 1024) : laneAt d ⟨d.val % 64, Nat.mod_lt _ (by norm_num)⟩ = d :=
  Fin.ext (by show d.val / 64 * 64 + d.val % 64 = d.val; omega)

/-- The removal key, at a lane of its head. -/
theorem removal_apply (R : Fin 16384) (d : Fin 1024) :
    val_main_v104 x0 x1 x2 x3 x12 (ix4 (batchOf R) (posOf R) ⟨d.val / 64, by omega⟩ ⟨d.val % 64, Nat.mod_lt _ (by norm_num)⟩)
      = (weights x2 x3 x4 x5 x6 x7 x8 x9 x10 x11 x12 x13).removal (rowAt x0 R) (rowBefore x0 x1 R) d := by
  have e : ∀ x : Fin 64, val_main_v96 x0 x1 x2 x3 x12 (ix4 (batchOf R) (posOf R) ⟨d.val / 64, by omega⟩ x)
      = (weights x2 x3 x4 x5 x6 x7 x8 x9 x10 x11 x12 x13).removalRaw (rowAt x0 R) (rowBefore x0 x1 R) (laneAt d x) := fun x =>
    (split_apply rfl (val_main_v95 x0 x1 x2 x3 x12) shapeCasts_S8x2048x1024_S8x2048x16x64 (batchOf R) (posOf R) ⟨d.val / 64, by omega⟩ x).trans
      (raw_apply x0 x1 x2 x3 x4 x5 x6 x7 x8 x9 x10 x11 x12 x13 R (laneAt d x))
  pointwise [val_main_v104, val_main_v103, val_main_v102, val_main_v101, val_main_v100, val_main_v99, val_main_v98, val_main_v97,
    val_main_cst_4, val_main_cst_5]
  simp only [e]
  rw [lane_eq]
  rfl

/-- The results at a row and a lane. -/
theorem v116_apply (R : Fin 16384) (d : Fin 1024) : val_main_v116 x0 x1 x2 x3 (ix2 R d)
    = (weights x2 x3 x4 x5 x6 x7 x8 x9 x10 x11 x12 x13).proj (rowAt x0 R) (rowBefore x0 x1 R) d 0 0 :=
  (rows_apply (val_main_v45 x0 x1 x2 x3) shapeCasts_S8x2048x1024_S16384x1024 R d).trans
    (receptance_apply x0 x1 x2 x3 x4 x5 x6 x7 x8 x9 x10 x11 x12 x13 R d)

@[inherit_doc v116_apply] theorem v117_apply (R : Fin 16384) (d : Fin 1024) : val_main_v117 x0 x1 x2 x4 x5 x6 (ix2 R d)
    = Weights.logDecay ((weights x2 x3 x4 x5 x6 x7 x8 x9 x10 x11 x12 x13).decayLogit (rowAt x0 R) (rowBefore x0 x1 R) d) :=
  (rows_apply (val_main_v67 x0 x1 x2 x4 x5 x6) shapeCasts_S8x2048x1024_S16384x1024 R d).trans
    (decay_apply x0 x1 x2 x3 x4 x5 x6 x7 x8 x9 x10 x11 x12 x13 R d)

@[inherit_doc v116_apply] theorem v118_apply (R : Fin 16384) (d : Fin 1024) : val_main_v118 x0 x1 x2 x3 x7 x8 x9 x13 (ix2 R d)
    = (weights x2 x3 x4 x5 x6 x7 x8 x9 x10 x11 x12 x13).key (rowAt x0 R) (rowBefore x0 x1 R) d :=
  (rows_apply (val_main_v113 x0 x1 x2 x3 x7 x8 x9 x13) shapeCasts_S8x2048x1024_S16384x1024 R d).trans
    (key_apply x0 x1 x2 x3 x4 x5 x6 x7 x8 x9 x10 x11 x12 x13 R d)

@[inherit_doc v116_apply] theorem v119_apply (R : Fin 16384) (d : Fin 1024) : val_main_v119 x0 x1 x2 x3 (ix2 R d)
    = (weights x2 x3 x4 x5 x6 x7 x8 x9 x10 x11 x12 x13).proj (rowAt x0 R) (rowBefore x0 x1 R) d 3 2 :=
  (rows_apply (val_main_v51 x0 x1 x2 x3) shapeCasts_S8x2048x1024_S16384x1024 R d).trans
    (value_apply x0 x1 x2 x3 x4 x5 x6 x7 x8 x9 x10 x11 x12 x13 R d)

@[inherit_doc v116_apply] theorem v120_apply (R : Fin 16384) (d : Fin 1024) : val_main_v120 x0 x1 x2 x3 x12 (ix2 R d)
    = (weights x2 x3 x4 x5 x6 x7 x8 x9 x10 x11 x12 x13).removal (rowAt x0 R) (rowBefore x0 x1 R) d :=
  (Cert.Proj.join_apply (n := 16) rfl (val_main_v104 x0 x1 x2 x3 x12) shapeCasts_S8x2048x16x64_S16384x1024 R d).trans
    (removal_apply x0 x1 x2 x3 x4 x5 x6 x7 x8 x9 x10 x11 x12 x13 R d)

@[inherit_doc v116_apply] theorem v121_apply (R : Fin 16384) (d : Fin 1024) : val_main_v121 x0 x1 x2 x3 x7 x8 x9 x12 (ix2 R d)
    = (weights x2 x3 x4 x5 x6 x7 x8 x9 x10 x11 x12 x13).removal (rowAt x0 R) (rowBefore x0 x1 R) d
      * (weights x2 x3 x4 x5 x6 x7 x8 x9 x10 x11 x12 x13).rate (rowAt x0 R) (rowBefore x0 x1 R) d :=
  (Cert.Proj.join_apply (n := 16) rfl (val_main_v115 x0 x1 x2 x3 x7 x8 x9 x12) shapeCasts_S8x2048x16x64_S16384x1024 R d).trans
    (congrArg₂ (· * ·) (removal_apply x0 x1 x2 x3 x4 x5 x6 x7 x8 x9 x10 x11 x12 x13 R d)
      ((split_apply (n := 16) rfl (val_main_v81 x0 x1 x2 x7 x8 x9) shapeCasts_S8x2048x1024_S8x2048x16x64 (batchOf R) (posOf R) _ _).trans
        ((congrArg (fun l => val_main_v81 x0 x1 x2 x7 x8 x9 (ix3 (batchOf R) (posOf R) l)) (lane_eq d)).trans
          (rate_apply x0 x1 x2 x3 x4 x5 x6 x7 x8 x9 x10 x11 x12 x13 R d))))

@[inherit_doc v116_apply] theorem v122_apply (R : Fin 16384) (d : Fin 1024) : val_main_v122 x0 x1 x2 x10 x11 (ix2 R d)
    = (weights x2 x3 x4 x5 x6 x7 x8 x9 x10 x11 x12 x13).gate (rowAt x0 R) (rowBefore x0 x1 R) d :=
  (rows_apply (val_main_v91 x0 x1 x2 x10 x11) shapeCasts_S8x2048x1024_S16384x1024 R d).trans
    (gate_apply x0 x1 x2 x3 x4 x5 x6 x7 x8 x9 x10 x11 x12 x13 R d)

/-- A finite input and a finite carried row make every row before a row finite. -/
theorem rowBefore_isReal (h0 : ∀ i, IsReal (x0 i)) (h1 : ∀ i, IsReal (x1 i)) (R : Fin 16384) (k : Fin 1024) :
    IsReal (rowBefore x0 x1 R k) := by
  have hp : (posOf R).val < 2048 := (posOf R).isLt
  by_cases h : (posOf R).val = 0
  · have e : rowBefore x0 x1 R k = val_main_v3 x1 (ix3 (batchOf R) 0 k) :=
      concatenate_pair_apply_left (s₁ := S8x1x1024) (s₂ := S8x2047x1024) 1 (val_main_v3 x1) (val_main_v4 x0)
        concatenates_S8x1x1024_S8x2047x1024_S8x2048x1024_d1 (ix3 (batchOf R) (posOf R) k) rfl (ix3 (batchOf R) 0 k) (fun b => match b with
          | ⟨0, _⟩ => rfl
          | ⟨1, _⟩ => h.symm
          | ⟨2, _⟩ => rfl)
    rw [e, val_main_v3_apply]
    exact h1 _
  · have e : rowBefore x0 x1 R k = val_main_v4 x0 (ix3 (batchOf R) ⟨(posOf R).val - 1, by omega⟩ k) :=
      concatenate_pair_apply_right (s₁ := S8x1x1024) (s₂ := S8x2047x1024) 1 (val_main_v3 x1) (val_main_v4 x0)
        concatenates_S8x1x1024_S8x2047x1024_S8x2048x1024_d1 (ix3 (batchOf R) (posOf R) k) rfl rfl (ix3 (batchOf R) ⟨(posOf R).val - 1, by omega⟩ k)
        (fun b hb => match b, hb with
          | ⟨0, _⟩, _ => rfl
          | ⟨1, _⟩, hb => absurd rfl hb
          | ⟨2, _⟩, _ => rfl)
        (by show (posOf R).val - 1 + 1 = (posOf R).val; omega)
    rw [e, val_main_v4_apply, val_main_v2_apply]
    exact h0 _

end Cert.TimeMix
-- ==== Proof.TimeMix.Equal.lean ====
/-
  The seven arrays of the time mix's projections are the reference's, when the inputs of the removal key are finite.
-/
module

public import proofs.«01_k».proof.Defs
public import proofs.«01_k».proof.Proof.TimeMix.KernelArray
public import proofs.«01_k».proof.Proof.TimeMix.Reference
public import proofs.«01_k».proof.Proof.Proj.Equal
public import proofs.«01_k».proof.Proof.Moe.Equal

@[expose] public section

set_option maxRecDepth 16384

noncomputable section

namespace Cert.TimeMix

open Cert.Kernel4Ideal Cert.Kernel4Ideal.Gen Cert.Kernel4Ideal.Value
open Idealize.ShloMosaic Idealize.ShloMosaic.TcCoe Idealize.SL.Sem
open Idealize.ShloMosaic.Pipeline (Dat)

open Cert.Moe (IsReal isReal_of_bit)
open Cert.Proj (plane_ext)
open Cert.Reference4Ideal.Read (val_main_v5 val_main_v116 val_main_v117 val_main_v118 val_main_v119 val_main_v120 val_main_v121 val_main_v122)

/-- The shape relations of the precondition's function. -/
theorem pre_facts : Cert.Pre_key_finite.Facts where
  bcast_S_S16384x1024 := by decide
  bcast_S_S8x1024 := by decide
  slices_S1x6x1024_S1x1x1024_0_2_0 := by decide
  bcast_S_S1x1x1024 := by decide
  slices_S1x3x1024x1024_S1x1x1024x1024_0_1_0_0 := by decide
  bcast_S_S1x1x1024x1024 := by decide
  bcast_S_S1x1024 := by decide

variable (m : (ℓ : Loc nD τ sig) → Buf (Elt Ideal) ℓ) (c : Dev nD)

/-- The inputs of the removal key are finite: the rows, and the key's mixing weights, projection and gains. -/
structure KeyFinite : Prop where
  rows : ∀ i, IsReal (argX m c i)
  carried : ∀ i, IsReal (argS m c i)
  mix : ∀ k, IsReal (argMu m c (ix3 0 2 k))
  proj : ∀ k d, IsReal (argP m c (ix4 0 1 k d))
  gain : ∀ i, IsReal (argKk m c i)

/-- The key's mixing weights are the third of the six rows. -/
theorem keyRow_apply (x : FVec Ideal S1x6x1024 .f32) (f : S1x6x1024.Slices ![0, 2, 0] ⟨3, ![1, 1, 1024]⟩) (k : Fin 1024) :
    extractStridedSlice ⟨3, ![1, 1, 1024]⟩ ![0, 2, 0] x f (ix3 0 0 k) = x (ix3 0 2 k) :=
  extractStridedSlice_apply _ _ f _ (ix3 0 2 k) fun a =>
    match a with
    | ⟨0, _⟩ => rfl
    | ⟨1, _⟩ => rfl
    | ⟨2, _⟩ => (Nat.zero_add _).symm

/-- The key's projection is the second of the three. -/
theorem keyPlane_apply (x : FVec Ideal S1x3x1024x1024 .f32) (f : S1x3x1024x1024.Slices ![0, 1, 0, 0] ⟨4, ![1, 1, 1024, 1024]⟩) (k d : Fin 1024) :
    extractStridedSlice ⟨4, ![1, 1, 1024, 1024]⟩ ![0, 1, 0, 0] x f (ix4 0 0 k d) = x (ix4 0 1 k d) :=
  extractStridedSlice_apply _ _ f _ (ix4 0 1 k d) fun a =>
    match a with
    | ⟨0, _⟩ => rfl
    | ⟨1, _⟩ => rfl
    | ⟨2, _⟩ => (Nat.zero_add _).symm
    | ⟨3, _⟩ => (Nat.zero_add _).symm

/-- The precondition says so. -/
theorem keyFinite (h : Cert.Pre_Kernel4Ideal_key_finite (hPre_key_finite := pre_facts) m) (c : Dev nD) : KeyFinite m c where
  rows i := isReal_of_bit (congrFun (h c).1 i)
  carried i := isReal_of_bit (congrFun (h c).2.1 i)
  mix k := by
    rw [← keyRow_apply (argMu m c) pre_facts.slices_S1x6x1024_S1x1x1024_0_2_0 k]
    exact isReal_of_bit (congrFun (h c).2.2.1 (ix3 0 0 k))
  proj k d := by
    rw [← keyPlane_apply (argP m c) pre_facts.slices_S1x3x1024x1024_S1x1x1024x1024_0_1_0_0 k d]
    exact isReal_of_bit (congrFun (h c).2.2.2.1 (ix4 0 0 k d))
  gain i := isReal_of_bit (congrFun (h c).2.2.2.2 i)

/-- The rows before the rows, as the region reads them, are the reference's. -/
theorem before_eq : V m c main_v16 = (shapeCast S16384x1024 (val_main_v5 (F := Ideal) (argX m c) (argS m c)) shapeCasts_S8x2048x1024_S16384x1024 : FVec Ideal S16384x1024 .f32) := by
  show StableHlo.after hostOps0 (fun b => m (c, b)) main_v16 = _
  after_results
  rfl

@[inherit_doc before_eq] theorem before_apply (R : Fin 16384) :
    (fun k => V m c main_v16 (ix2 R k)) = rowBefore (argX m c) (argS m c) R :=
  funext fun k => (congrFun (before_eq m c) (ix2 R k)).trans (Cert.Proj.rows_apply _ _ R k)

variable {m c} in
/-- The removal key before it is normed is then finite. -/
theorem KeyFinite.removal (h : KeyFinite m c) (R : Fin 16384) (d : Fin 1024) :
    IsReal ((kernelWeights m c).removalRaw (fun k => argX m c (ix2 R k)) (fun k => V m c main_v16 (ix2 R k)) d) := by
  rw [before_apply]
  exact (kernelWeights m c).removalRaw_isReal _ _ d (fun k => h.rows _) (fun k => rowBefore_isReal _ _ h.rows h.carried R k)
    (fun k => h.mix k) (fun k d => h.proj k d) (fun d => h.gain _)

/-- The receptance. -/
theorem receptance_equal : val_main_v116 (F := Ideal) (argX m c) (argS m c) (argMu m c) (argP m c) = (dats m 0 c).arrAt 12 cfg0.N :=
  plane_ext fun R d => by
    refine Eq.trans ?_ (array12 m c R d).symm
    rw [before_apply]
    exact v116_apply (argX m c) (argS m c) (argMu m c) (argP m c) (argW0 m c) (argW1 m c) (argW2 m c) (argA0 m c) (argA1 m c) (argA2 m c) (argG1 m c) (argG2 m c) (argKk m c) (argKa m c) R d

/-- The log of the decay. -/
theorem decay_equal : val_main_v117 (F := Ideal) (argX m c) (argS m c) (argMu m c) (argW0 m c) (argW1 m c) (argW2 m c) = (dats m 0 c).arrAt 13 cfg0.N :=
  plane_ext fun R d => by
    refine Eq.trans ?_ (array13 m c R d).symm
    rw [before_apply]
    exact v117_apply (argX m c) (argS m c) (argMu m c) (argP m c) (argW0 m c) (argW1 m c) (argW2 m c) (argA0 m c) (argA1 m c) (argA2 m c) (argG1 m c) (argG2 m c) (argKk m c) (argKa m c) R d

/-- The key. -/
theorem key_equal : val_main_v118 (F := Ideal) (argX m c) (argS m c) (argMu m c) (argP m c) (argA0 m c) (argA1 m c) (argA2 m c) (argKa m c) = (dats m 0 c).arrAt 14 cfg0.N :=
  plane_ext fun R d => by
    refine Eq.trans ?_ (array14 m c R d).symm
    rw [before_apply]
    exact v118_apply (argX m c) (argS m c) (argMu m c) (argP m c) (argW0 m c) (argW1 m c) (argW2 m c) (argA0 m c) (argA1 m c) (argA2 m c) (argG1 m c) (argG2 m c) (argKk m c) (argKa m c) R d

/-- The value. -/
theorem value_equal : val_main_v119 (F := Ideal) (argX m c) (argS m c) (argMu m c) (argP m c) = (dats m 0 c).arrAt 15 cfg0.N :=
  plane_ext fun R d => by
    refine Eq.trans ?_ (array15 m c R d).symm
    rw [before_apply]
    exact v119_apply (argX m c) (argS m c) (argMu m c) (argP m c) (argW0 m c) (argW1 m c) (argW2 m c) (argA0 m c) (argA1 m c) (argA2 m c) (argG1 m c) (argG2 m c) (argKk m c) (argKa m c) R d

/-- The removal key. -/
theorem removal_equal (h : KeyFinite m c) : val_main_v120 (F := Ideal) (argX m c) (argS m c) (argMu m c) (argP m c) (argKk m c) = (dats m 0 c).arrAt 16 cfg0.N :=
  plane_ext fun R d => by
    refine Eq.trans ?_ (array16 m c R d (h.removal R)).symm
    rw [before_apply]
    exact v120_apply (argX m c) (argS m c) (argMu m c) (argP m c) (argW0 m c) (argW1 m c) (argW2 m c) (argA0 m c) (argA1 m c) (argA2 m c) (argG1 m c) (argG2 m c) (argKk m c) (argKa m c) R d

/-- The removal key with its rate. -/
theorem removalRate_equal (h : KeyFinite m c) : val_main_v121 (F := Ideal) (argX m c) (argS m c) (argMu m c) (argP m c) (argA0 m c) (argA1 m c) (argA2 m c) (argKk m c) = (dats m 0 c).arrAt 17 cfg0.N :=
  plane_ext fun R d => by
    refine Eq.trans ?_ (array17 m c R d (h.removal R)).symm
    rw [before_apply]
    exact v121_apply (argX m c) (argS m c) (argMu m c) (argP m c) (argW0 m c) (argW1 m c) (argW2 m c) (argA0 m c) (argA1 m c) (argA2 m c) (argG1 m c) (argG2 m c) (argKk m c) (argKa m c) R d

/-- The gate. -/
theorem gate_equal : val_main_v122 (F := Ideal) (argX m c) (argS m c) (argMu m c) (argG1 m c) (argG2 m c) = (dats m 0 c).arrAt 18 cfg0.N :=
  plane_ext fun R d => by
    refine Eq.trans ?_ (array18 m c R d).symm
    rw [before_apply]
    exact v122_apply (argX m c) (argS m c) (argMu m c) (argP m c) (argW0 m c) (argW1 m c) (argW2 m c) (argA0 m c) (argA1 m c) (argA2 m c) (argG1 m c) (argG2 m c) (argKk m c) (argKa m c) R d

end Cert.TimeMix
-- ==== Proof.OutEven.Kernel.lean ====
/-
  The array the output projection ends with, at a row and a column: the input, plus the attention lanes times the
  first 512 rows of the weights, plus the convolution lanes times the other 512.
-/
module

public import proofs.«01_k».proof.Proof.Gen.Kernel5Ideal.Value
public import proofs.«01_k».proof.Proof.Moe.KernelBlock
public import Idealize.ShloMosaic.Lib.Pointwise
public import Idealize.ShloMosaic.Lib.ValueLayout

@[expose] public section

set_option maxRecDepth 16384

noncomputable section

namespace Cert.OutEven

open Cert.Kernel5Ideal Cert.Kernel5Ideal.Gen Cert.Kernel5Ideal.Value
open Idealize.ShloMosaic Idealize.ShloMosaic.TcCoe Idealize.SL.Sem
open Idealize.ShloMosaic.Pipeline (Dat)

open Cert.Moe (zero2)

/-- What a point computes, at a row and a column of its block. -/
theorem pay1_apply (x : Vec Ideal S512x1024 .f32) (a : Vec Ideal S512x512 .bf16) (wa : Vec Ideal S512x1024 .bf16)
    (b : Vec Ideal S512x512 .f32) (wb : Vec Ideal S512x1024 .bf16) (r : Fin 512) (d : Fin 1024) :
    k0_pay1 x a wa b wb (ix2 r d)
      = x (ix2 r d) + (∑ k : Fin 512, a (ix2 r k) * wa (ix2 k d)) + ∑ k : Fin 512, b (ix2 r k) * wb (ix2 k d) := by
  pointwise [k0_pay1]

/-- The block a point writes. -/
theorem out5_apply (x : Vec Ideal S512x1024 .f32) (a : Vec Ideal S512x512 .bf16) (b : Vec Ideal S512x512 .f32)
    (wa wb : Vec Ideal S512x1024 .bf16) (r : Fin 512) (d : Fin 1024) :
    out0_5 x a b wa wb (ix2 r d)
      = x (ix2 r d) + (∑ k : Fin 512, a (ix2 r k) * wa (ix2 k d)) + ∑ k : Fin 512, b (ix2 r k) * wb (ix2 k d) := by
  unfold out0_5
  rw [View.canon_unit_zero (S := S512x1024) zero2, View.ld_unit_zero (S := S512x1024) zero2,
    View.ld_unit_zero (S := S512x512) zero2, View.ld_unit_zero (S := S512x1024) zero2,
    View.ld_unit_zero (S := S512x512) zero2, View.ld_unit_zero (S := S512x1024) zero2]
  exact pay1_apply x a wa b wb r d

variable (m : (ℓ : Loc nD τ sig) → Buf (Elt Ideal) ℓ) (c : Dev nD)

/-- The input, the attention lanes, the convolution lanes and the weights. -/
abbrev argX : FVec Ideal S16384x1024 .f32 := m ((c : Thread nD τ).loc main_arg0)
@[inherit_doc argX] abbrev argA : FVec Ideal S16384x512 .bf16 := m ((c : Thread nD τ).loc main_arg1)
@[inherit_doc argX] abbrev argC : FVec Ideal S16384x512 .f32 := m ((c : Thread nD τ).loc main_arg2)
@[inherit_doc argX] abbrev argW : FVec Ideal S1x1024x1024 .f32 := m ((c : Thread nD τ).loc main_arg3)

/-- The first 512 rows of the weights, as the region reads them. -/
theorem upper_eq : V m c main_v2 = (truncf .bf16 (shapeCast S512x1024 (extractStridedSlice S1x512x1024 ![0, 0, 0] (argW m c)
    slices_S1x1024x1024_S1x512x1024_0_0_0) shapeCasts_S1x512x1024_S512x1024) bitsLt_bf16_f32 : FVec Ideal S512x1024 .bf16) := by
  show StableHlo.after hostOps0 (fun b => m (c, b)) main_v2 = _
  after_results
  rfl

/-- The other 512 rows of the weights, as the region reads them. -/
theorem lower_eq : V m c main_v5 = (truncf .bf16 (shapeCast S512x1024 (extractStridedSlice S1x512x1024 ![0, 512, 0] (argW m c)
    slices_S1x1024x1024_S1x512x1024_0_512_0) shapeCasts_S1x512x1024_S512x1024) bitsLt_bf16_f32 : FVec Ideal S512x1024 .bf16) := by
  show StableHlo.after hostOps0 (fun b => m (c, b)) main_v5 = _
  after_results
  rfl

/-- Row `r` of a point's row block. -/
def rowOf (t : Fin cfg0.N) (r : Fin 512) : Fin 16384 :=
  ⟨512 * t.val + r.val, by have h := t.isLt; have hN : cfg0.N = 32 := N_0; omega⟩

/-- The windows of the rows and of the result follow the point; those of the weights never move. -/
theorem index_all : ∀ t : Fin grid0.N, (win0_0.index t 0 = t.val ∧ win0_0.index t 1 = 0) ∧
    (win0_1.index t 0 = t.val ∧ win0_1.index t 1 = 0) ∧ (win0_2.index t 0 = t.val ∧ win0_2.index t 1 = 0) ∧
    (win0_3.index t 0 = 0 ∧ win0_3.index t 1 = 0) ∧ (win0_4.index t 0 = 0 ∧ win0_4.index t 1 = 0) ∧
    (win0_5.index t 0 = t.val ∧ win0_5.index t 1 = 0) := by decide +kernel

/-- An index of a plane from its two coordinates. -/
theorem at_ix2 {p q : ℕ} (i : (⟨2, ![p, q]⟩ : Shape).Idx) (a : Fin p) (b : Fin q) (h0 : (i 0).val = a.val) (h1 : (i 1).val = b.val) :
    i = ix2 a b :=
  funext fun z => Fin.ext (by match z with | ⟨0, _⟩ => exact h0 | ⟨1, _⟩ => exact h1)

theorem block_x (t : Fin cfg0.N) (r : Fin 512) (d : Fin 1024) : iblk m c 0 t (ix2 r d) = argX m c (ix2 (rowOf t r) d) := by
  have hi := (index_all t).1
  refine Eq.trans ?_ (congrFun (V_main_arg0 m c) (ix2 (rowOf t r) d))
  unfold iblk
  rw [View.read_apply]
  refine congrArg (V m c main_arg0) (at_ix2 _ _ _ ?_ ?_)
  · show win0_0.index t 0 * 512 + 1 * r.val = 512 * t.val + r.val
    rw [hi.1]; omega
  · show win0_0.index t 1 * 1024 + 1 * d.val = d.val
    rw [hi.2]; omega

theorem block_a (t : Fin cfg0.N) (r : Fin 512) (k : Fin 512) : iblk m c 1 t (ix2 r k) = argA m c (ix2 (rowOf t r) k) := by
  have hi := (index_all t).2.1
  refine Eq.trans ?_ (congrFun (V_main_arg1 m c) (ix2 (rowOf t r) k))
  unfold iblk
  rw [View.read_apply]
  refine congrArg (V m c main_arg1) (at_ix2 _ _ _ ?_ ?_)
  · show win0_1.index t 0 * 512 + 1 * r.val = 512 * t.val + r.val
    rw [hi.1]; omega
  · show win0_1.index t 1 * 512 + 1 * k.val = k.val
    rw [hi.2]; omega

theorem block_c (t : Fin cfg0.N) (r : Fin 512) (k : Fin 512) : iblk m c 2 t (ix2 r k) = argC m c (ix2 (rowOf t r) k) := by
  have hi := (index_all t).2.2.1
  refine Eq.trans ?_ (congrFun (V_main_arg2 m c) (ix2 (rowOf t r) k))
  unfold iblk
  rw [View.read_apply]
  refine congrArg (V m c main_arg2) (at_ix2 _ _ _ ?_ ?_)
  · show win0_2.index t 0 * 512 + 1 * r.val = 512 * t.val + r.val
    rw [hi.1]; omega
  · show win0_2.index t 1 * 512 + 1 * k.val = k.val
    rw [hi.2]; omega

/-- The first half of the weights' rows at every point. -/
theorem block_upper (t : Fin cfg0.N) (k : Fin 512) (d : Fin 1024) :
    iblk m c 3 t (ix2 k d) = argW m c (ix3 0 ⟨k.val, by omega⟩ d) := by
  have hi := (index_all t).2.2.2.1
  refine Eq.trans ?_ ((congrFun (upper_eq m c) (ix2 k d)).trans ((ValueIdx.shapeCast_1ab_ab_apply _ _ k d).trans
    (extractStridedSlice_apply ![0, 0, 0] (argW m c) slices_S1x1024x1024_S1x512x1024_0_0_0 _ (ix3 0 ⟨k.val, by omega⟩ d) (fun a => match a with
      | ⟨0, _⟩ => rfl
      | ⟨1, _⟩ => (Nat.zero_add _).symm
      | ⟨2, _⟩ => (Nat.zero_add _).symm))))
  unfold iblk
  rw [View.read_apply]
  refine congrArg (V m c main_v2) (at_ix2 _ _ _ ?_ ?_)
  · show win0_3.index t 0 * 512 + 1 * k.val = k.val
    rw [hi.1]; omega
  · show win0_3.index t 1 * 1024 + 1 * d.val = d.val
    rw [hi.2]; omega

/-- The second half of the weights' rows at every point. -/
theorem block_lower (t : Fin cfg0.N) (k : Fin 512) (d : Fin 1024) :
    iblk m c 4 t (ix2 k d) = argW m c (ix3 0 ⟨512 + k.val, by omega⟩ d) := by
  have hi := (index_all t).2.2.2.2.1
  refine Eq.trans ?_ ((congrFun (lower_eq m c) (ix2 k d)).trans ((ValueIdx.shapeCast_1ab_ab_apply _ _ k d).trans
    (extractStridedSlice_apply ![0, 512, 0] (argW m c) slices_S1x1024x1024_S1x512x1024_0_512_0 _ (ix3 0 ⟨512 + k.val, by omega⟩ d) (fun a => match a with
      | ⟨0, _⟩ => rfl
      | ⟨1, _⟩ => rfl
      | ⟨2, _⟩ => (Nat.zero_add _).symm))))
  unfold iblk
  rw [View.read_apply]
  refine congrArg (V m c main_v5) (at_ix2 _ _ _ ?_ ?_)
  · show win0_4.index t 0 * 512 + 1 * k.val = k.val
    rw [hi.1]; omega
  · show win0_4.index t 1 * 1024 + 1 * d.val = d.val
    rw [hi.2]; omega

/-- The point that writes a row. -/
def pointOf (R : Fin 16384) : Fin cfg0.N := ⟨R.val / 512, by have hN : cfg0.N = 32 := N_0; omega⟩

/-- The place of a row in its block. -/
def placeOf (R : Fin 16384) : Fin 512 := ⟨R.val % 512, Nat.mod_lt _ (by norm_num)⟩

theorem rowOf_place (R : Fin 16384) : rowOf (pointOf R) (placeOf R) = R :=
  Fin.ext (by show 512 * (R.val / 512) + R.val % 512 = R.val; omega)

/-- The result at a row and a column. -/
theorem array5 (R : Fin 16384) (d : Fin 1024) :
    (dats m 0 c).arrAt 5 cfg0.N (ix2 R d)
      = argX m c (ix2 R d) + (∑ k : Fin 512, argA m c (ix2 R k) * argW m c (ix3 0 ⟨k.val, by omega⟩ d))
        + ∑ k : Fin 512, argC m c (ix2 R k) * argW m c (ix3 0 ⟨512 + k.val, by omega⟩ d) := by
  have hi := (index_all (pointOf R)).2.2.2.2.2
  have e := congrFun ((blocks5 m c (pointOf R) (flush0_5 _)).trans (flushed5 m c (pointOf R))) (ix2 (placeOf R) d)
  refine Eq.trans (congrArg ((dats m 0 c).arrAt 5 cfg0.N) (at_ix2 _ R d ?_ ?_).symm) (Eq.trans e ?_)
  · show win0_5.index (pointOf R) 0 * 512 + 1 * (R.val % 512) = R.val
    rw [hi.1]
    show R.val / 512 * 512 + 1 * (R.val % 512) = R.val
    omega
  · show win0_5.index (pointOf R) 1 * 1024 + 1 * d.val = d.val
    rw [hi.2]; omega
  refine (out5_apply _ _ _ _ _ (placeOf R) d).trans ?_
  simp only [block_x, block_a, block_c, block_upper, block_lower, rowOf_place]

end Cert.OutEven
-- ==== Proof.OutEven.Equal.lean ====
/-
  The reference's output projection, and that the call's array is it: the reference joins the attention and the
  convolution lanes and multiplies by all 1024 rows of the weights, which is the sum over the two halves.
-/
module

public import proofs.«01_k».proof.Proof.OutEven.Kernel
public import proofs.«01_k».proof.Proof.Gen.Reference5Ideal.Read

@[expose] public section

set_option maxRecDepth 16384

noncomputable section

namespace Cert.OutEven

open Idealize.ShloMosaic Idealize.ShloMosaic.TcCoe Idealize.SL.Sem
open Idealize.ShloMosaic.Pipeline (Dat)

section
open Cert.Reference5Ideal Cert.Reference5Ideal.Gen Cert.Reference5Ideal.Read

variable (x0 : (⟨S16384x1024, .f32⟩ : BufTy).Contents (Elt Ideal)) (x1 : (⟨S16384x512, .bf16⟩ : BufTy).Contents (Elt Ideal))
  (x2 : (⟨S16384x512, .f32⟩ : BufTy).Contents (Elt Ideal)) (x3 : (⟨S1x1024x1024, .f32⟩ : BufTy).Contents (Elt Ideal))

/-- The joined lanes below 512 are the attention's. -/
theorem join_left (R : Fin 16384) (k : Fin 512) : val_main_v1 x1 x2 (ix2 R ⟨k.val, by omega⟩) = x1 (ix2 R k) := by
  have hk := k.isLt
  pointwise [val_main_v1, val_main_v0]

/-- The joined lanes from 512 on are the convolution's. -/
theorem join_right (R : Fin 16384) (k : Fin 512) : val_main_v1 x1 x2 (ix2 R ⟨512 + k.val, by omega⟩) = x2 (ix2 R k) := by
  have hk := k.isLt
  pointwise [val_main_v1, val_main_v0]

/-- The reference at a row and a column. -/
theorem v4_apply (R : Fin 16384) (d : Fin 1024) :
    val_main_v4 x0 x1 x2 x3 (ix2 R d)
      = x0 (ix2 R d) + ((∑ k : Fin 512, x1 (ix2 R k) * x3 (ix3 0 ⟨k.val, by omega⟩ d))
        + ∑ k : Fin 512, x2 (ix2 R k) * x3 (ix3 0 ⟨512 + k.val, by omega⟩ d)) := by
  rw [val_main_v4_apply]
  refine congrArg (x0 (ix2 R d) + ·) ?_
  rw [val_main_v3_apply]
  have term : ∀ k : Fin 1024, val_main_v1 x1 x2 (lidx_main_v3 (ix2 R d) k) * val_main_v2 x3 (ridx_main_v3 (ix2 R d) k)
      = val_main_v1 x1 x2 (ix2 R k) * x3 (ix3 0 k d) := fun k =>
    congrArg₂ (· * ·) (congrArg _ (at_ix2 _ _ _ rfl rfl))
      ((congrArg (val_main_v2 x3) (at_ix2 _ k d rfl rfl)).trans (ValueIdx.shapeCast_1ab_ab_apply _ _ k d))
  refine (Finset.sum_congr rfl fun k _ => term k).trans ?_
  refine (Fin.sum_univ_add (a := 512) (b := 512) fun k : Fin 1024 => val_main_v1 x1 x2 (ix2 R k) * x3 (ix3 0 k d)).trans ?_
  exact congrArg₂ (· + ·) (Finset.sum_congr rfl fun k _ => congrArg (· * _) (join_left x1 x2 R k))
    (Finset.sum_congr rfl fun k _ => congrArg (· * _) (join_right x1 x2 R k))
end

open Cert.Kernel5Ideal Cert.Kernel5Ideal.Gen Cert.Kernel5Ideal.Value

variable (m : (ℓ : Loc nD τ sig) → Buf (Elt Ideal) ℓ) (c : Dev nD)

/-- The call's array is the reference's. -/
theorem out_equal : Cert.Reference5Ideal.Read.val_main_v4 (argX m c) (argA m c) (argC m c) (argW m c) = (dats m 0 c).arrAt 5 cfg0.N :=
  funext fun i => by
    rw [at_ix2 i (i 0) (i 1) rfl rfl]
    exact (v4_apply _ _ _ _ (i 0) (i 1)).trans (((add_assoc _ _ _).symm).trans (array5 m c (i 0) (i 1)).symm)

end Cert.OutEven
-- ==== Proof.MixOut.Spec.lean ====
/-
  The time mix's output of a row: each head of the recurrence's result is centred and scaled to unit variance, the
  token's own term is added, and the gated lanes go through the output projection to the residual.
-/
module

public import proofs.«01_k».proof.Proof.Heads.Sum

@[expose] public section

set_option maxRecDepth 16384

noncomputable section

namespace Cert.MixOut

open Idealize.ShloMosaic Idealize.ShloMosaic.TcCoe
open Cert.Moe (IsReal)
open Cert.Heads (headSum)

/-- One over the number of lanes of a head. -/
def share : EReal := ((64 : ℝ)⁻¹ : ℝ)

/-- The calls write it as this word. -/
theorem share_word : Ideal.ofBits .f32 0x3C800000#32 = share := by
  unfold share
  simp [Ideal.ofBits, Ideal.ieee, -EReal.coe_mul]
  norm_num

/-- The number of lanes of a head, as the reference writes it. -/
theorem lanes_word : Ideal.ofBits .f32 0x42800000#32 = ((64 : ℝ) : EReal) := by
  simp [Ideal.ofBits, Ideal.ieee, -EReal.coe_mul]
  norm_num

/-- A row's lanes: the residual, the recurrence's result, the receptance, the key, the value and the gate. -/
structure Lanes where
  x : Fin 1024 → EReal
  y : Fin 1024 → EReal
  r : Fin 1024 → EReal
  k : Fin 1024 → EReal
  v : Fin 1024 → EReal
  g : Fin 1024 → EReal

/-- The weights: the norm's scale and shift, the weight of a token's own term, and the output projection. -/
structure Weights where
  scale : Fin 1024 → EReal
  shift : Fin 1024 → EReal
  own : Fin 1024 → EReal
  out : Fin 1024 → Fin 1024 → EReal

/-- A lane without its head's mean. -/
def centred (y : Fin 1024 → EReal) (d : Fin 1024) : EReal := y d - headSum y d * share

/-- The scaled and shifted lane. -/
def Weights.normed (W : Weights) (y : Fin 1024 → EReal) (d : Fin 1024) : EReal :=
  centred y d * Ideal.rsqrt (headSum (fun k => centred y k * centred y k) d * share + Ideal.ofBits .f32 0x3A27C5AC#32) * W.scale d + W.shift d

/-- The weight of the token's own value. -/
def Weights.weight (W : Weights) (r k : Fin 1024 → EReal) (d : Fin 1024) : EReal := headSum (fun j => r j * k j * W.own j) d

/-- The gated lane. -/
def Weights.gated (W : Weights) (L : Lanes) (d : Fin 1024) : EReal := (W.normed L.y d + W.weight L.r L.k d * L.v d) * L.g d

/-- The row after the time mix. -/
def Weights.outRow (W : Weights) (L : Lanes) (d : Fin 1024) : EReal := L.x d + ∑ j, W.gated L j * W.out j d

theorem centred_isReal {y : Fin 1024 → EReal} (h : ∀ k, IsReal (y k)) (d : Fin 1024) : IsReal (centred y d) := by
  have hs : IsReal (headSum y d * share) := IsReal.mul (Cert.Moe.isReal_sum _ _ fun _ _ => h _) ⟨_, rfl⟩
  obtain ⟨a, ha⟩ := h d
  obtain ⟨b, hb⟩ := hs
  unfold centred
  rw [ha, hb]
  exact ⟨a - b, (EReal.coe_sub a b).symm⟩

end Cert.MixOut
-- ==== Proof.MixOut.KernelBlock.lean ====
/-
  The block a point of the time-mix output's region writes, at a row and a lane.
-/
module

public import proofs.«01_k».proof.Proof.MixOut.Spec
public import proofs.«01_k».proof.Proof.Gen.Kernel6Ideal.Value
public import proofs.«01_k».proof.Proof.Moe.KernelBlock

@[expose] public section

set_option maxRecDepth 16384

noncomputable section

namespace Cert.MixOut

open Cert.Kernel6Ideal Cert.Kernel6Ideal.Gen Cert.Kernel6Ideal.Value
open Idealize.ShloMosaic Idealize.ShloMosaic.TcCoe Idealize.SL.Sem

open Cert.Moe (zero2 IsReal)
open Cert.Heads (headSum headSums headSums_apply Ones)

/-- What a point reads: a row's lanes and the weights. -/
structure Reads (x0 x1 x2 x3 x4 x5 : Vec Ideal S256x1024 .f32) (x6 : Vec Ideal S8x1024 .f32) (x7 : Vec Ideal S128x128 .bf16)
    (x8 : Vec Ideal S1024x1024 .bf16) (r : Fin 256) (W : Weights) (L : Lanes) : Prop where
  residual : ∀ k, x0 (ix2 r k) = L.x k
  result : ∀ k, x1 (ix2 r k) = L.y k
  receptance : ∀ k, x2 (ix2 r k) = L.r k
  key : ∀ k, x3 (ix2 r k) = L.k k
  value : ∀ k, x4 (ix2 r k) = L.v k
  gate : ∀ k, x5 (ix2 r k) = L.g k
  scale : ∀ k, x6 (ix2 0 k) = W.scale k
  shift : ∀ k, x6 (ix2 1 k) = W.shift k
  own : ∀ k, x6 (ix2 2 k) = W.own k
  ones : Ones x7
  out : ∀ k d, x8 (ix2 k d) = W.out k d

variable {x0 x1 x2 x3 x4 x5 : Vec Ideal S256x1024 .f32} {x6 : Vec Ideal S8x1024 .f32} {x7 : Vec Ideal S128x128 .bf16}
  {x8 : Vec Ideal S1024x1024 .bf16} {r : Fin 256} {W : Weights} {L : Lanes}

/-- The centred block's payload. -/
abbrev centredBlock (y : Vec Ideal S256x1024 .f32) (o : Vec Ideal S128x128 .bf16) : FVec Ideal S256x1024 .f32 :=
  k0_pay13 o y (k0_pay6 o y) (k0_pay7 o y) (k0_pay8 o y) (k0_pay9 o y) (k0_pay11 y) (k0_pay12 y) (constant S256x128 .f32 0x00000000#32)

/-- Its square. -/
abbrev squareBlock (y : Vec Ideal S256x1024 .f32) (o : Vec Ideal S128x128 .bf16) : FVec Ideal S256x1024 .f32 :=
  k0_pay14 o y (k0_pay6 o y) (k0_pay7 o y) (k0_pay8 o y) (k0_pay9 o y) (k0_pay11 y) (k0_pay12 y) (constant S256x128 .f32 0x00000000#32)

/-- The normed block's payload. -/
abbrev normedBlock (y : Vec Ideal S256x1024 .f32) (w : Vec Ideal S8x1024 .f32) (o : Vec Ideal S128x128 .bf16) : FVec Ideal S256x1024 .f32 :=
  k0_pay23 (k0_pay3 w) (k0_pay4 w) (centredBlock y o)
    (k0_pay15 o y (k0_pay6 o y) (k0_pay7 o y) (k0_pay8 o y) (k0_pay9 o y) (k0_pay11 y) (k0_pay12 y) (constant S256x128 .f32 0x00000000#32))
    (k0_pay16 o y (k0_pay6 o y) (k0_pay7 o y) (k0_pay8 o y) (k0_pay9 o y) (k0_pay11 y) (k0_pay12 y) (constant S256x128 .f32 0x00000000#32))
    (k0_pay17 o (squareBlock y o)) (k0_pay18 o (squareBlock y o)) (k0_pay19 o (squareBlock y o)) (k0_pay20 o (squareBlock y o))
    (k0_pay21 o (squareBlock y o)) (k0_pay22 o (squareBlock y o))

/-- The gated block's payload. -/
abbrev gatedBlock (y r k v g : Vec Ideal S256x1024 .f32) (w : Vec Ideal S8x1024 .f32) (o : Vec Ideal S128x128 .bf16) : FVec Ideal S256x1024 .bf16 :=
  k0_pay32 o (normedBlock y w o) (k0_pay24 (k0_pay5 w) r k) (k0_pay25 o (k0_pay5 w) r k) (k0_pay26 o (k0_pay5 w) r k) (k0_pay27 o (k0_pay5 w) r k)
    (k0_pay30 (k0_pay5 w) r k) (k0_pay31 o (k0_pay5 w) r k) (constant S256x128 .f32 0x00000000#32) v g

/-- The means are the heads' sums over 64. -/
theorem centred_sums (y : Vec Ideal S256x1024 .f32) (o : Vec Ideal S128x128 .bf16) :
    centredBlock y o = subf y (mulf (headSums y o) (broadcast S256x1024 (Scalar.ofBits .f32 0x3C800000#32))) := rfl

/-- The variances are the heads' sums of squares over 64. -/
theorem normed_sums (y : Vec Ideal S256x1024 .f32) (w : Vec Ideal S8x1024 .f32) (o : Vec Ideal S128x128 .bf16) :
    normedBlock y w o = addf (mulf (mulf (centredBlock y o)
        (rsqrt (addf (mulf (headSums (squareBlock y o) o) (broadcast S256x1024 (Scalar.ofBits .f32 0x3C800000#32)))
          (broadcast S256x1024 (Scalar.ofBits .f32 0x3A27C5AC#32)))))
        (broadcastTo S256x1024 (k0_pay3 w) broadcasts_S1x1024_S256x1024)) (broadcastTo S256x1024 (k0_pay4 w) broadcasts_S1x1024_S256x1024) := rfl

/-- The own terms are the heads' sums. -/
theorem gated_sums (y r k v g : Vec Ideal S256x1024 .f32) (w : Vec Ideal S8x1024 .f32) (o : Vec Ideal S128x128 .bf16) :
    gatedBlock y r k v g w o = truncf .bf16 (mulf (addf (normedBlock y w o) (mulf (headSums (k0_pay24 (k0_pay5 w) r k) o) v)) g) bitsLt_bf16_f32 := rfl

/-- The centred lane. -/
theorem Reads.centred (T : Reads x0 x1 x2 x3 x4 x5 x6 x7 x8 r W L) (hy : ∀ k, IsReal (L.y k)) (d : Fin 1024) :
    centredBlock x1 x7 (ix2 r d) = MixOut.centred L.y d := by
  rw [centred_sums]
  show x1 (ix2 r d) - headSums x1 x7 (ix2 r d) * Ideal.ofBits .f32 0x3C800000#32 = _
  rw [headSums_apply T.ones r (fun k => by rw [T.result]; exact hy k) d, T.result, share_word]
  simp only [T.result]
  rfl

/-- Its square. -/
theorem Reads.square (T : Reads x0 x1 x2 x3 x4 x5 x6 x7 x8 r W L) (hy : ∀ k, IsReal (L.y k)) (d : Fin 1024) :
    squareBlock x1 x7 (ix2 r d) = MixOut.centred L.y d * MixOut.centred L.y d :=
  congrArg₂ (fun a b : EReal => a * b) (T.centred hy d) (T.centred hy d)

/-- The normed lane. -/
theorem Reads.normed (T : Reads x0 x1 x2 x3 x4 x5 x6 x7 x8 r W L) (hy : ∀ k, IsReal (L.y k)) (d : Fin 1024) :
    normedBlock x1 x6 x7 (ix2 r d) = W.normed L.y d := by
  have e3 : broadcastTo S256x1024 (k0_pay3 x6) broadcasts_S1x1024_S256x1024 (ix2 r d) = W.scale d := by
    pointwise [k0_pay3, k0_pay2]
    exact T.scale d
  have e4 : broadcastTo S256x1024 (k0_pay4 x6) broadcasts_S1x1024_S256x1024 (ix2 r d) = W.shift d := by
    pointwise [k0_pay4, k0_pay2]
    exact T.shift d
  rw [normed_sums]
  show centredBlock x1 x7 (ix2 r d) * Ideal.rsqrt (headSums (squareBlock x1 x7) x7 (ix2 r d) * Ideal.ofBits .f32 0x3C800000#32
      + Ideal.ofBits .f32 0x3A27C5AC#32) * broadcastTo S256x1024 (k0_pay3 x6) broadcasts_S1x1024_S256x1024 (ix2 r d)
      + broadcastTo S256x1024 (k0_pay4 x6) broadcasts_S1x1024_S256x1024 (ix2 r d) = _
  rw [e3, e4, headSums_apply T.ones r (fun k => by rw [T.square hy]; exact IsReal.mul (centred_isReal hy k) (centred_isReal hy k)) d,
    T.centred hy, share_word]
  simp only [T.square hy]
  rfl

/-- The own term before its sum. -/
theorem Reads.ownTerm (T : Reads x0 x1 x2 x3 x4 x5 x6 x7 x8 r W L) (d : Fin 1024) :
    k0_pay24 (k0_pay5 x6) x2 x3 (ix2 r d) = L.r d * L.k d * W.own d := by
  pointwise [k0_pay24, k0_pay5, k0_pay2]
  rw [T.receptance, T.key, T.own]

/-- The gated lane. -/
theorem Reads.gated (T : Reads x0 x1 x2 x3 x4 x5 x6 x7 x8 r W L) (hy : ∀ k, IsReal (L.y k)) (ho : ∀ k, IsReal (L.r k * L.k k * W.own k))
    (d : Fin 1024) : gatedBlock x1 x2 x3 x4 x5 x6 x7 (ix2 r d) = W.gated L d := by
  rw [gated_sums]
  show (normedBlock x1 x6 x7 (ix2 r d) + headSums (k0_pay24 (k0_pay5 x6) x2 x3) x7 (ix2 r d) * x4 (ix2 r d)) * x5 (ix2 r d) = _
  rw [headSums_apply T.ones r (fun k => by rw [T.ownTerm]; exact ho k) d, T.normed hy, T.value, T.gate]
  simp only [T.ownTerm]
  rfl

/-- The written lane. -/
theorem Reads.written (T : Reads x0 x1 x2 x3 x4 x5 x6 x7 x8 r W L) (hy : ∀ k, IsReal (L.y k)) (ho : ∀ k, IsReal (L.r k * L.k k * W.own k))
    (d : Fin 1024) : out0_9 x0 x1 x2 x3 x4 x5 x6 x7 x8 (ix2 r d) = W.outRow L d := by
  have e : out0_9 x0 x1 x2 x3 x4 x5 x6 x7 x8 = k0_pay1 x0 (gatedBlock x1 x2 x3 x4 x5 x6 x7) (k0_pay33 x8) := by
    unfold_out out0_9
    rw [View.canon_unit_zero (S := S256x1024) zero2]
    simp only [View.ld_unit_zero (S := S256x1024) zero2, View.ld_unit_zero (S := S8x1024) zero2, View.ld_unit_zero (S := S128x128) zero2,
      View.ld_unit_zero (S := S1024x1024) zero2]
  rw [e]
  pointwise [k0_pay1, k0_pay33]
  refine congrArg₂ (· + ·) (T.residual d) (Finset.sum_congr rfl fun j _ => congrArg₂ (· * ·) (T.gated hy ho j) (T.out j d))

end Cert.MixOut
-- ==== Proof.MixOut.Reference.lean ====
/-
  The reference's time-mix output at a row and a lane.
-/
module

public import proofs.«01_k».proof.Proof.MixOut.Spec
public import proofs.«01_k».proof.Proof.Gen.Reference6Ideal.Read
public import proofs.«01_k».proof.Proof.TimeMix.Reference

@[expose] public section

set_option maxRecDepth 16384

noncomputable section

namespace Cert.MixOut

open Idealize.ShloMosaic Idealize.ShloMosaic.TcCoe
open Cert.Reference6Ideal Cert.Reference6Ideal.Gen Cert.Reference6Ideal.Read
open Cert.Heads (headSum)
open Cert.TimeMix (laneAt lane_eq)

/-- The head of a lane. -/
def headOf (d : Fin 1024) : Fin 16 := ⟨d.val / 64, by omega⟩

/-- The place of a lane in its head. -/
def inHead (d : Fin 1024) : Fin 64 := ⟨d.val % 64, Nat.mod_lt _ (by norm_num)⟩

/-- A row's lanes split into heads. -/
theorem split_rows (y : FVec Ideal S16384x1024 .f32) (R : Fin 16384) (d : Fin 1024) (e : Fin 64) :
    shapeCast S16384x16x64 y shapeCasts_S16384x1024_S16384x16x64 (ix3 R (headOf d) e) = y (ix2 R (laneAt d e)) := by
  refine shapeCast_apply y _ _ _ ?_
  rewrite [Shape.rowMajor_val_two, Shape.rowMajor_val_three]
  show R.val * 1024 + (d.val / 64 * 64 + e.val) = (R.val * 16 + d.val / 64) * 64 + e.val
  omega

/-- Heads joined to a row's lanes. -/
theorem join_rows (y : FVec Ideal S16384x16x64 .f32) (R : Fin 16384) (d : Fin 1024) :
    shapeCast S16384x1024 y shapeCasts_S16384x16x64_S16384x1024 (ix2 R d) = y (ix3 R (headOf d) (inHead d)) := by
  refine shapeCast_apply y _ _ _ ?_
  rewrite [Shape.rowMajor_val_two, Shape.rowMajor_val_three]
  show (R.val * 16 + d.val / 64) * 64 + d.val % 64 = R.val * 1024 + d.val
  omega

/-- A weight row split into heads. -/
theorem split_row (y : FVec Ideal S1024 .f32) (d : Fin 1024) (e : Fin 64) :
    shapeCast S16x64 y shapeCasts_S1024_S16x64 (ix2 (headOf d) e) = y (ix1 (laneAt d e)) := by
  refine shapeCast_apply y _ _ _ ?_
  rewrite [Shape.rowMajor_val_one, Shape.rowMajor_val_two]
  rfl

variable (x0 x1 x2 x3 x4 x5 : (⟨S16384x1024, .f32⟩ : BufTy).Contents (Elt Ideal)) (x6 x7 : (⟨S1x1024, .f32⟩ : BufTy).Contents (Elt Ideal))
  (x8 : (⟨S1x16x64, .f32⟩ : BufTy).Contents (Elt Ideal)) (x9 : (⟨S1x1024x1024, .f32⟩ : BufTy).Contents (Elt Ideal))

/-- The weights. -/
def weightsOf : Weights where
  scale k := x6 (ix2 0 k)
  shift k := x7 (ix2 0 k)
  own k := x8 (ix3 0 (headOf k) (inHead k))
  out k d := x9 (ix3 0 k d)

/-- A row's lanes. -/
def lanesOf (R : Fin 16384) : Lanes where
  x k := x0 (ix2 R k)
  y k := x1 (ix2 R k)
  r k := x2 (ix2 R k)
  k k := x3 (ix2 R k)
  v k := x4 (ix2 R k)
  g k := x5 (ix2 R k)

/-- The head of a lane's neighbour in its head. -/
theorem head_lane (d : Fin 1024) (e : Fin 64) : headOf (laneAt d e) = headOf d ∧ inHead (laneAt d e) = e :=
  ⟨Fin.ext (by show (d.val / 64 * 64 + e.val) / 64 = d.val / 64; omega), Fin.ext (by show (d.val / 64 * 64 + e.val) % 64 = e.val; omega)⟩

/-- Neighbours in a head have the same sum. -/
theorem headSum_lane (s : Fin 1024 → EReal) (d : Fin 1024) (e : Fin 64) : headSum s (laneAt d e) = headSum s d :=
  Finset.sum_congr rfl fun q _ => congrArg s (Fin.ext (by
    show (d.val / 64 * 64 + e.val) / 64 * 64 + q.val = d.val / 64 * 64 + q.val
    omega))

/-- Division by the number of lanes. -/
theorem div_lanes (z : EReal) : Ideal.div z (Ideal.ofBits .f32 0x42800000#32) = z * share := by
  rw [lanes_word, Ideal.div_coe (by norm_num), one_div, share]

/-- Each head's lanes of the split rows. -/
theorem v0_apply (R : Fin 16384) (d : Fin 1024) (e : Fin 64) : val_main_v0 x1 (ix3 R (headOf d) e) = x1 (ix2 R (laneAt d e)) := split_rows x1 R d e
@[inherit_doc v0_apply] theorem v1_apply (R : Fin 16384) (d : Fin 1024) (e : Fin 64) : val_main_v1 x2 (ix3 R (headOf d) e) = x2 (ix2 R (laneAt d e)) := split_rows x2 R d e
@[inherit_doc v0_apply] theorem v2_apply (R : Fin 16384) (d : Fin 1024) (e : Fin 64) : val_main_v2 x3 (ix3 R (headOf d) e) = x3 (ix2 R (laneAt d e)) := split_rows x3 R d e
@[inherit_doc v0_apply] theorem v3_apply (R : Fin 16384) (d : Fin 1024) (e : Fin 64) : val_main_v3 x4 (ix3 R (headOf d) e) = x4 (ix2 R (laneAt d e)) := split_rows x4 R d e

/-- The centred lane. -/
theorem centred_apply (R : Fin 16384) (d : Fin 1024) (e : Fin 64) :
    val_main_v9 x1 (ix3 R (headOf d) e) = centred (fun k => x1 (ix2 R k)) (laneAt d e) := by
  pointwise [val_main_v9, val_main_v8, val_main_v7, val_main_v6, val_main_v5, val_main_v4, val_main_cst, val_main_cst_0]
  simp only [v0_apply]
  rw [div_lanes, centred, headSum_lane]
  rfl

/-- The centred lane again. -/
theorem centred_apply' (R : Fin 16384) (d : Fin 1024) (e : Fin 64) :
    val_main_v16 x1 (ix3 R (headOf d) e) = centred (fun k => x1 (ix2 R k)) (laneAt d e) := centred_apply x1 R d e

/-- The normed lane. -/
theorem normed_apply (R : Fin 16384) (d : Fin 1024) :
    val_main_v31 x1 x6 x7 (ix3 R (headOf d) (inHead d)) = (weightsOf x6 x7 x8 x9).normed (fun k => x1 (ix2 R k)) d := by
  have own : laneAt d (inHead d) = d := lane_eq d
  have at_lane : ∀ h, (⟨(headOf d).val * 64 + (inHead d).val, h⟩ : Fin 1024) = d := fun h => lane_eq d
  pointwise [val_main_v31, val_main_v30, val_main_v29, val_main_v28, val_main_v27, val_main_v26, val_main_v25, val_main_v24, val_main_v23,
    val_main_v22, val_main_v21, val_main_v20, val_main_v19, val_main_v18, val_main_v17, val_main_v14, val_main_v13, val_main_v12,
    val_main_v11, val_main_v10, val_main_cst_1, val_main_cst_2, val_main_cst_3]
  simp only [centred_apply]
  rw [div_lanes, centred_apply', own, at_lane]
  rfl

/-- The own term. -/
theorem weight_apply (R : Fin 16384) (d : Fin 1024) :
    val_main_v39 x2 x3 x8 (ix3 R (headOf d) (inHead d)) = (weightsOf x6 x7 x8 x9).weight (fun k => x2 (ix2 R k)) (fun k => x3 (ix2 R k)) d := by
  pointwise [val_main_v39, val_main_v38, val_main_v37, val_main_v36, val_main_v35, val_main_v34, val_main_v33, val_main_v32, val_main_cst_4]
  unfold Weights.weight headSum
  refine Finset.sum_congr rfl fun e _ => ?_
  rw [v1_apply, v2_apply]
  refine congrArg (x2 (ix2 R (laneAt d e)) * x3 (ix2 R (laneAt d e)) * ·) ?_
  show x8 (ix3 0 (headOf d) e) = x8 (ix3 0 (headOf (laneAt d e)) (inHead (laneAt d e)))
  rw [(head_lane d e).1, (head_lane d e).2]

/-- The lane before its gate. -/
theorem v42_apply (R : Fin 16384) (d : Fin 1024) :
    val_main_v42 x1 x2 x3 x4 x6 x7 x8 (ix2 R d) = (weightsOf x6 x7 x8 x9).normed (fun k => x1 (ix2 R k)) d
      + (weightsOf x6 x7 x8 x9).weight (fun k => x2 (ix2 R k)) (fun k => x3 (ix2 R k)) d * x4 (ix2 R d) := by
  refine (join_rows (val_main_v41 x1 x2 x3 x4 x6 x7 x8) R d).trans ?_
  refine congrArg₂ (· + ·) (normed_apply x1 x6 x7 x8 x9 R d) (congrArg₂ (· * ·) (weight_apply x2 x3 x6 x7 x8 x9 R d) ?_)
  exact (v3_apply x4 R d (inHead d)).trans (congrArg (fun k => x4 (ix2 R k)) (lane_eq d))

/-- The result at a row and a lane. -/
theorem v46_apply (R : Fin 16384) (d : Fin 1024) :
    val_main_v46 x0 x1 x2 x3 x4 x5 x6 x7 x8 x9 (ix2 R d) = (weightsOf x6 x7 x8 x9).outRow (lanesOf x0 x1 x2 x3 x4 x5 R) d := by
  pointwise [val_main_v46, val_main_v45, val_main_v44, val_main_v43]
  exact congrArg (x0 (ix2 R d) + ·) (Finset.sum_congr rfl fun j _ => congrArg (· * x9 (ix3 0 j d))
    (congrArg (· * x5 (ix2 R j)) (v42_apply x1 x2 x3 x4 x6 x7 x8 x9 R j)))

end Cert.MixOut
-- ==== Proof.Heads.Table6.lean ====
/-
  The bits of the table of ones in the time-mix output's call.
-/
module

public import proofs.«01_k».proof.Kernel6Ideal

@[expose] public section

set_option maxRecDepth 16384

noncomputable section

namespace Cert.Heads

/-- The table's bits: one where row and column lie in one half. -/
theorem bits6 : ∀ q l : Fin 128, Cert.Kernel6Ideal.lit0t (q.val * 128 + l.val) = if q.val / 64 = l.val / 64 then 0x3F80#16 else 0#16 := by
  decide +kernel

end Cert.Heads
-- ==== Proof.MixOut.Kernel.lean ====
/-
  What the time-mix output's region reads at each point, and the array it ends with at a row and a lane.
-/
module

public import proofs.«01_k».proof.Proof.MixOut.KernelBlock
public import proofs.«01_k».proof.Proof.MixOut.Reference
public import proofs.«01_k».proof.Proof.Heads.Table6

@[expose] public section

set_option maxRecDepth 16384

noncomputable section

namespace Cert.MixOut

open Cert.Kernel6Ideal Cert.Kernel6Ideal.Gen Cert.Kernel6Ideal.Value
open Idealize.ShloMosaic Idealize.ShloMosaic.TcCoe Idealize.SL.Sem
open Idealize.ShloMosaic.Pipeline (Dat)

open Cert.Moe (IsReal)
open Cert.Heads (Ones)

variable (m : (ℓ : Loc nD τ sig) → Buf (Elt Ideal) ℓ) (c : Dev nD)

/-- The call's arguments: the residual, the recurrence's result, the receptance, the key, the value, the gate, the
    norm's scale and shift, the weight of a token's own term, and the output projection. -/
abbrev argX : FVec Ideal S16384x1024 .f32 := m ((c : Thread nD τ).loc main_arg0)
@[inherit_doc argX] abbrev argY : FVec Ideal S16384x1024 .f32 := m ((c : Thread nD τ).loc main_arg1)
@[inherit_doc argX] abbrev argR : FVec Ideal S16384x1024 .f32 := m ((c : Thread nD τ).loc main_arg2)
@[inherit_doc argX] abbrev argK : FVec Ideal S16384x1024 .f32 := m ((c : Thread nD τ).loc main_arg3)
@[inherit_doc argX] abbrev argV : FVec Ideal S16384x1024 .f32 := m ((c : Thread nD τ).loc main_arg4)
@[inherit_doc argX] abbrev argG : FVec Ideal S16384x1024 .f32 := m ((c : Thread nD τ).loc main_arg5)
@[inherit_doc argX] abbrev argScale : FVec Ideal S1x1024 .f32 := m ((c : Thread nD τ).loc main_arg6)
@[inherit_doc argX] abbrev argShift : FVec Ideal S1x1024 .f32 := m ((c : Thread nD τ).loc main_arg7)
@[inherit_doc argX] abbrev argOwn : FVec Ideal S1x16x64 .f32 := m ((c : Thread nD τ).loc main_arg8)
@[inherit_doc argX] abbrev argOut : FVec Ideal S1x1024x1024 .f32 := m ((c : Thread nD τ).loc main_arg9)

/-- The weights as the call's arguments hold them. -/
abbrev kernelWeights : Weights := weightsOf (argScale m c) (argShift m c) (argOwn m c) (argOut m c)

/-- A row's lanes as the call's arguments hold them. -/
abbrev kernelLanes (R : Fin 16384) : Lanes := lanesOf (argX m c) (argY m c) (argR m c) (argK m c) (argV m c) (argG m c) R

/-- A row of zeros. -/
abbrev zeroRow : FVec Ideal S1x1024 .f32 := broadcastInDim S1x1024 ![] bcast_S_S1x1024 (constant S_ .f32 0x00000000#32)

/-- A weight row, as the call passes it on. -/
abbrev flatRow (x : FVec Ideal S1x1024 .f32) : FVec Ideal S1x1024 .f32 :=
  shapeCast S1x1024 (shapeCast S1024 x shapeCasts_S1x1024_S1024) shapeCasts_S1024_S1x1024

theorem flatRow_apply (x : FVec Ideal S1x1024 .f32) (k : Fin 1024) : flatRow x (ix2 0 k) = x (ix2 0 k) :=
  (ValueIdx.shapeCast_a_1a_apply _ _ 0 k).trans (ValueIdx.shapeCast_1a_a_apply _ _ k)

/-- The heads' weights, as the call passes them on. -/
abbrev flatHeads (x : FVec Ideal S1x16x64 .f32) : FVec Ideal S1x1024 .f32 :=
  shapeCast S1x1024 (shapeCast S16x64 x shapeCasts_S1x16x64_S16x64) shapeCasts_S16x64_S1x1024

theorem flatHeads_apply (x : FVec Ideal S1x16x64 .f32) (k : Fin 1024) : flatHeads x (ix2 0 k) = x (ix3 0 (headOf k) (inHead k)) := by
  refine (shapeCast_apply _ _ (ix2 0 k) (ix2 (headOf k) (inHead k)) ?_).trans (ValueIdx.shapeCast_1ab_ab_apply _ _ _ _)
  rewrite [Shape.rowMajor_val_two, Shape.rowMajor_val_two]
  show k.val / 64 * 64 + k.val % 64 = 0 * 1024 + k.val
  omega

/-- The rows the scale, the shift and the own term's weights are padded to. -/
abbrev vecRows : List ((s : Shape) × (s.Idx → EReal)) :=
  [⟨S1x1024, flatRow (argScale m c)⟩, ⟨S1x1024, flatRow (argShift m c)⟩, ⟨S1x1024, flatHeads (argOwn m c)⟩, ⟨S1x1024, zeroRow⟩,
    ⟨S1x1024, zeroRow⟩, ⟨S1x1024, zeroRow⟩, ⟨S1x1024, zeroRow⟩, ⟨S1x1024, zeroRow⟩]

theorem vec_eq : V m c main_v7 = (concatenate S8x1024 0 (vecRows m c) concatenates_S1x1024_S1x1024_S1x1024_S1x1024_S1x1024_S1x1024_S1x1024_S1x1024_S8x1024_d0 : FVec Ideal S8x1024 .f32) := by
  show StableHlo.after hostOps0 (fun b => m (c, b)) main_v7 = _
  after_results
  rfl

theorem out_eq : V m c main_v9 = (truncf .bf16 (shapeCast S1024x1024 (argOut m c) shapeCasts_S1x1024x1024_S1024x1024) bitsLt_bf16_f32 : FVec Ideal S1024x1024 .bf16) := by
  show StableHlo.after hostOps0 (fun b => m (c, b)) main_v9 = _
  after_results
  rfl

/-- The table's words. -/
theorem table_eq : V m c main_cst = (fun i => FloatOps.ofBits .bf16 (lit0 (S128x128.rowMajor i)) : FVec Ideal S128x128 .bf16) := by
  show StableHlo.after hostOps0 (fun b => m (c, b)) main_cst = _
  after_results
  rfl

/-- Row `r` of a point's row block. -/
def rowOf (t : Fin cfg0.N) (r : Fin 256) : Fin 16384 :=
  ⟨256 * t.val + r.val, by have h := t.isLt; have hN : cfg0.N = 64 := N_0; omega⟩

/-- The windows of the rows and of the result follow the point. -/
theorem index_rows : ∀ t : Fin grid0.N, (win0_0.index t 0 = t.val ∧ win0_0.index t 1 = 0) ∧
    (win0_1.index t 0 = t.val ∧ win0_1.index t 1 = 0) ∧
    (win0_2.index t 0 = t.val ∧ win0_2.index t 1 = 0) ∧
    (win0_3.index t 0 = t.val ∧ win0_3.index t 1 = 0) ∧
    (win0_4.index t 0 = t.val ∧ win0_4.index t 1 = 0) ∧
    (win0_5.index t 0 = t.val ∧ win0_5.index t 1 = 0) ∧
    (win0_9.index t 0 = t.val ∧ win0_9.index t 1 = 0) := by decide +kernel

/-- The windows of the weights never move. -/
theorem index_still : ∀ t : Fin grid0.N, (∀ a, win0_6.index t a = 0) ∧ (∀ a, win0_7.index t a = 0) ∧ (∀ a, win0_8.index t a = 0) := by decide +kernel

/-- A block that starts at zero reads the array at the same place. -/
theorem still {n s i : ℕ} (h : n = 0) : n * s + 1 * i = i := by rw [h]; omega

/-- An index of a plane from its two coordinates. -/
theorem at_ix2 {p q : ℕ} (i : (⟨2, ![p, q]⟩ : Shape).Idx) (a : Fin p) (b : Fin q) (h0 : (i 0).val = a.val) (h1 : (i 1).val = b.val) :
    i = ix2 a b :=
  funext fun z => Fin.ext (by match z with | ⟨0, _⟩ => exact h0 | ⟨1, _⟩ => exact h1)

/-- A place of a row block, in the array of rows. -/
theorem place (t : Fin cfg0.N) (r : Fin 256) (d : Fin 1024) (i : S16384x1024.Idx) {n0 n1 : ℕ} (h0 : (i 0).val = n0 * 256 + 1 * r.val)
    (h1 : (i 1).val = n1 * 1024 + 1 * d.val) (hn : n0 = t.val ∧ n1 = 0) : i = ix2 (rowOf t r) d :=
  at_ix2 i (rowOf t r) d (h0.trans (by rw [hn.1]; show t.val * 256 + 1 * r.val = 256 * t.val + r.val; omega)) (h1.trans (still hn.2))

/-- The blocks of rows at a point. -/
theorem block0 (t : Fin cfg0.N) (r : Fin 256) (d : Fin 1024) : iblk m c 0 t (ix2 r d) = argX m c (ix2 (rowOf t r) d) :=
  (congrArg (V m c main_arg0) (place t r d _ rfl rfl (index_rows t).1)).trans (congrFun (V_main_arg0 m c) _)

@[inherit_doc block0] theorem block1 (t : Fin cfg0.N) (r : Fin 256) (d : Fin 1024) : iblk m c 1 t (ix2 r d) = argY m c (ix2 (rowOf t r) d) :=
  (congrArg (V m c main_arg1) (place t r d _ rfl rfl (index_rows t).2.1)).trans (congrFun (V_main_arg1 m c) _)

@[inherit_doc block0] theorem block2 (t : Fin cfg0.N) (r : Fin 256) (d : Fin 1024) : iblk m c 2 t (ix2 r d) = argR m c (ix2 (rowOf t r) d) :=
  (congrArg (V m c main_arg2) (place t r d _ rfl rfl (index_rows t).2.2.1)).trans (congrFun (V_main_arg2 m c) _)

@[inherit_doc block0] theorem block3 (t : Fin cfg0.N) (r : Fin 256) (d : Fin 1024) : iblk m c 3 t (ix2 r d) = argK m c (ix2 (rowOf t r) d) :=
  (congrArg (V m c main_arg3) (place t r d _ rfl rfl (index_rows t).2.2.2.1)).trans (congrFun (V_main_arg3 m c) _)

@[inherit_doc block0] theorem block4 (t : Fin cfg0.N) (r : Fin 256) (d : Fin 1024) : iblk m c 4 t (ix2 r d) = argV m c (ix2 (rowOf t r) d) :=
  (congrArg (V m c main_arg4) (place t r d _ rfl rfl (index_rows t).2.2.2.2.1)).trans (congrFun (V_main_arg4 m c) _)

@[inherit_doc block0] theorem block5 (t : Fin cfg0.N) (r : Fin 256) (d : Fin 1024) : iblk m c 5 t (ix2 r d) = argG m c (ix2 (rowOf t r) d) :=
  (congrArg (V m c main_arg5) (place t r d _ rfl rfl (index_rows t).2.2.2.2.2.1)).trans (congrFun (V_main_arg5 m c) _)

/-- The other blocks are the whole arrays. -/
theorem whole6 (t : Fin cfg0.N) : iblk m c 6 t = V m c main_v7 :=
  funext fun i => congrArg (V m c main_v7) (funext fun a => Fin.ext (still ((index_still t).1 a)))

@[inherit_doc whole6] theorem whole7 (t : Fin cfg0.N) : iblk m c 7 t = V m c main_cst :=
  funext fun i => congrArg (V m c main_cst) (funext fun a => Fin.ext (still ((index_still t).2.1 a)))

@[inherit_doc whole6] theorem whole8 (t : Fin cfg0.N) : iblk m c 8 t = V m c main_v9 :=
  funext fun i => congrArg (V m c main_v9) (funext fun a => Fin.ext (still ((index_still t).2.2 a)))

/-- The table at every point joins the lanes of one head. -/
theorem ones_table : Ones (V m c main_cst) := fun q l => by
  rw [table_eq]
  have h : Ideal.ofBits .bf16 (lit0 (S128x128.rowMajor (ix2 q l))) = Ideal.ofBits .bf16 (if q.val / 64 = l.val / 64 then 0x3F80#16 else 0#16) :=
    congrArg (Ideal.ofBits .bf16) ((show lit0 (S128x128.rowMajor (ix2 q l)) = lit0t (q.val * 128 + l.val) from
      congrArg lit0t (Shape.rowMajor_val_two (ix2 q l))).trans (Cert.Heads.bits6 q l))
  refine Eq.trans h ?_
  split_ifs
  · exact Ideal.ofBits_one_bf16
  · exact Ideal.ofBits_zero_bf16

/-- Away from the first axis, two indices of one lane agree. -/
theorem side {p q n : ℕ} {i : (⟨2, ![p, n]⟩ : Shape).Idx} {j : (⟨2, ![q, n]⟩ : Shape).Idx} (b : Fin 2) (hb : b ≠ 0) (h : (i 1).val = (j 1).val) :
    (i b).val = (j b).val := by
  match b, hb with
  | ⟨0, _⟩, hb => exact absurd rfl hb
  | ⟨1, _⟩, _ => exact h

/-- Row 0: the scale. -/
theorem vec0_apply (k : Fin 1024) : V m c main_v7 (ix2 0 k) = argScale m c (ix2 0 k) := by
  rw [vec_eq]
  exact (concatenate_apply_piece 0 (vecRows m c) concatenates_S1x1024_S1x1024_S1x1024_S1x1024_S1x1024_S1x1024_S1x1024_S1x1024_S8x1024_d0 (ix2 0 k) 0
    (by show 0 < 8; decide) S1x1024 _ rfl rfl 0 rfl (ix2 0 k) (fun b hb => side b hb rfl) rfl).trans (flatRow_apply _ k)

/-- Row 1: the shift. -/
theorem vec1_apply (k : Fin 1024) : V m c main_v7 (ix2 1 k) = argShift m c (ix2 0 k) := by
  rw [vec_eq]
  exact (concatenate_apply_piece 0 (vecRows m c) concatenates_S1x1024_S1x1024_S1x1024_S1x1024_S1x1024_S1x1024_S1x1024_S1x1024_S8x1024_d0 (ix2 1 k) 1
    (by show 1 < 8; decide) S1x1024 _ rfl rfl 1 rfl (ix2 0 k) (fun b hb => side b hb rfl) rfl).trans (flatRow_apply _ k)

/-- Row 2: the weight of the own term. -/
theorem vec2_apply (k : Fin 1024) : V m c main_v7 (ix2 2 k) = argOwn m c (ix3 0 (headOf k) (inHead k)) := by
  rw [vec_eq]
  exact (concatenate_apply_piece 0 (vecRows m c) concatenates_S1x1024_S1x1024_S1x1024_S1x1024_S1x1024_S1x1024_S1x1024_S1x1024_S8x1024_d0 (ix2 2 k) 2
    (by show 2 < 8; decide) S1x1024 _ rfl rfl 2 rfl (ix2 0 k) (fun b hb => side b hb rfl) rfl).trans (flatHeads_apply _ k)

/-- What a point reads. -/
theorem reads (t : Fin cfg0.N) (r : Fin 256) :
    Reads (iblk m c 0 t) (iblk m c 1 t) (iblk m c 2 t) (iblk m c 3 t) (iblk m c 4 t) (iblk m c 5 t) (iblk m c 6 t) (iblk m c 7 t) (iblk m c 8 t)
      r (kernelWeights m c) (kernelLanes m c (rowOf t r)) where
  residual k := block0 m c t r k
  result k := block1 m c t r k
  receptance k := block2 m c t r k
  key k := block3 m c t r k
  value k := block4 m c t r k
  gate k := block5 m c t r k
  scale k := (congrFun (whole6 m c t) _).trans (vec0_apply m c k)
  shift k := (congrFun (whole6 m c t) _).trans (vec1_apply m c k)
  own k := (congrFun (whole6 m c t) _).trans (vec2_apply m c k)
  ones q l := (congrFun (whole7 m c t) _).trans (ones_table m c q l)
  out k d := (congrFun ((whole8 m c t).trans (out_eq m c)) _).trans (ValueIdx.shapeCast_1ab_ab_apply _ _ k d)

/-- The point that writes a row. -/
def pointOf (R : Fin 16384) : Fin cfg0.N := ⟨R.val / 256, by have hN : cfg0.N = 64 := N_0; omega⟩

/-- The place of a row in its block. -/
def placeOf (R : Fin 16384) : Fin 256 := ⟨R.val % 256, Nat.mod_lt _ (by norm_num)⟩

theorem rowOf_place (R : Fin 16384) : rowOf (pointOf R) (placeOf R) = R :=
  Fin.ext (by show 256 * (R.val / 256) + R.val % 256 = R.val; omega)

/-- The place of a row in its block lies in the array at the row. -/
theorem spot (R : Fin 16384) (d : Fin 1024) (i : S16384x1024.Idx) {n0 n1 : ℕ} (h0 : (i 0).val = n0 * 256 + 1 * (placeOf R).val)
    (h1 : (i 1).val = n1 * 1024 + 1 * d.val) (hn : n0 = (pointOf R).val ∧ n1 = 0) : i = ix2 R d :=
  (place (pointOf R) (placeOf R) d i h0 h1 hn).trans (congrArg (fun Q => ix2 Q d) (rowOf_place R))

/-- The array at a row and a lane. -/
theorem array9 (R : Fin 16384) (d : Fin 1024) (hy : ∀ k, IsReal ((kernelLanes m c R).y k))
    (ho : ∀ k, IsReal ((kernelLanes m c R).r k * (kernelLanes m c R).k k * (kernelWeights m c).own k)) :
    (dats m 0 c).arrAt 9 cfg0.N (ix2 R d) = (kernelWeights m c).outRow (kernelLanes m c R) d := by
  have T := reads m c (pointOf R) (placeOf R)
  rw [rowOf_place] at T
  exact (congrArg ((dats m 0 c).arrAt 9 cfg0.N) (spot R d _ rfl rfl (index_rows (pointOf R)).2.2.2.2.2.2).symm).trans
    ((congrFun ((blocks9 m c (pointOf R) (flush0_9 _)).trans (flushed9 m c (pointOf R))) (ix2 (placeOf R) d)).trans (T.written hy ho d))

end Cert.MixOut
-- ==== Proof.MixOut.Equal.lean ====
/-
  The time-mix output's array is the reference's, when the recurrence's result and the factors of the own term are finite.
-/
module

public import proofs.«01_k».proof.Defs
public import proofs.«01_k».proof.Proof.MixOut.Kernel
public import proofs.«01_k».proof.Proof.Proj.Equal
public import proofs.«01_k».proof.Proof.Moe.Equal

@[expose] public section

set_option maxRecDepth 16384

noncomputable section

namespace Cert.MixOut

open Cert.Kernel6Ideal Cert.Kernel6Ideal.Gen Cert.Kernel6Ideal.Value
open Idealize.ShloMosaic Idealize.ShloMosaic.TcCoe Idealize.SL.Sem
open Idealize.ShloMosaic.Pipeline (Dat)

open Cert.Moe (IsReal isReal_of_bit)
open Cert.Proj (plane_ext)
open Cert.Reference6Ideal.Read (val_main_v46)

/-- The shape relations of the precondition's function. -/
theorem pre_facts : Cert.Pre_heads_finite.Facts where
  bcast_S_S16384x1024 := by decide
  bcast_S_S1x16x64 := by decide

variable (m : (ℓ : Loc nD τ sig) → Buf (Elt Ideal) ℓ) (c : Dev nD)

/-- The inputs of the heads' sums are finite. -/
structure HeadsFinite : Prop where
  result : ∀ i, IsReal (argY m c i)
  receptance : ∀ i, IsReal (argR m c i)
  key : ∀ i, IsReal (argK m c i)
  own : ∀ i, IsReal (argOwn m c i)

/-- The precondition says so. -/
theorem headsFinite (h : Cert.Pre_Kernel6Ideal_heads_finite (hPre_heads_finite := pre_facts) m) (c : Dev nD) : HeadsFinite m c :=
  ⟨fun i => isReal_of_bit (congrFun (h c).1 i), fun i => isReal_of_bit (congrFun (h c).2.1 i), fun i => isReal_of_bit (congrFun (h c).2.2.1 i),
    fun i => isReal_of_bit (congrFun (h c).2.2.2 i)⟩

/-- The rows after the time mix. -/
theorem mix_equal (h : HeadsFinite m c) :
    val_main_v46 (F := Ideal) (argX m c) (argY m c) (argR m c) (argK m c) (argV m c) (argG m c) (argScale m c) (argShift m c) (argOwn m c) (argOut m c)
      = (dats m 0 c).arrAt 9 cfg0.N :=
  plane_ext fun R d => (v46_apply _ _ _ _ _ _ _ _ _ _ R d).trans
    (array9 m c R d (fun k => h.result _) (fun k => IsReal.mul (IsReal.mul (h.receptance _) (h.key _)) (h.own _))).symm

end Cert.MixOut
-- ==== Proof.Conv.Prompt.lean ====
/-
  The prompt's short convolution, as the region computes it: each row of the result is the gate times three rows of
  products, the row itself and the two before it in its sequence, each times its tap's weights. The rows before a
  sequence are zeros.
-/
module

public import proofs.«01_k».proof.Proof.Gen.Kernel7Ideal.Value
public import proofs.«01_k».proof.Proof.OutEven.Kernel
public import Idealize.ShloMosaic.Lib.Pointwise
public import Idealize.ShloMosaic.Lib.ValueLayout

@[expose] public section

set_option maxRecDepth 16384

noncomputable section

namespace Cert.ConvPrompt

open Cert.Kernel7Ideal Cert.Kernel7Ideal.Gen Cert.Kernel7Ideal.Value
open Idealize.ShloMosaic Idealize.ShloMosaic.TcCoe Idealize.SL.Sem
open Idealize.ShloMosaic.Pipeline (Dat)

open Cert.Moe (zero2)
open Cert.OutEven (at_ix2)

/-- Row `R` of the products, by its number. -/
def rowNo (u : FVec Ideal ⟨2, ![16384, 512]⟩ .f32) (R : ℕ) (d : Fin 512) : EReal := if h : R < 16384 then u (ix2 ⟨R, h⟩ d) else 0

theorem rowNo_val (u : FVec Ideal ⟨2, ![16384, 512]⟩ .f32) (R : Fin 16384) (d : Fin 512) : rowNo u R.val d = u (ix2 R d) := dif_pos R.isLt

/-- The row `j` before row `R` in its sequence of 2048, zero when the sequence starts later. -/
def back (u : FVec Ideal ⟨2, ![16384, 512]⟩ .f32) (R j : ℕ) (d : Fin 512) : EReal := if R % 2048 < j then 0 else rowNo u (R - j) d

/-- The row before the block's last eight rows counts as zero at the first block of a sequence. -/
theorem pay2_apply (t : Fin grid0.N) (p : Vec Ideal S8x512 .f32) (r : Fin 8) (d : Fin 512) :
    k0_pay2 (grid0.coords t) p (ix2 r d) = if t.val % 4 = 0 then 0 else p (ix2 r d) := by
  have bit : ∀ t : Fin grid0.N, Scalar.cmpi .eq (Scalar.select (Scalar.andi (Scalar.xori
      (Scalar.cmpi .slt (Scalar.remsi (BitVec.ofNat 32 (grid0.coords t 0).val) (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi (BitVec.ofNat 32 (grid0.coords t 0).val) (Scalar.select (Scalar.cmpi .eq 4#32 0#32) 1#32 4#32)) 0#32))
      (Scalar.addi (Scalar.remsi (BitVec.ofNat 32 (grid0.coords t 0).val) (Scalar.select (Scalar.cmpi .eq 4#32 0#32) 1#32 4#32))
        (Scalar.select (Scalar.cmpi .eq 4#32 0#32) 1#32 4#32))
      (Scalar.remsi (BitVec.ofNat 32 (grid0.coords t 0).val) (Scalar.select (Scalar.cmpi .eq 4#32 0#32) 1#32 4#32))) 0#32
      = if t.val % 4 = 0 then 1#1 else 0#1 := by decide +kernel
  have e := bit t
  unfold k0_pay2
  dsimp only
  rw [e]
  split_ifs
  · show Ideal.ofBits .f32 0x00000000#32 = 0
    exact Ideal.ofBits_zero_f32
  · rfl

/-- The comparison of a row with the first row of the block. -/
theorem row_zero (r : Fin 512) : IntOp.cmpi .eq (BitVec.ofNat 32 r.val) 0#32 = if r.val = 0 then 1#1 else 0#1 := by
  revert r; decide +kernel

/-- The comparison of a row with the second row of the block. -/
theorem row_one (r : Fin 512) : IntOp.cmpi .eq (BitVec.ofNat 32 r.val) 1#32 = if r.val = 1 then 1#1 else 0#1 := by
  revert r; decide +kernel

/-- A block of the products with the eight rows before it, at point `t`: the rows of `u`. -/
structure Block (u : FVec Ideal ⟨2, ![16384, 512]⟩ .f32) (t : Fin grid0.N) (x : Vec Ideal S512x512 .f32) (p : Vec Ideal S8x512 .f32) : Prop where
  /-- The block's rows. -/
  here : ∀ (r : Fin 512) (d : Fin 512), x (ix2 r d) = rowNo u (512 * t.val + r.val) d
  /-- The eight rows before it. -/
  prev : ∀ (r : Fin 8) (d : Fin 512), t.val ≠ 0 → p (ix2 r d) = rowNo u (512 * t.val - 8 + r.val) d

variable {u : FVec Ideal ⟨2, ![16384, 512]⟩ .f32} {t : Fin grid0.N} {x : Vec Ideal S512x512 .f32} {p : Vec Ideal S8x512 .f32}

/-- A row inside the block is `j` before row `r` of the block. -/
theorem Block.inside (B : Block u t x p) (j : ℕ) (r s : Fin 512) (d : Fin 512) (hs : s.val + j = r.val) :
    x (ix2 s d) = back u (512 * t.val + r.val) j d := by
  have hr := r.isLt
  rw [B.here, back, if_neg (by omega)]
  congr 1; omega

/-- A row of the eight before the block is `j` before row `r` of the block. -/
theorem Block.outside (B : Block u t x p) (j : ℕ) (r : Fin 512) (s : Fin 8) (d : Fin 512) (hs : s.val + j = 8 + r.val) (hj : r.val < j) (h8 : j ≤ 8) :
    k0_pay2 (grid0.coords t) p (ix2 s d) = back u (512 * t.val + r.val) j d := by
  rw [pay2_apply, back]
  split_ifs with h1 h2 h2
  · rfl
  · omega
  · omega
  · rw [B.prev s d (by omega)]
    congr 1; omega

/-- The block moved down one row. -/
theorem Block.pay4 (B : Block u t x p) (r : Fin 512) (d : Fin 512) :
    k0_pay4 (grid0.coords t) x p (ix2 r d) = back u (512 * t.val + r.val) 1 d := by
  have e : k0_pay4 (grid0.coords t) x p (ix2 r d) = Scalar.select (IntOp.cmpi .eq (BitVec.ofNat 32 r.val) 0#32)
      (k0_pay2 (grid0.coords t) p (ix2 7 d)) (x (ix2 ⟨(r.val + 512 - 1) % 512, by omega⟩ d)) := by
    pointwise [k0_pay4, k0_pay3]
  rw [e, row_zero]
  have hr := r.isLt
  split_ifs with h
  · exact B.outside 1 r 7 d (by show 7 + 1 = _; omega) (by omega) (by omega)
  · exact B.inside 1 r _ d (by show (r.val + 512 - 1) % 512 + 1 = r.val; omega)

/-- The block moved down two rows. -/
theorem Block.pay5 (B : Block u t x p) (r : Fin 512) (d : Fin 512) :
    k0_pay5 (grid0.coords t) x p (ix2 r d) = back u (512 * t.val + r.val) 2 d := by
  have e : k0_pay5 (grid0.coords t) x p (ix2 r d) = Scalar.select (IntOp.cmpi .eq (BitVec.ofNat 32 r.val) 0#32)
      (k0_pay2 (grid0.coords t) p (ix2 6 d)) (Scalar.select (IntOp.cmpi .eq (BitVec.ofNat 32 r.val) 1#32)
        (k0_pay2 (grid0.coords t) p (ix2 7 d)) (x (ix2 ⟨(r.val + 512 - 2) % 512, by omega⟩ d))) := by
    pointwise [k0_pay5, k0_pay3]
  rw [e, row_zero, row_one]
  have hr := r.isLt
  split_ifs with h h'
  · exact B.outside 2 r 6 d (by show 6 + 2 = _; omega) (by omega) (by omega)
  · exact B.outside 2 r 6 d (by show 6 + 2 = _; omega) (by omega) (by omega)
  · exact B.outside 2 r 7 d (by show 7 + 2 = _; omega) (by omega) (by omega)
  · exact B.inside 2 r _ d (by show (r.val + 512 - 2) % 512 + 2 = r.val; omega)

/-- Row `R` of the convolution. -/
def convRow (u : FVec Ideal ⟨2, ![16384, 512]⟩ .f32) (w : Fin 3 → Fin 512 → EReal) (R : ℕ) (d : Fin 512) : EReal :=
  w 0 d * back u R 2 d + w 1 d * back u R 1 d + w 2 d * back u R 0 d

theorem pay1_apply (x a b : Vec Ideal S512x512 .f32) (w : FVec Ideal S3x512 .f32) (g : Vec Ideal S512x512 .f32) (r d : Fin 512) :
    k0_pay1 x a b w g (ix2 r d) = g (ix2 r d) * (w (ix2 0 d) * b (ix2 r d) + w (ix2 1 d) * a (ix2 r d) + w (ix2 2 d) * x (ix2 r d)) := by
  pointwise [k0_pay1]

theorem pay6_eq (w : Vec Ideal S3x512 .f32) : k0_pay6 w = w := funext fun i => by
  unfold k0_pay6; exact congrFun (shapeCast_self w _) i

/-- The block a point writes. -/
theorem Block.out4 (B : Block u t x p) (g : Vec Ideal S512x512 .f32) (w : Vec Ideal S3x512 .f32) (r d : Fin 512) :
    out0_4 (grid0.coords t) g x p w (ix2 r d) = g (ix2 r d) * convRow u (fun j d => w (ix2 j d)) (512 * t.val + r.val) d := by
  unfold out0_4
  rw [View.canon_unit_zero (S := S512x512) zero2, View.ld_unit_zero (S := S512x512) zero2, View.ld_unit_zero (S := S8x512) zero2,
    View.ld_unit_zero (S := S3x512) zero2, View.ld_unit_zero (S := S512x512) zero2, pay6_eq, pay1_apply, B.pay4, B.pay5,
    B.inside 0 r r d rfl]
  rfl

variable (m : (ℓ : Loc nD τ sig) → Buf (Elt Ideal) ℓ) (c : Dev nD)

/-- The gate, the products and the taps' weights. -/
abbrev argG : FVec Ideal S16384x512 .f32 := m ((c : Thread nD τ).loc main_arg0)
@[inherit_doc argG] abbrev argU : FVec Ideal S16384x512 .f32 := m ((c : Thread nD τ).loc main_arg1)
@[inherit_doc argG] abbrev argW : FVec Ideal S1x3x512 .f32 := m ((c : Thread nD τ).loc main_arg2)

/-- The weights, as the region reads them. -/
theorem taps_eq : V m c main_v0 = (shapeCast S3x512 (argW m c) shapeCasts_S1x3x512_S3x512 : FVec Ideal S3x512 .f32) := by
  show StableHlo.after hostOps0 (fun b => m (c, b)) main_v0 = _
  after_results
  rfl

/-- Row `r` of a point's row block. -/
def rowOf (t : Fin cfg0.N) (r : Fin 512) : Fin 16384 :=
  ⟨512 * t.val + r.val, by have h := t.isLt; have hN : cfg0.N = 32 := N_0; omega⟩

/-- The windows of the rows and of the result follow the point, that of the eight rows before ends where the block starts, and
    that of the weights never moves. -/
theorem index_all : ∀ t : Fin grid0.N, (win0_0.index t 0 = t.val ∧ win0_0.index t 1 = 0) ∧
    (win0_1.index t 0 = t.val ∧ win0_1.index t 1 = 0) ∧ (win0_2.index t 0 = 64 * t.val - 1 ∧ win0_2.index t 1 = 0) ∧
    (win0_3.index t 0 = 0 ∧ win0_3.index t 1 = 0) ∧ (win0_4.index t 0 = t.val ∧ win0_4.index t 1 = 0) := by decide +kernel

theorem block_g (t : Fin cfg0.N) (r d : Fin 512) : iblk m c 0 t (ix2 r d) = argG m c (ix2 (rowOf t r) d) := by
  have hi := (index_all t).1
  refine Eq.trans ?_ (congrFun (V_main_arg0 m c) (ix2 (rowOf t r) d))
  unfold iblk
  rw [View.read_apply]
  refine congrArg (V m c main_arg0) (at_ix2 _ _ _ ?_ ?_)
  · show win0_0.index t 0 * 512 + 1 * r.val = 512 * t.val + r.val
    rw [hi.1]; omega
  · show win0_0.index t 1 * 512 + 1 * d.val = d.val
    rw [hi.2]; omega

/-- The blocks of the products at a point. -/
theorem block_u (t : Fin cfg0.N) : Block (argU m c) t (iblk m c 1 t) (iblk m c 2 t) where
  here r d := by
    have hi := (index_all t).2.1
    refine Eq.trans ?_ ((congrFun (V_main_arg1 m c) (ix2 (rowOf t r) d)).trans (rowNo_val (argU m c) (rowOf t r) d).symm)
    unfold iblk
    rw [View.read_apply]
    refine congrArg (V m c main_arg1) (at_ix2 _ _ _ ?_ ?_)
    · show win0_1.index t 0 * 512 + 1 * r.val = 512 * t.val + r.val
      rw [hi.1]; omega
    · show win0_1.index t 1 * 512 + 1 * d.val = d.val
      rw [hi.2]; omega
  prev r d ht := by
    have hi := (index_all t).2.2.1
    have hN : cfg0.N = 32 := N_0
    have h := t.isLt
    have hr := r.isLt
    have hlt : 512 * t.val - 8 + r.val < 16384 := by omega
    refine Eq.trans ?_ ((congrFun (V_main_arg1 m c) (ix2 ⟨_, hlt⟩ d)).trans (rowNo_val (argU m c) ⟨_, hlt⟩ d).symm)
    unfold iblk
    rw [View.read_apply]
    refine congrArg (V m c main_arg1) (at_ix2 _ _ _ ?_ ?_)
    · show win0_2.index t 0 * 8 + 1 * r.val = 512 * t.val - 8 + r.val
      rw [hi.1]; omega
    · show win0_2.index t 1 * 512 + 1 * d.val = d.val
      rw [hi.2]; omega

/-- The weights at every point. -/
theorem block_w (t : Fin cfg0.N) (j : Fin 3) (d : Fin 512) : iblk m c 3 t (ix2 j d) = argW m c (ix3 0 j d) := by
  have hi := (index_all t).2.2.2.1
  refine Eq.trans ?_ ((congrFun (taps_eq m c) (ix2 j d)).trans (ValueIdx.shapeCast_1ab_ab_apply _ _ j d))
  unfold iblk
  rw [View.read_apply]
  refine congrArg (V m c main_v0) (at_ix2 _ _ _ ?_ ?_)
  · show win0_3.index t 0 * 3 + 1 * j.val = j.val
    rw [hi.1]; omega
  · show win0_3.index t 1 * 512 + 1 * d.val = d.val
    rw [hi.2]; omega

/-- The point that writes a row. -/
def pointOf (R : Fin 16384) : Fin cfg0.N := ⟨R.val / 512, by have hN : cfg0.N = 32 := N_0; omega⟩

/-- The place of a row in its block. -/
def placeOf (R : Fin 16384) : Fin 512 := ⟨R.val % 512, Nat.mod_lt _ (by norm_num)⟩

theorem rowOf_place (R : Fin 16384) : rowOf (pointOf R) (placeOf R) = R :=
  Fin.ext (by show 512 * (R.val / 512) + R.val % 512 = R.val; omega)

/-- The result at a row and a column. -/
theorem array4 (R : Fin 16384) (d : Fin 512) :
    (dats m 0 c).arrAt 4 cfg0.N (ix2 R d) = argG m c (ix2 R d) * convRow (argU m c) (fun j d => argW m c (ix3 0 j d)) R.val d := by
  have hi := (index_all (pointOf R)).2.2.2.2
  have e := congrFun ((blocks4 m c (pointOf R) (flush0_4 _)).trans (flushed4 m c (pointOf R))) (ix2 (placeOf R) d)
  refine Eq.trans (congrArg ((dats m 0 c).arrAt 4 cfg0.N) (at_ix2 _ R d ?_ ?_).symm) (Eq.trans e ?_)
  · show win0_4.index (pointOf R) 0 * 512 + 1 * (R.val % 512) = R.val
    rw [hi.1]
    show R.val / 512 * 512 + 1 * (R.val % 512) = R.val
    omega
  · show win0_4.index (pointOf R) 1 * 512 + 1 * d.val = d.val
    rw [hi.2]; omega
  refine ((block_u m c (pointOf R)).out4 _ _ (placeOf R) d).trans ?_
  simp only [block_g, block_w, rowOf_place]
  exact congrArg (fun n => argG m c (ix2 R d) * convRow (argU m c) (fun j d => argW m c (ix3 0 j d)) n d)
    (congrArg Fin.val (rowOf_place R))

end Cert.ConvPrompt
-- ==== Proof.Conv.PromptEqual.lean ====
/-
  The reference's convolution of the prompt, and that the call's array is it: the reference puts two rows of zeros before each
  sequence and adds the three shifted copies, each times its tap's weights, to zero.
-/
module

public import proofs.«01_k».proof.Proof.Conv.Prompt
public import proofs.«01_k».proof.Proof.Proj.Reference
public import proofs.«01_k».proof.Proof.Gen.Reference7Ideal.Read

@[expose] public section

set_option maxRecDepth 16384

noncomputable section

namespace Cert.ConvPrompt

open Idealize.ShloMosaic Idealize.ShloMosaic.TcCoe Idealize.SL.Sem
open Cert.OutEven (at_ix2)
open Cert.Proj (batchOf posOf rows_apply)

section
open Cert.Reference7Ideal Cert.Reference7Ideal.Gen Cert.Reference7Ideal.Read

variable (x0 x1 : (⟨S16384x512, .f32⟩ : BufTy).Contents (Elt Ideal)) (x2 : (⟨S1x3x512, .f32⟩ : BufTy).Contents (Elt Ideal))

/-- A row is at its place in its sequence. -/
theorem place_eq (R : Fin 16384) (h) : (⟨(batchOf R).val * 2048 + (posOf R).val, h⟩ : Fin 16384) = R :=
  Fin.ext (by show R.val / 2048 * 2048 + R.val % 2048 = R.val; omega)

/-- A row of the sequences lengthened by two rows of zeros is the row `j` before. -/
theorem join_apply (R : Fin 16384) (s : Fin 2050) (j : ℕ) (d : Fin 512) (hs : s.val + j = R.val % 2048 + 2) (hj : j ≤ 2) :
    val_main_v4 x1 (ix3 (batchOf R) s d) = back x1 R.val j d := by
  have hR := R.isLt
  have hs' := s.isLt
  by_cases h : s.val < 2
  · rw [back, if_pos (by omega)]
    pointwise [val_main_v4, val_main_v3, val_main_cst]
    exact dif_pos h
  · rw [back, if_neg (by omega)]
    have hlt : R.val - j < 16384 := by omega
    rw [show rowNo x1 (R.val - j) d = x1 (ix2 ⟨R.val - j, hlt⟩ d) from rowNo_val x1 ⟨_, hlt⟩ d]
    pointwise [val_main_v4, val_main_v1]
    rw [dif_neg h]
    congr 2
    apply Fin.ext
    show R.val / 2048 * 2048 + (s.val - 2) = R.val - j
    omega

/-- The reference at a row and a column. -/
theorem v28_apply (R : Fin 16384) (d : Fin 512) :
    val_main_v28 x0 x1 x2 (ix2 R d) = x0 (ix2 R d) * convRow x1 (fun j d => x2 (ix3 0 j d)) R.val d := by
  have hp : R.val % 2048 < 2048 := Nat.mod_lt _ (by norm_num)
  refine (rows_apply (W := 512) _ _ R d).trans ?_
  have e : val_main_v27 x0 x1 x2 (ix3 (batchOf R) (posOf R) d) = x0 (ix2 R d)
      * (0 + x2 (ix3 0 0 d) * val_main_v4 x1 (ix3 (batchOf R) ⟨R.val % 2048, by omega⟩ d)
        + x2 (ix3 0 1 d) * val_main_v4 x1 (ix3 (batchOf R) ⟨1 + R.val % 2048, by omega⟩ d)
        + x2 (ix3 0 2 d) * val_main_v4 x1 (ix3 (batchOf R) ⟨2 + R.val % 2048, by omega⟩ d)) := by
    pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v2, val_main_v0, val_main_cst_0]
    rw [place_eq]
    rfl
  rw [e, zero_add, join_apply x1 R ⟨R.val % 2048, by omega⟩ 2 d rfl le_rfl,
    join_apply x1 R ⟨1 + R.val % 2048, by omega⟩ 1 d (by show 1 + R.val % 2048 + 1 = _; omega) (by omega),
    join_apply x1 R ⟨2 + R.val % 2048, by omega⟩ 0 d (by show 2 + R.val % 2048 + 0 = _; omega) (by omega)]
  rfl
end

open Cert.Kernel7Ideal Cert.Kernel7Ideal.Gen Cert.Kernel7Ideal.Value

variable (m : (ℓ : Loc nD τ sig) → Buf (Elt Ideal) ℓ) (c : Dev nD)

/-- The call's array is the reference's. -/
theorem out_equal : Cert.Reference7Ideal.Read.val_main_v28 (argG m c) (argU m c) (argW m c) = (dats m 0 c).arrAt 4 cfg0.N :=
  funext fun i => by
    rw [at_ix2 i (i 0) (i 1) rfl rfl]
    exact (v28_apply _ _ _ (i 0) (i 1)).trans (array4 m c (i 0) (i 1)).symm

end Cert.ConvPrompt
-- ==== Proof.Conv.Sample.lean ====
/-
  The sample's short convolution, as the region computes it: token by token, the gate times three tokens of the joined rows,
  each times its tap's weights. The joined rows are two carried ones and the sample's own four.
-/
module

public import proofs.«01_k».proof.Proof.Gen.Kernel8Ideal.Value
public import proofs.«01_k».proof.Proof.OutEven.Kernel
public import Idealize.ShloMosaic.Lib.Pointwise
public import Idealize.ShloMosaic.Lib.ValueLayout

@[expose] public section

set_option maxRecDepth 16384

noncomputable section

namespace Cert.ConvSample

open Cert.Kernel8Ideal Cert.Kernel8Ideal.Gen Cert.Kernel8Ideal.Value
open Idealize.ShloMosaic Idealize.ShloMosaic.TcCoe Idealize.SL.Sem
open Idealize.ShloMosaic.Pipeline (Dat)

open Cert.Moe (zero2)
open Cert.OutEven (at_ix2)

/-- An index of a box from its three coordinates. -/
theorem at_ix3 {p q s : ℕ} (i : (⟨3, ![p, q, s]⟩ : Shape).Idx) (a : Fin p) (b : Fin q) (d : Fin s) (h0 : (i 0).val = a.val)
    (h1 : (i 1).val = b.val) (h2 : (i 2).val = d.val) : i = ix3 a b d :=
  funext fun z => Fin.ext (by match z with | ⟨0, _⟩ => exact h0 | ⟨1, _⟩ => exact h1 | ⟨2, _⟩ => exact h2)

/-- Token `t` of row `b` of the convolution: the gate times the taps of tokens `t`, `t + 1` and `t + 2` of the joined rows. -/
def token (g : Vec Ideal S4x32x512 .f32) (u : Vec Ideal S6x32x512 .f32) (w : Vec Ideal S3x512 .f32) (t : Fin 4) (b : Fin 32) (d : Fin 512) : EReal :=
  g (ix3 t b d) * (w (ix2 0 d) * u (ix3 ⟨t.val, by omega⟩ b d) + w (ix2 1 d) * u (ix3 ⟨1 + t.val, by omega⟩ b d)
    + w (ix2 2 d) * u (ix3 ⟨2 + t.val, by omega⟩ b d))

theorem pay2_eq (w : Vec Ideal S3x512 .f32) : k0_pay2 w = w := funext fun i => by
  unfold k0_pay2; exact congrFun (shapeCast_self w _) i

/-- What is stored for one token. -/
theorem pay1_apply (w : FVec Ideal S3x512 .f32) (a₀ a₁ a₂ g : Vec Ideal S1x32x512 .f32) (b : Fin 32) (d : Fin 512) :
    k0_pay1 w a₀ a₁ a₂ g (ix3 0 b d)
      = g (ix3 0 b d) * (w (ix2 0 d) * a₀ (ix3 0 b d) + w (ix2 1 d) * a₁ (ix3 0 b d) + w (ix2 2 d) * a₂ (ix3 0 b d)) := by
  pointwise [k0_pay1]

/-- The other tokens are stored by the same arithmetic. -/
theorem pay3_eq (w : Vec Ideal S3x512 .f32) (a₀ a₁ a₂ g : Vec Ideal S1x32x512 .f32) : k0_pay3 w a₀ a₁ a₂ g = k0_pay1 (k0_pay2 w) a₀ a₁ a₂ g := rfl
@[inherit_doc pay3_eq] theorem pay5_eq (w : Vec Ideal S3x512 .f32) (a₀ a₁ a₂ g : Vec Ideal S1x32x512 .f32) :
    k0_pay5 (k0_pay2 w) (k0_pay4 w a₀ a₁) a₂ g = k0_pay1 (k0_pay2 w) a₀ a₁ a₂ g := rfl
@[inherit_doc pay3_eq] theorem pay6_eq (w : FVec Ideal S3x512 .f32) (a₀ a₁ a₂ g : Vec Ideal S1x32x512 .f32) :
    k0_pay6 w a₀ a₁ a₂ g = k0_pay1 w a₀ a₁ a₂ g := rfl

/-- A load of one token reads that token. -/
theorem ld_token {n : ℕ} (x : Vec Ideal ⟨3, ![n, 32, 512]⟩ .f32) (k : Fin n)
    (inb : ∀ a, (![k.val, 0, 0] : Fin 3 → ℕ) a + S1x32x512.size a ≤ (⟨3, ![n, 32, 512]⟩ : Shape).size a) (b : Fin 32) (d : Fin 512) :
    View.ld x (Rect.unit (s := ⟨3, ![n, 32, 512]⟩) ![k.val, 0, 0] S1x32x512.size inb) (ix3 0 b d) = x (ix3 k b d) :=
  congrArg x (at_ix3 _ k b d (by show k.val + 1 * 0 = k.val; omega) (by show 0 + 1 * b.val = b.val; omega)
    (by show 0 + 1 * d.val = d.val; omega))

/-- The stored token is the convolution's. -/
theorem stored (g : Vec Ideal S4x32x512 .f32) (u : Vec Ideal S6x32x512 .f32) (w : Vec Ideal S3x512 .f32) (t : Fin 4) (k₀ k₁ k₂ : Fin 6)
    (h₀ : k₀.val = t.val) (h₁ : k₁.val = 1 + t.val) (h₂ : k₂.val = 2 + t.val) (inb₀ inb₁ inb₂ inb) (j : S1x32x512.Idx) (i : S4x32x512.Idx)
    (e₀ : (i 0).val = t.val + 1 * (j 0).val) (e₁ : (i 1).val = 0 + 1 * (j 1).val) (e₂ : (i 2).val = 0 + 1 * (j 2).val) :
    k0_pay1 w (View.ld u (Rect.unit (s := S6x32x512) ![k₀.val, 0, 0] S1x32x512.size inb₀))
      (View.ld u (Rect.unit (s := S6x32x512) ![k₁.val, 0, 0] S1x32x512.size inb₁))
      (View.ld u (Rect.unit (s := S6x32x512) ![k₂.val, 0, 0] S1x32x512.size inb₂))
      (View.ld g (Rect.unit (s := S4x32x512) ![t.val, 0, 0] S1x32x512.size inb)) j = token g u w (i 0) (i 1) (i 2) := by
  have j0 : (j 0).val < 1 := (j 0).isLt
  obtain ⟨b, d, rfl⟩ : ∃ (b : Fin 32) (d : Fin 512), j = ix3 0 b d :=
    ⟨j 1, j 2, at_ix3 j 0 (j 1) (j 2) (by show (j 0).val = 0; omega) rfl rfl⟩
  have i0 : i 0 = t := Fin.ext (e₀.trans (by show t.val + 1 * 0 = t.val; omega))
  have i1 : i 1 = b := Fin.ext (e₁.trans (by show 0 + 1 * b.val = b.val; omega))
  have i2 : i 2 = d := Fin.ext (e₂.trans (by show 0 + 1 * d.val = d.val; omega))
  rw [i0, i1, i2]
  refine (pay1_apply _ _ _ _ _ b d).trans ?_
  rw [ld_token u k₀, ld_token u k₁, ld_token u k₂, ld_token g t, token]
  obtain ⟨k₀, l₀⟩ := k₀
  obtain ⟨k₁, l₁⟩ := k₁
  obtain ⟨k₂, l₂⟩ := k₂
  obtain rfl : k₀ = t.val := h₀
  obtain rfl : k₁ = 1 + t.val := h₁
  obtain rfl : k₂ = 2 + t.val := h₂
  rfl

/-- The array the region writes. -/
theorem out3_apply (g : Vec Ideal S4x32x512 .f32) (u : Vec Ideal S6x32x512 .f32) (w : Vec Ideal S3x512 .f32) (t : Fin 4) (b : Fin 32) (d : Fin 512) :
    out0_3 g u w (ix3 t b d) = token g u w t b d := by
  unfold out0_3 k0_pay7
  rw [View.ld_unit_zero (S := S3x512) zero2, pay3_eq, pay5_eq, pay6_eq, pay2_eq]
  refine View.canon_apply_of_pieces (Val := Elt Ideal) (fun i : S4x32x512.Idx => token g u w (i 0) (i 1) (i 2))
    _ (fun p hp j => ?_) (ix3 t b d) (cover0_3 _ _ _ _ _)
  simp only [List.mem_cons, List.mem_nil_iff, or_false] at hp
  rcases hp with rfl | rfl | rfl | rfl
  · exact stored g u w 3 3 4 5 rfl rfl rfl _ _ _ _ j _ rfl rfl rfl
  · exact stored g u w 2 2 3 4 rfl rfl rfl _ _ _ _ j _ rfl rfl rfl
  · exact stored g u w 1 1 2 3 rfl rfl rfl _ _ _ _ j _ rfl rfl rfl
  · exact stored g u w 0 0 1 2 rfl rfl rfl _ _ _ _ j _ rfl rfl rfl

variable (m : (ℓ : Loc nD τ sig) → Buf (Elt Ideal) ℓ) (c : Dev nD)

/-- The gate, the products, the carried rows and the taps' weights. -/
abbrev argG : FVec Ideal S128x512 .f32 := m ((c : Thread nD τ).loc main_arg0)
@[inherit_doc argG] abbrev argU : FVec Ideal S128x512 .f32 := m ((c : Thread nD τ).loc main_arg1)
@[inherit_doc argG] abbrev argP : FVec Ideal S32x2x512 .f32 := m ((c : Thread nD τ).loc main_arg2)
@[inherit_doc argG] abbrev argW : FVec Ideal S1x3x512 .f32 := m ((c : Thread nD τ).loc main_arg3)

/-- The gate by rows and tokens. -/
def gate : FVec Ideal S32x4x512 .f32 := shapeCast S32x4x512 (argG m c) shapeCasts_S128x512_S32x4x512

/-- The joined rows: the carried ones, then the sample's. -/
def joined : FVec Ideal S32x6x512 .f32 := concatenate S32x6x512 1 [⟨S32x2x512, argP m c⟩,
  ⟨S32x4x512, shapeCast S32x4x512 (argU m c) shapeCasts_S128x512_S32x4x512⟩] concatenates_S32x2x512_S32x4x512_S32x6x512_d1

theorem gate_eq : V m c main_v4 = transpose S4x32x512 [1, 0, 2] (gate m c) transposes_S32x4x512_S4x32x512_1_0_2 := by
  show StableHlo.after hostOps0 (fun b => m (c, b)) main_v4 = _
  after_results
  rfl

theorem joined_eq : V m c main_v5 = transpose S6x32x512 [1, 0, 2] (joined m c) transposes_S32x6x512_S6x32x512_1_0_2 := by
  show StableHlo.after hostOps0 (fun b => m (c, b)) main_v5 = _
  after_results
  rfl

theorem taps_eq : V m c main_v6 = (shapeCast S3x512 (argW m c) shapeCasts_S1x3x512_S3x512 : FVec Ideal S3x512 .f32) := by
  show StableHlo.after hostOps0 (fun b => m (c, b)) main_v6 = _
  after_results
  rfl

/-- The rows carried on: the last two of the joined rows. -/
theorem carried_eq : V m c main_v2 = (extractStridedSlice S32x2x512 ![0, 4, 0] (joined m c) slices_S32x6x512_S32x2x512_0_4_0 :
    FVec Ideal S32x2x512 .f32) := by
  show StableHlo.after hostOps0 (fun b => m (c, b)) main_v2 = _
  after_results
  rfl

/-- The region's only point. -/
def only : Fin cfg0.N := ⟨0, by decide⟩

theorem block_g (t : Fin 4) (b : Fin 32) (d : Fin 512) : iblk m c 0 only (ix3 t b d) = gate m c (ix3 b t d) := by
  refine Eq.trans ?_ ((congrFun (gate_eq m c) (ix3 t b d)).trans (by pointwise))
  unfold iblk
  rw [View.read_apply]
  exact congrArg (V m c main_v4) (at_ix3 _ _ _ _ (by show 0 * 4 + 1 * t.val = t.val; omega) (by show 0 * 32 + 1 * b.val = b.val; omega)
    (by show 0 * 512 + 1 * d.val = d.val; omega))

theorem block_u (t : Fin 6) (b : Fin 32) (d : Fin 512) : iblk m c 1 only (ix3 t b d) = joined m c (ix3 b t d) := by
  refine Eq.trans ?_ ((congrFun (joined_eq m c) (ix3 t b d)).trans (by pointwise))
  unfold iblk
  rw [View.read_apply]
  exact congrArg (V m c main_v5) (at_ix3 _ _ _ _ (by show 0 * 6 + 1 * t.val = t.val; omega) (by show 0 * 32 + 1 * b.val = b.val; omega)
    (by show 0 * 512 + 1 * d.val = d.val; omega))

theorem block_w (j : Fin 3) (d : Fin 512) : iblk m c 2 only (ix2 j d) = argW m c (ix3 0 j d) := by
  refine Eq.trans ?_ ((congrFun (taps_eq m c) (ix2 j d)).trans (ValueIdx.shapeCast_1ab_ab_apply _ _ j d))
  unfold iblk
  rw [View.read_apply]
  exact congrArg (V m c main_v6) (at_ix2 _ _ _ (by show 0 * 3 + 1 * j.val = j.val; omega) (by show 0 * 512 + 1 * d.val = d.val; omega))

/-- The result at a token, a row and a lane. -/
theorem array3 (t : Fin 4) (b : Fin 32) (d : Fin 512) :
    (dats m 0 c).arrAt 3 cfg0.N (ix3 t b d)
      = gate m c (ix3 b t d) * (argW m c (ix3 0 0 d) * joined m c (ix3 b ⟨t.val, by omega⟩ d)
        + argW m c (ix3 0 1 d) * joined m c (ix3 b ⟨1 + t.val, by omega⟩ d) + argW m c (ix3 0 2 d) * joined m c (ix3 b ⟨2 + t.val, by omega⟩ d)) := by
  have e := congrFun ((blocks3 m c only (flush0_3 _)).trans (flushed3 m c only)) (ix3 t b d)
  refine Eq.trans (congrArg ((dats m 0 c).arrAt 3 cfg0.N) (at_ix3 _ t b d ?_ ?_ ?_).symm) (Eq.trans e ?_)
  · show 0 * 4 + 1 * t.val = t.val; omega
  · show 0 * 32 + 1 * b.val = b.val; omega
  · show 0 * 512 + 1 * d.val = d.val; omega
  refine (out3_apply _ _ _ t b d).trans ?_
  rw [token, block_g, block_u, block_u, block_u, block_w, block_w, block_w]

/-- What a run of the call leaves: the convolution, the carried rows, and the arguments. -/
theorem run (ρ : Dev nD → PrngReg) : θ_run defs (onTc (τ := τ) (main (F := Ideal))) ⟨m, fun _ => 0, ρ⟩ fun r => ∀ c : Dev nD,
      r.2.mem ((c : Thread nD τ).loc main_v7) = (dats m 0 c).arrAt 3 cfg0.N
      ∧ r.2.mem ((c : Thread nD τ).loc main_v2) = V m c main_v2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post3 m r h c, (h c).2 main_v2 (Pipeline.mem_restRefs_of main_v2 (by decide) (by decide)),
    kept_main_arg0 m r h c, kept_main_arg1 m r h c, kept_main_arg2 m r h c, kept_main_arg3 m r h c⟩) (run_main m ρ)

end Cert.ConvSample
-- ==== Proof.Conv.SampleEqual.lean ====
/-
  The reference's convolution of the sample and the rows it carries on, and that the call's two results are they.
-/
module

public import proofs.«01_k».proof.Proof.Conv.Sample
public import proofs.«01_k».proof.Proof.Gen.Reference8Ideal.Read

@[expose] public section

set_option maxRecDepth 16384

noncomputable section

namespace Cert.ConvSample

open Idealize.ShloMosaic Idealize.ShloMosaic.TcCoe Idealize.SL.Sem

section
open Cert.Reference8Ideal Cert.Reference8Ideal.Gen Cert.Reference8Ideal.Read

variable (x0 x1 : (⟨S128x512, .f32⟩ : BufTy).Contents (Elt Ideal)) (x2 : (⟨S32x2x512, .f32⟩ : BufTy).Contents (Elt Ideal))
  (x3 : (⟨S1x3x512, .f32⟩ : BufTy).Contents (Elt Ideal))

/-- The reference at a token, a row and a lane. -/
theorem v27_apply (t : Fin 4) (b : Fin 32) (d : Fin 512) :
    val_main_v27 x0 x1 x2 x3 (ix3 t b d) = val_main_v0 x0 (ix3 b t d)
      * (x3 (ix3 0 0 d) * val_main_v3 x1 x2 (ix3 b ⟨t.val, by omega⟩ d) + x3 (ix3 0 1 d) * val_main_v3 x1 x2 (ix3 b ⟨1 + t.val, by omega⟩ d)
        + x3 (ix3 0 2 d) * val_main_v3 x1 x2 (ix3 b ⟨2 + t.val, by omega⟩ d)) := by
  pointwise [val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9,
    val_main_v8, val_main_v7, val_main_v6, val_main_v5, val_main_v4, val_main_v2, val_main_cst]
end

open Cert.Kernel8Ideal Cert.Kernel8Ideal.Gen Cert.Kernel8Ideal.Value

variable (m : (ℓ : Loc nD τ sig) → Buf (Elt Ideal) ℓ) (c : Dev nD)

/-- The call's array is the reference's. -/
theorem out_equal : Cert.Reference8Ideal.Read.val_main_v27 (argG m c) (argU m c) (argP m c) (argW m c) = (dats m 0 c).arrAt 3 cfg0.N :=
  funext fun i => by
    rw [at_ix3 i (i 0) (i 1) (i 2) rfl rfl rfl]
    exact (v27_apply _ _ _ _ (i 0) (i 1) (i 2)).trans (array3 m c (i 0) (i 1) (i 2)).symm

/-- The carried rows are the reference's. -/
theorem carried_equal : Cert.Reference8Ideal.Read.val_main_v28 (F := Ideal) (argU m c) (argP m c) = V m c main_v2 := (carried_eq m c).symm

end Cert.ConvSample
-- ==== Proof.Scores.Pages.lean ====
/-
  The table of pages names pages of the pool: what the precondition says of its words, and that with it each page's block lies
  inside the cache.
-/
module

public import proofs.«01_k».proof.Proof.Gen.Kernel9.Frame
public import proofs.«01_k».proof.Proof.Gen.Kernel9Ideal.Frame
public import proofs.«01_k».proof.Defs

@[expose] public section

noncomputable section

namespace Cert.Scores

open Idealize.ShloMosaic

/-- A word that is neither negative nor past the pool is a page's number. -/
theorem word_lt (v : BitVec 32) (h0 : IntOp.cmpi .sge v 0#32 = 1#1) (h1 : IntOp.cmpi .slt v 2560#32 = 1#1) : v.toNat < 2560 := by
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h0 h1
  omega

/-- The side conditions the precondition's text is stated under. -/
theorem pre_facts : Pre_pages_in_pool.Facts where
  bcast_S_S32x64 := by decide

attribute [local instance] pre_facts

/-- What the precondition says of the table. -/
theorem words_lt {F : FTy → Type} [FloatOps F] (T : IVec ⟨2, ![32, 64]⟩ 32) (q : FVec F ⟨3, ![32, 32, 64]⟩ .bf16) (w : FVec F ⟨3, ![32, 32, 1]⟩ .f32)
    (K : FVec F ⟨3, ![2560, 128, 64]⟩ .f32) (h : (Pre_pages_in_pool.fn T q w K).1 = (fun _ => 1#1) ∧ (Pre_pages_in_pool.fn T q w K).2 = (fun _ => 1#1)) (x) :
    (T x).toNat < 2560 :=
  word_lt _ (congrFun h.1 x) (congrFun h.2 x)

/-- A page's block lies inside the cache. -/
theorem page_inside (n : ℕ) (hn : n < 2560) (a : Fin 3) :
    ((![n, (0#32).toNat, (0#32).toNat] : Fin 3 → ℕ) a + 1) * (![1, 128, 64] : Fin 3 → ℕ) a ≤ (![2560, 128, 64] : Fin 3 → ℕ) a := by
  fin_cases a
  · show (n + 1) * 1 ≤ 2560
    omega
  · show (0 + 1) * 128 ≤ 128
    omega
  · show (0 + 1) * 64 ≤ 64
    omega

section
open Cert.Kernel9 Cert.Kernel9.Gen

/-- With such a table all sixteen windows of pages stay inside the cache. -/
theorem ok_bits (m : (ℓ : Loc nD τ sig) → Buf (Elt Bits) ℓ) (h : Cert.Pre_Kernel9 m) : Ok m := by
  have g := words_lt _ _ _ _ (h 0)
  refine ⟨?_, ?_, ?_, ?_, ?_, ?_, ?_, ?_, ?_, ?_, ?_, ?_, ?_, ?_, ?_, ?_⟩ <;> exact fun i => ⟨page_inside _ (g _), Or.inl rfl⟩

end

section
open Cert.Kernel9Ideal Cert.Kernel9Ideal.Gen

@[inherit_doc ok_bits]
theorem ok_ideal (m : (ℓ : Loc nD τ sig) → Buf (Elt Ideal) ℓ) (h : Cert.Pre_Kernel9Ideal m) : Ok m := by
  have g := words_lt _ _ _ _ (h 0)
  refine ⟨?_, ?_, ?_, ?_, ?_, ?_, ?_, ?_, ?_, ?_, ?_, ?_, ?_, ?_, ?_, ?_⟩ <;> exact fun i => ⟨page_inside _ (g _), Or.inl rfl⟩

end

end Cert.Scores
-- ==== Proof.Scores.Body.lean ====
/-
  What one grid point of the index scores writes: sixteen pieces side by side, one for each page.
-/
module

public import proofs.«01_k».proof.Proof.Gen.Kernel9Ideal.Frame
public import proofs.«01_k».proof.Proof.Conv.Sample
public import Idealize.ShloMosaic.Lib.Pointwise
public import Idealize.ShloMosaic.Lib.ValueLayout
public import Idealize.ShloMosaic.Lib.Tactic

@[expose] public section

set_option maxRecDepth 16384

noncomputable section

namespace Cert.Scores

open Cert.Kernel9Ideal Cert.Kernel9Ideal.Gen
open Idealize.ShloMosaic Idealize.ShloMosaic.TcCoe Idealize.SL.Sem
open Cert.ConvSample (at_ix3)

variable {F : FTy → Type} [FloatOps F]

theorem zero3 : (![0, 0, 0] : Fin 3 → ℕ) = fun _ => 0 := by funext a; fin_cases a <;> rfl

/-- The lanes of page `j` in the block. -/
theorem lanes_inside (j : Fin 16) (a : Fin 3) : (![0, 0, 128 * j.val] : Fin 3 → ℕ) a + S1x8x128.size a ≤ S1x8x2048.size a := by
  fin_cases a
  · show 0 + 1 ≤ 1
    omega
  · show 0 + 8 ≤ 8
    omega
  · show 128 * j.val + 128 ≤ 2048
    omega

/-- What is stored for page `j`. -/
def piece (q : Vec F S1x32x64 .bf16) (w : Vec F S1x32x1 .f32) (pages : Fin 16 → Vec F S1x128x64 .f32) (j : Fin 16) :
    View.Piece (Elt F) S1x8x2048 .f32 :=
  ⟨Rect.unit (s := S1x8x2048) ![0, 0, 128 * j.val] S1x8x128.size (lanes_inside j), k0_pay2 q w (pages j)⟩

/-- The pages, the last first. -/
def lastFirst : List (Fin 16) := [15, 14, 13, 12, 11, 10, 9, 8, 7, 6, 5, 4, 3, 2, 1, 0]

/-- What one head gives a token's score of a key: row `r` holds a head's query of a token. -/
def headScore (q : Fin 32 → Fin 64 → EReal) (w : Fin 32 → EReal) (k : Fin 64 → EReal) (r : Fin 32) : EReal :=
  max (∑ d : Fin 64, q r d * k d) 0 * Ideal.ofBits .f32 0x3E000000#32 * (w r * Ideal.ofBits .f32 0x3F000000#32)

/-- Row `8 h + t` holds head `h` of token `t`. -/
def headRow (h : Fin 4) (t : Fin 8) : Fin 32 := ⟨8 * h.val + t.val, by omega⟩

/-- The score of a key: the sum over the four heads. -/
def score (q : Fin 32 → Fin 64 → EReal) (w : Fin 32 → EReal) (k : Fin 64 → EReal) (t : Fin 8) : EReal :=
  ∑ h : Fin 4, headScore q w k (headRow h t)

/-- One page's piece, at a token and a place in the page. -/
theorem pay_apply (q : Vec Ideal S1x32x64 .bf16) (w : Vec Ideal S1x32x1 .f32) (k : Vec Ideal S1x128x64 .f32) (t : Fin 8) (l : Fin 128) :
    k0_pay2 q w k (ix3 0 t l) = score (fun r d => q (ix3 0 r d)) (fun r => w (ix3 0 r 0)) (fun d => k (ix3 0 l d)) t := by
  have e : headRow 0 t = ⟨t.val, by omega⟩ := Fin.ext (by show 8 * 0 + t.val = t.val; omega)
  unfold score
  rw [Fin.sum_univ_four, e]
  unfold headScore
  pointwise [k0_pay2]
  rfl

/-- The page and the place in it of lane `s` of the block. -/
def pageOf (s : Fin 2048) : Fin 16 := ⟨s.val / 128, by omega⟩
@[inherit_doc pageOf] def placeOf (s : Fin 2048) : Fin 128 := ⟨s.val % 128, Nat.mod_lt _ (by norm_num)⟩

/-- The block, index by index. -/
def blockAt (q : Vec Ideal S1x32x64 .bf16) (w : Vec Ideal S1x32x1 .f32) (pages : Fin 16 → Vec Ideal S1x128x64 .f32) (y : S1x8x2048.Idx) : EReal :=
  score (fun r d => q (ix3 0 r d)) (fun r => w (ix3 0 r 0)) (fun d => pages (pageOf (y 2)) (ix3 0 (placeOf (y 2)) d)) (y 1)

/-- Each piece agrees with the block. -/
theorem piece_apply (q : Vec Ideal S1x32x64 .bf16) (w : Vec Ideal S1x32x1 .f32) (pages : Fin 16 → Vec Ideal S1x128x64 .f32) (j : Fin 16)
    (x : (piece q w pages j).1.shape.Idx) : (piece q w pages j).2 x = blockAt q w pages ((piece q w pages j).1.emb x) := by
  have h0 : (x 0).val < 1 := (x 0).isLt
  have h2 : (x 2).val < 128 := (x 2).isLt
  obtain ⟨t, ht⟩ : ∃ t : Fin 8, t = x 1 := ⟨_, rfl⟩
  obtain ⟨l, hl⟩ : ∃ l : Fin 128, l = x 2 := ⟨_, rfl⟩
  have hx : x = (ix3 0 t l : S1x8x128.Idx) := at_ix3 _ _ _ _ (by show (x 0).val = 0; omega) (congrArg Fin.val ht).symm (congrArg Fin.val hl).symm
  have e1 : (piece q w pages j).1.emb x 1 = t := Fin.ext (by
    show 0 + 1 * (x 1).val = t.val
    rw [ht]; omega)
  have e2 : pageOf ((piece q w pages j).1.emb x 2) = j := Fin.ext (by
    show (128 * j.val + 1 * (x 2).val) / 128 = j.val
    omega)
  have e3 : placeOf ((piece q w pages j).1.emb x 2) = l := Fin.ext (by
    show (128 * j.val + 1 * (x 2).val) % 128 = l.val
    rw [hl]; omega)
  unfold blockAt
  rw [e1, e2, e3]
  refine Eq.trans (congrArg (k0_pay2 q w (pages j)) hx) (pay_apply q w (pages j) t l)

/-- Every place of the block is in its page's piece. -/
theorem piece_covers (q : Vec Ideal S1x32x64 .bf16) (w : Vec Ideal S1x32x1 .f32) (pages : Fin 16 → Vec Ideal S1x128x64 .f32) (t : Fin 8) (s : Fin 2048) :
    ix3 0 t s ∈ (piece q w pages (pageOf s)).1.set := by
  have e : (piece q w pages (pageOf s)).1.emb (ix3 0 t (placeOf s) : S1x8x128.Idx) = ix3 0 t s :=
    at_ix3 _ _ _ _ rfl (by show 0 + 1 * t.val = t.val; omega) (by show 128 * (s.val / 128) + 1 * (s.val % 128) = s.val; omega)
  rw [← e, ← Rect.map_emb_univ]
  exact Finset.mem_map_of_mem _ (Finset.mem_univ _)

section
variable (c : Dev nD) (i : grid0.Coords)
  (arg3 : Memref sig .tc .vmem S1x32x64 .bf16) (harg3 : arg3.IsWhole)
  (arg4 : Memref sig .tc .vmem S1x32x1 .f32) (harg4 : arg4.IsWhole)
  (arg5 : Memref sig .tc .vmem S1x128x64 .f32) (harg5 : arg5.IsWhole)
  (arg6 : Memref sig .tc .vmem S1x128x64 .f32) (harg6 : arg6.IsWhole)
  (arg7 : Memref sig .tc .vmem S1x128x64 .f32) (harg7 : arg7.IsWhole)
  (arg8 : Memref sig .tc .vmem S1x128x64 .f32) (harg8 : arg8.IsWhole)
  (arg9 : Memref sig .tc .vmem S1x128x64 .f32) (harg9 : arg9.IsWhole)
  (arg10 : Memref sig .tc .vmem S1x128x64 .f32) (harg10 : arg10.IsWhole)
  (arg11 : Memref sig .tc .vmem S1x128x64 .f32) (harg11 : arg11.IsWhole)
  (arg12 : Memref sig .tc .vmem S1x128x64 .f32) (harg12 : arg12.IsWhole)
  (arg13 : Memref sig .tc .vmem S1x128x64 .f32) (harg13 : arg13.IsWhole)
  (arg14 : Memref sig .tc .vmem S1x128x64 .f32) (harg14 : arg14.IsWhole)
  (arg15 : Memref sig .tc .vmem S1x128x64 .f32) (harg15 : arg15.IsWhole)
  (arg16 : Memref sig .tc .vmem S1x128x64 .f32) (harg16 : arg16.IsWhole)
  (arg17 : Memref sig .tc .vmem S1x128x64 .f32) (harg17 : arg17.IsWhole)
  (arg18 : Memref sig .tc .vmem S1x128x64 .f32) (harg18 : arg18.IsWhole)
  (arg19 : Memref sig .tc .vmem S1x128x64 .f32) (harg19 : arg19.IsWhole)
  (arg20 : Memref sig .tc .vmem S1x128x64 .f32) (harg20 : arg20.IsWhole)
  (arg21 : Memref sig .tc .vmem S1x8x2048 .f32) (harg21 : arg21.IsWhole)
  (x0 : Vec F S1x32x64 .bf16) (x1 : Vec F S1x32x1 .f32) (x2 x3 x4 x5 x6 x7 x8 x9 x10 x11 x12 x13 x14 x15 x16 x17 : Vec F S1x128x64 .f32)
  (xt0 : TbBuf0 (F := F) c tbM0_0)

/-- The point stores one piece for each page. -/
theorem pieces : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 xt0).1 = lastFirst.map (piece x0 x1 ![x2, x3, x4, x5, x6, x7, x8, x9, x10, x11, x12, x13, x14, x15, x16, x17]) := by
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x32x64) zero3, View.ld_unit_zero (S := S1x32x1) zero3,
    View.ld_unit_zero (S := S1x128x64) zero3]
  rfl

end

section
variable (c : Dev nD) (i : grid0.Coords)
  (arg3 : Memref sig .tc .vmem S1x32x64 .bf16) (harg3 : arg3.IsWhole)
  (arg4 : Memref sig .tc .vmem S1x32x1 .f32) (harg4 : arg4.IsWhole)
  (arg5 : Memref sig .tc .vmem S1x128x64 .f32) (harg5 : arg5.IsWhole)
  (arg6 : Memref sig .tc .vmem S1x128x64 .f32) (harg6 : arg6.IsWhole)
  (arg7 : Memref sig .tc .vmem S1x128x64 .f32) (harg7 : arg7.IsWhole)
  (arg8 : Memref sig .tc .vmem S1x128x64 .f32) (harg8 : arg8.IsWhole)
  (arg9 : Memref sig .tc .vmem S1x128x64 .f32) (harg9 : arg9.IsWhole)
  (arg10 : Memref sig .tc .vmem S1x128x64 .f32) (harg10 : arg10.IsWhole)
  (arg11 : Memref sig .tc .vmem S1x128x64 .f32) (harg11 : arg11.IsWhole)
  (arg12 : Memref sig .tc .vmem S1x128x64 .f32) (harg12 : arg12.IsWhole)
  (arg13 : Memref sig .tc .vmem S1x128x64 .f32) (harg13 : arg13.IsWhole)
  (arg14 : Memref sig .tc .vmem S1x128x64 .f32) (harg14 : arg14.IsWhole)
  (arg15 : Memref sig .tc .vmem S1x128x64 .f32) (harg15 : arg15.IsWhole)
  (arg16 : Memref sig .tc .vmem S1x128x64 .f32) (harg16 : arg16.IsWhole)
  (arg17 : Memref sig .tc .vmem S1x128x64 .f32) (harg17 : arg17.IsWhole)
  (arg18 : Memref sig .tc .vmem S1x128x64 .f32) (harg18 : arg18.IsWhole)
  (arg19 : Memref sig .tc .vmem S1x128x64 .f32) (harg19 : arg19.IsWhole)
  (arg20 : Memref sig .tc .vmem S1x128x64 .f32) (harg20 : arg20.IsWhole)
  (arg21 : Memref sig .tc .vmem S1x8x2048 .f32) (harg21 : arg21.IsWhole)
  (x0 : Vec Ideal S1x32x64 .bf16) (x1 : Vec Ideal S1x32x1 .f32) (x2 x3 x4 x5 x6 x7 x8 x9 x10 x11 x12 x13 x14 x15 x16 x17 : Vec Ideal S1x128x64 .f32)
  (xt0 : TbBuf0 (F := Ideal) c tbM0_0)

/-- What the point leaves in the block. -/
theorem out_apply (t : Fin 8) (s : Fin 2048) : out0_A_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 xt0 (ix3 0 t s) = blockAt x0 x1 ![x2, x3, x4, x5, x6, x7, x8, x9, x10, x11, x12, x13, x14, x15, x16, x17] (ix3 0 t s) := by
  unfold out0_A_18
  rw [pieces]
  refine View.read_writes_apply_of_pieces (Val := Elt Ideal) (e := .f32) _ _ (blockAt x0 x1 ![x2, x3, x4, x5, x6, x7, x8, x9, x10, x11, x12, x13, x14, x15, x16, x17]) _ ?_ _ ?_
  · intro p hp
    obtain ⟨j, -, rfl⟩ := List.mem_map.1 hp
    exact piece_apply _ _ _ j
  · exact ⟨_, List.mem_map.2 ⟨pageOf s, (by decide : ∀ j : Fin 16, j ∈ lastFirst) _, rfl⟩, piece_covers _ _ _ t s⟩

end

end Cert.Scores
-- ==== Proof.Scores.Array.lean ====
/-
  The index scores' array, as the region leaves it: each point writes one block, of one row of the batch and sixteen pages.
-/
module

public import proofs.«01_k».proof.Proof.Scores.Body
public import proofs.«01_k».proof.Proof.OutEven.Kernel
public import Idealize.ShloMosaic.Lib.Pipeline.Value

@[expose] public section

set_option maxRecDepth 16384

noncomputable section

namespace Cert.Scores

open Cert.Kernel9Ideal Cert.Kernel9Ideal.Gen
open Idealize.ShloMosaic Idealize.ShloMosaic.TcCoe Idealize.SL.Sem
open Cert.ConvSample (at_ix3)
open Cert.OutEven (at_ix2)

variable (m : (ℓ : Loc nD τ sig) → Buf (Elt Ideal) ℓ) (hO : Ok m) (c : Dev nD)

/-- The table of pages, the index queries and weights, and the cache of index keys. -/
abbrev argT : IVec S32x64 32 := m ((c : Thread nD τ).loc main_arg0)
@[inherit_doc argT] abbrev argQ : FVec Ideal S32x32x64 .bf16 := m ((c : Thread nD τ).loc main_arg1)
@[inherit_doc argT] abbrev argW : FVec Ideal S32x32x1 .f32 := m ((c : Thread nD τ).loc main_arg2)
@[inherit_doc argT] abbrev argK : FVec Ideal S2560x128x64 .f32 := m ((c : Thread nD τ).loc main_arg3)

/-- The row of the batch and the four sixteenths of its pages that a point works on. -/
def rowAt (t : Fin grid0.N) : Fin 32 := ⟨t.val / 4, by have h := t.isLt; have hN : grid0.N = 128 := N_0; omega⟩

/-- Page `j` of the point's sixteen, among the row's 64. -/
def pageAt (t : Fin grid0.N) (j : Fin 16) : Fin 64 := ⟨16 * (t.val % 4) + j.val, by omega⟩

/-- The windows of the queries, weights and scores at each point. -/
theorem index_all : ∀ t : Fin grid0.N, cc0_transform_0 (grid0.coords t) = ![t.val / 4, 0, 0] ∧ cc0_transform_1 (grid0.coords t) = ![t.val / 4, 0, 0] ∧
    cc0_transform_18 (grid0.coords t) = ![t.val / 4, 0, t.val % 4] := by decide +kernel

/-- The entry of the table that a page's window reads at each point. -/
theorem entry_all : ∀ t : Fin grid0.N, ∀ j : Fin 16, k0_off1 (grid0.coords t) (BitVec.ofNat 32 j.val) = ![t.val / 4, 16 * (t.val % 4) + j.val] := by
  decide +kernel

/-- The row of the cache that a page's window stages is the table's entry. -/
theorem entry_val (t : Fin grid0.N) (j : Fin 16) :
    ((tbl m).at 0 (Rect.unit (s := S32x64) (k0_off1 (grid0.coords t) (BitVec.ofNat 32 j.val)) S1x1.size (k0_off1_inb (grid0.coords t) j)) numel1_S1x1).toNat * 1 + 1 * 0
      = (argT m 0 (ix2 (rowAt t) (pageAt t j))).toNat := by
  have e := entry_all t j
  refine (Nat.mul_one _).trans (congrArg (fun x => (argT m 0 x).toNat) (at_ix2 _ _ _ ?_ ?_))
  · show k0_off1 (grid0.coords t) (BitVec.ofNat 32 j.val) 0 + 1 * 0 = t.val / 4
    rw [e]; rfl
  · show k0_off1 (grid0.coords t) (BitVec.ofNat 32 j.val) 1 + 1 * 0 = 16 * (t.val % 4) + j.val
    rw [e]; rfl

theorem stay (n l : ℕ) : (0#32).toNat * n + 1 * l = l := by
  show 0 * n + 1 * l = l
  omega

/-- The row of the cache that a table's entry names. -/
def cacheRow (T : IVec S32x64 32) (hT : ∀ x, (T x).toNat < 2560) (b : Fin 32) (p : Fin 64) : Fin 2560 := ⟨(T (ix2 b p)).toNat, hT _⟩

/-- The sixteen pages a point stages. -/
def pagesAt (t : Fin (cfgM m hO).N) : Fin 16 → Vec Ideal S1x128x64 .f32 :=
  ![iblk m hO c 2 t, iblk m hO c 3 t, iblk m hO c 4 t, iblk m hO c 5 t, iblk m hO c 6 t, iblk m hO c 7 t, iblk m hO c 8 t, iblk m hO c 9 t,
    iblk m hO c 10 t, iblk m hO c 11 t, iblk m hO c 12 t, iblk m hO c 13 t, iblk m hO c 14 t, iblk m hO c 15 t, iblk m hO c 16 t, iblk m hO c 17 t]

/-- Each page a point stages is the row of the cache that the table names. -/
theorem pages_apply (hT : ∀ x, (argT m 0 x).toNat < 2560) (t : Fin (cfgM m hO).N) (j : Fin 16) (l : Fin 128) (d : Fin 64) :
    pagesAt m hO c t j (ix3 0 l d) = argK m c (ix3 (cacheRow (argT m 0) hT (rowAt t) (pageAt t j)) l d) := by
  have key := entry_val m t j
  unfold pagesAt iblk
  fin_cases j <;> exact congrArg (argK m c) (at_ix3 _ _ _ _ key (stay 128 l.val) (stay 64 d.val))

theorem block_q (t : Fin (cfgM m hO).N) (r : Fin 32) (d : Fin 64) : iblk m hO c 0 t (ix3 0 r d) = argQ m c (ix3 (rowAt t) r d) := by
  have hi := (index_all t).1
  unfold iblk
  refine congrArg (argQ m c) (at_ix3 _ _ _ _ ?_ ?_ ?_)
  · show cc0_transform_0 (grid0.coords t) 0 * 1 + 1 * 0 = t.val / 4
    rw [hi]; exact Nat.mul_one _
  · show cc0_transform_0 (grid0.coords t) 1 * 32 + 1 * r.val = r.val
    rw [hi]; show 0 * 32 + 1 * r.val = r.val; omega
  · show cc0_transform_0 (grid0.coords t) 2 * 64 + 1 * d.val = d.val
    rw [hi]; show 0 * 64 + 1 * d.val = d.val; omega

theorem block_w (t : Fin (cfgM m hO).N) (r : Fin 32) : iblk m hO c 1 t (ix3 0 r 0) = argW m c (ix3 (rowAt t) r 0) := by
  have hi := (index_all t).2.1
  unfold iblk
  refine congrArg (argW m c) (at_ix3 _ _ _ _ ?_ ?_ ?_)
  · show cc0_transform_1 (grid0.coords t) 0 * 1 + 1 * 0 = t.val / 4
    rw [hi]; exact Nat.mul_one _
  · show cc0_transform_1 (grid0.coords t) 1 * 32 + 1 * r.val = r.val
    rw [hi]; show 0 * 32 + 1 * r.val = r.val; omega
  · show cc0_transform_1 (grid0.coords t) 2 * 1 + 1 * 0 = 0
    rw [hi]; rfl

/-- Two points' blocks share no place. -/
theorem index_inj : ∀ t t' : Fin grid0.N, cc0_transform_18 (grid0.coords t) = cc0_transform_18 (grid0.coords t') → t = t' := by
  intro t t' h
  rw [(index_all t).2.2, (index_all t').2.2] at h
  have h0 : t.val / 4 = t'.val / 4 := congrFun h 0
  have h2 : t.val % 4 = t'.val % 4 := congrFun h 2
  exact Fin.ext (by omega)

theorem disjoint18 : ∀ t t' : Fin (cfgM m hO).N, ((cfgM m hO).win 18).flush t = true → ((cfgM m hO).win 18).flush t' = true → t ≠ t' →
    Disjoint (((cfgM m hO).win 18).blk t).view.set (((cfgM m hO).win 18).blk t').view.set :=
  fun t t' _ _ hne => ((cfgM m hO).win 18).disjoint_blk fun h => hne (index_inj t t' h)

/-- The point that writes a row's score of a key. -/
def pointOf (b : Fin 32) (s : Fin 8192) : Fin (cfgM m hO).N := ⟨4 * b.val + s.val / 2048, by have hN : (cfgM m hO).N = 128 := N_0; omega⟩

/-- The page of a key among the row's 64, and its place in the page. -/
def keyPage (s : Fin 8192) : Fin 64 := ⟨s.val / 128, by omega⟩
@[inherit_doc keyPage] def keyPlace (s : Fin 8192) : Fin 128 := ⟨s.val % 128, Nat.mod_lt _ (by norm_num)⟩

/-- The array at a row, a token and a key. -/
theorem array18 (hT : ∀ x, (argT m 0 x).toNat < 2560) (b : Fin 32) (t : Fin 8) (s : Fin 8192) :
    (dats m hO 0 c).arrAt 18 (cfgM m hO).N (ix3 b t s) =
      score (fun r d => argQ m c (ix3 b r d)) (fun r => argW m c (ix3 b r 0))
        (fun d => argK m c (ix3 (cacheRow (argT m 0) hT b (keyPage s)) (keyPlace s) d)) t := by
  obtain ⟨z, hz⟩ : ∃ z, z = pointOf m hO b s := ⟨_, rfl⟩
  have hzv : z.val = 4 * b.val + s.val / 2048 := congrArg Fin.val hz
  have hi := (index_all z).2.2
  obtain ⟨u, hu⟩ : ∃ u : Fin 2048, u.val = s.val % 2048 := ⟨⟨s.val % 2048, Nat.mod_lt _ (by norm_num)⟩, rfl⟩
  have e := (dats m hO 0 c).arrAt_emb_eq_flushed 18 (disjoint18 m hO) z (flush0_18 _ z) (ix3 0 t u)
  have f : (dats m hO 0 c).flushed 18 z (ix3 0 t u) = outsAt0 m hO c z (ix3 0 t u) := by
    show (dats m hO 0 c).after 18 z (ix3 0 t u) = _
    rw [after0_18]
  refine Eq.trans (congrArg ((dats m hO 0 c).arrAt 18 (cfgM m hO).N) (at_ix3 _ b t s ?_ ?_ ?_).symm) (e.trans (f.trans ?_))
  · show cc0_transform_18 (grid0.coords z) 0 * 1 + 1 * 0 = b.val
    rw [hi]; show z.val / 4 * 1 + 1 * 0 = b.val; omega
  · show cc0_transform_18 (grid0.coords z) 1 * 8 + 1 * t.val = t.val
    rw [hi]; show 0 * 8 + 1 * t.val = t.val; omega
  · show cc0_transform_18 (grid0.coords z) 2 * 2048 + 1 * u.val = s.val
    rw [hi]; show z.val % 4 * 2048 + 1 * u.val = s.val; omega
  have hb : rowAt z = b := Fin.ext (by show z.val / 4 = b.val; omega)
  have hp : pageAt z (pageOf u) = keyPage s := Fin.ext (by show 16 * (z.val % 4) + u.val / 128 = s.val / 128; omega)
  have hl : placeOf u = keyPlace s := Fin.ext (by show u.val % 128 = s.val % 128; omega)
  refine Eq.trans (show _ = blockAt (iblk m hO c 0 z) (iblk m hO c 1 z) (pagesAt m hO c z) (ix3 0 t u) from ?_) ?_
  · unfold outsAt0 pagesAt
    exact out_apply _ _ _ _ _ _ _ _ _ _ _ _ _ _ _ _ _ _ _ _ _ _ _ _ _ _ _ _ _ _ _ _ _ _ _ _ _ _ _ _ _ _ _ _ _ _ _ _ _ _ _ _ _ _ _ _ _ _ _ _ _
  · show score (fun r d => iblk m hO c 0 z (ix3 0 r d)) (fun r => iblk m hO c 1 z (ix3 0 r 0))
      (fun d => pagesAt m hO c z (pageOf u) (ix3 0 (placeOf u) d)) t = _
    simp only [block_q, block_w, pages_apply m hO c hT, hb, hp, hl]

end Cert.Scores
-- ==== Proof.Scores.Reference.lean ====
/-
  The reference's index scores at a row, a token and a key: the gathered page is the row of the cache that the table names, and
  the scale goes through the clamp at zero.
-/
module

public import proofs.«01_k».proof.Proof.Scores.Array
public import proofs.«01_k».proof.Proof.Gen.Reference9Ideal.Read

@[expose] public section

set_option maxRecDepth 16384

noncomputable section

namespace Cert.Scores

open Idealize.ShloMosaic Idealize.ShloMosaic.TcCoe Idealize.SL.Sem
open Cert.ConvSample (at_ix3)
open Cert.OutEven (at_ix2)

section
open Cert.Reference9Ideal Cert.Reference9Ideal.Gen Cert.Reference9Ideal.Read

/-- The entry of the table that an element of the gathered pages follows. -/
theorem start_place (g : GatherDims S2560x128x64 S32x64x1 S32x64x128x64) (hg : g = gather_S2560x128x64_S32x64x1_S32x64x128x64_23_0_n_n_0_2_112864)
    (b : Fin 32) (p : Fin 64) (l : Fin 128) (d : Fin 64) (z) : g.siIdx (ix4 b p l d) z = ix3 b p 0 := by
  subst hg
  have hz : z.val < 1 := z.isLt
  refine at_ix3 _ _ _ _ rfl rfl ?_
  show z.val = 0
  omega

/-- The gathered pages. -/
theorem gather_apply (K : FVec Ideal S2560x128x64 .f32) (I : IVec S32x64x1 32) (b : Fin 32) (p : Fin 64) (l : Fin 128) (d : Fin 64) (n : Fin 2560)
    (h : (I (ix3 b p 0)).toInt.toNat = n.val) :
    Host.gather gather_S2560x128x64_S32x64x1_S32x64x128x64_23_0_n_n_0_2_112864 K I (ix4 b p l d) = K (ix3 n l d) := by
  have none : ∀ a : Fin 3, a ∉ gather_S2560x128x64_S32x64x1_S32x64x128x64_23_0_n_n_0_2_112864.operandBatchingDims := fun a => List.not_mem_nil
  unfold Host.gather
  refine congrArg K (at_ix3 _ _ _ _ ?_ ?_ ?_)
  · show GatherDims.start _ (ix4 b p l d) I 0 + GatherDims.batchCoord _ (ix4 b p l d) 0 + GatherDims.offCoord _ (ix4 b p l d) 0 = n.val
    rw [GatherDims.batchCoord_eq_zero _ _ _ (none 0),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S2560x128x64_S32x64x1_S32x64x128x64_23_0_n_n_0_2_112864.startIndexMap from List.mem_singleton.mpr rfl),
      start_place _ rfl, h]
    show min n.val (2560 - 1) = n.val
    omega
  · show GatherDims.start _ (ix4 b p l d) I 1 + GatherDims.batchCoord _ (ix4 b p l d) 1 + GatherDims.offCoord _ (ix4 b p l d) 1 = l.val
    rw [GatherDims.batchCoord_eq_zero _ _ _ (none 1)]
    unfold GatherDims.start
    rw [dif_neg (by decide)]
    show 0 + 0 + l.val = l.val
    omega
  · show GatherDims.start _ (ix4 b p l d) I 2 + GatherDims.batchCoord _ (ix4 b p l d) 2 + GatherDims.offCoord _ (ix4 b p l d) 2 = d.val
    rw [GatherDims.batchCoord_eq_zero _ _ _ (none 2)]
    unfold GatherDims.start
    rw [dif_neg (by decide)]
    show 0 + 0 + d.val = d.val
    omega

variable (T : IVec S32x64 32) (hT : ∀ x, (T x).toNat < 2560) (q : FVec Ideal S32x32x64 .bf16) (w : FVec Ideal S32x32x1 .f32)
  (K : FVec Ideal S2560x128x64 .f32)

include hT in
/-- A page's number is not negative, so the reference gathers by it unchanged. -/
theorem entry_apply (b : Fin 32) (p : Fin 64) : val_main_v10 (F := Ideal) T (ix3 b p 0) = T (ix2 b p) := by
  rw [val_main_v10_apply, val_main_v9_apply, val_main_v6_apply, val_main_v5_apply, val_main_c_apply]
  have e : idx_main_v10 (ix3 b p 0) = ix2 b p := at_ix2 _ _ _ rfl rfl
  rw [e]
  have h := hT (ix2 b p)
  have n : IntOp.cmpi .slt (T (ix2 b p)) 0#32 = 0#1 := by
    generalize T (ix2 b p) = v at h
    have f : v.slt 0#32 = false := by
      rw [BitVec.slt_eq_decide, decide_eq_false_iff_not, BitVec.toInt_eq_toNat_cond]
      show ¬ (_ < (0 : ℤ))
      split_ifs <;> omega
    show BitVec.ofBool (v.slt 0#32) = 0#1
    rw [f]; rfl
  rw [n]
  rfl

/-- The keys, page after page. -/
theorem keys_apply (b : Fin 32) (s : Fin 8192) (d : Fin 64) :
    val_main_v12 (F := Ideal) T K (ix3 b s d) = K (ix3 (cacheRow T hT b (keyPage s)) (keyPlace s) d) := by
  have e : idx_main_v12 (ix3 b s d) = ix4 b (keyPage s) (keyPlace s) d := funext fun a => Fin.ext (by
    match a with
    | ⟨0, _⟩ => show ((b.val * 8192 + s.val) * 64 + d.val) / 524288 = b.val; omega
    | ⟨1, _⟩ => show ((b.val * 8192 + s.val) * 64 + d.val) / 8192 % 64 = s.val / 128; omega
    | ⟨2, _⟩ => show ((b.val * 8192 + s.val) * 64 + d.val) / 64 % 128 = s.val % 128; omega
    | ⟨3, _⟩ => show ((b.val * 8192 + s.val) * 64 + d.val) % 64 = d.val; omega)
  rw [val_main_v12_apply, e]
  refine gather_apply K _ b (keyPage s) (keyPlace s) d (cacheRow T hT b (keyPage s)) ?_
  rw [entry_apply T hT]
  have h := hT (ix2 b (keyPage s))
  show (T (ix2 b (keyPage s))).toInt.toNat = (T (ix2 b (keyPage s))).toNat
  rw [BitVec.toInt_eq_toNat_cond]
  split_ifs <;> omega

/-- The queries, by token and head. -/
theorem queries_apply (b : Fin 32) (t : Fin 8) (h : Fin 4) (d : Fin 64) : val_main_v2 (F := Ideal) q (ix4 b t h d) = q (ix3 b (headRow h t) d) := by
  rw [val_main_v2_apply, val_main_v1_apply, val_main_v0_apply]
  refine congrArg q (at_ix3 _ _ _ _ ?_ ?_ ?_)
  · show (((b.val * 4 + h.val) * 8 + t.val) * 64 + d.val) / 2048 = b.val
    omega
  · show (((b.val * 4 + h.val) * 8 + t.val) * 64 + d.val) / 64 % 32 = 8 * h.val + t.val
    omega
  · show (((b.val * 4 + h.val) * 8 + t.val) * 64 + d.val) % 64 = d.val
    omega

/-- The heads' weights, by token and head. -/
theorem weights_apply (b : Fin 32) (t : Fin 8) (h : Fin 4) : val_main_v4 (F := Ideal) w (ix3 b t h) = w (ix3 b (headRow h t) 0) := by
  rw [val_main_v4_apply, val_main_v3_apply]
  refine congrArg w (at_ix3 _ _ _ _ ?_ ?_ rfl)
  · show ((b.val * 4 + h.val) * 8 + t.val) / 32 = b.val
    omega
  · show ((b.val * 4 + h.val) * 8 + t.val) / 1 % 32 = 8 * h.val + t.val
    omega

/-- The scale is an eighth. -/
theorem scale_eq : Ideal.ofBits .f32 0x3E000000#32 = (((1 : ℝ) / 8 : ℝ) : EReal) := by
  simp [Ideal.ofBits, Ideal.ieee, -EReal.coe_mul]
  norm_num

/-- The scale goes through the clamp at zero. -/
theorem clamp_scale (x : EReal) : max (x * Ideal.ofBits .f32 0x3E000000#32) 0 = max x 0 * Ideal.ofBits .f32 0x3E000000#32 := by
  have h : (0 : EReal) ≤ Ideal.ofBits .f32 0x3E000000#32 := by
    rw [scale_eq]
    exact EReal.coe_nonneg.2 (by norm_num)
  have e := (monotone_mul_right_of_nonneg h).map_max (a := x) (b := 0)
  simp only [zero_mul] at e
  exact e.symm

/-- The reference's score. -/
theorem v19_apply (b : Fin 32) (t : Fin 8) (s : Fin 8192) :
    val_main_v19 (F := Ideal) T q w K (ix3 b t s) = score (fun r d => q (ix3 b r d)) (fun r => w (ix3 b r 0))
        (fun d => K (ix3 (cacheRow T hT b (keyPage s)) (keyPlace s) d)) t := by
  rw [val_main_v19_apply]
  unfold score
  refine Finset.sum_congr rfl fun h _ => ?_
  have el : lidx_main_v19 (ix3 b t s) h = ix4 b t h s := funext fun a => match a with
    | ⟨0, _⟩ => rfl
    | ⟨1, _⟩ => rfl
    | ⟨2, _⟩ => rfl
    | ⟨3, _⟩ => rfl
  have er : ridx_main_v19 (ix3 b t s) h = ix3 b t h := at_ix3 _ _ _ _ rfl rfl rfl
  have es : val_main_v13 (F := Ideal) T q K (ix4 b t h s) = ∑ d : Fin 64, q (ix3 b (headRow h t) d) * K (ix3 (cacheRow T hT b (keyPage s)) (keyPlace s) d) := by
    rw [val_main_v13_apply]
    refine Finset.sum_congr rfl fun d _ => ?_
    have e1 : lidx_main_v13 (ix4 b t h s) d = ix4 b t h d := funext fun a => match a with
      | ⟨0, _⟩ => rfl
      | ⟨1, _⟩ => rfl
      | ⟨2, _⟩ => rfl
      | ⟨3, _⟩ => rfl
    have e2 : ridx_main_v13 (ix4 b t h s) d = ix3 b s d := at_ix3 _ _ _ _ rfl rfl rfl
    rw [e1, e2, queries_apply, keys_apply T hT]
  rw [el, er, val_main_v18_apply, val_main_v15_apply, val_main_v14_apply, val_main_cst_apply, val_main_call0_v0_apply, val_main_call0_cst_apply,
    val_main_v17_apply, val_main_v16_apply, val_main_cst_1_apply, weights_apply, es]
  refine congrArg (· * _) ?_
  show max (_ * Ideal.ofBits .f32 0x3E000000#32) (Ideal.ofBits .f32 0x00000000#32) = _
  rw [Ideal.ofBits_zero_f32]
  exact clamp_scale _

end

section
open Cert.Kernel9Ideal Cert.Kernel9Ideal.Gen

/-- The call and its reference make the same scores. -/
theorem out_equal (m : (ℓ : Loc nD τ sig) → Buf (Elt Ideal) ℓ) (hO : Ok m) (hT : ∀ x, (argT m 0 x).toNat < 2560) (c : Dev nD) :
    Cert.Reference9Ideal.Read.val_main_v19 (F := Ideal) (argT m 0) (argQ m c) (argW m c) (argK m c) = (dats m hO 0 c).arrAt 18 (cfgM m hO).N := by
  funext i
  obtain ⟨b, t, s, rfl⟩ : ∃ (b : Fin 32) (t : Fin 8) (s : Fin 8192), i = ix3 b t s := ⟨i 0, i 1, i 2, ValueIdx.eq_ix3 i⟩
  exact (v19_apply (argT m 0) hT (argQ m c) (argW m c) (argK m c) b t s).trans (array18 m hO c hT b t s).symm

end

end Cert.Scores
-- ==== Proof.Scores.Run.lean ====
/-
  The run of the index scores' call: what it leaves in the array of scores and in its arguments.
-/
module

public import proofs.«01_k».proof.Defs
public import proofs.«01_k».proof.Proof.Gen.Kernel9Ideal.Frame

@[expose] public section

set_option maxRecDepth 16384

noncomputable section

namespace Cert.Scores

open Idealize.ShloMosaic Idealize.ShloMosaic.TcCoe Idealize.SL.Sem
open Cert.Kernel9Ideal Cert.Kernel9Ideal.Gen

/-- The array of scores ends as the points wrote it, and the arguments end unchanged. -/
theorem run (m : (ℓ : Loc nD τ sig) → Buf (Elt Ideal) ℓ) (ρ : Dev nD → PrngReg) (hO : Ok m) :
    θ_run defs (onTc (τ := τ) (main (F := Ideal))) ⟨m, fun _ => 0, ρ⟩ (fun r => ∀ c : Dev nD,
      r.2.mem ((c.tc : Thread nD τ).loc main_v0) = (dats m hO 0 c).arrAt 18 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 18, h.2 c⟩) (θ_run_and (run_main m ρ hO) (unchanged m ρ hO))

end Cert.Scores

end
-- ==== Proof.lean ====
/- The claims, put together: the frames of the programs, and each call's value beside its reference's
   (the modules Equal.lean of Moe, Proj, Ffn, TimeMix, OutEven and MixOut, PromptEqual.lean and SampleEqual.lean of Conv, and Reference.lean of Scores). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Moe.Equal
public import proofs.«01_k».proof.Proof.Proj.Equal
public import proofs.«01_k».proof.Proof.Ffn.Equal
public import proofs.«01_k».proof.Proof.TimeMix.Equal
public import proofs.«01_k».proof.Proof.OutEven.Equal
public import proofs.«01_k».proof.Proof.MixOut.Equal
public import proofs.«01_k».proof.Proof.Conv.PromptEqual
public import proofs.«01_k».proof.Proof.Conv.SampleEqual
public import Idealize.ShloMosaic.Adequacy
public import Idealize.ShloMosaic.Init
public import Idealize.ShloMosaic.Lib.Quiescent
public import Idealize.ShloMosaic.Lib.Tactic.ValueTie
public import proofs.«01_k».proof.Proof.Scores.Pages
public import proofs.«01_k».proof.Proof.Scores.Reference
public import proofs.«01_k».proof.Proof.Scores.Run

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The routed mixer and its reference end with the same array. -/
theorem algebraic_moe :
    algebraic_KernelIdeal_ReferenceIdeal_pre_routing_finite (hPre_routing_finite := Cert.Moe.pre_facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4, h5, h6⟩ := hagree c
  refine (Cert.ReferenceIdeal.Read.val_main_v166_eq (StableHlo.launchContents m' c)).trans ?_
  refine Eq.trans ?_ (Cert.Moe.results_equal m c (Cert.Moe.routingFinite m hpre c))
  rw [← h0, ← h1, ← h2, ← h3, ← h4, ← h5, ← h6]

theorem quiescent_Reference2Ideal : quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

/-- The projection and its reference end with the same seven arrays. -/
theorem algebraic_proj : algebraic_Kernel2Ideal_Reference2Ideal := by
  intro m ρ m' ρ' _ hagree
  refine ⟨_, _, _, _, _, _, _, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨h0, h1, h2⟩ := hagree c
  obtain ⟨r0, r1, r2, r3, r4, r5, r6, kept⟩ := h c
  refine ⟨r0.trans ?_, r1.trans ?_, r2.trans ?_, r3.trans ?_, r4.trans ?_, r5.trans ?_, r6.trans ?_, kept⟩
  · refine (Cert.Reference2Ideal.Read.val_main_v179_eq (StableHlo.launchContents m' c)).trans (Eq.trans ?_ (Cert.Proj.query_equal m c))
    exact congr (congrArg₂ Cert.Reference2Ideal.Read.val_main_v179 h0 h1) h2
  · refine (Cert.Reference2Ideal.Read.val_main_v180_eq (StableHlo.launchContents m' c)).trans (Eq.trans ?_ (Cert.Proj.key_equal m c))
    exact congr (congrArg₂ Cert.Reference2Ideal.Read.val_main_v180 h0 h1) h2
  · refine (Cert.Reference2Ideal.Read.val_main_v181_eq (StableHlo.launchContents m' c)).trans (Eq.trans ?_ (Cert.Proj.value_equal m c))
    exact congr (congrArg₂ Cert.Reference2Ideal.Read.val_main_v181 h0 h1) h2
  · refine (Cert.Reference2Ideal.Read.val_main_v183_eq (StableHlo.launchContents m' c)).trans (Eq.trans ?_ (Cert.Proj.indexQuery_equal m c))
    exact congr (congrArg₂ Cert.Reference2Ideal.Read.val_main_v183 h0 h1) h2
  · refine (Cert.Reference2Ideal.Read.val_main_v184_eq (StableHlo.launchContents m' c)).trans (Eq.trans ?_ (Cert.Proj.indexKey_equal m c))
    exact congr (congrArg₂ Cert.Reference2Ideal.Read.val_main_v184 h0 h1) h2
  · refine (Cert.Reference2Ideal.Read.val_main_v185_eq (StableHlo.launchContents m' c)).trans (Eq.trans ?_ (Cert.Proj.gate_equal m c))
    exact congr (congrArg₂ Cert.Reference2Ideal.Read.val_main_v185 h0 h1) h2
  · refine (Cert.Reference2Ideal.Read.val_main_v186_eq (StableHlo.launchContents m' c)).trans (Eq.trans ?_ (Cert.Proj.product_equal m c))
    exact congr (congrArg₂ Cert.Reference2Ideal.Read.val_main_v186 h0 h1) h2

theorem quiescent_Reference3Ideal : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The dense mixer and its reference end with the same two arrays. -/
theorem algebraic_ffn : algebraic_Kernel3Ideal_Reference3Ideal := by
  intro m ρ m' ρ' _ hagree
  refine ⟨_, _, Cert.Kernel3Ideal.Value.run (F := Ideal) m ρ, ?_⟩
  refine (θ_run Cert.Reference3Ideal.defs _ _).mono (fun _ h c => ⟨?_, ?_, (h c).2.2⟩) (Cert.Reference3Ideal.Value.run (F := Ideal) m' ρ')
  · rw [(h c).1]
    obtain ⟨h0, h1, h2, h3, h4, -⟩ := hagree c
    refine (Cert.Reference3Ideal.Read.val_main_v22_eq (F := Ideal) _ _ _ _ _).trans ?_
    refine Eq.trans ?_ (Cert.Ffn.results_equal m c).1
    simp only [← h0, ← h1, ← h2, ← h3, ← h4]
  · rw [(h c).2.1]
    obtain ⟨h0, h1, h2, h3, h4, h5⟩ := hagree c
    refine (Cert.Reference3Ideal.Read.val_main_v36_eq m' c).trans ?_
    refine Eq.trans ?_ (Cert.Ffn.results_equal m c).2
    rw [← h0, ← h1, ← h2, ← h3, ← h4, ← h5]

theorem quiescent_Reference4Ideal : quiescent_Reference4Ideal := fun m ρ _ =>
  (θ_run Cert.Reference4Ideal.defs _ _).mono (fun r h => ⟨fun c => (h c).2.2.2.2.2.2.2, sem_eq_zero_of_no_sems (by decide) r.2⟩)
    (Cert.Reference4Ideal.Value.run (F := Ideal) m ρ)

/-- The time mix's projections and their reference end with the same seven arrays. -/
theorem algebraic_timeMix :
    algebraic_Kernel4Ideal_Reference4Ideal_pre_key_finite (hPre_key_finite := Cert.TimeMix.pre_facts) := by
  intro m ρ m' ρ' hpre hagree
  refine ⟨_, _, _, _, _, _, _, Cert.Kernel4Ideal.Value.run_blocks (F := Ideal) m ρ, ?_⟩
  refine (θ_run Cert.Reference4Ideal.defs _ _).mono (fun _ h c => ?_) (Cert.Reference4Ideal.Value.run (F := Ideal) m' ρ')
  have hf := Cert.TimeMix.keyFinite m hpre c
  obtain ⟨h0, h1, h2, h3, h4, h5, h6, h7, h8, h9, h10, h11, h12, h13⟩ := hagree c
  obtain ⟨r0, r1, r2, r3, r4, r5, r6, kept⟩ := h c
  refine ⟨r0.trans ?_, r1.trans ?_, r2.trans ?_, r3.trans ?_, r4.trans ?_, r5.trans ?_, r6.trans ?_, kept⟩
  · refine (Cert.Reference4Ideal.Read.val_main_v116_eq (F := Ideal) _ _ _ _).trans (Eq.trans ?_ (Cert.TimeMix.receptance_equal m c))
    rw [h0, h1, h2, h3]
  · refine (Cert.Reference4Ideal.Read.val_main_v117_eq m' c).trans (Eq.trans ?_ (Cert.TimeMix.decay_equal m c))
    rw [h0, h1, h2, h4, h5, h6]
  · refine (Cert.Reference4Ideal.Read.val_main_v118_eq (F := Ideal) _ _ _ _ _ _ _ _).trans (Eq.trans ?_ (Cert.TimeMix.key_equal m c))
    rw [h0, h1, h2, h3, h7, h8, h9, h13]
  · refine (Cert.Reference4Ideal.Read.val_main_v119_eq (F := Ideal) _ _ _ _).trans (Eq.trans ?_ (Cert.TimeMix.value_equal m c))
    rw [h0, h1, h2, h3]
  · refine (Cert.Reference4Ideal.Read.val_main_v120_eq m' c).trans (Eq.trans ?_ (Cert.TimeMix.removal_equal m c hf))
    rw [h0, h1, h2, h3, h12]
  · refine (Cert.Reference4Ideal.Read.val_main_v121_eq m' c).trans (Eq.trans ?_ (Cert.TimeMix.removalRate_equal m c hf))
    rw [h0, h1, h2, h3, h7, h8, h9, h12]
  · refine (Cert.Reference4Ideal.Read.val_main_v122_eq (F := Ideal) _ _ _ _ _).trans (Eq.trans ?_ (Cert.TimeMix.gate_equal m c))
    rw [h0, h1, h2, h10, h11]

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The projection after the attention and its reference end with the same array. -/
theorem algebraic_outEven : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1]
  obtain ⟨h0, h1, h2, h3⟩ := hagree c
  refine (Cert.Reference5Ideal.Read.val_main_v4_eq (F := Ideal) _ _ _ _).trans (Eq.trans ?_ (Cert.OutEven.out_equal m c))
  rw [h0, h1, h2, h3]

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The time mix's output and its reference end with the same array. -/
theorem algebraic_mixOut :
    algebraic_Kernel6Ideal_Reference6Ideal_pre_heads_finite (hPre_heads_finite := Cert.MixOut.pre_facts) := by
  intro m ρ m' ρ' hpre hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1]
  obtain ⟨h0, h1, h2, h3, h4, h5, h6, h7, h8, h9⟩ := hagree c
  refine (Cert.Reference6Ideal.Read.val_main_v46_eq (F := Ideal) _ _ _ _ _ _ _ _ _ _).trans
    (Eq.trans ?_ (Cert.MixOut.mix_equal m c (Cert.MixOut.headsFinite m hpre c)))
  rw [h0, h1, h2, h3, h4, h5, h6, h7, h8, h9]

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The prompt's convolution and its reference end with the same array. -/
theorem algebraic_convPrompt : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  rw [(h c).1]
  obtain ⟨h0, h1, h2⟩ := hagree c
  refine (Cert.Reference7Ideal.Read.val_main_v28_eq (F := Ideal) _ _ _).trans (Eq.trans ?_ (Cert.ConvPrompt.out_equal m c))
  rw [h0, h1, h2]

theorem quiescent_Reference8Ideal : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The sample's convolution and its reference end with the same array and carry the same rows on. -/
theorem algebraic_convSample : algebraic_Kernel8Ideal_Reference8Ideal := by
  intro m ρ m' ρ' _ hagree
  refine ⟨_, _, Cert.ConvSample.run m ρ, ?_⟩
  refine (θ_run Cert.Reference8Ideal.defs _ _).mono (fun _ h c => ?_) (Cert.Reference8Ideal.Value.run (F := Ideal) m' ρ')
  obtain ⟨h0, h1, h2, h3⟩ := hagree c
  obtain ⟨r0, r1, kept⟩ := h c
  refine ⟨r0.trans ?_, r1.trans ?_, kept⟩
  · refine (Cert.Reference8Ideal.Read.val_main_v27_eq (F := Ideal) _ _ _ _).trans (Eq.trans ?_ (Cert.ConvSample.out_equal m c))
    rw [h0, h1, h2, h3]
  · refine (Cert.Reference8Ideal.Read.val_main_v28_eq (F := Ideal) _ _).trans (Eq.trans ?_ (Cert.ConvSample.carried_equal m c))
    rw [h1, h2]

theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The sample's index scores and their reference end with the same array. -/
theorem algebraic_scores : algebraic_Kernel9Ideal_Reference9Ideal (hPre_pages_in_pool := Cert.Scores.pre_facts) := by
  intro m ρ m' ρ' hpre hagree
  have hO := Cert.Scores.ok_ideal m hpre
  have hT := Cert.Scores.words_lt _ _ _ _ (hpre 0)
  refine ⟨_, Cert.Scores.run m ρ hO, ?_⟩
  refine (θ_run Cert.Reference9Ideal.defs _ _).mono (fun _ h c => ⟨(h c).1.trans ?_, (h c).2⟩) (Cert.Reference9Ideal.Value.run (F := Ideal) m' ρ')
  obtain rfl : c = 0 := Subsingleton.elim _ _
  obtain ⟨h0, h1, h2, h3⟩ := hagree 0
  refine (Cert.Reference9Ideal.Read.val_main_v19_eq (F := Ideal) _ _ _ _).trans (Eq.trans ?_ (Cert.Scores.out_equal m hO hT 0))
  rw [h0, h1, h2, h3]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Moe.pre_facts, Cert.TimeMix.pre_facts, Cert.MixOut.pre_facts, Cert.Scores.pre_facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, fun m ρ _ => Cert.Kernel4Ideal.Gen.frame m ρ,
  quiescent_Reference4Ideal, fun m ρ _ => quiescent_Reference4Ideal m ρ trivial,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, fun m ρ _ => Cert.Kernel6Ideal.Gen.frame m ρ,
  quiescent_Reference6Ideal, fun m ρ _ => quiescent_Reference6Ideal m ρ trivial,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  fun m ρ h => Cert.Kernel9.Gen.frame m ρ (Cert.Scores.ok_bits m h), fun m ρ h => Cert.Kernel9Ideal.Gen.frame m ρ (Cert.Scores.ok_ideal m h),
  quiescent_Reference9Ideal, fun m ρ _ => quiescent_Reference9Ideal m ρ trivial,
  (trivial : preserves_Kernel_KernelIdeal), algebraic_moe,
  (trivial : preserves_Kernel2_Kernel2Ideal), algebraic_proj,
  (trivial : preserves_Kernel3_Kernel3Ideal), algebraic_ffn,
  (trivial : preserves_Kernel4_Kernel4Ideal), algebraic_timeMix,
  (trivial : preserves_Kernel5_Kernel5Ideal), algebraic_outEven,
  (trivial : preserves_Kernel6_Kernel6Ideal), algebraic_mixOut,
  (trivial : preserves_Kernel7_Kernel7Ideal), algebraic_convPrompt,
  (trivial : preserves_Kernel8_Kernel8Ideal), algebraic_convSample,
  (trivial : preserves_Kernel9_Kernel9Ideal), algebraic_scores⟩

end Cert.Proof

end
